-- ==== Defs.lean ====
def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_ln_finite [hPre_ln_finite : Cert.Pre_ln_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).1 = (fun _ => 1#1)
    ∧ (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).2.1 = (fun _ => 1#1)
    ∧ (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).2.2.1 = (fun _ => 1#1)
    ∧ (Cert.Pre_ln_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).2.2.2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_ln_finite [hPre_ln_finite : Cert.Pre_ln_finite.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_ln_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4))).1 = (fun _ => 1#1)
    ∧ (Cert.Pre_ln_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4))).2.1 = (fun _ => 1#1)
    ∧ (Cert.Pre_ln_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4))).2.2.1 = (fun _ => 1#1)
    ∧ (Cert.Pre_ln_finite.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4))).2.2.2 = (fun _ => 1#1)

def Pre_LnBwdParts (m : (ℓ : Loc Cert.LnBwdParts.nD Cert.LnBwdParts.τ Cert.LnBwdParts.sig) → Buf (Elt Bits) ℓ) : Prop :=
  True

def Pre_LnBwdPartsIdeal (m : (ℓ : Loc Cert.LnBwdPartsIdeal.nD Cert.LnBwdPartsIdeal.τ Cert.LnBwdPartsIdeal.sig) → Buf (Elt Ideal) ℓ) : Prop :=
  True

def Pre_LnBwdPartsIdeal_ln_parts_finite [hPre_ln_parts_finite : Cert.Pre_ln_parts_finite.Facts] (m : (ℓ : Loc Cert.LnBwdPartsIdeal.nD Cert.LnBwdPartsIdeal.τ Cert.LnBwdPartsIdeal.sig) → Buf (Elt Ideal) ℓ) : Prop :=
  ∀ c : Dev Cert.LnBwdPartsIdeal.nD,
    (Cert.Pre_ln_parts_finite.fn (F := Ideal) (m ((c.tc : Thread Cert.LnBwdPartsIdeal.nD Cert.LnBwdPartsIdeal.τ).loc Cert.LnBwdPartsIdeal.main_arg0)) (m ((c.tc : Thread Cert.LnBwdPartsIdeal.nD Cert.LnBwdPartsIdeal.τ).loc Cert.LnBwdPartsIdeal.main_arg1)) (m ((c.tc : Thread Cert.LnBwdPartsIdeal.nD Cert.LnBwdPartsIdeal.τ).loc Cert.LnBwdPartsIdeal.main_arg2)) (m ((c.tc : Thread Cert.LnBwdPartsIdeal.nD Cert.LnBwdPartsIdeal.τ).loc Cert.LnBwdPartsIdeal.main_arg3)) (m ((c.tc : Thread Cert.LnBwdPartsIdeal.nD Cert.LnBwdPartsIdeal.τ).loc Cert.LnBwdPartsIdeal.main_arg4)) (m ((c.tc : Thread Cert.LnBwdPartsIdeal.nD Cert.LnBwdPartsIdeal.τ).loc Cert.LnBwdPartsIdeal.main_arg5))).1 = (fun _ => 1#1)
    ∧ (Cert.Pre_ln_parts_finite.fn (F := Ideal) (m ((c.tc : Thread Cert.LnBwdPartsIdeal.nD Cert.LnBwdPartsIdeal.τ).loc Cert.LnBwdPartsIdeal.main_arg0)) (m ((c.tc : Thread Cert.LnBwdPartsIdeal.nD Cert.LnBwdPartsIdeal.τ).loc Cert.LnBwdPartsIdeal.main_arg1)) (m ((c.tc : Thread Cert.LnBwdPartsIdeal.nD Cert.LnBwdPartsIdeal.τ).loc Cert.LnBwdPartsIdeal.main_arg2)) (m ((c.tc : Thread Cert.LnBwdPartsIdeal.nD Cert.LnBwdPartsIdeal.τ).loc Cert.LnBwdPartsIdeal.main_arg3)) (m ((c.tc : Thread Cert.LnBwdPartsIdeal.nD Cert.LnBwdPartsIdeal.τ).loc Cert.LnBwdPartsIdeal.main_arg4)) (m ((c.tc : Thread Cert.LnBwdPartsIdeal.nD Cert.LnBwdPartsIdeal.τ).loc Cert.LnBwdPartsIdeal.main_arg5))).2.1 = (fun _ => 1#1)
    ∧ (Cert.Pre_ln_parts_finite.fn (F := Ideal) (m ((c.tc : Thread Cert.LnBwdPartsIdeal.nD Cert.LnBwdPartsIdeal.τ).loc Cert.LnBwdPartsIdeal.main_arg0)) (m ((c.tc : Thread Cert.LnBwdPartsIdeal.nD Cert.LnBwdPartsIdeal.τ).loc Cert.LnBwdPartsIdeal.main_arg1)) (m ((c.tc : Thread Cert.LnBwdPartsIdeal.nD Cert.LnBwdPartsIdeal.τ).loc Cert.LnBwdPartsIdeal.main_arg2)) (m ((c.tc : Thread Cert.LnBwdPartsIdeal.nD Cert.LnBwdPartsIdeal.τ).loc Cert.LnBwdPartsIdeal.main_arg3)) (m ((c.tc : Thread Cert.LnBwdPartsIdeal.nD Cert.LnBwdPartsIdeal.τ).loc Cert.LnBwdPartsIdeal.main_arg4)) (m ((c.tc : Thread Cert.LnBwdPartsIdeal.nD Cert.LnBwdPartsIdeal.τ).loc Cert.LnBwdPartsIdeal.main_arg5))).2.2.1 = (fun _ => 1#1)
    ∧ (Cert.Pre_ln_parts_finite.fn (F := Ideal) (m ((c.tc : Thread Cert.LnBwdPartsIdeal.nD Cert.LnBwdPartsIdeal.τ).loc Cert.LnBwdPartsIdeal.main_arg0)) (m ((c.tc : Thread Cert.LnBwdPartsIdeal.nD Cert.LnBwdPartsIdeal.τ).loc Cert.LnBwdPartsIdeal.main_arg1)) (m ((c.tc : Thread Cert.LnBwdPartsIdeal.nD Cert.LnBwdPartsIdeal.τ).loc Cert.LnBwdPartsIdeal.main_arg2)) (m ((c.tc : Thread Cert.LnBwdPartsIdeal.nD Cert.LnBwdPartsIdeal.τ).loc Cert.LnBwdPartsIdeal.main_arg3)) (m ((c.tc : Thread Cert.LnBwdPartsIdeal.nD Cert.LnBwdPartsIdeal.τ).loc Cert.LnBwdPartsIdeal.main_arg4)) (m ((c.tc : Thread Cert.LnBwdPartsIdeal.nD Cert.LnBwdPartsIdeal.τ).loc Cert.LnBwdPartsIdeal.main_arg5))).2.2.2.1 = (fun _ => 1#1)
    ∧ (Cert.Pre_ln_parts_finite.fn (F := Ideal) (m ((c.tc : Thread Cert.LnBwdPartsIdeal.nD Cert.LnBwdPartsIdeal.τ).loc Cert.LnBwdPartsIdeal.main_arg0)) (m ((c.tc : Thread Cert.LnBwdPartsIdeal.nD Cert.LnBwdPartsIdeal.τ).loc Cert.LnBwdPartsIdeal.main_arg1)) (m ((c.tc : Thread Cert.LnBwdPartsIdeal.nD Cert.LnBwdPartsIdeal.τ).loc Cert.LnBwdPartsIdeal.main_arg2)) (m ((c.tc : Thread Cert.LnBwdPartsIdeal.nD Cert.LnBwdPartsIdeal.τ).loc Cert.LnBwdPartsIdeal.main_arg3)) (m ((c.tc : Thread Cert.LnBwdPartsIdeal.nD Cert.LnBwdPartsIdeal.τ).loc Cert.LnBwdPartsIdeal.main_arg4)) (m ((c.tc : Thread Cert.LnBwdPartsIdeal.nD Cert.LnBwdPartsIdeal.τ).loc Cert.LnBwdPartsIdeal.main_arg5))).2.2.2.2 = (fun _ => 1#1)

def Pre_LnBwdPartsRefIdeal (m : (ℓ : Loc Cert.LnBwdPartsRefIdeal.nD Cert.LnBwdPartsRefIdeal.τ Cert.LnBwdPartsRefIdeal.sig) → Buf (Elt Ideal) ℓ) : Prop :=
  True

def Pre_LnBwdPartsRefIdeal_ln_parts_finite [hPre_ln_parts_finite : Cert.Pre_ln_parts_finite.Facts] (m : (ℓ : Loc Cert.LnBwdPartsRefIdeal.nD Cert.LnBwdPartsRefIdeal.τ Cert.LnBwdPartsRefIdeal.sig) → Buf (Elt Ideal) ℓ) : Prop :=
  ∀ c : Dev Cert.LnBwdPartsRefIdeal.nD,
    (Cert.Pre_ln_parts_finite.fn (F := Ideal) (m ((c.tc : Thread Cert.LnBwdPartsRefIdeal.nD Cert.LnBwdPartsRefIdeal.τ).loc Cert.LnBwdPartsRefIdeal.main_arg0)) (m ((c.tc : Thread Cert.LnBwdPartsRefIdeal.nD Cert.LnBwdPartsRefIdeal.τ).loc Cert.LnBwdPartsRefIdeal.main_arg1)) (m ((c.tc : Thread Cert.LnBwdPartsRefIdeal.nD Cert.LnBwdPartsRefIdeal.τ).loc Cert.LnBwdPartsRefIdeal.main_arg2)) (m ((c.tc : Thread Cert.LnBwdPartsRefIdeal.nD Cert.LnBwdPartsRefIdeal.τ).loc Cert.LnBwdPartsRefIdeal.main_arg3)) (m ((c.tc : Thread Cert.LnBwdPartsRefIdeal.nD Cert.LnBwdPartsRefIdeal.τ).loc Cert.LnBwdPartsRefIdeal.main_arg4)) (m ((c.tc : Thread Cert.LnBwdPartsRefIdeal.nD Cert.LnBwdPartsRefIdeal.τ).loc Cert.LnBwdPartsRefIdeal.main_arg5))).1 = (fun _ => 1#1)
    ∧ (Cert.Pre_ln_parts_finite.fn (F := Ideal) (m ((c.tc : Thread Cert.LnBwdPartsRefIdeal.nD Cert.LnBwdPartsRefIdeal.τ).loc Cert.LnBwdPartsRefIdeal.main_arg0)) (m ((c.tc : Thread Cert.LnBwdPartsRefIdeal.nD Cert.LnBwdPartsRefIdeal.τ).loc Cert.LnBwdPartsRefIdeal.main_arg1)) (m ((c.tc : Thread Cert.LnBwdPartsRefIdeal.nD Cert.LnBwdPartsRefIdeal.τ).loc Cert.LnBwdPartsRefIdeal.main_arg2)) (m ((c.tc : Thread Cert.LnBwdPartsRefIdeal.nD Cert.LnBwdPartsRefIdeal.τ).loc Cert.LnBwdPartsRefIdeal.main_arg3)) (m ((c.tc : Thread Cert.LnBwdPartsRefIdeal.nD Cert.LnBwdPartsRefIdeal.τ).loc Cert.LnBwdPartsRefIdeal.main_arg4)) (m ((c.tc : Thread Cert.LnBwdPartsRefIdeal.nD Cert.LnBwdPartsRefIdeal.τ).loc Cert.LnBwdPartsRefIdeal.main_arg5))).2.1 = (fun _ => 1#1)
    ∧ (Cert.Pre_ln_parts_finite.fn (F := Ideal) (m ((c.tc : Thread Cert.LnBwdPartsRefIdeal.nD Cert.LnBwdPartsRefIdeal.τ).loc Cert.LnBwdPartsRefIdeal.main_arg0)) (m ((c.tc : Thread Cert.LnBwdPartsRefIdeal.nD Cert.LnBwdPartsRefIdeal.τ).loc Cert.LnBwdPartsRefIdeal.main_arg1)) (m ((c.tc : Thread Cert.LnBwdPartsRefIdeal.nD Cert.LnBwdPartsRefIdeal.τ).loc Cert.LnBwdPartsRefIdeal.main_arg2)) (m ((c.tc : Thread Cert.LnBwdPartsRefIdeal.nD Cert.LnBwdPartsRefIdeal.τ).loc Cert.LnBwdPartsRefIdeal.main_arg3)) (m ((c.tc : Thread Cert.LnBwdPartsRefIdeal.nD Cert.LnBwdPartsRefIdeal.τ).loc Cert.LnBwdPartsRefIdeal.main_arg4)) (m ((c.tc : Thread Cert.LnBwdPartsRefIdeal.nD Cert.LnBwdPartsRefIdeal.τ).loc Cert.LnBwdPartsRefIdeal.main_arg5))).2.2.1 = (fun _ => 1#1)
    ∧ (Cert.Pre_ln_parts_finite.fn (F := Ideal) (m ((c.tc : Thread Cert.LnBwdPartsRefIdeal.nD Cert.LnBwdPartsRefIdeal.τ).loc Cert.LnBwdPartsRefIdeal.main_arg0)) (m ((c.tc : Thread Cert.LnBwdPartsRefIdeal.nD Cert.LnBwdPartsRefIdeal.τ).loc Cert.LnBwdPartsRefIdeal.main_arg1)) (m ((c.tc : Thread Cert.LnBwdPartsRefIdeal.nD Cert.LnBwdPartsRefIdeal.τ).loc Cert.LnBwdPartsRefIdeal.main_arg2)) (m ((c.tc : Thread Cert.LnBwdPartsRefIdeal.nD Cert.LnBwdPartsRefIdeal.τ).loc Cert.LnBwdPartsRefIdeal.main_arg3)) (m ((c.tc : Thread Cert.LnBwdPartsRefIdeal.nD Cert.LnBwdPartsRefIdeal.τ).loc Cert.LnBwdPartsRefIdeal.main_arg4)) (m ((c.tc : Thread Cert.LnBwdPartsRefIdeal.nD Cert.LnBwdPartsRefIdeal.τ).loc Cert.LnBwdPartsRefIdeal.main_arg5))).2.2.2.1 = (fun _ => 1#1)
    ∧ (Cert.Pre_ln_parts_finite.fn (F := Ideal) (m ((c.tc : Thread Cert.LnBwdPartsRefIdeal.nD Cert.LnBwdPartsRefIdeal.τ).loc Cert.LnBwdPartsRefIdeal.main_arg0)) (m ((c.tc : Thread Cert.LnBwdPartsRefIdeal.nD Cert.LnBwdPartsRefIdeal.τ).loc Cert.LnBwdPartsRefIdeal.main_arg1)) (m ((c.tc : Thread Cert.LnBwdPartsRefIdeal.nD Cert.LnBwdPartsRefIdeal.τ).loc Cert.LnBwdPartsRefIdeal.main_arg2)) (m ((c.tc : Thread Cert.LnBwdPartsRefIdeal.nD Cert.LnBwdPartsRefIdeal.τ).loc Cert.LnBwdPartsRefIdeal.main_arg3)) (m ((c.tc : Thread Cert.LnBwdPartsRefIdeal.nD Cert.LnBwdPartsRefIdeal.τ).loc Cert.LnBwdPartsRefIdeal.main_arg4)) (m ((c.tc : Thread Cert.LnBwdPartsRefIdeal.nD Cert.LnBwdPartsRefIdeal.τ).loc Cert.LnBwdPartsRefIdeal.main_arg5))).2.2.2.2 = (fun _ => 1#1)

def Pre_LnBwdMm (m : (ℓ : Loc Cert.LnBwdMm.nD Cert.LnBwdMm.τ Cert.LnBwdMm.sig) → Buf (Elt Bits) ℓ) : Prop :=
  True

def Pre_LnBwdMmIdeal (m : (ℓ : Loc Cert.LnBwdMmIdeal.nD Cert.LnBwdMmIdeal.τ Cert.LnBwdMmIdeal.sig) → Buf (Elt Ideal) ℓ) : Prop :=
  True

def Pre_LnBwdMmIdeal_ln_mm_finite [hPre_ln_mm_finite : Cert.Pre_ln_mm_finite.Facts] (m : (ℓ : Loc Cert.LnBwdMmIdeal.nD Cert.LnBwdMmIdeal.τ Cert.LnBwdMmIdeal.sig) → Buf (Elt Ideal) ℓ) : Prop :=
  ∀ c : Dev Cert.LnBwdMmIdeal.nD,
    (Cert.Pre_ln_mm_finite.fn (F := Ideal) (m ((c.tc : Thread Cert.LnBwdMmIdeal.nD Cert.LnBwdMmIdeal.τ).loc Cert.LnBwdMmIdeal.main_arg0)) (m ((c.tc : Thread Cert.LnBwdMmIdeal.nD Cert.LnBwdMmIdeal.τ).loc Cert.LnBwdMmIdeal.main_arg1)) (m ((c.tc : Thread Cert.LnBwdMmIdeal.nD Cert.LnBwdMmIdeal.τ).loc Cert.LnBwdMmIdeal.main_arg2)) (m ((c.tc : Thread Cert.LnBwdMmIdeal.nD Cert.LnBwdMmIdeal.τ).loc Cert.LnBwdMmIdeal.main_arg3)) (m ((c.tc : Thread Cert.LnBwdMmIdeal.nD Cert.LnBwdMmIdeal.τ).loc Cert.LnBwdMmIdeal.main_arg4)) (m ((c.tc : Thread Cert.LnBwdMmIdeal.nD Cert.LnBwdMmIdeal.τ).loc Cert.LnBwdMmIdeal.main_arg5)) (m ((c.tc : Thread Cert.LnBwdMmIdeal.nD Cert.LnBwdMmIdeal.τ).loc Cert.LnBwdMmIdeal.main_arg6))).1 = (fun _ => 1#1)
    ∧ (Cert.Pre_ln_mm_finite.fn (F := Ideal) (m ((c.tc : Thread Cert.LnBwdMmIdeal.nD Cert.LnBwdMmIdeal.τ).loc Cert.LnBwdMmIdeal.main_arg0)) (m ((c.tc : Thread Cert.LnBwdMmIdeal.nD Cert.LnBwdMmIdeal.τ).loc Cert.LnBwdMmIdeal.main_arg1)) (m ((c.tc : Thread Cert.LnBwdMmIdeal.nD Cert.LnBwdMmIdeal.τ).loc Cert.LnBwdMmIdeal.main_arg2)) (m ((c.tc : Thread Cert.LnBwdMmIdeal.nD Cert.LnBwdMmIdeal.τ).loc Cert.LnBwdMmIdeal.main_arg3)) (m ((c.tc : Thread Cert.LnBwdMmIdeal.nD Cert.LnBwdMmIdeal.τ).loc Cert.LnBwdMmIdeal.main_arg4)) (m ((c.tc : Thread Cert.LnBwdMmIdeal.nD Cert.LnBwdMmIdeal.τ).loc Cert.LnBwdMmIdeal.main_arg5)) (m ((c.tc : Thread Cert.LnBwdMmIdeal.nD Cert.LnBwdMmIdeal.τ).loc Cert.LnBwdMmIdeal.main_arg6))).2.1 = (fun _ => 1#1)
    ∧ (Cert.Pre_ln_mm_finite.fn (F := Ideal) (m ((c.tc : Thread Cert.LnBwdMmIdeal.nD Cert.LnBwdMmIdeal.τ).loc Cert.LnBwdMmIdeal.main_arg0)) (m ((c.tc : Thread Cert.LnBwdMmIdeal.nD Cert.LnBwdMmIdeal.τ).loc Cert.LnBwdMmIdeal.main_arg1)) (m ((c.tc : Thread Cert.LnBwdMmIdeal.nD Cert.LnBwdMmIdeal.τ).loc Cert.LnBwdMmIdeal.main_arg2)) (m ((c.tc : Thread Cert.LnBwdMmIdeal.nD Cert.LnBwdMmIdeal.τ).loc Cert.LnBwdMmIdeal.main_arg3)) (m ((c.tc : Thread Cert.LnBwdMmIdeal.nD Cert.LnBwdMmIdeal.τ).loc Cert.LnBwdMmIdeal.main_arg4)) (m ((c.tc : Thread Cert.LnBwdMmIdeal.nD Cert.LnBwdMmIdeal.τ).loc Cert.LnBwdMmIdeal.main_arg5)) (m ((c.tc : Thread Cert.LnBwdMmIdeal.nD Cert.LnBwdMmIdeal.τ).loc Cert.LnBwdMmIdeal.main_arg6))).2.2.1 = (fun _ => 1#1)
    ∧ (Cert.Pre_ln_mm_finite.fn (F := Ideal) (m ((c.tc : Thread Cert.LnBwdMmIdeal.nD Cert.LnBwdMmIdeal.τ).loc Cert.LnBwdMmIdeal.main_arg0)) (m ((c.tc : Thread Cert.LnBwdMmIdeal.nD Cert.LnBwdMmIdeal.τ).loc Cert.LnBwdMmIdeal.main_arg1)) (m ((c.tc : Thread Cert.LnBwdMmIdeal.nD Cert.LnBwdMmIdeal.τ).loc Cert.LnBwdMmIdeal.main_arg2)) (m ((c.tc : Thread Cert.LnBwdMmIdeal.nD Cert.LnBwdMmIdeal.τ).loc Cert.LnBwdMmIdeal.main_arg3)) (m ((c.tc : Thread Cert.LnBwdMmIdeal.nD Cert.LnBwdMmIdeal.τ).loc Cert.LnBwdMmIdeal.main_arg4)) (m ((c.tc : Thread Cert.LnBwdMmIdeal.nD Cert.LnBwdMmIdeal.τ).loc Cert.LnBwdMmIdeal.main_arg5)) (m ((c.tc : Thread Cert.LnBwdMmIdeal.nD Cert.LnBwdMmIdeal.τ).loc Cert.LnBwdMmIdeal.main_arg6))).2.2.2.1 = (fun _ => 1#1)
    ∧ (Cert.Pre_ln_mm_finite.fn (F := Ideal) (m ((c.tc : Thread Cert.LnBwdMmIdeal.nD Cert.LnBwdMmIdeal.τ).loc Cert.LnBwdMmIdeal.main_arg0)) (m ((c.tc : Thread Cert.LnBwdMmIdeal.nD Cert.LnBwdMmIdeal.τ).loc Cert.LnBwdMmIdeal.main_arg1)) (m ((c.tc : Thread Cert.LnBwdMmIdeal.nD Cert.LnBwdMmIdeal.τ).loc Cert.LnBwdMmIdeal.main_arg2)) (m ((c.tc : Thread Cert.LnBwdMmIdeal.nD Cert.LnBwdMmIdeal.τ).loc Cert.LnBwdMmIdeal.main_arg3)) (m ((c.tc : Thread Cert.LnBwdMmIdeal.nD Cert.LnBwdMmIdeal.τ).loc Cert.LnBwdMmIdeal.main_arg4)) (m ((c.tc : Thread Cert.LnBwdMmIdeal.nD Cert.LnBwdMmIdeal.τ).loc Cert.LnBwdMmIdeal.main_arg5)) (m ((c.tc : Thread Cert.LnBwdMmIdeal.nD Cert.LnBwdMmIdeal.τ).loc Cert.LnBwdMmIdeal.main_arg6))).2.2.2.2.1 = (fun _ => 1#1)
    ∧ (Cert.Pre_ln_mm_finite.fn (F := Ideal) (m ((c.tc : Thread Cert.LnBwdMmIdeal.nD Cert.LnBwdMmIdeal.τ).loc Cert.LnBwdMmIdeal.main_arg0)) (m ((c.tc : Thread Cert.LnBwdMmIdeal.nD Cert.LnBwdMmIdeal.τ).loc Cert.LnBwdMmIdeal.main_arg1)) (m ((c.tc : Thread Cert.LnBwdMmIdeal.nD Cert.LnBwdMmIdeal.τ).loc Cert.LnBwdMmIdeal.main_arg2)) (m ((c.tc : Thread Cert.LnBwdMmIdeal.nD Cert.LnBwdMmIdeal.τ).loc Cert.LnBwdMmIdeal.main_arg3)) (m ((c.tc : Thread Cert.LnBwdMmIdeal.nD Cert.LnBwdMmIdeal.τ).loc Cert.LnBwdMmIdeal.main_arg4)) (m ((c.tc : Thread Cert.LnBwdMmIdeal.nD Cert.LnBwdMmIdeal.τ).loc Cert.LnBwdMmIdeal.main_arg5)) (m ((c.tc : Thread Cert.LnBwdMmIdeal.nD Cert.LnBwdMmIdeal.τ).loc Cert.LnBwdMmIdeal.main_arg6))).2.2.2.2.2 = (fun _ => 1#1)

def Pre_LnBwdMmRefIdeal (m : (ℓ : Loc Cert.LnBwdMmRefIdeal.nD Cert.LnBwdMmRefIdeal.τ Cert.LnBwdMmRefIdeal.sig) → Buf (Elt Ideal) ℓ) : Prop :=
  True

def Pre_LnBwdMmRefIdeal_ln_mm_finite [hPre_ln_mm_finite : Cert.Pre_ln_mm_finite.Facts] (m : (ℓ : Loc Cert.LnBwdMmRefIdeal.nD Cert.LnBwdMmRefIdeal.τ Cert.LnBwdMmRefIdeal.sig) → Buf (Elt Ideal) ℓ) : Prop :=
  ∀ c : Dev Cert.LnBwdMmRefIdeal.nD,
    (Cert.Pre_ln_mm_finite.fn (F := Ideal) (m ((c.tc : Thread Cert.LnBwdMmRefIdeal.nD Cert.LnBwdMmRefIdeal.τ).loc Cert.LnBwdMmRefIdeal.main_arg0)) (m ((c.tc : Thread Cert.LnBwdMmRefIdeal.nD Cert.LnBwdMmRefIdeal.τ).loc Cert.LnBwdMmRefIdeal.main_arg1)) (m ((c.tc : Thread Cert.LnBwdMmRefIdeal.nD Cert.LnBwdMmRefIdeal.τ).loc Cert.LnBwdMmRefIdeal.main_arg2)) (m ((c.tc : Thread Cert.LnBwdMmRefIdeal.nD Cert.LnBwdMmRefIdeal.τ).loc Cert.LnBwdMmRefIdeal.main_arg3)) (m ((c.tc : Thread Cert.LnBwdMmRefIdeal.nD Cert.LnBwdMmRefIdeal.τ).loc Cert.LnBwdMmRefIdeal.main_arg4)) (m ((c.tc : Thread Cert.LnBwdMmRefIdeal.nD Cert.LnBwdMmRefIdeal.τ).loc Cert.LnBwdMmRefIdeal.main_arg5)) (m ((c.tc : Thread Cert.LnBwdMmRefIdeal.nD Cert.LnBwdMmRefIdeal.τ).loc Cert.LnBwdMmRefIdeal.main_arg6))).1 = (fun _ => 1#1)
    ∧ (Cert.Pre_ln_mm_finite.fn (F := Ideal) (m ((c.tc : Thread Cert.LnBwdMmRefIdeal.nD Cert.LnBwdMmRefIdeal.τ).loc Cert.LnBwdMmRefIdeal.main_arg0)) (m ((c.tc : Thread Cert.LnBwdMmRefIdeal.nD Cert.LnBwdMmRefIdeal.τ).loc Cert.LnBwdMmRefIdeal.main_arg1)) (m ((c.tc : Thread Cert.LnBwdMmRefIdeal.nD Cert.LnBwdMmRefIdeal.τ).loc Cert.LnBwdMmRefIdeal.main_arg2)) (m ((c.tc : Thread Cert.LnBwdMmRefIdeal.nD Cert.LnBwdMmRefIdeal.τ).loc Cert.LnBwdMmRefIdeal.main_arg3)) (m ((c.tc : Thread Cert.LnBwdMmRefIdeal.nD Cert.LnBwdMmRefIdeal.τ).loc Cert.LnBwdMmRefIdeal.main_arg4)) (m ((c.tc : Thread Cert.LnBwdMmRefIdeal.nD Cert.LnBwdMmRefIdeal.τ).loc Cert.LnBwdMmRefIdeal.main_arg5)) (m ((c.tc : Thread Cert.LnBwdMmRefIdeal.nD Cert.LnBwdMmRefIdeal.τ).loc Cert.LnBwdMmRefIdeal.main_arg6))).2.1 = (fun _ => 1#1)
    ∧ (Cert.Pre_ln_mm_finite.fn (F := Ideal) (m ((c.tc : Thread Cert.LnBwdMmRefIdeal.nD Cert.LnBwdMmRefIdeal.τ).loc Cert.LnBwdMmRefIdeal.main_arg0)) (m ((c.tc : Thread Cert.LnBwdMmRefIdeal.nD Cert.LnBwdMmRefIdeal.τ).loc Cert.LnBwdMmRefIdeal.main_arg1)) (m ((c.tc : Thread Cert.LnBwdMmRefIdeal.nD Cert.LnBwdMmRefIdeal.τ).loc Cert.LnBwdMmRefIdeal.main_arg2)) (m ((c.tc : Thread Cert.LnBwdMmRefIdeal.nD Cert.LnBwdMmRefIdeal.τ).loc Cert.LnBwdMmRefIdeal.main_arg3)) (m ((c.tc : Thread Cert.LnBwdMmRefIdeal.nD Cert.LnBwdMmRefIdeal.τ).loc Cert.LnBwdMmRefIdeal.main_arg4)) (m ((c.tc : Thread Cert.LnBwdMmRefIdeal.nD Cert.LnBwdMmRefIdeal.τ).loc Cert.LnBwdMmRefIdeal.main_arg5)) (m ((c.tc : Thread Cert.LnBwdMmRefIdeal.nD Cert.LnBwdMmRefIdeal.τ).loc Cert.LnBwdMmRefIdeal.main_arg6))).2.2.1 = (fun _ => 1#1)
    ∧ (Cert.Pre_ln_mm_finite.fn (F := Ideal) (m ((c.tc : Thread Cert.LnBwdMmRefIdeal.nD Cert.LnBwdMmRefIdeal.τ).loc Cert.LnBwdMmRefIdeal.main_arg0)) (m ((c.tc : Thread Cert.LnBwdMmRefIdeal.nD Cert.LnBwdMmRefIdeal.τ).loc Cert.LnBwdMmRefIdeal.main_arg1)) (m ((c.tc : Thread Cert.LnBwdMmRefIdeal.nD Cert.LnBwdMmRefIdeal.τ).loc Cert.LnBwdMmRefIdeal.main_arg2)) (m ((c.tc : Thread Cert.LnBwdMmRefIdeal.nD Cert.LnBwdMmRefIdeal.τ).loc Cert.LnBwdMmRefIdeal.main_arg3)) (m ((c.tc : Thread Cert.LnBwdMmRefIdeal.nD Cert.LnBwdMmRefIdeal.τ).loc Cert.LnBwdMmRefIdeal.main_arg4)) (m ((c.tc : Thread Cert.LnBwdMmRefIdeal.nD Cert.LnBwdMmRefIdeal.τ).loc Cert.LnBwdMmRefIdeal.main_arg5)) (m ((c.tc : Thread Cert.LnBwdMmRefIdeal.nD Cert.LnBwdMmRefIdeal.τ).loc Cert.LnBwdMmRefIdeal.main_arg6))).2.2.2.1 = (fun _ => 1#1)
    ∧ (Cert.Pre_ln_mm_finite.fn (F := Ideal) (m ((c.tc : Thread Cert.LnBwdMmRefIdeal.nD Cert.LnBwdMmRefIdeal.τ).loc Cert.LnBwdMmRefIdeal.main_arg0)) (m ((c.tc : Thread Cert.LnBwdMmRefIdeal.nD Cert.LnBwdMmRefIdeal.τ).loc Cert.LnBwdMmRefIdeal.main_arg1)) (m ((c.tc : Thread Cert.LnBwdMmRefIdeal.nD Cert.LnBwdMmRefIdeal.τ).loc Cert.LnBwdMmRefIdeal.main_arg2)) (m ((c.tc : Thread Cert.LnBwdMmRefIdeal.nD Cert.LnBwdMmRefIdeal.τ).loc Cert.LnBwdMmRefIdeal.main_arg3)) (m ((c.tc : Thread Cert.LnBwdMmRefIdeal.nD Cert.LnBwdMmRefIdeal.τ).loc Cert.LnBwdMmRefIdeal.main_arg4)) (m ((c.tc : Thread Cert.LnBwdMmRefIdeal.nD Cert.LnBwdMmRefIdeal.τ).loc Cert.LnBwdMmRefIdeal.main_arg5)) (m ((c.tc : Thread Cert.LnBwdMmRefIdeal.nD Cert.LnBwdMmRefIdeal.τ).loc Cert.LnBwdMmRefIdeal.main_arg6))).2.2.2.2.1 = (fun _ => 1#1)
    ∧ (Cert.Pre_ln_mm_finite.fn (F := Ideal) (m ((c.tc : Thread Cert.LnBwdMmRefIdeal.nD Cert.LnBwdMmRefIdeal.τ).loc Cert.LnBwdMmRefIdeal.main_arg0)) (m ((c.tc : Thread Cert.LnBwdMmRefIdeal.nD Cert.LnBwdMmRefIdeal.τ).loc Cert.LnBwdMmRefIdeal.main_arg1)) (m ((c.tc : Thread Cert.LnBwdMmRefIdeal.nD Cert.LnBwdMmRefIdeal.τ).loc Cert.LnBwdMmRefIdeal.main_arg2)) (m ((c.tc : Thread Cert.LnBwdMmRefIdeal.nD Cert.LnBwdMmRefIdeal.τ).loc Cert.LnBwdMmRefIdeal.main_arg3)) (m ((c.tc : Thread Cert.LnBwdMmRefIdeal.nD Cert.LnBwdMmRefIdeal.τ).loc Cert.LnBwdMmRefIdeal.main_arg4)) (m ((c.tc : Thread Cert.LnBwdMmRefIdeal.nD Cert.LnBwdMmRefIdeal.τ).loc Cert.LnBwdMmRefIdeal.main_arg5)) (m ((c.tc : Thread Cert.LnBwdMmRefIdeal.nD Cert.LnBwdMmRefIdeal.τ).loc Cert.LnBwdMmRefIdeal.main_arg6))).2.2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_finite [hPre_ffn_finite : Cert.Pre_ffn_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1))).2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1))).2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mix_finite [hPre_mix_finite : Cert.Pre_mix_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.2.2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.2.2.2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.2.2.2.2.2.1 = (fun _ => 1#1)
    ∧ (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6)) (m ((c.tc : Thread Cert.MixBwdIdeal.nD Cert.MixBwdIdeal.τ).loc Cert.MixBwdIdeal.main_arg7)) (m ((c.tc : Thread Cert.MixBwdIdeal.nD Cert.MixBwdIdeal.τ).loc Cert.MixBwdIdeal.main_arg8)) (m ((c.tc : Thread Cert.MixBwdIdeal.nD Cert.MixBwdIdeal.τ).loc Cert.MixBwdIdeal.main_arg9)) (m ((c.tc : Thread Cert.MixBwdIdeal.nD Cert.MixBwdIdeal.τ).loc Cert.MixBwdIdeal.main_arg10))).2.2.2.2.2.2.2 = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_mix_finite [hPre_mix_finite : Cert.Pre_mix_finite.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_mix_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).1 = (fun _ => 1#1)
    ∧ (Cert.Pre_mix_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).2.1 = (fun _ => 1#1)
    ∧ (Cert.Pre_mix_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).2.2.1 = (fun _ => 1#1)
    ∧ (Cert.Pre_mix_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).2.2.2.1 = (fun _ => 1#1)
    ∧ (Cert.Pre_mix_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).2.2.2.2.1 = (fun _ => 1#1)
    ∧ (Cert.Pre_mix_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).2.2.2.2.2.1 = (fun _ => 1#1)
    ∧ (Cert.Pre_mix_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).2.2.2.2.2.2.1 = (fun _ => 1#1)
    ∧ (Cert.Pre_mix_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6)) (m ((c.tc : Thread Cert.MixBwdRefIdeal.nD Cert.MixBwdRefIdeal.τ).loc Cert.MixBwdRefIdeal.main_arg7)) (m ((c.tc : Thread Cert.MixBwdRefIdeal.nD Cert.MixBwdRefIdeal.τ).loc Cert.MixBwdRefIdeal.main_arg8)) (m ((c.tc : Thread Cert.MixBwdRefIdeal.nD Cert.MixBwdRefIdeal.τ).loc Cert.MixBwdRefIdeal.main_arg9)) (m ((c.tc : Thread Cert.MixBwdRefIdeal.nD Cert.MixBwdRefIdeal.τ).loc Cert.MixBwdRefIdeal.main_arg10))).2.2.2.2.2.2.2 = (fun _ => 1#1)

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_AddParts (m : (ℓ : Loc Cert.AddParts.nD Cert.AddParts.τ Cert.AddParts.sig) → Buf (Elt Bits) ℓ) : Prop :=
  True

def Pre_AddPartsIdeal (m : (ℓ : Loc Cert.AddPartsIdeal.nD Cert.AddPartsIdeal.τ Cert.AddPartsIdeal.sig) → Buf (Elt Ideal) ℓ) : Prop :=
  True

def Pre_AddPartsRefIdeal (m : (ℓ : Loc Cert.AddPartsRefIdeal.nD Cert.AddPartsRefIdeal.τ Cert.AddPartsRefIdeal.sig) → Buf (Elt Ideal) ℓ) : Prop :=
  True

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdIdeal_pre_ln_finite [hLnBwdIdeal : Cert.LnBwdIdeal.Facts] [hPre_ln_finite : Cert.Pre_ln_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_ln_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_LnBwdRefIdeal_pre_ln_finite [hLnBwdRefIdeal : Cert.LnBwdRefIdeal.Facts] [hPre_ln_finite : Cert.Pre_ln_finite.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_ln_finite m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_LnBwdParts [hLnBwdParts : Cert.LnBwdParts.Facts] : Prop :=
  ∀ (m : (ℓ : Loc Cert.LnBwdParts.nD Cert.LnBwdParts.τ Cert.LnBwdParts.sig) → Buf (Elt Bits) ℓ) (g : Dev Cert.LnBwdParts.nD → PrngReg), Pre_LnBwdParts m →
    θ_run (Cert.LnBwdParts.defs (F := Bits)) (onTc (τ := Cert.LnBwdParts.τ) (Cert.LnBwdParts.main (F := Bits))) ⟨m, fun _ => 0, g⟩ (fun r => (∀ c : Dev Cert.LnBwdParts.nD,
      r.2.mem ((c.tc : Thread Cert.LnBwdParts.nD Cert.LnBwdParts.τ).loc Cert.LnBwdParts.main_arg0) = m ((c.tc : Thread Cert.LnBwdParts.nD Cert.LnBwdParts.τ).loc Cert.LnBwdParts.main_arg0)
      ∧ r.2.mem ((c.tc : Thread Cert.LnBwdParts.nD Cert.LnBwdParts.τ).loc Cert.LnBwdParts.main_arg1) = m ((c.tc : Thread Cert.LnBwdParts.nD Cert.LnBwdParts.τ).loc Cert.LnBwdParts.main_arg1)
      ∧ r.2.mem ((c.tc : Thread Cert.LnBwdParts.nD Cert.LnBwdParts.τ).loc Cert.LnBwdParts.main_arg2) = m ((c.tc : Thread Cert.LnBwdParts.nD Cert.LnBwdParts.τ).loc Cert.LnBwdParts.main_arg2)
      ∧ r.2.mem ((c.tc : Thread Cert.LnBwdParts.nD Cert.LnBwdParts.τ).loc Cert.LnBwdParts.main_arg3) = m ((c.tc : Thread Cert.LnBwdParts.nD Cert.LnBwdParts.τ).loc Cert.LnBwdParts.main_arg3)
      ∧ r.2.mem ((c.tc : Thread Cert.LnBwdParts.nD Cert.LnBwdParts.τ).loc Cert.LnBwdParts.main_arg4) = m ((c.tc : Thread Cert.LnBwdParts.nD Cert.LnBwdParts.τ).loc Cert.LnBwdParts.main_arg4)
      ∧ r.2.mem ((c.tc : Thread Cert.LnBwdParts.nD Cert.LnBwdParts.τ).loc Cert.LnBwdParts.main_arg5) = m ((c.tc : Thread Cert.LnBwdParts.nD Cert.LnBwdParts.τ).loc Cert.LnBwdParts.main_arg5))
      ∧ r.2.sem = fun _ => 0)

def quiescent_LnBwdPartsIdeal [hLnBwdPartsIdeal : Cert.LnBwdPartsIdeal.Facts] : Prop :=
  ∀ (m : (ℓ : Loc Cert.LnBwdPartsIdeal.nD Cert.LnBwdPartsIdeal.τ Cert.LnBwdPartsIdeal.sig) → Buf (Elt Ideal) ℓ) (g : Dev Cert.LnBwdPartsIdeal.nD → PrngReg), Pre_LnBwdPartsIdeal m →
    θ_run (Cert.LnBwdPartsIdeal.defs (F := Ideal)) (onTc (τ := Cert.LnBwdPartsIdeal.τ) (Cert.LnBwdPartsIdeal.main (F := Ideal))) ⟨m, fun _ => 0, g⟩ (fun r => (∀ c : Dev Cert.LnBwdPartsIdeal.nD,
      r.2.mem ((c.tc : Thread Cert.LnBwdPartsIdeal.nD Cert.LnBwdPartsIdeal.τ).loc Cert.LnBwdPartsIdeal.main_arg0) = m ((c.tc : Thread Cert.LnBwdPartsIdeal.nD Cert.LnBwdPartsIdeal.τ).loc Cert.LnBwdPartsIdeal.main_arg0)
      ∧ r.2.mem ((c.tc : Thread Cert.LnBwdPartsIdeal.nD Cert.LnBwdPartsIdeal.τ).loc Cert.LnBwdPartsIdeal.main_arg1) = m ((c.tc : Thread Cert.LnBwdPartsIdeal.nD Cert.LnBwdPartsIdeal.τ).loc Cert.LnBwdPartsIdeal.main_arg1)
      ∧ r.2.mem ((c.tc : Thread Cert.LnBwdPartsIdeal.nD Cert.LnBwdPartsIdeal.τ).loc Cert.LnBwdPartsIdeal.main_arg2) = m ((c.tc : Thread Cert.LnBwdPartsIdeal.nD Cert.LnBwdPartsIdeal.τ).loc Cert.LnBwdPartsIdeal.main_arg2)
      ∧ r.2.mem ((c.tc : Thread Cert.LnBwdPartsIdeal.nD Cert.LnBwdPartsIdeal.τ).loc Cert.LnBwdPartsIdeal.main_arg3) = m ((c.tc : Thread Cert.LnBwdPartsIdeal.nD Cert.LnBwdPartsIdeal.τ).loc Cert.LnBwdPartsIdeal.main_arg3)
      ∧ r.2.mem ((c.tc : Thread Cert.LnBwdPartsIdeal.nD Cert.LnBwdPartsIdeal.τ).loc Cert.LnBwdPartsIdeal.main_arg4) = m ((c.tc : Thread Cert.LnBwdPartsIdeal.nD Cert.LnBwdPartsIdeal.τ).loc Cert.LnBwdPartsIdeal.main_arg4)
      ∧ r.2.mem ((c.tc : Thread Cert.LnBwdPartsIdeal.nD Cert.LnBwdPartsIdeal.τ).loc Cert.LnBwdPartsIdeal.main_arg5) = m ((c.tc : Thread Cert.LnBwdPartsIdeal.nD Cert.LnBwdPartsIdeal.τ).loc Cert.LnBwdPartsIdeal.main_arg5))
      ∧ r.2.sem = fun _ => 0)

def quiescent_LnBwdPartsIdeal_pre_ln_parts_finite [hLnBwdPartsIdeal : Cert.LnBwdPartsIdeal.Facts] [hPre_ln_parts_finite : Cert.Pre_ln_parts_finite.Facts] : Prop :=
  ∀ (m : (ℓ : Loc Cert.LnBwdPartsIdeal.nD Cert.LnBwdPartsIdeal.τ Cert.LnBwdPartsIdeal.sig) → Buf (Elt Ideal) ℓ) (g : Dev Cert.LnBwdPartsIdeal.nD → PrngReg), Pre_LnBwdPartsIdeal_ln_parts_finite m →
    θ_run (Cert.LnBwdPartsIdeal.defs (F := Ideal)) (onTc (τ := Cert.LnBwdPartsIdeal.τ) (Cert.LnBwdPartsIdeal.main (F := Ideal))) ⟨m, fun _ => 0, g⟩ (fun r => (∀ c : Dev Cert.LnBwdPartsIdeal.nD,
      r.2.mem ((c.tc : Thread Cert.LnBwdPartsIdeal.nD Cert.LnBwdPartsIdeal.τ).loc Cert.LnBwdPartsIdeal.main_arg0) = m ((c.tc : Thread Cert.LnBwdPartsIdeal.nD Cert.LnBwdPartsIdeal.τ).loc Cert.LnBwdPartsIdeal.main_arg0)
      ∧ r.2.mem ((c.tc : Thread Cert.LnBwdPartsIdeal.nD Cert.LnBwdPartsIdeal.τ).loc Cert.LnBwdPartsIdeal.main_arg1) = m ((c.tc : Thread Cert.LnBwdPartsIdeal.nD Cert.LnBwdPartsIdeal.τ).loc Cert.LnBwdPartsIdeal.main_arg1)
      ∧ r.2.mem ((c.tc : Thread Cert.LnBwdPartsIdeal.nD Cert.LnBwdPartsIdeal.τ).loc Cert.LnBwdPartsIdeal.main_arg2) = m ((c.tc : Thread Cert.LnBwdPartsIdeal.nD Cert.LnBwdPartsIdeal.τ).loc Cert.LnBwdPartsIdeal.main_arg2)
      ∧ r.2.mem ((c.tc : Thread Cert.LnBwdPartsIdeal.nD Cert.LnBwdPartsIdeal.τ).loc Cert.LnBwdPartsIdeal.main_arg3) = m ((c.tc : Thread Cert.LnBwdPartsIdeal.nD Cert.LnBwdPartsIdeal.τ).loc Cert.LnBwdPartsIdeal.main_arg3)
      ∧ r.2.mem ((c.tc : Thread Cert.LnBwdPartsIdeal.nD Cert.LnBwdPartsIdeal.τ).loc Cert.LnBwdPartsIdeal.main_arg4) = m ((c.tc : Thread Cert.LnBwdPartsIdeal.nD Cert.LnBwdPartsIdeal.τ).loc Cert.LnBwdPartsIdeal.main_arg4)
      ∧ r.2.mem ((c.tc : Thread Cert.LnBwdPartsIdeal.nD Cert.LnBwdPartsIdeal.τ).loc Cert.LnBwdPartsIdeal.main_arg5) = m ((c.tc : Thread Cert.LnBwdPartsIdeal.nD Cert.LnBwdPartsIdeal.τ).loc Cert.LnBwdPartsIdeal.main_arg5))
      ∧ r.2.sem = fun _ => 0)

def quiescent_LnBwdPartsRefIdeal [hLnBwdPartsRefIdeal : Cert.LnBwdPartsRefIdeal.Facts] : Prop :=
  ∀ (m : (ℓ : Loc Cert.LnBwdPartsRefIdeal.nD Cert.LnBwdPartsRefIdeal.τ Cert.LnBwdPartsRefIdeal.sig) → Buf (Elt Ideal) ℓ) (g : Dev Cert.LnBwdPartsRefIdeal.nD → PrngReg), Pre_LnBwdPartsRefIdeal m →
    θ_run (Cert.LnBwdPartsRefIdeal.defs (F := Ideal)) (onTc (τ := Cert.LnBwdPartsRefIdeal.τ) (Cert.LnBwdPartsRefIdeal.main (F := Ideal))) ⟨m, fun _ => 0, g⟩ (fun r => (∀ c : Dev Cert.LnBwdPartsRefIdeal.nD,
      r.2.mem ((c.tc : Thread Cert.LnBwdPartsRefIdeal.nD Cert.LnBwdPartsRefIdeal.τ).loc Cert.LnBwdPartsRefIdeal.main_arg0) = m ((c.tc : Thread Cert.LnBwdPartsRefIdeal.nD Cert.LnBwdPartsRefIdeal.τ).loc Cert.LnBwdPartsRefIdeal.main_arg0)
      ∧ r.2.mem ((c.tc : Thread Cert.LnBwdPartsRefIdeal.nD Cert.LnBwdPartsRefIdeal.τ).loc Cert.LnBwdPartsRefIdeal.main_arg1) = m ((c.tc : Thread Cert.LnBwdPartsRefIdeal.nD Cert.LnBwdPartsRefIdeal.τ).loc Cert.LnBwdPartsRefIdeal.main_arg1)
      ∧ r.2.mem ((c.tc : Thread Cert.LnBwdPartsRefIdeal.nD Cert.LnBwdPartsRefIdeal.τ).loc Cert.LnBwdPartsRefIdeal.main_arg2) = m ((c.tc : Thread Cert.LnBwdPartsRefIdeal.nD Cert.LnBwdPartsRefIdeal.τ).loc Cert.LnBwdPartsRefIdeal.main_arg2)
      ∧ r.2.mem ((c.tc : Thread Cert.LnBwdPartsRefIdeal.nD Cert.LnBwdPartsRefIdeal.τ).loc Cert.LnBwdPartsRefIdeal.main_arg3) = m ((c.tc : Thread Cert.LnBwdPartsRefIdeal.nD Cert.LnBwdPartsRefIdeal.τ).loc Cert.LnBwdPartsRefIdeal.main_arg3)
      ∧ r.2.mem ((c.tc : Thread Cert.LnBwdPartsRefIdeal.nD Cert.LnBwdPartsRefIdeal.τ).loc Cert.LnBwdPartsRefIdeal.main_arg4) = m ((c.tc : Thread Cert.LnBwdPartsRefIdeal.nD Cert.LnBwdPartsRefIdeal.τ).loc Cert.LnBwdPartsRefIdeal.main_arg4)
      ∧ r.2.mem ((c.tc : Thread Cert.LnBwdPartsRefIdeal.nD Cert.LnBwdPartsRefIdeal.τ).loc Cert.LnBwdPartsRefIdeal.main_arg5) = m ((c.tc : Thread Cert.LnBwdPartsRefIdeal.nD Cert.LnBwdPartsRefIdeal.τ).loc Cert.LnBwdPartsRefIdeal.main_arg5))
      ∧ r.2.sem = fun _ => 0)

def quiescent_LnBwdPartsRefIdeal_pre_ln_parts_finite [hLnBwdPartsRefIdeal : Cert.LnBwdPartsRefIdeal.Facts] [hPre_ln_parts_finite : Cert.Pre_ln_parts_finite.Facts] : Prop :=
  ∀ (m : (ℓ : Loc Cert.LnBwdPartsRefIdeal.nD Cert.LnBwdPartsRefIdeal.τ Cert.LnBwdPartsRefIdeal.sig) → Buf (Elt Ideal) ℓ) (g : Dev Cert.LnBwdPartsRefIdeal.nD → PrngReg), Pre_LnBwdPartsRefIdeal_ln_parts_finite m →
    θ_run (Cert.LnBwdPartsRefIdeal.defs (F := Ideal)) (onTc (τ := Cert.LnBwdPartsRefIdeal.τ) (Cert.LnBwdPartsRefIdeal.main (F := Ideal))) ⟨m, fun _ => 0, g⟩ (fun r => (∀ c : Dev Cert.LnBwdPartsRefIdeal.nD,
      r.2.mem ((c.tc : Thread Cert.LnBwdPartsRefIdeal.nD Cert.LnBwdPartsRefIdeal.τ).loc Cert.LnBwdPartsRefIdeal.main_arg0) = m ((c.tc : Thread Cert.LnBwdPartsRefIdeal.nD Cert.LnBwdPartsRefIdeal.τ).loc Cert.LnBwdPartsRefIdeal.main_arg0)
      ∧ r.2.mem ((c.tc : Thread Cert.LnBwdPartsRefIdeal.nD Cert.LnBwdPartsRefIdeal.τ).loc Cert.LnBwdPartsRefIdeal.main_arg1) = m ((c.tc : Thread Cert.LnBwdPartsRefIdeal.nD Cert.LnBwdPartsRefIdeal.τ).loc Cert.LnBwdPartsRefIdeal.main_arg1)
      ∧ r.2.mem ((c.tc : Thread Cert.LnBwdPartsRefIdeal.nD Cert.LnBwdPartsRefIdeal.τ).loc Cert.LnBwdPartsRefIdeal.main_arg2) = m ((c.tc : Thread Cert.LnBwdPartsRefIdeal.nD Cert.LnBwdPartsRefIdeal.τ).loc Cert.LnBwdPartsRefIdeal.main_arg2)
      ∧ r.2.mem ((c.tc : Thread Cert.LnBwdPartsRefIdeal.nD Cert.LnBwdPartsRefIdeal.τ).loc Cert.LnBwdPartsRefIdeal.main_arg3) = m ((c.tc : Thread Cert.LnBwdPartsRefIdeal.nD Cert.LnBwdPartsRefIdeal.τ).loc Cert.LnBwdPartsRefIdeal.main_arg3)
      ∧ r.2.mem ((c.tc : Thread Cert.LnBwdPartsRefIdeal.nD Cert.LnBwdPartsRefIdeal.τ).loc Cert.LnBwdPartsRefIdeal.main_arg4) = m ((c.tc : Thread Cert.LnBwdPartsRefIdeal.nD Cert.LnBwdPartsRefIdeal.τ).loc Cert.LnBwdPartsRefIdeal.main_arg4)
      ∧ r.2.mem ((c.tc : Thread Cert.LnBwdPartsRefIdeal.nD Cert.LnBwdPartsRefIdeal.τ).loc Cert.LnBwdPartsRefIdeal.main_arg5) = m ((c.tc : Thread Cert.LnBwdPartsRefIdeal.nD Cert.LnBwdPartsRefIdeal.τ).loc Cert.LnBwdPartsRefIdeal.main_arg5))
      ∧ r.2.sem = fun _ => 0)

def quiescent_LnBwdMm [hLnBwdMm : Cert.LnBwdMm.Facts] : Prop :=
  ∀ (m : (ℓ : Loc Cert.LnBwdMm.nD Cert.LnBwdMm.τ Cert.LnBwdMm.sig) → Buf (Elt Bits) ℓ) (g : Dev Cert.LnBwdMm.nD → PrngReg), Pre_LnBwdMm m →
    θ_run (Cert.LnBwdMm.defs (F := Bits)) (onTc (τ := Cert.LnBwdMm.τ) (Cert.LnBwdMm.main (F := Bits))) ⟨m, fun _ => 0, g⟩ (fun r => (∀ c : Dev Cert.LnBwdMm.nD,
      r.2.mem ((c.tc : Thread Cert.LnBwdMm.nD Cert.LnBwdMm.τ).loc Cert.LnBwdMm.main_arg0) = m ((c.tc : Thread Cert.LnBwdMm.nD Cert.LnBwdMm.τ).loc Cert.LnBwdMm.main_arg0)
      ∧ r.2.mem ((c.tc : Thread Cert.LnBwdMm.nD Cert.LnBwdMm.τ).loc Cert.LnBwdMm.main_arg1) = m ((c.tc : Thread Cert.LnBwdMm.nD Cert.LnBwdMm.τ).loc Cert.LnBwdMm.main_arg1)
      ∧ r.2.mem ((c.tc : Thread Cert.LnBwdMm.nD Cert.LnBwdMm.τ).loc Cert.LnBwdMm.main_arg2) = m ((c.tc : Thread Cert.LnBwdMm.nD Cert.LnBwdMm.τ).loc Cert.LnBwdMm.main_arg2)
      ∧ r.2.mem ((c.tc : Thread Cert.LnBwdMm.nD Cert.LnBwdMm.τ).loc Cert.LnBwdMm.main_arg3) = m ((c.tc : Thread Cert.LnBwdMm.nD Cert.LnBwdMm.τ).loc Cert.LnBwdMm.main_arg3)
      ∧ r.2.mem ((c.tc : Thread Cert.LnBwdMm.nD Cert.LnBwdMm.τ).loc Cert.LnBwdMm.main_arg4) = m ((c.tc : Thread Cert.LnBwdMm.nD Cert.LnBwdMm.τ).loc Cert.LnBwdMm.main_arg4)
      ∧ r.2.mem ((c.tc : Thread Cert.LnBwdMm.nD Cert.LnBwdMm.τ).loc Cert.LnBwdMm.main_arg5) = m ((c.tc : Thread Cert.LnBwdMm.nD Cert.LnBwdMm.τ).loc Cert.LnBwdMm.main_arg5)
      ∧ r.2.mem ((c.tc : Thread Cert.LnBwdMm.nD Cert.LnBwdMm.τ).loc Cert.LnBwdMm.main_arg6) = m ((c.tc : Thread Cert.LnBwdMm.nD Cert.LnBwdMm.τ).loc Cert.LnBwdMm.main_arg6))
      ∧ r.2.sem = fun _ => 0)

def quiescent_LnBwdMmIdeal [hLnBwdMmIdeal : Cert.LnBwdMmIdeal.Facts] : Prop :=
  ∀ (m : (ℓ : Loc Cert.LnBwdMmIdeal.nD Cert.LnBwdMmIdeal.τ Cert.LnBwdMmIdeal.sig) → Buf (Elt Ideal) ℓ) (g : Dev Cert.LnBwdMmIdeal.nD → PrngReg), Pre_LnBwdMmIdeal m →
    θ_run (Cert.LnBwdMmIdeal.defs (F := Ideal)) (onTc (τ := Cert.LnBwdMmIdeal.τ) (Cert.LnBwdMmIdeal.main (F := Ideal))) ⟨m, fun _ => 0, g⟩ (fun r => (∀ c : Dev Cert.LnBwdMmIdeal.nD,
      r.2.mem ((c.tc : Thread Cert.LnBwdMmIdeal.nD Cert.LnBwdMmIdeal.τ).loc Cert.LnBwdMmIdeal.main_arg0) = m ((c.tc : Thread Cert.LnBwdMmIdeal.nD Cert.LnBwdMmIdeal.τ).loc Cert.LnBwdMmIdeal.main_arg0)
      ∧ r.2.mem ((c.tc : Thread Cert.LnBwdMmIdeal.nD Cert.LnBwdMmIdeal.τ).loc Cert.LnBwdMmIdeal.main_arg1) = m ((c.tc : Thread Cert.LnBwdMmIdeal.nD Cert.LnBwdMmIdeal.τ).loc Cert.LnBwdMmIdeal.main_arg1)
      ∧ r.2.mem ((c.tc : Thread Cert.LnBwdMmIdeal.nD Cert.LnBwdMmIdeal.τ).loc Cert.LnBwdMmIdeal.main_arg2) = m ((c.tc : Thread Cert.LnBwdMmIdeal.nD Cert.LnBwdMmIdeal.τ).loc Cert.LnBwdMmIdeal.main_arg2)
      ∧ r.2.mem ((c.tc : Thread Cert.LnBwdMmIdeal.nD Cert.LnBwdMmIdeal.τ).loc Cert.LnBwdMmIdeal.main_arg3) = m ((c.tc : Thread Cert.LnBwdMmIdeal.nD Cert.LnBwdMmIdeal.τ).loc Cert.LnBwdMmIdeal.main_arg3)
      ∧ r.2.mem ((c.tc : Thread Cert.LnBwdMmIdeal.nD Cert.LnBwdMmIdeal.τ).loc Cert.LnBwdMmIdeal.main_arg4) = m ((c.tc : Thread Cert.LnBwdMmIdeal.nD Cert.LnBwdMmIdeal.τ).loc Cert.LnBwdMmIdeal.main_arg4)
      ∧ r.2.mem ((c.tc : Thread Cert.LnBwdMmIdeal.nD Cert.LnBwdMmIdeal.τ).loc Cert.LnBwdMmIdeal.main_arg5) = m ((c.tc : Thread Cert.LnBwdMmIdeal.nD Cert.LnBwdMmIdeal.τ).loc Cert.LnBwdMmIdeal.main_arg5)
      ∧ r.2.mem ((c.tc : Thread Cert.LnBwdMmIdeal.nD Cert.LnBwdMmIdeal.τ).loc Cert.LnBwdMmIdeal.main_arg6) = m ((c.tc : Thread Cert.LnBwdMmIdeal.nD Cert.LnBwdMmIdeal.τ).loc Cert.LnBwdMmIdeal.main_arg6))
      ∧ r.2.sem = fun _ => 0)

def quiescent_LnBwdMmIdeal_pre_ln_mm_finite [hLnBwdMmIdeal : Cert.LnBwdMmIdeal.Facts] [hPre_ln_mm_finite : Cert.Pre_ln_mm_finite.Facts] : Prop :=
  ∀ (m : (ℓ : Loc Cert.LnBwdMmIdeal.nD Cert.LnBwdMmIdeal.τ Cert.LnBwdMmIdeal.sig) → Buf (Elt Ideal) ℓ) (g : Dev Cert.LnBwdMmIdeal.nD → PrngReg), Pre_LnBwdMmIdeal_ln_mm_finite m →
    θ_run (Cert.LnBwdMmIdeal.defs (F := Ideal)) (onTc (τ := Cert.LnBwdMmIdeal.τ) (Cert.LnBwdMmIdeal.main (F := Ideal))) ⟨m, fun _ => 0, g⟩ (fun r => (∀ c : Dev Cert.LnBwdMmIdeal.nD,
      r.2.mem ((c.tc : Thread Cert.LnBwdMmIdeal.nD Cert.LnBwdMmIdeal.τ).loc Cert.LnBwdMmIdeal.main_arg0) = m ((c.tc : Thread Cert.LnBwdMmIdeal.nD Cert.LnBwdMmIdeal.τ).loc Cert.LnBwdMmIdeal.main_arg0)
      ∧ r.2.mem ((c.tc : Thread Cert.LnBwdMmIdeal.nD Cert.LnBwdMmIdeal.τ).loc Cert.LnBwdMmIdeal.main_arg1) = m ((c.tc : Thread Cert.LnBwdMmIdeal.nD Cert.LnBwdMmIdeal.τ).loc Cert.LnBwdMmIdeal.main_arg1)
      ∧ r.2.mem ((c.tc : Thread Cert.LnBwdMmIdeal.nD Cert.LnBwdMmIdeal.τ).loc Cert.LnBwdMmIdeal.main_arg2) = m ((c.tc : Thread Cert.LnBwdMmIdeal.nD Cert.LnBwdMmIdeal.τ).loc Cert.LnBwdMmIdeal.main_arg2)
      ∧ r.2.mem ((c.tc : Thread Cert.LnBwdMmIdeal.nD Cert.LnBwdMmIdeal.τ).loc Cert.LnBwdMmIdeal.main_arg3) = m ((c.tc : Thread Cert.LnBwdMmIdeal.nD Cert.LnBwdMmIdeal.τ).loc Cert.LnBwdMmIdeal.main_arg3)
      ∧ r.2.mem ((c.tc : Thread Cert.LnBwdMmIdeal.nD Cert.LnBwdMmIdeal.τ).loc Cert.LnBwdMmIdeal.main_arg4) = m ((c.tc : Thread Cert.LnBwdMmIdeal.nD Cert.LnBwdMmIdeal.τ).loc Cert.LnBwdMmIdeal.main_arg4)
      ∧ r.2.mem ((c.tc : Thread Cert.LnBwdMmIdeal.nD Cert.LnBwdMmIdeal.τ).loc Cert.LnBwdMmIdeal.main_arg5) = m ((c.tc : Thread Cert.LnBwdMmIdeal.nD Cert.LnBwdMmIdeal.τ).loc Cert.LnBwdMmIdeal.main_arg5)
      ∧ r.2.mem ((c.tc : Thread Cert.LnBwdMmIdeal.nD Cert.LnBwdMmIdeal.τ).loc Cert.LnBwdMmIdeal.main_arg6) = m ((c.tc : Thread Cert.LnBwdMmIdeal.nD Cert.LnBwdMmIdeal.τ).loc Cert.LnBwdMmIdeal.main_arg6))
      ∧ r.2.sem = fun _ => 0)

def quiescent_LnBwdMmRefIdeal [hLnBwdMmRefIdeal : Cert.LnBwdMmRefIdeal.Facts] : Prop :=
  ∀ (m : (ℓ : Loc Cert.LnBwdMmRefIdeal.nD Cert.LnBwdMmRefIdeal.τ Cert.LnBwdMmRefIdeal.sig) → Buf (Elt Ideal) ℓ) (g : Dev Cert.LnBwdMmRefIdeal.nD → PrngReg), Pre_LnBwdMmRefIdeal m →
    θ_run (Cert.LnBwdMmRefIdeal.defs (F := Ideal)) (onTc (τ := Cert.LnBwdMmRefIdeal.τ) (Cert.LnBwdMmRefIdeal.main (F := Ideal))) ⟨m, fun _ => 0, g⟩ (fun r => (∀ c : Dev Cert.LnBwdMmRefIdeal.nD,
      r.2.mem ((c.tc : Thread Cert.LnBwdMmRefIdeal.nD Cert.LnBwdMmRefIdeal.τ).loc Cert.LnBwdMmRefIdeal.main_arg0) = m ((c.tc : Thread Cert.LnBwdMmRefIdeal.nD Cert.LnBwdMmRefIdeal.τ).loc Cert.LnBwdMmRefIdeal.main_arg0)
      ∧ r.2.mem ((c.tc : Thread Cert.LnBwdMmRefIdeal.nD Cert.LnBwdMmRefIdeal.τ).loc Cert.LnBwdMmRefIdeal.main_arg1) = m ((c.tc : Thread Cert.LnBwdMmRefIdeal.nD Cert.LnBwdMmRefIdeal.τ).loc Cert.LnBwdMmRefIdeal.main_arg1)
      ∧ r.2.mem ((c.tc : Thread Cert.LnBwdMmRefIdeal.nD Cert.LnBwdMmRefIdeal.τ).loc Cert.LnBwdMmRefIdeal.main_arg2) = m ((c.tc : Thread Cert.LnBwdMmRefIdeal.nD Cert.LnBwdMmRefIdeal.τ).loc Cert.LnBwdMmRefIdeal.main_arg2)
      ∧ r.2.mem ((c.tc : Thread Cert.LnBwdMmRefIdeal.nD Cert.LnBwdMmRefIdeal.τ).loc Cert.LnBwdMmRefIdeal.main_arg3) = m ((c.tc : Thread Cert.LnBwdMmRefIdeal.nD Cert.LnBwdMmRefIdeal.τ).loc Cert.LnBwdMmRefIdeal.main_arg3)
      ∧ r.2.mem ((c.tc : Thread Cert.LnBwdMmRefIdeal.nD Cert.LnBwdMmRefIdeal.τ).loc Cert.LnBwdMmRefIdeal.main_arg4) = m ((c.tc : Thread Cert.LnBwdMmRefIdeal.nD Cert.LnBwdMmRefIdeal.τ).loc Cert.LnBwdMmRefIdeal.main_arg4)
      ∧ r.2.mem ((c.tc : Thread Cert.LnBwdMmRefIdeal.nD Cert.LnBwdMmRefIdeal.τ).loc Cert.LnBwdMmRefIdeal.main_arg5) = m ((c.tc : Thread Cert.LnBwdMmRefIdeal.nD Cert.LnBwdMmRefIdeal.τ).loc Cert.LnBwdMmRefIdeal.main_arg5)
      ∧ r.2.mem ((c.tc : Thread Cert.LnBwdMmRefIdeal.nD Cert.LnBwdMmRefIdeal.τ).loc Cert.LnBwdMmRefIdeal.main_arg6) = m ((c.tc : Thread Cert.LnBwdMmRefIdeal.nD Cert.LnBwdMmRefIdeal.τ).loc Cert.LnBwdMmRefIdeal.main_arg6))
      ∧ r.2.sem = fun _ => 0)

def quiescent_LnBwdMmRefIdeal_pre_ln_mm_finite [hLnBwdMmRefIdeal : Cert.LnBwdMmRefIdeal.Facts] [hPre_ln_mm_finite : Cert.Pre_ln_mm_finite.Facts] : Prop :=
  ∀ (m : (ℓ : Loc Cert.LnBwdMmRefIdeal.nD Cert.LnBwdMmRefIdeal.τ Cert.LnBwdMmRefIdeal.sig) → Buf (Elt Ideal) ℓ) (g : Dev Cert.LnBwdMmRefIdeal.nD → PrngReg), Pre_LnBwdMmRefIdeal_ln_mm_finite m →
    θ_run (Cert.LnBwdMmRefIdeal.defs (F := Ideal)) (onTc (τ := Cert.LnBwdMmRefIdeal.τ) (Cert.LnBwdMmRefIdeal.main (F := Ideal))) ⟨m, fun _ => 0, g⟩ (fun r => (∀ c : Dev Cert.LnBwdMmRefIdeal.nD,
      r.2.mem ((c.tc : Thread Cert.LnBwdMmRefIdeal.nD Cert.LnBwdMmRefIdeal.τ).loc Cert.LnBwdMmRefIdeal.main_arg0) = m ((c.tc : Thread Cert.LnBwdMmRefIdeal.nD Cert.LnBwdMmRefIdeal.τ).loc Cert.LnBwdMmRefIdeal.main_arg0)
      ∧ r.2.mem ((c.tc : Thread Cert.LnBwdMmRefIdeal.nD Cert.LnBwdMmRefIdeal.τ).loc Cert.LnBwdMmRefIdeal.main_arg1) = m ((c.tc : Thread Cert.LnBwdMmRefIdeal.nD Cert.LnBwdMmRefIdeal.τ).loc Cert.LnBwdMmRefIdeal.main_arg1)
      ∧ r.2.mem ((c.tc : Thread Cert.LnBwdMmRefIdeal.nD Cert.LnBwdMmRefIdeal.τ).loc Cert.LnBwdMmRefIdeal.main_arg2) = m ((c.tc : Thread Cert.LnBwdMmRefIdeal.nD Cert.LnBwdMmRefIdeal.τ).loc Cert.LnBwdMmRefIdeal.main_arg2)
      ∧ r.2.mem ((c.tc : Thread Cert.LnBwdMmRefIdeal.nD Cert.LnBwdMmRefIdeal.τ).loc Cert.LnBwdMmRefIdeal.main_arg3) = m ((c.tc : Thread Cert.LnBwdMmRefIdeal.nD Cert.LnBwdMmRefIdeal.τ).loc Cert.LnBwdMmRefIdeal.main_arg3)
      ∧ r.2.mem ((c.tc : Thread Cert.LnBwdMmRefIdeal.nD Cert.LnBwdMmRefIdeal.τ).loc Cert.LnBwdMmRefIdeal.main_arg4) = m ((c.tc : Thread Cert.LnBwdMmRefIdeal.nD Cert.LnBwdMmRefIdeal.τ).loc Cert.LnBwdMmRefIdeal.main_arg4)
      ∧ r.2.mem ((c.tc : Thread Cert.LnBwdMmRefIdeal.nD Cert.LnBwdMmRefIdeal.τ).loc Cert.LnBwdMmRefIdeal.main_arg5) = m ((c.tc : Thread Cert.LnBwdMmRefIdeal.nD Cert.LnBwdMmRefIdeal.τ).loc Cert.LnBwdMmRefIdeal.main_arg5)
      ∧ r.2.mem ((c.tc : Thread Cert.LnBwdMmRefIdeal.nD Cert.LnBwdMmRefIdeal.τ).loc Cert.LnBwdMmRefIdeal.main_arg6) = m ((c.tc : Thread Cert.LnBwdMmRefIdeal.nD Cert.LnBwdMmRefIdeal.τ).loc Cert.LnBwdMmRefIdeal.main_arg6))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_ffn_finite [hFfnBwdRefIdeal : Cert.FfnBwdRefIdeal.Facts] [hPre_ffn_finite : Cert.Pre_ffn_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ r.2.sem = fun _ => 0)

def quiescent_MixBwdIdeal_pre_mix_finite [hMixBwdIdeal : Cert.MixBwdIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mix_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10))
      ∧ r.2.sem = fun _ => 0)

def quiescent_MixBwdRefIdeal_pre_mix_finite [hMixBwdRefIdeal : Cert.MixBwdRefIdeal.Facts] [hPre_mix_finite : Cert.Pre_mix_finite.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_mix_finite m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6)
      ∧ r.2.mem ((c.tc : Thread Cert.MixBwdRefIdeal.nD Cert.MixBwdRefIdeal.τ).loc Cert.MixBwdRefIdeal.main_arg7) = m ((c.tc : Thread Cert.MixBwdRefIdeal.nD Cert.MixBwdRefIdeal.τ).loc Cert.MixBwdRefIdeal.main_arg7)
      ∧ r.2.mem ((c.tc : Thread Cert.MixBwdRefIdeal.nD Cert.MixBwdRefIdeal.τ).loc Cert.MixBwdRefIdeal.main_arg8) = m ((c.tc : Thread Cert.MixBwdRefIdeal.nD Cert.MixBwdRefIdeal.τ).loc Cert.MixBwdRefIdeal.main_arg8)
      ∧ r.2.mem ((c.tc : Thread Cert.MixBwdRefIdeal.nD Cert.MixBwdRefIdeal.τ).loc Cert.MixBwdRefIdeal.main_arg9) = m ((c.tc : Thread Cert.MixBwdRefIdeal.nD Cert.MixBwdRefIdeal.τ).loc Cert.MixBwdRefIdeal.main_arg9)
      ∧ r.2.mem ((c.tc : Thread Cert.MixBwdRefIdeal.nD Cert.MixBwdRefIdeal.τ).loc Cert.MixBwdRefIdeal.main_arg10) = m ((c.tc : Thread Cert.MixBwdRefIdeal.nD Cert.MixBwdRefIdeal.τ).loc Cert.MixBwdRefIdeal.main_arg10))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_AddParts [hAddParts : Cert.AddParts.Facts] : Prop :=
  ∀ (m : (ℓ : Loc Cert.AddParts.nD Cert.AddParts.τ Cert.AddParts.sig) → Buf (Elt Bits) ℓ) (g : Dev Cert.AddParts.nD → PrngReg), Pre_AddParts m →
    θ_run (Cert.AddParts.defs (F := Bits)) (onTc (τ := Cert.AddParts.τ) (Cert.AddParts.main (F := Bits))) ⟨m, fun _ => 0, g⟩ (fun r => (∀ c : Dev Cert.AddParts.nD,
      r.2.mem ((c.tc : Thread Cert.AddParts.nD Cert.AddParts.τ).loc Cert.AddParts.main_arg0) = m ((c.tc : Thread Cert.AddParts.nD Cert.AddParts.τ).loc Cert.AddParts.main_arg0)
      ∧ r.2.mem ((c.tc : Thread Cert.AddParts.nD Cert.AddParts.τ).loc Cert.AddParts.main_arg1) = m ((c.tc : Thread Cert.AddParts.nD Cert.AddParts.τ).loc Cert.AddParts.main_arg1))
      ∧ r.2.sem = fun _ => 0)

def quiescent_AddPartsIdeal [hAddPartsIdeal : Cert.AddPartsIdeal.Facts] : Prop :=
  ∀ (m : (ℓ : Loc Cert.AddPartsIdeal.nD Cert.AddPartsIdeal.τ Cert.AddPartsIdeal.sig) → Buf (Elt Ideal) ℓ) (g : Dev Cert.AddPartsIdeal.nD → PrngReg), Pre_AddPartsIdeal m →
    θ_run (Cert.AddPartsIdeal.defs (F := Ideal)) (onTc (τ := Cert.AddPartsIdeal.τ) (Cert.AddPartsIdeal.main (F := Ideal))) ⟨m, fun _ => 0, g⟩ (fun r => (∀ c : Dev Cert.AddPartsIdeal.nD,
      r.2.mem ((c.tc : Thread Cert.AddPartsIdeal.nD Cert.AddPartsIdeal.τ).loc Cert.AddPartsIdeal.main_arg0) = m ((c.tc : Thread Cert.AddPartsIdeal.nD Cert.AddPartsIdeal.τ).loc Cert.AddPartsIdeal.main_arg0)
      ∧ r.2.mem ((c.tc : Thread Cert.AddPartsIdeal.nD Cert.AddPartsIdeal.τ).loc Cert.AddPartsIdeal.main_arg1) = m ((c.tc : Thread Cert.AddPartsIdeal.nD Cert.AddPartsIdeal.τ).loc Cert.AddPartsIdeal.main_arg1))
      ∧ r.2.sem = fun _ => 0)

def quiescent_AddPartsRefIdeal [hAddPartsRefIdeal : Cert.AddPartsRefIdeal.Facts] : Prop :=
  ∀ (m : (ℓ : Loc Cert.AddPartsRefIdeal.nD Cert.AddPartsRefIdeal.τ Cert.AddPartsRefIdeal.sig) → Buf (Elt Ideal) ℓ) (g : Dev Cert.AddPartsRefIdeal.nD → PrngReg), Pre_AddPartsRefIdeal m →
    θ_run (Cert.AddPartsRefIdeal.defs (F := Ideal)) (onTc (τ := Cert.AddPartsRefIdeal.τ) (Cert.AddPartsRefIdeal.main (F := Ideal))) ⟨m, fun _ => 0, g⟩ (fun r => (∀ c : Dev Cert.AddPartsRefIdeal.nD,
      r.2.mem ((c.tc : Thread Cert.AddPartsRefIdeal.nD Cert.AddPartsRefIdeal.τ).loc Cert.AddPartsRefIdeal.main_arg0) = m ((c.tc : Thread Cert.AddPartsRefIdeal.nD Cert.AddPartsRefIdeal.τ).loc Cert.AddPartsRefIdeal.main_arg0)
      ∧ r.2.mem ((c.tc : Thread Cert.AddPartsRefIdeal.nD Cert.AddPartsRefIdeal.τ).loc Cert.AddPartsRefIdeal.main_arg1) = m ((c.tc : Thread Cert.AddPartsRefIdeal.nD Cert.AddPartsRefIdeal.τ).loc Cert.AddPartsRefIdeal.main_arg1))
      ∧ r.2.sem = fun _ => 0)

def preserves_LnBwd_LnBwdIdeal : Prop :=
  True

def algebraic_LnBwdIdeal_LnBwdRefIdeal_pre_ln_finite [hLnBwdIdeal : Cert.LnBwdIdeal.Facts] [hLnBwdRefIdeal : Cert.LnBwdRefIdeal.Facts] [hPre_ln_finite : Cert.Pre_ln_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_ln_finite m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v4_0)) (v1 : (c : Dev Cert.LnBwdIdeal.nD) → Buf (Elt Ideal) ((c.tc : Thread Cert.LnBwdIdeal.nD Cert.LnBwdIdeal.τ).loc Cert.LnBwdIdeal.main_v4_1)) (v2 : (c : Dev Cert.LnBwdIdeal.nD) → Buf (Elt Ideal) ((c.tc : Thread Cert.LnBwdIdeal.nD Cert.LnBwdIdeal.τ).loc Cert.LnBwdIdeal.main_v4_2)) (v3 : (c : Dev Cert.LnBwdIdeal.nD) → Buf (Elt Ideal) ((c.tc : Thread Cert.LnBwdIdeal.nD Cert.LnBwdIdeal.τ).loc Cert.LnBwdIdeal.main_v4_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v4_0) = v0 c
          ∧ r.2.mem ((c.tc : Thread Cert.LnBwdIdeal.nD Cert.LnBwdIdeal.τ).loc Cert.LnBwdIdeal.main_v4_1) = v1 c
          ∧ r.2.mem ((c.tc : Thread Cert.LnBwdIdeal.nD Cert.LnBwdIdeal.τ).loc Cert.LnBwdIdeal.main_v4_2) = v2 c
          ∧ r.2.mem ((c.tc : Thread Cert.LnBwdIdeal.nD Cert.LnBwdIdeal.τ).loc Cert.LnBwdIdeal.main_v4_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v68) = v0 c
          ∧ r.2.mem ((c.tc : Thread Cert.LnBwdRefIdeal.nD Cert.LnBwdRefIdeal.τ).loc Cert.LnBwdRefIdeal.main_v67) = v1 c
          ∧ r.2.mem ((c.tc : Thread Cert.LnBwdRefIdeal.nD Cert.LnBwdRefIdeal.τ).loc Cert.LnBwdRefIdeal.main_v69) = v2 c
          ∧ r.2.mem ((c.tc : Thread Cert.LnBwdRefIdeal.nD Cert.LnBwdRefIdeal.τ).loc Cert.LnBwdRefIdeal.main_v70) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4))

def preserves_LnBwdParts_LnBwdPartsIdeal : Prop :=
  True

def algebraic_LnBwdPartsIdeal_LnBwdPartsRefIdeal_pre_ln_parts_finite [hLnBwdPartsIdeal : Cert.LnBwdPartsIdeal.Facts] [hLnBwdPartsRefIdeal : Cert.LnBwdPartsRefIdeal.Facts] [hPre_ln_parts_finite : Cert.Pre_ln_parts_finite.Facts] : Prop :=
  ∀ (m : (ℓ : Loc Cert.LnBwdPartsIdeal.nD Cert.LnBwdPartsIdeal.τ Cert.LnBwdPartsIdeal.sig) → Buf (Elt Ideal) ℓ) (g : Dev Cert.LnBwdPartsIdeal.nD → PrngReg)
    (m' : (ℓ : Loc Cert.LnBwdPartsRefIdeal.nD Cert.LnBwdPartsRefIdeal.τ Cert.LnBwdPartsRefIdeal.sig) → Buf (Elt Ideal) ℓ) (g' : Dev Cert.LnBwdPartsRefIdeal.nD → PrngReg), Pre_LnBwdPartsIdeal_ln_parts_finite m →
    (∀ c : Dev Cert.LnBwdPartsIdeal.nD,
      m' ((c.tc : Thread Cert.LnBwdPartsRefIdeal.nD Cert.LnBwdPartsRefIdeal.τ).loc Cert.LnBwdPartsRefIdeal.main_arg0) = m ((c.tc : Thread Cert.LnBwdPartsIdeal.nD Cert.LnBwdPartsIdeal.τ).loc Cert.LnBwdPartsIdeal.main_arg0)
      ∧ m' ((c.tc : Thread Cert.LnBwdPartsRefIdeal.nD Cert.LnBwdPartsRefIdeal.τ).loc Cert.LnBwdPartsRefIdeal.main_arg1) = m ((c.tc : Thread Cert.LnBwdPartsIdeal.nD Cert.LnBwdPartsIdeal.τ).loc Cert.LnBwdPartsIdeal.main_arg1)
      ∧ m' ((c.tc : Thread Cert.LnBwdPartsRefIdeal.nD Cert.LnBwdPartsRefIdeal.τ).loc Cert.LnBwdPartsRefIdeal.main_arg2) = m ((c.tc : Thread Cert.LnBwdPartsIdeal.nD Cert.LnBwdPartsIdeal.τ).loc Cert.LnBwdPartsIdeal.main_arg2)
      ∧ m' ((c.tc : Thread Cert.LnBwdPartsRefIdeal.nD Cert.LnBwdPartsRefIdeal.τ).loc Cert.LnBwdPartsRefIdeal.main_arg3) = m ((c.tc : Thread Cert.LnBwdPartsIdeal.nD Cert.LnBwdPartsIdeal.τ).loc Cert.LnBwdPartsIdeal.main_arg3)
      ∧ m' ((c.tc : Thread Cert.LnBwdPartsRefIdeal.nD Cert.LnBwdPartsRefIdeal.τ).loc Cert.LnBwdPartsRefIdeal.main_arg4) = m ((c.tc : Thread Cert.LnBwdPartsIdeal.nD Cert.LnBwdPartsIdeal.τ).loc Cert.LnBwdPartsIdeal.main_arg4)
      ∧ m' ((c.tc : Thread Cert.LnBwdPartsRefIdeal.nD Cert.LnBwdPartsRefIdeal.τ).loc Cert.LnBwdPartsRefIdeal.main_arg5) = m ((c.tc : Thread Cert.LnBwdPartsIdeal.nD Cert.LnBwdPartsIdeal.τ).loc Cert.LnBwdPartsIdeal.main_arg5)) →
    ∃ (v0 : (c : Dev Cert.LnBwdPartsIdeal.nD) → Buf (Elt Ideal) ((c.tc : Thread Cert.LnBwdPartsIdeal.nD Cert.LnBwdPartsIdeal.τ).loc Cert.LnBwdPartsIdeal.main_v4_0)) (v1 : (c : Dev Cert.LnBwdPartsIdeal.nD) → Buf (Elt Ideal) ((c.tc : Thread Cert.LnBwdPartsIdeal.nD Cert.LnBwdPartsIdeal.τ).loc Cert.LnBwdPartsIdeal.main_v4_1)) (v2 : (c : Dev Cert.LnBwdPartsIdeal.nD) → Buf (Elt Ideal) ((c.tc : Thread Cert.LnBwdPartsIdeal.nD Cert.LnBwdPartsIdeal.τ).loc Cert.LnBwdPartsIdeal.main_v4_2)) (v3 : (c : Dev Cert.LnBwdPartsIdeal.nD) → Buf (Elt Ideal) ((c.tc : Thread Cert.LnBwdPartsIdeal.nD Cert.LnBwdPartsIdeal.τ).loc Cert.LnBwdPartsIdeal.main_v4_3)),
      θ_run (Cert.LnBwdPartsIdeal.defs (F := Ideal)) (onTc (τ := Cert.LnBwdPartsIdeal.τ) (Cert.LnBwdPartsIdeal.main (F := Ideal))) ⟨m, fun _ => 0, g⟩ (fun r => ∀ c : Dev Cert.LnBwdPartsIdeal.nD,
          r.2.mem ((c.tc : Thread Cert.LnBwdPartsIdeal.nD Cert.LnBwdPartsIdeal.τ).loc Cert.LnBwdPartsIdeal.main_v4_0) = v0 c
          ∧ r.2.mem ((c.tc : Thread Cert.LnBwdPartsIdeal.nD Cert.LnBwdPartsIdeal.τ).loc Cert.LnBwdPartsIdeal.main_v4_1) = v1 c
          ∧ r.2.mem ((c.tc : Thread Cert.LnBwdPartsIdeal.nD Cert.LnBwdPartsIdeal.τ).loc Cert.LnBwdPartsIdeal.main_v4_2) = v2 c
          ∧ r.2.mem ((c.tc : Thread Cert.LnBwdPartsIdeal.nD Cert.LnBwdPartsIdeal.τ).loc Cert.LnBwdPartsIdeal.main_v4_3) = v3 c
          ∧ r.2.mem ((c.tc : Thread Cert.LnBwdPartsIdeal.nD Cert.LnBwdPartsIdeal.τ).loc Cert.LnBwdPartsIdeal.main_arg0) = m ((c.tc : Thread Cert.LnBwdPartsIdeal.nD Cert.LnBwdPartsIdeal.τ).loc Cert.LnBwdPartsIdeal.main_arg0)
          ∧ r.2.mem ((c.tc : Thread Cert.LnBwdPartsIdeal.nD Cert.LnBwdPartsIdeal.τ).loc Cert.LnBwdPartsIdeal.main_arg1) = m ((c.tc : Thread Cert.LnBwdPartsIdeal.nD Cert.LnBwdPartsIdeal.τ).loc Cert.LnBwdPartsIdeal.main_arg1)
          ∧ r.2.mem ((c.tc : Thread Cert.LnBwdPartsIdeal.nD Cert.LnBwdPartsIdeal.τ).loc Cert.LnBwdPartsIdeal.main_arg2) = m ((c.tc : Thread Cert.LnBwdPartsIdeal.nD Cert.LnBwdPartsIdeal.τ).loc Cert.LnBwdPartsIdeal.main_arg2)
          ∧ r.2.mem ((c.tc : Thread Cert.LnBwdPartsIdeal.nD Cert.LnBwdPartsIdeal.τ).loc Cert.LnBwdPartsIdeal.main_arg3) = m ((c.tc : Thread Cert.LnBwdPartsIdeal.nD Cert.LnBwdPartsIdeal.τ).loc Cert.LnBwdPartsIdeal.main_arg3)
          ∧ r.2.mem ((c.tc : Thread Cert.LnBwdPartsIdeal.nD Cert.LnBwdPartsIdeal.τ).loc Cert.LnBwdPartsIdeal.main_arg4) = m ((c.tc : Thread Cert.LnBwdPartsIdeal.nD Cert.LnBwdPartsIdeal.τ).loc Cert.LnBwdPartsIdeal.main_arg4)
          ∧ r.2.mem ((c.tc : Thread Cert.LnBwdPartsIdeal.nD Cert.LnBwdPartsIdeal.τ).loc Cert.LnBwdPartsIdeal.main_arg5) = m ((c.tc : Thread Cert.LnBwdPartsIdeal.nD Cert.LnBwdPartsIdeal.τ).loc Cert.LnBwdPartsIdeal.main_arg5))
      ∧ θ_run (Cert.LnBwdPartsRefIdeal.defs (F := Ideal)) (onTc (τ := Cert.LnBwdPartsRefIdeal.τ) (Cert.LnBwdPartsRefIdeal.main (F := Ideal))) ⟨m', fun _ => 0, g'⟩ (fun r => ∀ c : Dev Cert.LnBwdPartsRefIdeal.nD,
          r.2.mem ((c.tc : Thread Cert.LnBwdPartsRefIdeal.nD Cert.LnBwdPartsRefIdeal.τ).loc Cert.LnBwdPartsRefIdeal.main_v70) = v0 c
          ∧ r.2.mem ((c.tc : Thread Cert.LnBwdPartsRefIdeal.nD Cert.LnBwdPartsRefIdeal.τ).loc Cert.LnBwdPartsRefIdeal.main_v69) = v1 c
          ∧ r.2.mem ((c.tc : Thread Cert.LnBwdPartsRefIdeal.nD Cert.LnBwdPartsRefIdeal.τ).loc Cert.LnBwdPartsRefIdeal.main_v71) = v2 c
          ∧ r.2.mem ((c.tc : Thread Cert.LnBwdPartsRefIdeal.nD Cert.LnBwdPartsRefIdeal.τ).loc Cert.LnBwdPartsRefIdeal.main_v72) = v3 c
          ∧ r.2.mem ((c.tc : Thread Cert.LnBwdPartsRefIdeal.nD Cert.LnBwdPartsRefIdeal.τ).loc Cert.LnBwdPartsRefIdeal.main_arg0) = m' ((c.tc : Thread Cert.LnBwdPartsRefIdeal.nD Cert.LnBwdPartsRefIdeal.τ).loc Cert.LnBwdPartsRefIdeal.main_arg0)
          ∧ r.2.mem ((c.tc : Thread Cert.LnBwdPartsRefIdeal.nD Cert.LnBwdPartsRefIdeal.τ).loc Cert.LnBwdPartsRefIdeal.main_arg1) = m' ((c.tc : Thread Cert.LnBwdPartsRefIdeal.nD Cert.LnBwdPartsRefIdeal.τ).loc Cert.LnBwdPartsRefIdeal.main_arg1)
          ∧ r.2.mem ((c.tc : Thread Cert.LnBwdPartsRefIdeal.nD Cert.LnBwdPartsRefIdeal.τ).loc Cert.LnBwdPartsRefIdeal.main_arg2) = m' ((c.tc : Thread Cert.LnBwdPartsRefIdeal.nD Cert.LnBwdPartsRefIdeal.τ).loc Cert.LnBwdPartsRefIdeal.main_arg2)
          ∧ r.2.mem ((c.tc : Thread Cert.LnBwdPartsRefIdeal.nD Cert.LnBwdPartsRefIdeal.τ).loc Cert.LnBwdPartsRefIdeal.main_arg3) = m' ((c.tc : Thread Cert.LnBwdPartsRefIdeal.nD Cert.LnBwdPartsRefIdeal.τ).loc Cert.LnBwdPartsRefIdeal.main_arg3)
          ∧ r.2.mem ((c.tc : Thread Cert.LnBwdPartsRefIdeal.nD Cert.LnBwdPartsRefIdeal.τ).loc Cert.LnBwdPartsRefIdeal.main_arg4) = m' ((c.tc : Thread Cert.LnBwdPartsRefIdeal.nD Cert.LnBwdPartsRefIdeal.τ).loc Cert.LnBwdPartsRefIdeal.main_arg4)
          ∧ r.2.mem ((c.tc : Thread Cert.LnBwdPartsRefIdeal.nD Cert.LnBwdPartsRefIdeal.τ).loc Cert.LnBwdPartsRefIdeal.main_arg5) = m' ((c.tc : Thread Cert.LnBwdPartsRefIdeal.nD Cert.LnBwdPartsRefIdeal.τ).loc Cert.LnBwdPartsRefIdeal.main_arg5))

def preserves_LnBwdMm_LnBwdMmIdeal : Prop :=
  True

def algebraic_LnBwdMmIdeal_LnBwdMmRefIdeal_pre_ln_mm_finite [hLnBwdMmIdeal : Cert.LnBwdMmIdeal.Facts] [hLnBwdMmRefIdeal : Cert.LnBwdMmRefIdeal.Facts] [hPre_ln_mm_finite : Cert.Pre_ln_mm_finite.Facts] : Prop :=
  ∀ (m : (ℓ : Loc Cert.LnBwdMmIdeal.nD Cert.LnBwdMmIdeal.τ Cert.LnBwdMmIdeal.sig) → Buf (Elt Ideal) ℓ) (g : Dev Cert.LnBwdMmIdeal.nD → PrngReg)
    (m' : (ℓ : Loc Cert.LnBwdMmRefIdeal.nD Cert.LnBwdMmRefIdeal.τ Cert.LnBwdMmRefIdeal.sig) → Buf (Elt Ideal) ℓ) (g' : Dev Cert.LnBwdMmRefIdeal.nD → PrngReg), Pre_LnBwdMmIdeal_ln_mm_finite m →
    (∀ c : Dev Cert.LnBwdMmIdeal.nD,
      m' ((c.tc : Thread Cert.LnBwdMmRefIdeal.nD Cert.LnBwdMmRefIdeal.τ).loc Cert.LnBwdMmRefIdeal.main_arg0) = m ((c.tc : Thread Cert.LnBwdMmIdeal.nD Cert.LnBwdMmIdeal.τ).loc Cert.LnBwdMmIdeal.main_arg0)
      ∧ m' ((c.tc : Thread Cert.LnBwdMmRefIdeal.nD Cert.LnBwdMmRefIdeal.τ).loc Cert.LnBwdMmRefIdeal.main_arg1) = m ((c.tc : Thread Cert.LnBwdMmIdeal.nD Cert.LnBwdMmIdeal.τ).loc Cert.LnBwdMmIdeal.main_arg1)
      ∧ m' ((c.tc : Thread Cert.LnBwdMmRefIdeal.nD Cert.LnBwdMmRefIdeal.τ).loc Cert.LnBwdMmRefIdeal.main_arg2) = m ((c.tc : Thread Cert.LnBwdMmIdeal.nD Cert.LnBwdMmIdeal.τ).loc Cert.LnBwdMmIdeal.main_arg2)
      ∧ m' ((c.tc : Thread Cert.LnBwdMmRefIdeal.nD Cert.LnBwdMmRefIdeal.τ).loc Cert.LnBwdMmRefIdeal.main_arg3) = m ((c.tc : Thread Cert.LnBwdMmIdeal.nD Cert.LnBwdMmIdeal.τ).loc Cert.LnBwdMmIdeal.main_arg3)
      ∧ m' ((c.tc : Thread Cert.LnBwdMmRefIdeal.nD Cert.LnBwdMmRefIdeal.τ).loc Cert.LnBwdMmRefIdeal.main_arg4) = m ((c.tc : Thread Cert.LnBwdMmIdeal.nD Cert.LnBwdMmIdeal.τ).loc Cert.LnBwdMmIdeal.main_arg4)
      ∧ m' ((c.tc : Thread Cert.LnBwdMmRefIdeal.nD Cert.LnBwdMmRefIdeal.τ).loc Cert.LnBwdMmRefIdeal.main_arg5) = m ((c.tc : Thread Cert.LnBwdMmIdeal.nD Cert.LnBwdMmIdeal.τ).loc Cert.LnBwdMmIdeal.main_arg5)
      ∧ m' ((c.tc : Thread Cert.LnBwdMmRefIdeal.nD Cert.LnBwdMmRefIdeal.τ).loc Cert.LnBwdMmRefIdeal.main_arg6) = m ((c.tc : Thread Cert.LnBwdMmIdeal.nD Cert.LnBwdMmIdeal.τ).loc Cert.LnBwdMmIdeal.main_arg6)) →
    ∃ (v0 : (c : Dev Cert.LnBwdMmIdeal.nD) → Buf (Elt Ideal) ((c.tc : Thread Cert.LnBwdMmIdeal.nD Cert.LnBwdMmIdeal.τ).loc Cert.LnBwdMmIdeal.main_v6_0)) (v1 : (c : Dev Cert.LnBwdMmIdeal.nD) → Buf (Elt Ideal) ((c.tc : Thread Cert.LnBwdMmIdeal.nD Cert.LnBwdMmIdeal.τ).loc Cert.LnBwdMmIdeal.main_v6_1)) (v2 : (c : Dev Cert.LnBwdMmIdeal.nD) → Buf (Elt Ideal) ((c.tc : Thread Cert.LnBwdMmIdeal.nD Cert.LnBwdMmIdeal.τ).loc Cert.LnBwdMmIdeal.main_v6_2)) (v3 : (c : Dev Cert.LnBwdMmIdeal.nD) → Buf (Elt Ideal) ((c.tc : Thread Cert.LnBwdMmIdeal.nD Cert.LnBwdMmIdeal.τ).loc Cert.LnBwdMmIdeal.main_v6_3)),
      θ_run (Cert.LnBwdMmIdeal.defs (F := Ideal)) (onTc (τ := Cert.LnBwdMmIdeal.τ) (Cert.LnBwdMmIdeal.main (F := Ideal))) ⟨m, fun _ => 0, g⟩ (fun r => ∀ c : Dev Cert.LnBwdMmIdeal.nD,
          r.2.mem ((c.tc : Thread Cert.LnBwdMmIdeal.nD Cert.LnBwdMmIdeal.τ).loc Cert.LnBwdMmIdeal.main_v6_0) = v0 c
          ∧ r.2.mem ((c.tc : Thread Cert.LnBwdMmIdeal.nD Cert.LnBwdMmIdeal.τ).loc Cert.LnBwdMmIdeal.main_v6_1) = v1 c
          ∧ r.2.mem ((c.tc : Thread Cert.LnBwdMmIdeal.nD Cert.LnBwdMmIdeal.τ).loc Cert.LnBwdMmIdeal.main_v6_2) = v2 c
          ∧ r.2.mem ((c.tc : Thread Cert.LnBwdMmIdeal.nD Cert.LnBwdMmIdeal.τ).loc Cert.LnBwdMmIdeal.main_v6_3) = v3 c
          ∧ r.2.mem ((c.tc : Thread Cert.LnBwdMmIdeal.nD Cert.LnBwdMmIdeal.τ).loc Cert.LnBwdMmIdeal.main_arg0) = m ((c.tc : Thread Cert.LnBwdMmIdeal.nD Cert.LnBwdMmIdeal.τ).loc Cert.LnBwdMmIdeal.main_arg0)
          ∧ r.2.mem ((c.tc : Thread Cert.LnBwdMmIdeal.nD Cert.LnBwdMmIdeal.τ).loc Cert.LnBwdMmIdeal.main_arg1) = m ((c.tc : Thread Cert.LnBwdMmIdeal.nD Cert.LnBwdMmIdeal.τ).loc Cert.LnBwdMmIdeal.main_arg1)
          ∧ r.2.mem ((c.tc : Thread Cert.LnBwdMmIdeal.nD Cert.LnBwdMmIdeal.τ).loc Cert.LnBwdMmIdeal.main_arg2) = m ((c.tc : Thread Cert.LnBwdMmIdeal.nD Cert.LnBwdMmIdeal.τ).loc Cert.LnBwdMmIdeal.main_arg2)
          ∧ r.2.mem ((c.tc : Thread Cert.LnBwdMmIdeal.nD Cert.LnBwdMmIdeal.τ).loc Cert.LnBwdMmIdeal.main_arg3) = m ((c.tc : Thread Cert.LnBwdMmIdeal.nD Cert.LnBwdMmIdeal.τ).loc Cert.LnBwdMmIdeal.main_arg3)
          ∧ r.2.mem ((c.tc : Thread Cert.LnBwdMmIdeal.nD Cert.LnBwdMmIdeal.τ).loc Cert.LnBwdMmIdeal.main_arg4) = m ((c.tc : Thread Cert.LnBwdMmIdeal.nD Cert.LnBwdMmIdeal.τ).loc Cert.LnBwdMmIdeal.main_arg4)
          ∧ r.2.mem ((c.tc : Thread Cert.LnBwdMmIdeal.nD Cert.LnBwdMmIdeal.τ).loc Cert.LnBwdMmIdeal.main_arg5) = m ((c.tc : Thread Cert.LnBwdMmIdeal.nD Cert.LnBwdMmIdeal.τ).loc Cert.LnBwdMmIdeal.main_arg5)
          ∧ r.2.mem ((c.tc : Thread Cert.LnBwdMmIdeal.nD Cert.LnBwdMmIdeal.τ).loc Cert.LnBwdMmIdeal.main_arg6) = m ((c.tc : Thread Cert.LnBwdMmIdeal.nD Cert.LnBwdMmIdeal.τ).loc Cert.LnBwdMmIdeal.main_arg6))
      ∧ θ_run (Cert.LnBwdMmRefIdeal.defs (F := Ideal)) (onTc (τ := Cert.LnBwdMmRefIdeal.τ) (Cert.LnBwdMmRefIdeal.main (F := Ideal))) ⟨m', fun _ => 0, g'⟩ (fun r => ∀ c : Dev Cert.LnBwdMmRefIdeal.nD,
          r.2.mem ((c.tc : Thread Cert.LnBwdMmRefIdeal.nD Cert.LnBwdMmRefIdeal.τ).loc Cert.LnBwdMmRefIdeal.main_v72) = v0 c
          ∧ r.2.mem ((c.tc : Thread Cert.LnBwdMmRefIdeal.nD Cert.LnBwdMmRefIdeal.τ).loc Cert.LnBwdMmRefIdeal.main_v71) = v1 c
          ∧ r.2.mem ((c.tc : Thread Cert.LnBwdMmRefIdeal.nD Cert.LnBwdMmRefIdeal.τ).loc Cert.LnBwdMmRefIdeal.main_v73) = v2 c
          ∧ r.2.mem ((c.tc : Thread Cert.LnBwdMmRefIdeal.nD Cert.LnBwdMmRefIdeal.τ).loc Cert.LnBwdMmRefIdeal.main_v74) = v3 c
          ∧ r.2.mem ((c.tc : Thread Cert.LnBwdMmRefIdeal.nD Cert.LnBwdMmRefIdeal.τ).loc Cert.LnBwdMmRefIdeal.main_arg0) = m' ((c.tc : Thread Cert.LnBwdMmRefIdeal.nD Cert.LnBwdMmRefIdeal.τ).loc Cert.LnBwdMmRefIdeal.main_arg0)
          ∧ r.2.mem ((c.tc : Thread Cert.LnBwdMmRefIdeal.nD Cert.LnBwdMmRefIdeal.τ).loc Cert.LnBwdMmRefIdeal.main_arg1) = m' ((c.tc : Thread Cert.LnBwdMmRefIdeal.nD Cert.LnBwdMmRefIdeal.τ).loc Cert.LnBwdMmRefIdeal.main_arg1)
          ∧ r.2.mem ((c.tc : Thread Cert.LnBwdMmRefIdeal.nD Cert.LnBwdMmRefIdeal.τ).loc Cert.LnBwdMmRefIdeal.main_arg2) = m' ((c.tc : Thread Cert.LnBwdMmRefIdeal.nD Cert.LnBwdMmRefIdeal.τ).loc Cert.LnBwdMmRefIdeal.main_arg2)
          ∧ r.2.mem ((c.tc : Thread Cert.LnBwdMmRefIdeal.nD Cert.LnBwdMmRefIdeal.τ).loc Cert.LnBwdMmRefIdeal.main_arg3) = m' ((c.tc : Thread Cert.LnBwdMmRefIdeal.nD Cert.LnBwdMmRefIdeal.τ).loc Cert.LnBwdMmRefIdeal.main_arg3)
          ∧ r.2.mem ((c.tc : Thread Cert.LnBwdMmRefIdeal.nD Cert.LnBwdMmRefIdeal.τ).loc Cert.LnBwdMmRefIdeal.main_arg4) = m' ((c.tc : Thread Cert.LnBwdMmRefIdeal.nD Cert.LnBwdMmRefIdeal.τ).loc Cert.LnBwdMmRefIdeal.main_arg4)
          ∧ r.2.mem ((c.tc : Thread Cert.LnBwdMmRefIdeal.nD Cert.LnBwdMmRefIdeal.τ).loc Cert.LnBwdMmRefIdeal.main_arg5) = m' ((c.tc : Thread Cert.LnBwdMmRefIdeal.nD Cert.LnBwdMmRefIdeal.τ).loc Cert.LnBwdMmRefIdeal.main_arg5)
          ∧ r.2.mem ((c.tc : Thread Cert.LnBwdMmRefIdeal.nD Cert.LnBwdMmRefIdeal.τ).loc Cert.LnBwdMmRefIdeal.main_arg6) = m' ((c.tc : Thread Cert.LnBwdMmRefIdeal.nD Cert.LnBwdMmRefIdeal.τ).loc Cert.LnBwdMmRefIdeal.main_arg6))

def preserves_FfnBwd_FfnBwdIdeal : Prop :=
  True

def algebraic_FfnBwdIdeal_FfnBwdRefIdeal_pre_ffn_finite [hFfnBwdIdeal : Cert.FfnBwdIdeal.Facts] [hFfnBwdRefIdeal : Cert.FfnBwdRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v20)) (v1 : (c : Dev Cert.FfnBwdIdeal.nD) → Buf (Elt Ideal) ((c.tc : Thread Cert.FfnBwdIdeal.nD Cert.FfnBwdIdeal.τ).loc Cert.FfnBwdIdeal.main_v18_1)) (v2 : (c : Dev Cert.FfnBwdIdeal.nD) → Buf (Elt Ideal) ((c.tc : Thread Cert.FfnBwdIdeal.nD Cert.FfnBwdIdeal.τ).loc Cert.FfnBwdIdeal.main_v18_2)) (v3 : (c : Dev Cert.FfnBwdIdeal.nD) → Buf (Elt Ideal) ((c.tc : Thread Cert.FfnBwdIdeal.nD Cert.FfnBwdIdeal.τ).loc Cert.FfnBwdIdeal.main_v18_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v20) = v0 c
          ∧ r.2.mem ((c.tc : Thread Cert.FfnBwdIdeal.nD Cert.FfnBwdIdeal.τ).loc Cert.FfnBwdIdeal.main_v18_1) = v1 c
          ∧ r.2.mem ((c.tc : Thread Cert.FfnBwdIdeal.nD Cert.FfnBwdIdeal.τ).loc Cert.FfnBwdIdeal.main_v18_2) = v2 c
          ∧ r.2.mem ((c.tc : Thread Cert.FfnBwdIdeal.nD Cert.FfnBwdIdeal.τ).loc Cert.FfnBwdIdeal.main_v18_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v21) = v0 c
          ∧ r.2.mem ((c.tc : Thread Cert.FfnBwdRefIdeal.nD Cert.FfnBwdRefIdeal.τ).loc Cert.FfnBwdRefIdeal.main_v26) = v1 c
          ∧ r.2.mem ((c.tc : Thread Cert.FfnBwdRefIdeal.nD Cert.FfnBwdRefIdeal.τ).loc Cert.FfnBwdRefIdeal.main_v27) = v2 c
          ∧ r.2.mem ((c.tc : Thread Cert.FfnBwdRefIdeal.nD Cert.FfnBwdRefIdeal.τ).loc Cert.FfnBwdRefIdeal.main_v29) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v2) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v8) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v11_0)) (v1 : (c : Dev Cert.FfnFwdIdeal.nD) → Buf (Elt Ideal) ((c.tc : Thread Cert.FfnFwdIdeal.nD Cert.FfnFwdIdeal.τ).loc Cert.FfnFwdIdeal.main_v11_1)) (v2 : (c : Dev Cert.FfnFwdIdeal.nD) → Buf (Elt Ideal) ((c.tc : Thread Cert.FfnFwdIdeal.nD Cert.FfnFwdIdeal.τ).loc Cert.FfnFwdIdeal.main_v11_2)) (v3 : (c : Dev Cert.FfnFwdIdeal.nD) → Buf (Elt Ideal) ((c.tc : Thread Cert.FfnFwdIdeal.nD Cert.FfnFwdIdeal.τ).loc Cert.FfnFwdIdeal.main_v11_3)) (v4 : (c : Dev Cert.FfnFwdIdeal.nD) → Buf (Elt Ideal) ((c.tc : Thread Cert.FfnFwdIdeal.nD Cert.FfnFwdIdeal.τ).loc Cert.FfnFwdIdeal.main_v11_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v11_0) = v0 c
          ∧ r.2.mem ((c.tc : Thread Cert.FfnFwdIdeal.nD Cert.FfnFwdIdeal.τ).loc Cert.FfnFwdIdeal.main_v11_1) = v1 c
          ∧ r.2.mem ((c.tc : Thread Cert.FfnFwdIdeal.nD Cert.FfnFwdIdeal.τ).loc Cert.FfnFwdIdeal.main_v11_2) = v2 c
          ∧ r.2.mem ((c.tc : Thread Cert.FfnFwdIdeal.nD Cert.FfnFwdIdeal.τ).loc Cert.FfnFwdIdeal.main_v11_3) = v3 c
          ∧ r.2.mem ((c.tc : Thread Cert.FfnFwdIdeal.nD Cert.FfnFwdIdeal.τ).loc Cert.FfnFwdIdeal.main_v11_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v33) = v0 c
          ∧ r.2.mem ((c.tc : Thread Cert.FfnFwdRefIdeal.nD Cert.FfnFwdRefIdeal.τ).loc Cert.FfnFwdRefIdeal.main_v40) = v1 c
          ∧ r.2.mem ((c.tc : Thread Cert.FfnFwdRefIdeal.nD Cert.FfnFwdRefIdeal.τ).loc Cert.FfnFwdRefIdeal.main_v9) = v2 c
          ∧ r.2.mem ((c.tc : Thread Cert.FfnFwdRefIdeal.nD Cert.FfnFwdRefIdeal.τ).loc Cert.FfnFwdRefIdeal.main_v41) = v3 c
          ∧ r.2.mem ((c.tc : Thread Cert.FfnFwdRefIdeal.nD Cert.FfnFwdRefIdeal.τ).loc Cert.FfnFwdRefIdeal.main_v42) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)
      ∧ m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11)) →
    ∃ (v0 : (c : Dev Cert.MixFwdIdeal.nD) → Buf (Elt Ideal) ((c.tc : Thread Cert.MixFwdIdeal.nD Cert.MixFwdIdeal.τ).loc Cert.MixFwdIdeal.main_v25_0)) (v1 : (c : Dev Cert.MixFwdIdeal.nD) → Buf (Elt Ideal) ((c.tc : Thread Cert.MixFwdIdeal.nD Cert.MixFwdIdeal.τ).loc Cert.MixFwdIdeal.main_v25_1)) (v2 : (c : Dev Cert.MixFwdIdeal.nD) → Buf (Elt Ideal) ((c.tc : Thread Cert.MixFwdIdeal.nD Cert.MixFwdIdeal.τ).loc Cert.MixFwdIdeal.main_v25_2)) (v3 : (c : Dev Cert.MixFwdIdeal.nD) → Buf (Elt Ideal) ((c.tc : Thread Cert.MixFwdIdeal.nD Cert.MixFwdIdeal.τ).loc Cert.MixFwdIdeal.main_v25_3)) (v4 : (c : Dev Cert.MixFwdIdeal.nD) → Buf (Elt Ideal) ((c.tc : Thread Cert.MixFwdIdeal.nD Cert.MixFwdIdeal.τ).loc Cert.MixFwdIdeal.main_v25_4)) (v5 : (c : Dev Cert.MixFwdIdeal.nD) → Buf (Elt Ideal) ((c.tc : Thread Cert.MixFwdIdeal.nD Cert.MixFwdIdeal.τ).loc Cert.MixFwdIdeal.main_v25_5)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v25_0) = v0 c
          ∧ r.2.mem ((c.tc : Thread Cert.MixFwdIdeal.nD Cert.MixFwdIdeal.τ).loc Cert.MixFwdIdeal.main_v25_1) = v1 c
          ∧ r.2.mem ((c.tc : Thread Cert.MixFwdIdeal.nD Cert.MixFwdIdeal.τ).loc Cert.MixFwdIdeal.main_v25_2) = v2 c
          ∧ r.2.mem ((c.tc : Thread Cert.MixFwdIdeal.nD Cert.MixFwdIdeal.τ).loc Cert.MixFwdIdeal.main_v25_3) = v3 c
          ∧ r.2.mem ((c.tc : Thread Cert.MixFwdIdeal.nD Cert.MixFwdIdeal.τ).loc Cert.MixFwdIdeal.main_v25_4) = v4 c
          ∧ r.2.mem ((c.tc : Thread Cert.MixFwdIdeal.nD Cert.MixFwdIdeal.τ).loc Cert.MixFwdIdeal.main_v25_5) = v5 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v0) = v0 c
          ∧ r.2.mem ((c.tc : Thread Cert.MixFwdRefIdeal.nD Cert.MixFwdRefIdeal.τ).loc Cert.MixFwdRefIdeal.main_v158) = v1 c
          ∧ r.2.mem ((c.tc : Thread Cert.MixFwdRefIdeal.nD Cert.MixFwdRefIdeal.τ).loc Cert.MixFwdRefIdeal.main_v103) = v2 c
          ∧ r.2.mem ((c.tc : Thread Cert.MixFwdRefIdeal.nD Cert.MixFwdRefIdeal.τ).loc Cert.MixFwdRefIdeal.main_v157) = v3 c
          ∧ r.2.mem ((c.tc : Thread Cert.MixFwdRefIdeal.nD Cert.MixFwdRefIdeal.τ).loc Cert.MixFwdRefIdeal.main_v159) = v4 c
          ∧ r.2.mem ((c.tc : Thread Cert.MixFwdRefIdeal.nD Cert.MixFwdRefIdeal.τ).loc Cert.MixFwdRefIdeal.main_v133) = v5 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10)
          ∧ r.2.mem ((c.tc : Thread Cert.MixFwdRefIdeal.nD Cert.MixFwdRefIdeal.τ).loc Cert.MixFwdRefIdeal.main_arg11) = m' ((c.tc : Thread Cert.MixFwdRefIdeal.nD Cert.MixFwdRefIdeal.τ).loc Cert.MixFwdRefIdeal.main_arg11))

def preserves_MixBwd_MixBwdIdeal : Prop :=
  True

def algebraic_MixBwdIdeal_MixBwdRefIdeal_pre_mix_finite [hMixBwdIdeal : Cert.MixBwdIdeal.Facts] [hMixBwdRefIdeal : Cert.MixBwdRefIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_mix_finite m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)
      ∧ m' ((c.tc : Thread Cert.MixBwdRefIdeal.nD Cert.MixBwdRefIdeal.τ).loc Cert.MixBwdRefIdeal.main_arg7) = m ((c.tc : Thread Cert.MixBwdIdeal.nD Cert.MixBwdIdeal.τ).loc Cert.MixBwdIdeal.main_arg7)
      ∧ m' ((c.tc : Thread Cert.MixBwdRefIdeal.nD Cert.MixBwdRefIdeal.τ).loc Cert.MixBwdRefIdeal.main_arg8) = m ((c.tc : Thread Cert.MixBwdIdeal.nD Cert.MixBwdIdeal.τ).loc Cert.MixBwdIdeal.main_arg8)
      ∧ m' ((c.tc : Thread Cert.MixBwdRefIdeal.nD Cert.MixBwdRefIdeal.τ).loc Cert.MixBwdRefIdeal.main_arg9) = m ((c.tc : Thread Cert.MixBwdIdeal.nD Cert.MixBwdIdeal.τ).loc Cert.MixBwdIdeal.main_arg9)
      ∧ m' ((c.tc : Thread Cert.MixBwdRefIdeal.nD Cert.MixBwdRefIdeal.τ).loc Cert.MixBwdRefIdeal.main_arg10) = m ((c.tc : Thread Cert.MixBwdIdeal.nD Cert.MixBwdIdeal.τ).loc Cert.MixBwdIdeal.main_arg10)) →
    ∃ (v0 : (c : Dev Cert.MixBwdIdeal.nD) → Buf (Elt Ideal) ((c.tc : Thread Cert.MixBwdIdeal.nD Cert.MixBwdIdeal.τ).loc Cert.MixBwdIdeal.main_v155_2)) (v1 : (c : Dev Cert.MixBwdIdeal.nD) → Buf (Elt Ideal) ((c.tc : Thread Cert.MixBwdIdeal.nD Cert.MixBwdIdeal.τ).loc Cert.MixBwdIdeal.main_v155_7)) (v2 : (c : Dev Cert.MixBwdIdeal.nD) → Buf (Elt Ideal) ((c.tc : Thread Cert.MixBwdIdeal.nD Cert.MixBwdIdeal.τ).loc Cert.MixBwdIdeal.main_v155_8)) (v3 : (c : Dev Cert.MixBwdIdeal.nD) → Buf (Elt Ideal) ((c.tc : Thread Cert.MixBwdIdeal.nD Cert.MixBwdIdeal.τ).loc Cert.MixBwdIdeal.main_v155_9)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v155_2) = v0 c
          ∧ r.2.mem ((c.tc : Thread Cert.MixBwdIdeal.nD Cert.MixBwdIdeal.τ).loc Cert.MixBwdIdeal.main_v155_7) = v1 c
          ∧ r.2.mem ((c.tc : Thread Cert.MixBwdIdeal.nD Cert.MixBwdIdeal.τ).loc Cert.MixBwdIdeal.main_v155_8) = v2 c
          ∧ r.2.mem ((c.tc : Thread Cert.MixBwdIdeal.nD Cert.MixBwdIdeal.τ).loc Cert.MixBwdIdeal.main_v155_9) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
          ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v139) = v0 c
          ∧ r.2.mem ((c.tc : Thread Cert.MixBwdRefIdeal.nD Cert.MixBwdRefIdeal.τ).loc Cert.MixBwdRefIdeal.main_v181) = v1 c
          ∧ r.2.mem ((c.tc : Thread Cert.MixBwdRefIdeal.nD Cert.MixBwdRefIdeal.τ).loc Cert.MixBwdRefIdeal.main_v182) = v2 c
          ∧ r.2.mem ((c.tc : Thread Cert.MixBwdRefIdeal.nD Cert.MixBwdRefIdeal.τ).loc Cert.MixBwdRefIdeal.main_v183) = v3 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6)
          ∧ r.2.mem ((c.tc : Thread Cert.MixBwdRefIdeal.nD Cert.MixBwdRefIdeal.τ).loc Cert.MixBwdRefIdeal.main_arg7) = m' ((c.tc : Thread Cert.MixBwdRefIdeal.nD Cert.MixBwdRefIdeal.τ).loc Cert.MixBwdRefIdeal.main_arg7)
          ∧ r.2.mem ((c.tc : Thread Cert.MixBwdRefIdeal.nD Cert.MixBwdRefIdeal.τ).loc Cert.MixBwdRefIdeal.main_arg8) = m' ((c.tc : Thread Cert.MixBwdRefIdeal.nD Cert.MixBwdRefIdeal.τ).loc Cert.MixBwdRefIdeal.main_arg8)
          ∧ r.2.mem ((c.tc : Thread Cert.MixBwdRefIdeal.nD Cert.MixBwdRefIdeal.τ).loc Cert.MixBwdRefIdeal.main_arg9) = m' ((c.tc : Thread Cert.MixBwdRefIdeal.nD Cert.MixBwdRefIdeal.τ).loc Cert.MixBwdRefIdeal.main_arg9)
          ∧ r.2.mem ((c.tc : Thread Cert.MixBwdRefIdeal.nD Cert.MixBwdRefIdeal.τ).loc Cert.MixBwdRefIdeal.main_arg10) = m' ((c.tc : Thread Cert.MixBwdRefIdeal.nD Cert.MixBwdRefIdeal.τ).loc Cert.MixBwdRefIdeal.main_arg10))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v1) = v0 c
          ∧ r.2.mem ((c.tc : Thread Cert.AdamWRefIdeal.nD Cert.AdamWRefIdeal.τ).loc Cert.AdamWRefIdeal.main_v25) = v1 c
          ∧ r.2.mem ((c.tc : Thread Cert.AdamWRefIdeal.nD Cert.AdamWRefIdeal.τ).loc Cert.AdamWRefIdeal.main_v6) = v2 c
          ∧ r.2.mem ((c.tc : Thread Cert.AdamWRefIdeal.nD Cert.AdamWRefIdeal.τ).loc Cert.AdamWRefIdeal.main_v12) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_AddParts_AddPartsIdeal : Prop :=
  True

def algebraic_AddPartsIdeal_AddPartsRefIdeal [hAddPartsIdeal : Cert.AddPartsIdeal.Facts] [hAddPartsRefIdeal : Cert.AddPartsRefIdeal.Facts] : Prop :=
  ∀ (m : (ℓ : Loc Cert.AddPartsIdeal.nD Cert.AddPartsIdeal.τ Cert.AddPartsIdeal.sig) → Buf (Elt Ideal) ℓ) (g : Dev Cert.AddPartsIdeal.nD → PrngReg)
    (m' : (ℓ : Loc Cert.AddPartsRefIdeal.nD Cert.AddPartsRefIdeal.τ Cert.AddPartsRefIdeal.sig) → Buf (Elt Ideal) ℓ) (g' : Dev Cert.AddPartsRefIdeal.nD → PrngReg), Pre_AddPartsIdeal m →
    (∀ c : Dev Cert.AddPartsIdeal.nD,
      m' ((c.tc : Thread Cert.AddPartsRefIdeal.nD Cert.AddPartsRefIdeal.τ).loc Cert.AddPartsRefIdeal.main_arg0) = m ((c.tc : Thread Cert.AddPartsIdeal.nD Cert.AddPartsIdeal.τ).loc Cert.AddPartsIdeal.main_arg0)
      ∧ m' ((c.tc : Thread Cert.AddPartsRefIdeal.nD Cert.AddPartsRefIdeal.τ).loc Cert.AddPartsRefIdeal.main_arg1) = m ((c.tc : Thread Cert.AddPartsIdeal.nD Cert.AddPartsIdeal.τ).loc Cert.AddPartsIdeal.main_arg1)) →
    ∃ (v0 : (c : Dev Cert.AddPartsIdeal.nD) → Buf (Elt Ideal) ((c.tc : Thread Cert.AddPartsIdeal.nD Cert.AddPartsIdeal.τ).loc Cert.AddPartsIdeal.main_v0)),
      θ_run (Cert.AddPartsIdeal.defs (F := Ideal)) (onTc (τ := Cert.AddPartsIdeal.τ) (Cert.AddPartsIdeal.main (F := Ideal))) ⟨m, fun _ => 0, g⟩ (fun r => ∀ c : Dev Cert.AddPartsIdeal.nD,
          r.2.mem ((c.tc : Thread Cert.AddPartsIdeal.nD Cert.AddPartsIdeal.τ).loc Cert.AddPartsIdeal.main_v0) = v0 c
          ∧ r.2.mem ((c.tc : Thread Cert.AddPartsIdeal.nD Cert.AddPartsIdeal.τ).loc Cert.AddPartsIdeal.main_arg0) = m ((c.tc : Thread Cert.AddPartsIdeal.nD Cert.AddPartsIdeal.τ).loc Cert.AddPartsIdeal.main_arg0)
          ∧ r.2.mem ((c.tc : Thread Cert.AddPartsIdeal.nD Cert.AddPartsIdeal.τ).loc Cert.AddPartsIdeal.main_arg1) = m ((c.tc : Thread Cert.AddPartsIdeal.nD Cert.AddPartsIdeal.τ).loc Cert.AddPartsIdeal.main_arg1))
      ∧ θ_run (Cert.AddPartsRefIdeal.defs (F := Ideal)) (onTc (τ := Cert.AddPartsRefIdeal.τ) (Cert.AddPartsRefIdeal.main (F := Ideal))) ⟨m', fun _ => 0, g'⟩ (fun r => ∀ c : Dev Cert.AddPartsRefIdeal.nD,
          r.2.mem ((c.tc : Thread Cert.AddPartsRefIdeal.nD Cert.AddPartsRefIdeal.τ).loc Cert.AddPartsRefIdeal.main_v2) = v0 c
          ∧ r.2.mem ((c.tc : Thread Cert.AddPartsRefIdeal.nD Cert.AddPartsRefIdeal.τ).loc Cert.AddPartsRefIdeal.main_arg0) = m' ((c.tc : Thread Cert.AddPartsRefIdeal.nD Cert.AddPartsRefIdeal.τ).loc Cert.AddPartsRefIdeal.main_arg0)
          ∧ r.2.mem ((c.tc : Thread Cert.AddPartsRefIdeal.nD Cert.AddPartsRefIdeal.τ).loc Cert.AddPartsRefIdeal.main_arg1) = m' ((c.tc : Thread Cert.AddPartsRefIdeal.nD Cert.AddPartsRefIdeal.τ).loc Cert.AddPartsRefIdeal.main_arg1))

def Claim : Prop :=
  ∃ (hLnBwd : Cert.LnBwd.Facts) (hLnBwdIdeal : Cert.LnBwdIdeal.Facts) (hLnBwdRefIdeal : Cert.LnBwdRefIdeal.Facts) (hLnBwdParts : Cert.LnBwdParts.Facts) (hLnBwdPartsIdeal : Cert.LnBwdPartsIdeal.Facts) (hLnBwdPartsRefIdeal : Cert.LnBwdPartsRefIdeal.Facts) (hLnBwdMm : Cert.LnBwdMm.Facts) (hLnBwdMmIdeal : Cert.LnBwdMmIdeal.Facts) (hLnBwdMmRefIdeal : Cert.LnBwdMmRefIdeal.Facts) (hFfnBwd : Cert.FfnBwd.Facts) (hFfnBwdIdeal : Cert.FfnBwdIdeal.Facts) (hFfnBwdRefIdeal : Cert.FfnBwdRefIdeal.Facts) (hLoss : Cert.Loss.Facts) (hLossIdeal : Cert.LossIdeal.Facts) (hLossRefIdeal : Cert.LossRefIdeal.Facts) (hFfnFwd : Cert.FfnFwd.Facts) (hFfnFwdIdeal : Cert.FfnFwdIdeal.Facts) (hFfnFwdRefIdeal : Cert.FfnFwdRefIdeal.Facts) (hMixFwd : Cert.MixFwd.Facts) (hMixFwdIdeal : Cert.MixFwdIdeal.Facts) (hMixFwdRefIdeal : Cert.MixFwdRefIdeal.Facts) (hMixBwd : Cert.MixBwd.Facts) (hMixBwdIdeal : Cert.MixBwdIdeal.Facts) (hMixBwdRefIdeal : Cert.MixBwdRefIdeal.Facts) (hAdamW : Cert.AdamW.Facts) (hAdamWIdeal : Cert.AdamWIdeal.Facts) (hAdamWRefIdeal : Cert.AdamWRefIdeal.Facts) (hAddParts : Cert.AddParts.Facts) (hAddPartsIdeal : Cert.AddPartsIdeal.Facts) (hAddPartsRefIdeal : Cert.AddPartsRefIdeal.Facts) (hPre_ln_finite : Cert.Pre_ln_finite.Facts) (hPre_ln_parts_finite : Cert.Pre_ln_parts_finite.Facts) (hPre_ln_mm_finite : Cert.Pre_ln_mm_finite.Facts) (hPre_ffn_finite : Cert.Pre_ffn_finite.Facts) (hPre_loss_finite : Cert.Pre_loss_finite.Facts) (hPre_mix_finite : Cert.Pre_mix_finite.Facts),
    quiescent_LnBwd (hLnBwd := hLnBwd)
    ∧ quiescent_LnBwdIdeal (hLnBwdIdeal := hLnBwdIdeal)
    ∧ quiescent_LnBwdIdeal_pre_ln_finite (hLnBwdIdeal := hLnBwdIdeal) (hPre_ln_finite := hPre_ln_finite)
    ∧ quiescent_LnBwdRefIdeal (hLnBwdRefIdeal := hLnBwdRefIdeal)
    ∧ quiescent_LnBwdRefIdeal_pre_ln_finite (hLnBwdRefIdeal := hLnBwdRefIdeal) (hPre_ln_finite := hPre_ln_finite)
    ∧ quiescent_LnBwdParts (hLnBwdParts := hLnBwdParts)
    ∧ quiescent_LnBwdPartsIdeal (hLnBwdPartsIdeal := hLnBwdPartsIdeal)
    ∧ quiescent_LnBwdPartsIdeal_pre_ln_parts_finite (hLnBwdPartsIdeal := hLnBwdPartsIdeal) (hPre_ln_parts_finite := hPre_ln_parts_finite)
    ∧ quiescent_LnBwdPartsRefIdeal (hLnBwdPartsRefIdeal := hLnBwdPartsRefIdeal)
    ∧ quiescent_LnBwdPartsRefIdeal_pre_ln_parts_finite (hLnBwdPartsRefIdeal := hLnBwdPartsRefIdeal) (hPre_ln_parts_finite := hPre_ln_parts_finite)
    ∧ quiescent_LnBwdMm (hLnBwdMm := hLnBwdMm)
    ∧ quiescent_LnBwdMmIdeal (hLnBwdMmIdeal := hLnBwdMmIdeal)
    ∧ quiescent_LnBwdMmIdeal_pre_ln_mm_finite (hLnBwdMmIdeal := hLnBwdMmIdeal) (hPre_ln_mm_finite := hPre_ln_mm_finite)
    ∧ quiescent_LnBwdMmRefIdeal (hLnBwdMmRefIdeal := hLnBwdMmRefIdeal)
    ∧ quiescent_LnBwdMmRefIdeal_pre_ln_mm_finite (hLnBwdMmRefIdeal := hLnBwdMmRefIdeal) (hPre_ln_mm_finite := hPre_ln_mm_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnBwdRefIdeal (hFfnBwdRefIdeal := hFfnBwdRefIdeal)
    ∧ quiescent_FfnBwdRefIdeal_pre_ffn_finite (hFfnBwdRefIdeal := hFfnBwdRefIdeal) (hPre_ffn_finite := hPre_ffn_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_MixBwd (hMixBwd := hMixBwd)
    ∧ quiescent_MixBwdIdeal (hMixBwdIdeal := hMixBwdIdeal)
    ∧ quiescent_MixBwdIdeal_pre_mix_finite (hMixBwdIdeal := hMixBwdIdeal) (hPre_mix_finite := hPre_mix_finite)
    ∧ quiescent_MixBwdRefIdeal (hMixBwdRefIdeal := hMixBwdRefIdeal)
    ∧ quiescent_MixBwdRefIdeal_pre_mix_finite (hMixBwdRefIdeal := hMixBwdRefIdeal) (hPre_mix_finite := hPre_mix_finite)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_AddParts (hAddParts := hAddParts)
    ∧ quiescent_AddPartsIdeal (hAddPartsIdeal := hAddPartsIdeal)
    ∧ quiescent_AddPartsRefIdeal (hAddPartsRefIdeal := hAddPartsRefIdeal)
    ∧ preserves_LnBwd_LnBwdIdeal
    ∧ algebraic_LnBwdIdeal_LnBwdRefIdeal_pre_ln_finite (hLnBwdIdeal := hLnBwdIdeal) (hLnBwdRefIdeal := hLnBwdRefIdeal) (hPre_ln_finite := hPre_ln_finite)
    ∧ preserves_LnBwdParts_LnBwdPartsIdeal
    ∧ algebraic_LnBwdPartsIdeal_LnBwdPartsRefIdeal_pre_ln_parts_finite (hLnBwdPartsIdeal := hLnBwdPartsIdeal) (hLnBwdPartsRefIdeal := hLnBwdPartsRefIdeal) (hPre_ln_parts_finite := hPre_ln_parts_finite)
    ∧ preserves_LnBwdMm_LnBwdMmIdeal
    ∧ algebraic_LnBwdMmIdeal_LnBwdMmRefIdeal_pre_ln_mm_finite (hLnBwdMmIdeal := hLnBwdMmIdeal) (hLnBwdMmRefIdeal := hLnBwdMmRefIdeal) (hPre_ln_mm_finite := hPre_ln_mm_finite)
    ∧ preserves_FfnBwd_FfnBwdIdeal
    ∧ algebraic_FfnBwdIdeal_FfnBwdRefIdeal_pre_ffn_finite (hFfnBwdIdeal := hFfnBwdIdeal) (hFfnBwdRefIdeal := hFfnBwdRefIdeal) (hPre_ffn_finite := hPre_ffn_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_MixBwd_MixBwdIdeal
    ∧ algebraic_MixBwdIdeal_MixBwdRefIdeal_pre_mix_finite (hMixBwdIdeal := hMixBwdIdeal) (hMixBwdRefIdeal := hMixBwdRefIdeal) (hPre_mix_finite := hPre_mix_finite)
    ∧ preserves_AdamW_AdamWIdeal
    ∧ algebraic_AdamWIdeal_AdamWRefIdeal (hAdamWIdeal := hAdamWIdeal) (hAdamWRefIdeal := hAdamWRefIdeal)
    ∧ preserves_AddParts_AddPartsIdeal
    ∧ algebraic_AddPartsIdeal_AddPartsRefIdeal (hAddPartsIdeal := hAddPartsIdeal) (hAddPartsRefIdeal := hAddPartsRefIdeal)
-- ==== Pre_ffn_finite.lean ====
abbrev S16384x1024 : Shape := ⟨2, ![16384, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S1024x2816 .f32) (main_arg2 : FVec F S1024x2816 .f32) (main_arg3 : FVec F S2816x1024 .f32) (main_arg4 : FVec F S16384x1024 .f32) : IVec S16384x1024 1 × IVec S1024x2816 1 × IVec S1024x2816 1 × IVec S2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_ln_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x1024 .f32) (main_arg1 : FVec F S16384x1024 .f32) (main_arg2 : FVec F S1024 .f32) (main_arg3 : FVec F S1024 .f32) (main_arg4 : FVec F S16384x1024 .f32) : IVec S16384x1024 1 × IVec S16384x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S16384x1024 .f32 := Host.absf main_arg4
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Pre_ln_mm_finite.lean ====
abbrev S16384x1024 : Shape := ⟨2, ![16384, 1024]⟩
abbrev S1024 : Shape := ⟨1, ![1024]⟩
abbrev S1024x2176 : Shape := ⟨2, ![1024, 2176]⟩
abbrev S16384x2176 : Shape := ⟨2, ![16384, 2176]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S1024 : S_.BroadcastsInDim S1024 (![] : Fin 0 → Fin S1024.rank)
  bcast_S_S1024x2176 : S_.BroadcastsInDim S1024x2176 (![] : Fin 0 → Fin S1024x2176.rank)
  bcast_S_S16384x2176 : S_.BroadcastsInDim S16384x2176 (![] : Fin 0 → Fin S16384x2176.rank)

variable [Facts]

def fn_part1 {F : FTy → Type} [FloatOps F] (main_v3 : IVec S16384x1024 1) (main_v6 : IVec S16384x1024 1) (main_v9 : IVec S1024 1) (main_v12 : IVec S1024x2176 1) (main_v15 : IVec S16384x1024 1) (main_v16 : FVec F S16384x2176 .f32) (main_v17 : FVec F S16384x2176 .f32) : IVec S16384x1024 1 × IVec S16384x1024 1 × IVec S1024 1 × IVec S1024x2176 1 × IVec S16384x1024 1 × IVec S16384x2176 1 :=
  let main_v18 : IVec S16384x2176 1 := cmpf .olt main_v16 main_v17
  (main_v3, main_v6, main_v9, main_v12, main_v15, main_v18)

def fn {F : FTy → Type} [FloatOps F] (main_arg0 : FVec F S16384x1024 .f32) (main_arg1 : FVec F S16384x1024 .f32) (main_arg2 : FVec F S1024 .f32) (main_arg3 : FVec F S1024 .f32) (main_arg4 : FVec F S1024x2176 .f32) (main_arg5 : FVec F S16384x1024 .f32) (main_arg6 : FVec F S16384x2176 .bf16) : IVec S16384x1024 1 × IVec S16384x1024 1 × IVec S1024 1 × IVec S1024x2176 1 × IVec S16384x1024 1 × IVec S16384x2176 1 :=
  let main_v0 : FVec F S16384x2176 .f32 := (extf .f32 · bitsLt_bf16_f32) main_arg6
  let main_v1 : FVec F S16384x1024 .f32 := Host.absf main_arg0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024x2176 .f32 := Host.absf main_arg4
  let main_cst_2 : FVec F S_ .f32 := constant S_ .f32 0x7F800000#32
  let main_v11 : FVec F S1024x2176 .f32 := broadcastInDim S1024x2176 ![] bcast_S_S1024x2176 main_cst_2
  let main_v12 : IVec S1024x2176 1 := cmpf .olt main_v10 main_v11
  let main_v13 : FVec F S16384x1024 .f32 := Host.absf main_arg5
  let main_cst_3 : FVec F S_ .f32 := constant S_ .f32 0x7F800000#32
  let main_v14 : FVec F S16384x1024 .f32 := broadcastInDim S16384x1024 ![] bcast_S_S16384x1024 main_cst_3
  let main_v15 : IVec S16384x1024 1 := cmpf .olt main_v13 main_v14
  let main_v16 : FVec F S16384x2176 .f32 := Host.absf main_v0
  let main_cst_4 : FVec F S_ .f32 := constant S_ .f32 0x7F800000#32
  let main_v17 : FVec F S16384x2176 .f32 := broadcastInDim S16384x2176 ![] bcast_S_S16384x2176 main_cst_4
  fn_part1 (F := F) main_v3 main_v6 main_v9 main_v12 main_v15 main_v16 main_v17
-- ==== Pre_ln_parts_finite.lean ====
abbrev S16384x1024 : Shape := ⟨2, ![16384, 1024]⟩
abbrev S1024 : Shape := ⟨1, ![1024]⟩
abbrev S4x16384x1024 : Shape := ⟨3, ![4, 16384, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S1024 : S_.BroadcastsInDim S1024 (![] : Fin 0 → Fin S1024.rank)
  bcast_S_S4x16384x1024 : S_.BroadcastsInDim S4x16384x1024 (![] : Fin 0 → Fin S4x16384x1024.rank)

variable [Facts]

def fn {F : FTy → Type} [FloatOps F] (main_arg0 : FVec F S16384x1024 .f32) (main_arg1 : FVec F S16384x1024 .f32) (main_arg2 : FVec F S1024 .f32) (main_arg3 : FVec F S1024 .f32) (main_arg4 : FVec F S16384x1024 .f32) (main_arg5 : FVec F S4x16384x1024 .bf16) : IVec S16384x1024 1 × IVec S16384x1024 1 × IVec S1024 1 × IVec S16384x1024 1 × IVec S4x16384x1024 1 :=
  let main_v0 : FVec F S4x16384x1024 .f32 := (extf .f32 · bitsLt_bf16_f32) main_arg5
  let main_v1 : FVec F S16384x1024 .f32 := Host.absf main_arg0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S16384x1024 .f32 := Host.absf main_arg4
  let main_cst_2 : FVec F S_ .f32 := constant S_ .f32 0x7F800000#32
  let main_v11 : FVec F S16384x1024 .f32 := broadcastInDim S16384x1024 ![] bcast_S_S16384x1024 main_cst_2
  let main_v12 : IVec S16384x1024 1 := cmpf .olt main_v10 main_v11
  let main_v13 : FVec F S4x16384x1024 .f32 := Host.absf main_v0
  let main_cst_3 : FVec F S_ .f32 := constant S_ .f32 0x7F800000#32
  let main_v14 : FVec F S4x16384x1024 .f32 := broadcastInDim S4x16384x1024 ![] bcast_S_S4x16384x1024 main_cst_3
  let main_v15 : IVec S4x16384x1024 1 := cmpf .olt main_v13 main_v14
  (main_v3, main_v6, main_v9, main_v12, main_v15)
-- ==== Pre_loss_finite.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S16384x1024 .f32) : IVec S16384x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  (main_v2, main_v5)
-- ==== Pre_mix_finite.lean ====
abbrev S16384x1024 : Shape := ⟨2, ![16384, 1024]⟩
abbrev S1024x2176 : Shape := ⟨2, ![1024, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  bcast_S_S1024x2176 : S_.BroadcastsInDim S1024x2176 (![] : Fin 0 → Fin S1024x2176.rank)
  bcast_S_S31x384 : S_.BroadcastsInDim S31x384 (![] : Fin 0 → Fin S31x384.rank)
  bcast_S_S384 : S_.BroadcastsInDim S384 (![] : Fin 0 → Fin S384.rank)
  bcast_S_S1024x1024 : S_.BroadcastsInDim S1024x1024 (![] : Fin 0 → Fin S1024x1024.rank)

variable [Facts]

def fn_part1 {F : FTy → Type} [FloatOps F] (main_arg9 : FVec F S1024x1024 .f32) (main_arg10 : FVec F S16384x1024 .f32) (main_v2 : IVec S16384x1024 1) (main_v5 : IVec S1024x2176 1) (main_v8 : IVec S31x384 1) (main_v11 : IVec S384 1) (main_v14 : IVec S384 1) (main_v17 : IVec S384 1) : IVec S16384x1024 1 × IVec S1024x2176 1 × IVec S31x384 1 × IVec S384 1 × IVec S384 1 × IVec S384 1 × IVec S1024x1024 1 × IVec S16384x1024 1 :=
  let main_v18 : FVec F S1024x1024 .f32 := Host.absf main_arg9
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S16384x1024 .f32 := Host.absf main_arg10
  let main_cst_6 : FVec F S_ .f32 := constant S_ .f32 0x7F800000#32
  let main_v22 : FVec F S16384x1024 .f32 := broadcastInDim S16384x1024 ![] bcast_S_S16384x1024 main_cst_6
  let main_v23 : IVec S16384x1024 1 := cmpf .olt main_v21 main_v22
  (main_v2, main_v5, main_v8, main_v11, main_v14, main_v17, main_v20, main_v23)

def fn {F : FTy → Type} [FloatOps F] (main_arg0 : FVec F S16384x1024 .f32) (main_arg1 : FVec F S1024x2176 .f32) (main_arg2 : FVec F S4x64x64 .f32) (main_arg3 : FVec F S256 .f32) (main_arg4 : FVec F S3x384 .f32) (main_arg5 : FVec F S31x384 .f32) (main_arg6 : FVec F S384 .f32) (main_arg7 : FVec F S384 .f32) (main_arg8 : FVec F S384 .f32) (main_arg9 : FVec F S1024x1024 .f32) (main_arg10 : FVec F S16384x1024 .f32) : IVec S16384x1024 1 × IVec S1024x2176 1 × IVec S31x384 1 × IVec S384 1 × IVec S384 1 × IVec S384 1 × IVec S1024x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x2176 .f32 := Host.absf main_arg1
  let main_cst_0 : FVec F S_ .f32 := constant S_ .f32 0x7F800000#32
  let main_v4 : FVec F S1024x2176 .f32 := broadcastInDim S1024x2176 ![] bcast_S_S1024x2176 main_cst_0
  let main_v5 : IVec S1024x2176 1 := cmpf .olt main_v3 main_v4
  let main_v6 : FVec F S31x384 .f32 := Host.absf main_arg5
  let main_cst_1 : FVec F S_ .f32 := constant S_ .f32 0x7F800000#32
  let main_v7 : FVec F S31x384 .f32 := broadcastInDim S31x384 ![] bcast_S_S31x384 main_cst_1
  let main_v8 : IVec S31x384 1 := cmpf .olt main_v6 main_v7
  let main_v9 : FVec F S384 .f32 := Host.absf main_arg6
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_v12 : FVec F S384 .f32 := Host.absf main_arg7
  let main_cst_3 : FVec F S_ .f32 := constant S_ .f32 0x7F800000#32
  let main_v13 : FVec F S384 .f32 := broadcastInDim S384 ![] bcast_S_S384 main_cst_3
  let main_v14 : IVec S384 1 := cmpf .olt main_v12 main_v13
  let main_v15 : FVec F S384 .f32 := Host.absf main_arg8
  let main_cst_4 : FVec F S_ .f32 := constant S_ .f32 0x7F800000#32
  let main_v16 : FVec F S384 .f32 := broadcastInDim S384 ![] bcast_S_S384 main_cst_4
  let main_v17 : IVec S384 1 := cmpf .olt main_v15 main_v16
  fn_part1 (F := F) main_arg9 main_arg10 main_v2 main_v5 main_v8 main_v11 main_v14 main_v17
-- ==== LnBwd.lean ====
abbrev S16384x1024 : Shape := ⟨2, ![16384, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1x1024, .f32⟩
  | .hbm, ⟨10, _⟩ => ⟨S16384x1024, .bf16⟩
  | .hbm, ⟨11, _⟩ => ⟨S16384x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S16384x1024, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384x1024, .f32⟩
  | .hbm, ⟨92, _⟩ => ⟨S16384x1024, .f32⟩
  | .hbm, ⟨93, _⟩ => ⟨S16384x1024, .bf16⟩
  | .hbm, ⟨94, _⟩ => ⟨S1x1024, .f32⟩
  | .hbm, ⟨95, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== LnBwdParts.lean ====
abbrev S16384x1024 : Shape := ⟨2, ![16384, 1024]⟩
abbrev S1024 : Shape := ⟨1, ![1024]⟩
abbrev S4x16384x1024 : Shape := ⟨3, ![4, 16384, 1024]⟩
abbrev S_ : Shape := ⟨0, ![]⟩
abbrev S1x1024 : Shape := ⟨2, ![1, 1024]⟩
abbrev S512x1024 : Shape := ⟨2, ![512, 1024]⟩
abbrev S4x512x1024 : Shape := ⟨3, ![4, 512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S4x16384x1024, .bf16⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S1x1024, .f32⟩
  | .hbm, ⟨11, _⟩ => ⟨S16384x1024, .bf16⟩
  | .hbm, ⟨12, _⟩ => ⟨S16384x1024, .f32⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdPartsRefIdeal.lean ====
abbrev S16384x1024 : Shape := ⟨2, ![16384, 1024]⟩
abbrev S1024 : Shape := ⟨1, ![1024]⟩
abbrev S4x16384x1024 : Shape := ⟨3, ![4, 16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S4x16384x1024, .bf16⟩
  | .hbm, ⟨6, _⟩ => ⟨S4x16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S16384x1, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S16384x1024, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S_, .f32⟩
  | .hbm, ⟨91, _⟩ => ⟨S16384, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384x1024, .f32⟩
  | .hbm, ⟨96, _⟩ => ⟨S16384x1024, .f32⟩
  | .hbm, ⟨97, _⟩ => ⟨S16384x1024, .bf16⟩
  | .hbm, ⟨98, _⟩ => ⟨S1x1024, .f32⟩
  | .hbm, ⟨99, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_19 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== LnBwdMm.lean ====
abbrev S16384x1024 : Shape := ⟨2, ![16384, 1024]⟩
abbrev S1024 : Shape := ⟨1, ![1024]⟩
abbrev S1024x2176 : Shape := ⟨2, ![1024, 2176]⟩
abbrev S16384x2176 : Shape := ⟨2, ![16384, 2176]⟩
abbrev S_ : Shape := ⟨0, ![]⟩
abbrev S1x1024 : Shape := ⟨2, ![1, 1024]⟩
abbrev S2176x1024 : Shape := ⟨2, ![2176, 1024]⟩
abbrev S512x1024 : Shape := ⟨2, ![512, 1024]⟩
abbrev S512x2176 : Shape := ⟨2, ![512, 2176]⟩
abbrev S512 : Shape := ⟨1, ![512]⟩
abbrev S512x1 : Shape := ⟨2, ![512, 1]⟩

abbrev nBuf : Space → Nat
  | .hbm => 18
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024x2176, .f32⟩
  | .hbm, ⟨5, _⟩ => ⟨S16384x1024, .f32⟩
  | .hbm, ⟨6, _⟩ => ⟨S16384x2176, .bf16⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S1024x2176, .bf16⟩
  | .hbm, ⟨13, _⟩ => ⟨S2176x1024, .bf16⟩
  | .hbm, ⟨14, _⟩ => ⟨S16384x1024, .bf16⟩
  | .hbm, ⟨15, _⟩ => ⟨S16384x1024, .f32⟩
  | .hbm, ⟨16, _⟩ => ⟨S1x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2176, .bf16⟩
  | .local _ .vmem, ⟨3, _⟩ => ⟨S512x2176, .bf16⟩
  | .local _ .vmem, ⟨4, _⟩ => ⟨S2176x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnBwdMmRefIdeal.lean ====
abbrev S16384x1024 : Shape := ⟨2, ![16384, 1024]⟩
abbrev S1024 : Shape := ⟨1, ![1024]⟩
abbrev S1024x2176 : Shape := ⟨2, ![1024, 2176]⟩
abbrev S16384x2176 : Shape := ⟨2, ![16384, 2176]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024x2176, .f32⟩
  | .hbm, ⟨5, _⟩ => ⟨S16384x1024, .f32⟩
  | .hbm, ⟨6, _⟩ => ⟨S16384x2176, .bf16⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x2176, .f32⟩
  | .hbm, ⟨48, _⟩ => ⟨S16384x2176, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S16384x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S16384x1, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S16384x1024, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384, .f32⟩
  | .hbm, ⟨94, _⟩ => ⟨S16384x1024, .f32⟩
  | .hbm, ⟨95, _⟩ => ⟨S16384x1024, .f32⟩
  | .hbm, ⟨96, _⟩ => ⟨S_, .f32⟩
  | .hbm, ⟨97, _⟩ => ⟨S16384x1024, .f32⟩
  | .hbm, ⟨98, _⟩ => ⟨S16384x1024, .f32⟩
  | .hbm, ⟨99, _⟩ => ⟨S16384x1024, .bf16⟩
  | .hbm, ⟨100, _⟩ => ⟨S1x1024, .f32⟩
  | .hbm, ⟨101, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_18 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== FfnBwd.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S16384x4x704 : Shape := ⟨3, ![16384, 4, 704]⟩
abbrev S4x16384x704 : Shape := ⟨3, ![4, 16384, 704]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x16384x1024 : Shape := ⟨3, ![4, 16384, 1024]⟩
abbrev S512x1024 : Shape := ⟨2, ![512, 1024]⟩
abbrev S1x512x704 : Shape := ⟨3, ![1, 512, 704]⟩
abbrev S1x1024x704 : Shape := ⟨3, ![1, 1024, 704]⟩
abbrev S1x704x1024 : Shape := ⟨3, ![1, 704, 1024]⟩
abbrev S1x512x1024 : Shape := ⟨3, ![1, 512, 1024]⟩
abbrev S704x1024 : Shape := ⟨2, ![704, 1024]⟩
abbrev S512x704 : Shape := ⟨2, ![512, 704]⟩
abbrev S1024x704 : Shape := ⟨2, ![1024, 704]⟩
abbrev S_ : Shape := ⟨0, ![]⟩

abbrev nBuf : Space → Nat
  | .hbm => 30
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x4x704, .f32⟩
  | .hbm, ⟨7, _⟩ => ⟨S4x16384x704, .f32⟩
  | .hbm, ⟨8, _⟩ => ⟨S4x16384x704, .bf16⟩
  | .hbm, ⟨9, _⟩ => ⟨S16384x2816, .f32⟩
  | .hbm, ⟨10, _⟩ => ⟨S16384x4x704, .f32⟩
  | .hbm, ⟨11, _⟩ => ⟨S4x16384x704, .f32⟩
  | .hbm, ⟨12, _⟩ => ⟨S4x16384x704, .bf16⟩
  | .hbm, ⟨13, _⟩ => ⟨S16384x1024, .bf16⟩
  | .hbm, ⟨14, _⟩ => ⟨S16384x1024, .bf16⟩
  | .hbm, ⟨15, _⟩ => ⟨S1024x4x704, .f32⟩
  | .hbm, ⟨16, _⟩ => ⟨S4x1024x704, .f32⟩
  | .hbm, ⟨17, _⟩ => ⟨S4x1024x704, .bf16⟩
  | .hbm, ⟨18, _⟩ => ⟨S1024x4x704, .f32⟩
  | .hbm, ⟨19, _⟩ => ⟨S4x1024x704, .f32⟩
  | .hbm, ⟨20, _⟩ => ⟨S4x1024x704, .bf16⟩
  | .hbm, ⟨21, _⟩ => ⟨S4x704x1024, .f32⟩
  | .hbm, ⟨22, _⟩ => ⟨S4x704x1024, .bf16⟩
  | .hbm, ⟨23, _⟩ => ⟨S4x16384x1024, .bf16⟩
  | .hbm, ⟨24, _⟩ => ⟨S4x704x1024, .bf16⟩
  | .hbm, ⟨25, _⟩ => ⟨S4x704x1024, .bf16⟩
  | .hbm, ⟨26, _⟩ => ⟨S4x704x1024, .bf16⟩
  | .hbm, ⟨27, _⟩ => ⟨S4x16384x1024, .f32⟩
  | .hbm, ⟨28, _⟩ => ⟨S_, .f32⟩
  | .hbm, ⟨29, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x704x1024, .bf16⟩
  | .local _ .vmem, ⟨17, _⟩ => ⟨S1x704x1024, .bf16⟩
  | .local _ .vmem, ⟨18, _⟩ => ⟨S1x704x1024, .bf16⟩
  | .local _ .vmem, ⟨19, _⟩ => ⟨S1x704x1024, .bf16⟩
  | .local _ .vmem, ⟨20, _⟩ => ⟨S1x704x1024, .bf16⟩
  | .local _ .vmem, ⟨21, _⟩ => ⟨S1x704x1024, .bf16⟩
  | .local _ .vmem, ⟨22, _⟩ => ⟨S704x1024, .f32⟩
  | .local _ .vmem, ⟨23, _⟩ => ⟨S704x1024, .f32⟩
  | .local _ .vmem, ⟨24, _⟩ => ⟨S704x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev main_v18_3 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v68 : BitVec 1 := Scalar.cmpi .eq arg1 c31_i32
  let v69 : BitVec 32 := Scalar.extui v68
  let c0_i32_45 : BitVec 32 := 0#32
  let v70 : BitVec 1 := Scalar.cmpi .ne v69 c0_i32_45
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x704x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnBwdRefIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S4x704x1024 : Shape := ⟨3, ![4, 704, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S1024x2816, .f32⟩
  | .hbm, ⟨29, _⟩ => ⟨S2816x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S2816x1024, .f32⟩
  | .hbm, ⟨34, _⟩ => ⟨S1024x2816, .f32⟩
  | .hbm, ⟨35, _⟩ => ⟨S16384x1024, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S2816x1024, .f32⟩
  | .hbm, ⟨41, _⟩ => ⟨S1024x2816, .f32⟩
  | .hbm, ⟨42, _⟩ => ⟨S16384x1024, .f32⟩
  | .hbm, ⟨43, _⟩ => ⟨S16384x1024, .f32⟩
  | .hbm, ⟨44, _⟩ => ⟨S2816x1024, .f32⟩
  | .hbm, ⟨45, _⟩ => ⟨S4x704x1024, .f32⟩
  | .hbm, ⟨46, _⟩ => ⟨S2816x1024, .f32⟩
  | .hbm, ⟨47, _⟩ => ⟨S4x704x1024, .f32⟩
  | .hbm, ⟨48, _⟩ => ⟨S4x704x1024, .bf16⟩
  | .hbm, ⟨49, _⟩ => ⟨S4x704x1024, .bf16⟩
  | .hbm, ⟨50, _⟩ => ⟨S4x704x1024, .f32⟩
  | .hbm, ⟨51, _⟩ => ⟨S4x704x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Loss.lean ====
abbrev S16384x1024 : Shape := ⟨2, ![16384, 1024]⟩
abbrev S8x128 : Shape := ⟨2, ![8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S8x128, .f32⟩
  | .hbm, ⟨4, _⟩ => ⟨S1x1, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S16384x1024 : Shape := ⟨2, ![16384, 1024]⟩
abbrev S_ : Shape := ⟨0, ![]⟩
abbrev S16384 : Shape := ⟨1, ![16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== FfnFwd.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S1x1024 : Shape := ⟨2, ![1, 1024]⟩
abbrev S4x16384x704 : Shape := ⟨3, ![4, 16384, 704]⟩
abbrev S512x1024 : Shape := ⟨2, ![512, 1024]⟩
abbrev S1x1024x704 : Shape := ⟨3, ![1, 1024, 704]⟩
abbrev S1x704x1024 : Shape := ⟨3, ![1, 704, 1024]⟩
abbrev S1x512x704 : Shape := ⟨3, ![1, 512, 704]⟩
abbrev S1024x704 : Shape := ⟨2, ![1024, 704]⟩
abbrev S512x704 : Shape := ⟨2, ![512, 704]⟩
abbrev S704x1024 : Shape := ⟨2, ![704, 1024]⟩
abbrev S512 : Shape := ⟨1, ![512]⟩
abbrev S512x1 : Shape := ⟨2, ![512, 1]⟩

abbrev nBuf : Space → Nat
  | .hbm => 22
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .bf16⟩
  | .hbm, ⟨7, _⟩ => ⟨S1024x4x704, .f32⟩
  | .hbm, ⟨8, _⟩ => ⟨S4x1024x704, .f32⟩
  | .hbm, ⟨9, _⟩ => ⟨S4x1024x704, .bf16⟩
  | .hbm, ⟨10, _⟩ => ⟨S1024x4x704, .f32⟩
  | .hbm, ⟨11, _⟩ => ⟨S4x1024x704, .f32⟩
  | .hbm, ⟨12, _⟩ => ⟨S4x1024x704, .bf16⟩
  | .hbm, ⟨13, _⟩ => ⟨S4x704x1024, .f32⟩
  | .hbm, ⟨14, _⟩ => ⟨S4x704x1024, .bf16⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .bf16⟩
  | .hbm, ⟨19, _⟩ => ⟨S16384x1024, .f32⟩
  | .hbm, ⟨20, _⟩ => ⟨S4x16384x704, .bf16⟩
  | .hbm, ⟨21, _⟩ => ⟨S4x16384x704, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_24 : BitVec 32 := 0#32
  let v37 : BitVec 1 := Scalar.cmpi .ne v36 c0_i32_24
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnFwdRefIdeal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩
abbrev S16384x4x704 : Shape := ⟨3, ![16384, 4, 704]⟩
abbrev S4x16384x704 : Shape := ⟨3, ![4, 16384, 704]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x2816, .f32⟩
  | .hbm, ⟨56, _⟩ => ⟨S16384x4x704, .f32⟩
  | .hbm, ⟨57, _⟩ => ⟨S4x16384x704, .f32⟩
  | .hbm, ⟨58, _⟩ => ⟨S16384x2816, .f32⟩
  | .hbm, ⟨59, _⟩ => ⟨S16384x4x704, .f32⟩
  | .hbm, ⟨60, _⟩ => ⟨S4x16384x704, .f32⟩
  | .hbm, ⟨61, _⟩ => ⟨S16384x1024, .bf16⟩
  | .hbm, ⟨62, _⟩ => ⟨S4x16384x704, .bf16⟩
  | .hbm, ⟨63, _⟩ => ⟨S4x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== MixFwd.lean ====
abbrev S16384x1024 : Shape := ⟨2, ![16384, 1024]⟩
abbrev S1024x2176 : Shape := ⟨2, ![1024, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1x256 : Shape := ⟨2, ![1, 256]⟩
abbrev S8x384 : Shape := ⟨2, ![8, 384]⟩
abbrev S32x384 : Shape := ⟨2, ![32, 384]⟩
abbrev S1x384 : Shape := ⟨2, ![1, 384]⟩
abbrev S16384x2176 : Shape := ⟨2, ![16384, 2176]⟩
abbrev S16384x384 : Shape := ⟨2, ![16384, 384]⟩
abbrev S32x1024 : Shape := ⟨2, ![32, 1024]⟩
abbrev S256x1024 : Shape := ⟨2, ![256, 1024]⟩
abbrev S256x2176 : Shape := ⟨2, ![256, 2176]⟩
abbrev S256x384 : Shape := ⟨2, ![256, 384]⟩
abbrev S320x1024 : Shape := ⟨2, ![320, 1024]⟩
abbrev S320x2176 : Shape := ⟨2, ![320, 2176]⟩
abbrev S320x384 : Shape := ⟨2, ![320, 384]⟩
abbrev S312x384 : Shape := ⟨2, ![312, 384]⟩
abbrev S8x312x384 : Shape := ⟨3, ![8, 312, 384]⟩
abbrev S312x256 : Shape := ⟨2, ![312, 256]⟩
abbrev S256x1 : Shape := ⟨2, ![256, 1]⟩
abbrev S1x312x384 : Shape := ⟨3, ![1, 312, 384]⟩
abbrev S64x384 : Shape := ⟨2, ![64, 384]⟩
abbrev S1x64x384 : Shape := ⟨3, ![1, 64, 384]⟩

abbrev nBuf : Space → Nat
  | .hbm => 56
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1024x2176, .f32⟩
  | .hbm, ⟨2, _⟩ => ⟨S4x64x64, .f32⟩
  | .hbm, ⟨3, _⟩ => ⟨S256, .f32⟩
  | .hbm, ⟨4, _⟩ => ⟨S3x384, .f32⟩
  | .hbm, ⟨5, _⟩ => ⟨S31x384, .f32⟩
  | .hbm, ⟨6, _⟩ => ⟨S384, .f32⟩
  | .hbm, ⟨7, _⟩ => ⟨S384, .f32⟩
  | .hbm, ⟨8, _⟩ => ⟨S384, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S16384x1024, .bf16⟩
  | .hbm, ⟨13, _⟩ => ⟨S1024x2176, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S256x256, .f32⟩
  | .hbm, ⟨19, _⟩ => ⟨S1x64x64, .f32⟩
  | .hbm, ⟨20, _⟩ => ⟨S64x64, .f32⟩
  | .hbm, ⟨21, _⟩ => ⟨S_, .i32⟩
  | .hbm, ⟨22, _⟩ => ⟨S_, .i32⟩
  | .hbm, ⟨23, _⟩ => ⟨S256x256, .f32⟩
  | .hbm, ⟨24, _⟩ => ⟨S1x64x64, .f32⟩
  | .hbm, ⟨25, _⟩ => ⟨S64x64, .f32⟩
  | .hbm, ⟨26, _⟩ => ⟨S_, .i32⟩
  | .hbm, ⟨27, _⟩ => ⟨S_, .i32⟩
  | .hbm, ⟨28, _⟩ => ⟨S256x256, .f32⟩
  | .hbm, ⟨29, _⟩ => ⟨S1x64x64, .f32⟩
  | .hbm, ⟨30, _⟩ => ⟨S64x64, .f32⟩
  | .hbm, ⟨31, _⟩ => ⟨S_, .i32⟩
  | .hbm, ⟨32, _⟩ => ⟨S_, .i32⟩
  | .hbm, ⟨33, _⟩ => ⟨S256x256, .f32⟩
  | .hbm, ⟨34, _⟩ => ⟨S1x64x64, .f32⟩
  | .hbm, ⟨35, _⟩ => ⟨S64x64, .f32⟩
  | .hbm, ⟨36, _⟩ => ⟨S_, .i32⟩
  | .hbm, ⟨37, _⟩ => ⟨S_, .i32⟩
  | .hbm, ⟨38, _⟩ => ⟨S256x256, .f32⟩
  | .hbm, ⟨39, _⟩ => ⟨S256x256, .bf16⟩
  | .hbm, ⟨40, _⟩ => ⟨S1x256, .f32⟩
  | .hbm, ⟨41, _⟩ => ⟨S_, .i32⟩
  | .hbm, ⟨42, _⟩ => ⟨S_, .f32⟩
  | .hbm, ⟨43, _⟩ => ⟨S8x384, .f32⟩
  | .hbm, ⟨44, _⟩ => ⟨S_, .i32⟩
  | .hbm, ⟨45, _⟩ => ⟨S_, .f32⟩
  | .hbm, ⟨46, _⟩ => ⟨S32x384, .f32⟩
  | .hbm, ⟨47, _⟩ => ⟨S1x384, .f32⟩
  | .hbm, ⟨48, _⟩ => ⟨S1x384, .f32⟩
  | .hbm, ⟨49, _⟩ => ⟨S1x384, .f32⟩
  | .hbm, ⟨50, _⟩ => ⟨S16384x2176, .f32⟩
  | .hbm, ⟨51, _⟩ => ⟨S16384x1024, .bf16⟩
  | .hbm, ⟨52, _⟩ => ⟨S16384x384, .f32⟩
  | .hbm, ⟨53, _⟩ => ⟨S16384x1024, .f32⟩
  | .hbm, ⟨54, _⟩ => ⟨S16384x1024, .bf16⟩
  | .hbm, ⟨55, _⟩ => ⟨S16384x1024, .f32⟩
  | .local _ .vmem, ⟨0, _⟩ => ⟨S32x1024, .bf16⟩
  | .local _ .vmem, ⟨1, _⟩ => ⟨S32x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S256x1024, .f32⟩
  | .local _ .vmem, ⟨7, _⟩ => ⟨S256x1024, .f32⟩
  | .local _ .vmem, ⟨8, _⟩ => ⟨S1024x2176, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x256, .bf16⟩
  | .local _ .vmem, ⟨13, _⟩ => ⟨S1x256, .f32⟩
  | .local _ .vmem, ⟨14, _⟩ => ⟨S8x384, .f32⟩
  | .local _ .vmem, ⟨15, _⟩ => ⟨S32x384, .f32⟩
  | .local _ .vmem, ⟨16, _⟩ => ⟨S1x384, .f32⟩
  | .local _ .vmem, ⟨17, _⟩ => ⟨S1x384, .f32⟩
  | .local _ .vmem, ⟨18, _⟩ => ⟨S1x384, .f32⟩
  | .local _ .vmem, ⟨19, _⟩ => ⟨S256x2176, .f32⟩
  | .local _ .vmem, ⟨20, _⟩ => ⟨S256x2176, .f32⟩
  | .local _ .vmem, ⟨21, _⟩ => ⟨S256x1024, .bf16⟩
  | .local _ .vmem, ⟨22, _⟩ => ⟨S256x1024, .bf16⟩
  | .local _ .vmem, ⟨23, _⟩ => ⟨S256x384, .f32⟩
  | .local _ .vmem, ⟨24, _⟩ => ⟨S256x384, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | .local _ .vmem, ⟨29, _⟩ => ⟨S256x1024, .f32⟩
  | .local _ .vmem, ⟨30, _⟩ => ⟨S256x1024, .f32⟩
  | .local _ .vmem, ⟨31, _⟩ => ⟨S320x1024, .bf16⟩
  | .local _ .vmem, ⟨32, _⟩ => ⟨S320x2176, .f32⟩
  | .local _ .vmem, ⟨33, _⟩ => ⟨S320x384, .f32⟩
  | .local _ .vmem, ⟨34, _⟩ => ⟨S320x384, .f32⟩
  | .local _ .vmem, ⟨35, _⟩ => ⟨S312x384, .f32⟩
  | .local _ .vmem, ⟨36, _⟩ => ⟨S8x312x384, .f32⟩
  | .local _ .vmem, ⟨37, _⟩ => ⟨S256x384, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_c_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_7 : Ref sig .tc := ⟨.hbm, 41, rfl⟩
abbrev main_call0_v0 : Ref sig .tc := ⟨.hbm, 42, rfl⟩
abbrev main_v20 : Ref sig .tc := ⟨.hbm, 43, rfl⟩
abbrev main_c_8 : Ref sig .tc := ⟨.hbm, 44, rfl⟩
abbrev main_call1_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev main_v25_3 : Ref sig .tc := ⟨.hbm, 53, rfl⟩
abbrev main_v25_4 : Ref sig .tc := ⟨.hbm, 54, rfl⟩
abbrev main_v25_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2176 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MixFwdRefIdeal.lean ====
abbrev S16384x1024 : Shape := ⟨2, ![16384, 1024]⟩
abbrev S1024x2176 : Shape := ⟨2, ![1024, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S1024x1024 : Shape := ⟨2, ![1024, 1024]⟩
abbrev S1024 : Shape := ⟨1, ![1024]⟩
abbrev S16384x2176 : Shape := ⟨2, ![16384, 2176]⟩
abbrev S16384x256 : Shape := ⟨2, ![16384, 256]⟩
abbrev S16384x384 : Shape := ⟨2, ![16384, 384]⟩
abbrev S_ : Shape := ⟨0, ![]⟩
abbrev S64 : Shape := ⟨1, ![64]⟩
abbrev S16384 : Shape := ⟨1, ![16384]⟩
abbrev S16384x1 : Shape := ⟨2, ![16384, 1]⟩
abbrev S1x256 : Shape := ⟨2, ![1, 256]⟩
abbrev S16384x1x256 : Shape := ⟨3, ![16384, 1, 256]⟩
abbrev S1x16384x1 : Shape := ⟨3, ![1, 16384, 1]⟩
abbrev S16384x16384x256 : Shape := ⟨3, ![16384, 16384, 256]⟩
abbrev S16384x4x64 : Shape := ⟨3, ![16384, 4, 64]⟩
abbrev S4x64x16384 : Shape := ⟨3, ![4, 64, 16384]⟩
abbrev S3 : Shape := ⟨1, ![3]⟩
abbrev S3x1x1 : Shape := ⟨3, ![3, 1, 1]⟩
abbrev S3x16384x1 : Shape := ⟨3, ![3, 16384, 1]⟩
abbrev S1x1x16384 : Shape := ⟨3, ![1, 1, 16384]⟩
abbrev S3x16384x16384 : Shape := ⟨3, ![3, 16384, 16384]⟩
abbrev S3x16384x16384x1 : Shape := ⟨4, ![3, 16384, 16384, 1]⟩
abbrev S3x16384x16384x384 : Shape := ⟨4, ![3, 16384, 16384, 384]⟩
abbrev S3x16384x384 : Shape := ⟨3, ![3, 16384, 384]⟩
abbrev S3x1x384 : Shape := ⟨3, ![3, 1, 384]⟩
abbrev S31 : Shape := ⟨1, ![31]⟩
abbrev S31x1x1 : Shape := ⟨3, ![31, 1, 1]⟩
abbrev S31x16384x1 : Shape := ⟨3, ![31, 16384, 1]⟩
abbrev S31x16384x16384 : Shape := ⟨3, ![31, 16384, 16384]⟩
abbrev S31x16384x16384x1 : Shape := ⟨4, ![31, 16384, 16384, 1]⟩
abbrev S31x16384x16384x384 : Shape := ⟨4, ![31, 16384, 16384, 384]⟩
abbrev S31x16384x384 : Shape := ⟨3, ![31, 16384, 384]⟩
abbrev S31x1x384 : Shape := ⟨3, ![31, 1, 384]⟩
abbrev S1x384 : Shape := ⟨2, ![1, 384]⟩
abbrev S1x1024 : Shape := ⟨2, ![1, 1024]⟩

abbrev nBuf : Space → Nat
  | .hbm => 232
  | .vmem => 0
  | .smem => 0
  | _ => 0

abbrev hbmTy0_0 (i : Nat) : BufTy := match i % 128 with
  | 0 => ⟨S16384x1024, .f32⟩
  | 1 => ⟨S1024x2176, .f32⟩
  | 2 => ⟨S4x64x64, .f32⟩
  | 3 => ⟨S256, .f32⟩
  | 4 => ⟨S3x384, .f32⟩
  | 5 => ⟨S31x384, .f32⟩
  | 6 => ⟨S384, .f32⟩
  | 7 => ⟨S384, .f32⟩
  | 8 => ⟨S384, .f32⟩
  | 9 => ⟨S1024x1024, .f32⟩
  | 10 => ⟨S1024, .f32⟩
  | 11 => ⟨S1024, .f32⟩
  | 12 => ⟨S16384x2176, .f32⟩
  | 13 => ⟨S16384x256, .f32⟩
  | 14 => ⟨S16384x384, .f32⟩
  | 15 => ⟨S16384x384, .f32⟩
  | 16 => ⟨S16384x384, .f32⟩
  | 17 => ⟨S16384x384, .f32⟩
  | 18 => ⟨S16384x384, .f32⟩
  | 19 => ⟨S_, .i32⟩
  | 20 => ⟨S64, .i32⟩
  | 21 => ⟨S_, .i32⟩
  | 22 => ⟨S64, .i32⟩
  | 23 => ⟨S_, .i32⟩
  | 24 => ⟨S64, .i32⟩
  | 25 => ⟨S_, .i32⟩
  | 26 => ⟨S64, .i32⟩
  | 27 => ⟨S256, .i32⟩
  | 28 => ⟨S16384, .i32⟩
  | 29 => ⟨S16384x1, .i32⟩
  | 30 => ⟨S1x256, .i32⟩
  | 31 => ⟨S16384x256, .i32⟩
  | 32 => ⟨S16384x256, .i32⟩
  | 33 => ⟨S16384x256, .i32⟩
  | 34 => ⟨S_, .i32⟩
  | 35 => ⟨S_, .i32⟩
  | 36 => ⟨S_, .i32⟩
  | 37 => ⟨S16384x256, .i32⟩
  | 38 => ⟨S16384x256, .i32⟩
  | 39 => ⟨S_, .i32⟩
  | 40 => ⟨S16384x256, .i32⟩
  | 41 => ⟨S16384x256, .i32⟩
  | 42 => ⟨S1x256, .i32⟩
  | 43 => ⟨S16384x256, .i32⟩
  | 44 => ⟨S16384x256, .i32⟩
  | 45 => ⟨S16384x256, .i32⟩
  | 46 => ⟨S_, .i32⟩
  | 47 => ⟨S_, .i32⟩
  | 48 => ⟨S_, .i32⟩
  | 49 => ⟨S16384x256, .i32⟩
  | 50 => ⟨S16384x256, .i32⟩
  | 51 => ⟨S_, .i32⟩
  | 52 => ⟨S16384x256, .i32⟩
  | 53 => ⟨S16384x256, .i32⟩
  | 54 => ⟨S16384x1x256, .i32⟩
  | 55 => ⟨S1x16384x1, .i32⟩
  | 56 => ⟨S16384x16384x256, .i32⟩
  | 57 => ⟨S16384x16384x256, .i32⟩
  | 58 => ⟨S16384x16384x256, .i1⟩
  | 59 => ⟨S16384x1x256, .i32⟩
  | 60 => ⟨S1x16384x1, .i32⟩
  | 61 => ⟨S16384x16384x256, .i32⟩
  | 62 => ⟨S16384x16384x256, .i32⟩
  | 63 => ⟨S16384x16384x256, .i1⟩
  | 64 => ⟨S16384x16384x256, .i1⟩
  | 65 => ⟨S_, .f32⟩
  | 66 => ⟨S_, .f32⟩
  | 67 => ⟨S16384x16384x256, .f32⟩
  | 68 => ⟨S16384x16384x256, .f32⟩
  | 69 => ⟨S16384x16384x256, .f32⟩
  | 70 => ⟨S_, .f32⟩
  | 71 => ⟨S16384x256, .f32⟩
  | 72 => ⟨S16384x256, .i32⟩
  | 73 => ⟨S16384x256, .f32⟩
  | 74 => ⟨S16384x256, .f32⟩
  | 75 => ⟨S16384x256, .f32⟩
  | 76 => ⟨S16384x4x64, .f32⟩
  | 77 => ⟨S4x64x16384, .f32⟩
  | 78 => ⟨S16384x4x64, .f32⟩
  | 79 => ⟨S16384x256, .f32⟩
  | 80 => ⟨S1x256, .f32⟩
  | 81 => ⟨S16384x256, .f32⟩
  | 82 => ⟨S16384x256, .f32⟩
  | 83 => ⟨S16384x384, .f32⟩
  | 84 => ⟨S3, .i32⟩
  | 85 => ⟨S3x1x1, .i32⟩
  | 86 => ⟨S16384, .i32⟩
  | 87 => ⟨S16384x1, .i32⟩
  | 88 => ⟨S16384, .i32⟩
  | 89 => ⟨S_, .i32⟩
  | 90 => ⟨S16384, .i32⟩
  | 91 => ⟨S16384, .i32⟩
  | 92 => ⟨S1x16384x1, .i32⟩
  | 93 => ⟨S3x16384x1, .i32⟩
  | 94 => ⟨S3x16384x1, .i32⟩
  | 95 => ⟨S3x16384x1, .i32⟩
  | 96 => ⟨S1x1x16384, .i32⟩
  | 97 => ⟨S3x16384x16384, .i32⟩
  | 98 => ⟨S3x16384x16384, .i32⟩
  | 99 => ⟨S3x16384x16384, .i1⟩
  | 100 => ⟨S3x16384x16384x1, .i1⟩
  | 101 => ⟨S_, .f32⟩
  | 102 => ⟨S_, .f32⟩
  | 103 => ⟨S3x16384x16384x384, .i1⟩
  | 104 => ⟨S3x16384x16384x384, .f32⟩
  | 105 => ⟨S3x16384x16384x384, .f32⟩
  | 106 => ⟨S3x16384x16384x384, .f32⟩
  | 107 => ⟨S_, .f32⟩
  | 108 => ⟨S3x16384x384, .f32⟩
  | 109 => ⟨S3x1x384, .f32⟩
  | 110 => ⟨S3x16384x384, .f32⟩
  | 111 => ⟨S3x16384x384, .f32⟩
  | 112 => ⟨S_, .f32⟩
  | 113 => ⟨S16384x384, .f32⟩
  | 114 => ⟨S16384x384, .f32⟩
  | 115 => ⟨S16384x384, .f32⟩
  | 116 => ⟨S16384x384, .f32⟩
  | 117 => ⟨S_, .f32⟩
  | 118 => ⟨S16384x384, .f32⟩
  | 119 => ⟨S16384x384, .f32⟩
  | 120 => ⟨S_, .f32⟩
  | 121 => ⟨S16384x384, .f32⟩
  | 122 => ⟨S16384x384, .f32⟩
  | 123 => ⟨S16384x384, .f32⟩
  | 124 => ⟨S31, .i32⟩
  | 125 => ⟨S31x1x1, .i32⟩
  | 126 => ⟨S16384, .i32⟩
  | 127 => ⟨S16384x1, .i32⟩
  | _ => ⟨S16384x1024, .f32⟩

abbrev hbmTy0_1 (i : Nat) : BufTy := match i % 128 with
  | 0 => ⟨S16384, .i32⟩
  | 1 => ⟨S_, .i32⟩
  | 2 => ⟨S16384, .i32⟩
  | 3 => ⟨S16384, .i32⟩
  | 4 => ⟨S1x16384x1, .i32⟩
  | 5 => ⟨S31x16384x1, .i32⟩
  | 6 => ⟨S31x16384x1, .i32⟩
  | 7 => ⟨S31x16384x1, .i32⟩
  | 8 => ⟨S1x1x16384, .i32⟩
  | 9 => ⟨S31x16384x16384, .i32⟩
  | 10 => ⟨S31x16384x16384, .i32⟩
  | 11 => ⟨S31x16384x16384, .i1⟩
  | 12 => ⟨S31x16384x16384x1, .i1⟩
  | 13 => ⟨S_, .f32⟩
  | 14 => ⟨S_, .f32⟩
  | 15 => ⟨S31x16384x16384x384, .i1⟩
  | 16 => ⟨S31x16384x16384x384, .f32⟩
  | 17 => ⟨S31x16384x16384x384, .f32⟩
  | 18 => ⟨S31x16384x16384x384, .f32⟩
  | 19 => ⟨S_, .f32⟩
  | 20 => ⟨S31x16384x384, .f32⟩
  | 21 => ⟨S31x1x384, .f32⟩
  | 22 => ⟨S31x16384x384, .f32⟩
  | 23 => ⟨S31x16384x384, .f32⟩
  | 24 => ⟨S_, .f32⟩
  | 25 => ⟨S16384x384, .f32⟩
  | 26 => ⟨S1x384, .f32⟩
  | 27 => ⟨S16384x384, .f32⟩
  | 28 => ⟨S16384x384, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S16384x384, .f32⟩
  | 36 => ⟨S16384x384, .f32⟩
  | 37 => ⟨S16384x384, .f32⟩
  | 38 => ⟨S_, .f32⟩
  | 39 => ⟨S16384, .f32⟩
  | 40 => ⟨S16384x1, .f32⟩
  | 41 => ⟨S_, .f32⟩
  | 42 => ⟨S16384x1, .f32⟩
  | 43 => ⟨S16384x1, .f32⟩
  | 44 => ⟨S16384x384, .f32⟩
  | 45 => ⟨S16384x384, .f32⟩
  | 46 => ⟨S_, .f32⟩
  | 47 => ⟨S16384x1, .f32⟩
  | 48 => ⟨S16384x1, .f32⟩
  | 49 => ⟨S16384x1, .f32⟩
  | 50 => ⟨S16384x384, .f32⟩
  | 51 => ⟨S16384x384, .f32⟩
  | 52 => ⟨S1x384, .f32⟩
  | 53 => ⟨S16384x384, .f32⟩
  | 54 => ⟨S16384x384, .f32⟩
  | 55 => ⟨S1x384, .f32⟩
  | 56 => ⟨S16384x384, .f32⟩
  | 57 => ⟨S16384x384, .f32⟩
  | 58 => ⟨S16384x384, .f32⟩
  | 59 => ⟨S16384x384, .f32⟩
  | 60 => ⟨S_, .f32⟩
  | 61 => ⟨S16384x384, .f32⟩
  | 62 => ⟨S16384x384, .f32⟩
  | 63 => ⟨S_, .f32⟩
  | 64 => ⟨S16384x384, .f32⟩
  | 65 => ⟨S16384x384, .f32⟩
  | 66 => ⟨S16384x384, .f32⟩
  | 67 => ⟨S16384x1024, .f32⟩
  | 68 => ⟨S_, .f32⟩
  | 69 => ⟨S16384x1024, .f32⟩
  | 70 => ⟨S16384x1024, .f32⟩
  | 71 => ⟨S16384x1024, .f32⟩
  | 72 => ⟨S16384x1024, .f32⟩
  | 73 => ⟨S_, .f32⟩
  | 74 => ⟨S16384, .f32⟩
  | 75 => ⟨S16384x1, .f32⟩
  | 76 => ⟨S_, .f32⟩
  | 77 => ⟨S16384x1, .f32⟩
  | 78 => ⟨S16384x1, .f32⟩
  | 79 => ⟨S16384x1024, .f32⟩
  | 80 => ⟨S16384x1024, .f32⟩
  | 81 => ⟨S16384x1024, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S16384x1024, .f32⟩
  | 89 => ⟨S16384x1024, .f32⟩
  | 90 => ⟨S_, .f32⟩
  | 91 => ⟨S16384x1, .f32⟩
  | 92 => ⟨S16384x1, .f32⟩
  | 93 => ⟨S16384x1, .f32⟩
  | 94 => ⟨S16384x1024, .f32⟩
  | 95 => ⟨S16384x1024, .f32⟩
  | 96 => ⟨S1x1024, .f32⟩
  | 97 => ⟨S16384x1024, .f32⟩
  | 98 => ⟨S16384x1024, .f32⟩
  | 99 => ⟨S1x1024, .f32⟩
  | 100 => ⟨S16384x1024, .f32⟩
  | 101 => ⟨S16384x1024, .f32⟩
  | 102 => ⟨S16384x1024, .bf16⟩
  | 103 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_c_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_c_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_8 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_9 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_v65 : Ref sig .tc := ⟨.hbm, 106, rfl⟩
abbrev main_cst_10 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_11 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_12 : Ref sig .tc := ⟨.hbm, 117, rfl⟩
abbrev main_v74 : Ref sig .tc := ⟨.hbm, 118, rfl⟩
abbrev main_v75 : Ref sig .tc := ⟨.hbm, 119, rfl⟩
abbrev main_cst_13 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_14 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_15 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_v95 : Ref sig .tc := ⟨.hbm, 146, rfl⟩
abbrev main_cst_16 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_17 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_18 : Ref sig .tc := ⟨.hbm, 157, rfl⟩
abbrev main_v104 : Ref sig .tc := ⟨.hbm, 158, rfl⟩
abbrev main_v105 : Ref sig .tc := ⟨.hbm, 159, rfl⟩
abbrev main_cst_19 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_20 : Ref sig .tc := ⟨.hbm, 166, rfl⟩
abbrev main_v111 : Ref sig .tc := ⟨.hbm, 167, rfl⟩
abbrev main_v112 : Ref sig .tc := ⟨.hbm, 168, rfl⟩
abbrev main_cst_21 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_22 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_call5_v0 : Ref sig .tc := ⟨.hbm, 186, rfl⟩
abbrev main_call5_v1 : Ref sig .tc := ⟨.hbm, 187, rfl⟩
abbrev main_call5_cst : Ref sig .tc := ⟨.hbm, 188, rfl⟩
abbrev main_call5_v2 : Ref sig .tc := ⟨.hbm, 189, rfl⟩
abbrev main_call5_v3 : Ref sig .tc := ⟨.hbm, 190, rfl⟩
abbrev main_call5_cst_0 : Ref sig .tc := ⟨.hbm, 191, rfl⟩
abbrev main_call5_v4 : Ref sig .tc := ⟨.hbm, 192, rfl⟩
abbrev main_call5_v5 : Ref sig .tc := ⟨.hbm, 193, rfl⟩
abbrev main_v128 : Ref sig .tc := ⟨.hbm, 194, rfl⟩
abbrev main_v129 : Ref sig .tc := ⟨.hbm, 195, rfl⟩
abbrev main_cst_23 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_24 : Ref sig .tc := ⟨.hbm, 201, rfl⟩
abbrev main_v134 : Ref sig .tc := ⟨.hbm, 202, rfl⟩
abbrev main_v135 : Ref sig .tc := ⟨.hbm, 203, rfl⟩
abbrev main_cst_25 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_cst_26 : Ref sig .tc := ⟨.hbm, 210, rfl⟩
abbrev main_v141 : Ref sig .tc := ⟨.hbm, 211, rfl⟩
abbrev main_v142 : Ref sig .tc := ⟨.hbm, 212, rfl⟩
abbrev main_cst_27 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_cst_28 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩

abbrev nD : Nat := 1
abbrev τ : Topo := Topo.v7x

variable {F : FTy → Type} [FloatOps F]
-- ==== MixBwd.lean ====
abbrev S16384x1024 : Shape := ⟨2, ![16384, 1024]⟩
abbrev S1024x2176 : Shape := ⟨2, ![1024, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S1024x1024 : Shape := ⟨2, ![1024, 1024]⟩
abbrev S16384x2176 : Shape := ⟨2, ![16384, 2176]⟩
abbrev S16384x256 : Shape := ⟨2, ![16384, 256]⟩
abbrev S16384x384 : Shape := ⟨2, ![16384, 384]⟩
abbrev S_ : Shape := ⟨0, ![]⟩
abbrev S64 : Shape := ⟨1, ![64]⟩
abbrev S16384 : Shape := ⟨1, ![16384]⟩
abbrev S16384x1 : Shape := ⟨2, ![16384, 1]⟩
abbrev S1x256 : Shape := ⟨2, ![1, 256]⟩
abbrev S16384x1x256 : Shape := ⟨3, ![16384, 1, 256]⟩
abbrev S1x16384x1 : Shape := ⟨3, ![1, 16384, 1]⟩
abbrev S16384x16384x256 : Shape := ⟨3, ![16384, 16384, 256]⟩
abbrev S16384x4x64 : Shape := ⟨3, ![16384, 4, 64]⟩
abbrev S4x64x16384 : Shape := ⟨3, ![4, 64, 16384]⟩
abbrev S3 : Shape := ⟨1, ![3]⟩
abbrev S3x1x1 : Shape := ⟨3, ![3, 1, 1]⟩
abbrev S3x16384x1 : Shape := ⟨3, ![3, 16384, 1]⟩
abbrev S1x1x16384 : Shape := ⟨3, ![1, 1, 16384]⟩
abbrev S3x16384x16384 : Shape := ⟨3, ![3, 16384, 16384]⟩
abbrev S3x16384x16384x1 : Shape := ⟨4, ![3, 16384, 16384, 1]⟩
abbrev S3x16384x16384x384 : Shape := ⟨4, ![3, 16384, 16384, 384]⟩
abbrev S3x16384x384 : Shape := ⟨3, ![3, 16384, 384]⟩
abbrev S3x1x384 : Shape := ⟨3, ![3, 1, 384]⟩
abbrev S31 : Shape := ⟨1, ![31]⟩
abbrev S31x1x1 : Shape := ⟨3, ![31, 1, 1]⟩
abbrev S31x16384x1 : Shape := ⟨3, ![31, 16384, 1]⟩
abbrev S31x16384x16384 : Shape := ⟨3, ![31, 16384, 16384]⟩
abbrev S31x16384x16384x1 : Shape := ⟨4, ![31, 16384, 16384, 1]⟩
abbrev S31x16384x16384x384 : Shape := ⟨4, ![31, 16384, 16384, 384]⟩
abbrev S31x16384x384 : Shape := ⟨3, ![31, 16384, 384]⟩
abbrev S31x1x384 : Shape := ⟨3, ![31, 1, 384]⟩
abbrev S1x384 : Shape := ⟨2, ![1, 384]⟩
abbrev S256x256 : Shape := ⟨2, ![256, 256]⟩
abbrev S1x64x64 : Shape := ⟨3, ![1, 64, 64]⟩
abbrev S64x64 : Shape := ⟨2, ![64, 64]⟩
abbrev S8x384 : Shape := ⟨2, ![8, 384]⟩
abbrev S32x384 : Shape := ⟨2, ![32, 384]⟩
abbrev S32x2176 : Shape := ⟨2, ![32, 2176]⟩
abbrev S256x2176 : Shape := ⟨2, ![256, 2176]⟩
abbrev S32x1024 : Shape := ⟨2, ![32, 1024]⟩
abbrev S256x1024 : Shape := ⟨2, ![256, 1024]⟩
abbrev S256x384 : Shape := ⟨2, ![256, 384]⟩
abbrev S320x2176 : Shape := ⟨2, ![320, 2176]⟩
abbrev S320x1024 : Shape := ⟨2, ![320, 1024]⟩
abbrev S320x384 : Shape := ⟨2, ![320, 384]⟩
abbrev S320x256 : Shape := ⟨2, ![320, 256]⟩
abbrev S312x384 : Shape := ⟨2, ![312, 384]⟩
abbrev S8x312x384 : Shape := ⟨3, ![8, 312, 384]⟩
abbrev S320 : Shape := ⟨1, ![320]⟩
abbrev S320x1 : Shape := ⟨2, ![320, 1]⟩
abbrev S1x312x384 : Shape := ⟨3, ![1, 312, 384]⟩
abbrev S64x384 : Shape := ⟨2, ![64, 384]⟩
abbrev S1x64x384 : Shape := ⟨3, ![1, 64, 384]⟩
abbrev S312x256 : Shape := ⟨2, ![312, 256]⟩
abbrev S256x1 : Shape := ⟨2, ![256, 1]⟩

abbrev nBuf : Space → Nat
  | .hbm => 243
  | .vmem => 53
  | .smem => 0
  | _ => 0

abbrev hbmTy0_0 (i : Nat) : BufTy := match i % 128 with
  | 0 => ⟨S16384x1024, .f32⟩
  | 1 => ⟨S1024x2176, .f32⟩
  | 2 => ⟨S4x64x64, .f32⟩
  | 3 => ⟨S256, .f32⟩
  | 4 => ⟨S3x384, .f32⟩
  | 5 => ⟨S31x384, .f32⟩
  | 6 => ⟨S384, .f32⟩
  | 7 => ⟨S384, .f32⟩
  | 8 => ⟨S384, .f32⟩
  | 9 => ⟨S1024x1024, .f32⟩
  | 10 => ⟨S16384x1024, .f32⟩
  | 11 => ⟨S16384x2176, .f32⟩
  | 12 => ⟨S16384x256, .f32⟩
  | 13 => ⟨S16384x384, .f32⟩
  | 14 => ⟨S16384x384, .f32⟩
  | 15 => ⟨S16384x384, .f32⟩
  | 16 => ⟨S16384x384, .f32⟩
  | 17 => ⟨S16384x384, .f32⟩
  | 18 => ⟨S_, .i32⟩
  | 19 => ⟨S64, .i32⟩
  | 20 => ⟨S_, .i32⟩
  | 21 => ⟨S64, .i32⟩
  | 22 => ⟨S_, .i32⟩
  | 23 => ⟨S64, .i32⟩
  | 24 => ⟨S_, .i32⟩
  | 25 => ⟨S64, .i32⟩
  | 26 => ⟨S256, .i32⟩
  | 27 => ⟨S16384, .i32⟩
  | 28 => ⟨S16384x1, .i32⟩
  | 29 => ⟨S1x256, .i32⟩
  | 30 => ⟨S16384x256, .i32⟩
  | 31 => ⟨S16384x256, .i32⟩
  | 32 => ⟨S16384x256, .i32⟩
  | 33 => ⟨S_, .i32⟩
  | 34 => ⟨S_, .i32⟩
  | 35 => ⟨S_, .i32⟩
  | 36 => ⟨S16384x256, .i32⟩
  | 37 => ⟨S16384x256, .i32⟩
  | 38 => ⟨S_, .i32⟩
  | 39 => ⟨S16384x256, .i32⟩
  | 40 => ⟨S16384x256, .i32⟩
  | 41 => ⟨S1x256, .i32⟩
  | 42 => ⟨S16384x256, .i32⟩
  | 43 => ⟨S16384x256, .i32⟩
  | 44 => ⟨S16384x256, .i32⟩
  | 45 => ⟨S_, .i32⟩
  | 46 => ⟨S_, .i32⟩
  | 47 => ⟨S_, .i32⟩
  | 48 => ⟨S16384x256, .i32⟩
  | 49 => ⟨S16384x256, .i32⟩
  | 50 => ⟨S_, .i32⟩
  | 51 => ⟨S16384x256, .i32⟩
  | 52 => ⟨S16384x256, .i32⟩
  | 53 => ⟨S16384x1x256, .i32⟩
  | 54 => ⟨S1x16384x1, .i32⟩
  | 55 => ⟨S16384x16384x256, .i32⟩
  | 56 => ⟨S16384x16384x256, .i32⟩
  | 57 => ⟨S16384x16384x256, .i1⟩
  | 58 => ⟨S16384x1x256, .i32⟩
  | 59 => ⟨S1x16384x1, .i32⟩
  | 60 => ⟨S16384x16384x256, .i32⟩
  | 61 => ⟨S16384x16384x256, .i32⟩
  | 62 => ⟨S16384x16384x256, .i1⟩
  | 63 => ⟨S16384x16384x256, .i1⟩
  | 64 => ⟨S_, .f32⟩
  | 65 => ⟨S_, .f32⟩
  | 66 => ⟨S16384x16384x256, .f32⟩
  | 67 => ⟨S16384x16384x256, .f32⟩
  | 68 => ⟨S16384x16384x256, .f32⟩
  | 69 => ⟨S_, .f32⟩
  | 70 => ⟨S16384x256, .f32⟩
  | 71 => ⟨S16384x256, .i32⟩
  | 72 => ⟨S16384x256, .f32⟩
  | 73 => ⟨S16384x256, .f32⟩
  | 74 => ⟨S16384x256, .f32⟩
  | 75 => ⟨S16384x4x64, .f32⟩
  | 76 => ⟨S4x64x16384, .f32⟩
  | 77 => ⟨S16384x4x64, .f32⟩
  | 78 => ⟨S16384x256, .f32⟩
  | 79 => ⟨S1x256, .f32⟩
  | 80 => ⟨S16384x256, .f32⟩
  | 81 => ⟨S16384x256, .f32⟩
  | 82 => ⟨S16384x384, .f32⟩
  | 83 => ⟨S3, .i32⟩
  | 84 => ⟨S3x1x1, .i32⟩
  | 85 => ⟨S16384, .i32⟩
  | 86 => ⟨S16384x1, .i32⟩
  | 87 => ⟨S16384, .i32⟩
  | 88 => ⟨S_, .i32⟩
  | 89 => ⟨S16384, .i32⟩
  | 90 => ⟨S16384, .i32⟩
  | 91 => ⟨S1x16384x1, .i32⟩
  | 92 => ⟨S3x16384x1, .i32⟩
  | 93 => ⟨S3x16384x1, .i32⟩
  | 94 => ⟨S3x16384x1, .i32⟩
  | 95 => ⟨S1x1x16384, .i32⟩
  | 96 => ⟨S3x16384x16384, .i32⟩
  | 97 => ⟨S3x16384x16384, .i32⟩
  | 98 => ⟨S3x16384x16384, .i1⟩
  | 99 => ⟨S3x16384x16384x1, .i1⟩
  | 100 => ⟨S_, .f32⟩
  | 101 => ⟨S_, .f32⟩
  | 102 => ⟨S3x16384x16384x384, .i1⟩
  | 103 => ⟨S3x16384x16384x384, .f32⟩
  | 104 => ⟨S3x16384x16384x384, .f32⟩
  | 105 => ⟨S3x16384x16384x384, .f32⟩
  | 106 => ⟨S_, .f32⟩
  | 107 => ⟨S3x16384x384, .f32⟩
  | 108 => ⟨S3x1x384, .f32⟩
  | 109 => ⟨S3x16384x384, .f32⟩
  | 110 => ⟨S3x16384x384, .f32⟩
  | 111 => ⟨S_, .f32⟩
  | 112 => ⟨S16384x384, .f32⟩
  | 113 => ⟨S16384x384, .f32⟩
  | 114 => ⟨S16384x384, .f32⟩
  | 115 => ⟨S16384x384, .f32⟩
  | 116 => ⟨S_, .f32⟩
  | 117 => ⟨S16384x384, .f32⟩
  | 118 => ⟨S16384x384, .f32⟩
  | 119 => ⟨S_, .f32⟩
  | 120 => ⟨S16384x384, .f32⟩
  | 121 => ⟨S16384x384, .f32⟩
  | 122 => ⟨S16384x384, .f32⟩
  | 123 => ⟨S31, .i32⟩
  | 124 => ⟨S31x1x1, .i32⟩
  | 125 => ⟨S16384, .i32⟩
  | 126 => ⟨S16384x1, .i32⟩
  | 127 => ⟨S16384, .i32⟩
  | _ => ⟨S16384x1024, .f32⟩

abbrev hbmTy0_1 (i : Nat) : BufTy := match i % 128 with
  | 0 => ⟨S_, .i32⟩
  | 1 => ⟨S16384, .i32⟩
  | 2 => ⟨S16384, .i32⟩
  | 3 => ⟨S1x16384x1, .i32⟩
  | 4 => ⟨S31x16384x1, .i32⟩
  | 5 => ⟨S31x16384x1, .i32⟩
  | 6 => ⟨S31x16384x1, .i32⟩
  | 7 => ⟨S1x1x16384, .i32⟩
  | 8 => ⟨S31x16384x16384, .i32⟩
  | 9 => ⟨S31x16384x16384, .i32⟩
  | 10 => ⟨S31x16384x16384, .i1⟩
  | 11 => ⟨S31x16384x16384x1, .i1⟩
  | 12 => ⟨S_, .f32⟩
  | 13 => ⟨S_, .f32⟩
  | 14 => ⟨S31x16384x16384x384, .i1⟩
  | 15 => ⟨S31x16384x16384x384, .f32⟩
  | 16 => ⟨S31x16384x16384x384, .f32⟩
  | 17 => ⟨S31x16384x16384x384, .f32⟩
  | 18 => ⟨S_, .f32⟩
  | 19 => ⟨S31x16384x384, .f32⟩
  | 20 => ⟨S31x1x384, .f32⟩
  | 21 => ⟨S31x16384x384, .f32⟩
  | 22 => ⟨S31x16384x384, .f32⟩
  | 23 => ⟨S_, .f32⟩
  | 24 => ⟨S16384x384, .f32⟩
  | 25 => ⟨S1x384, .f32⟩
  | 26 => ⟨S16384x384, .f32⟩
  | 27 => ⟨S16384x384, .f32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S16384x384, .f32⟩
  | 35 => ⟨S16384x384, .f32⟩
  | 36 => ⟨S16384x384, .f32⟩
  | 37 => ⟨S_, .f32⟩
  | 38 => ⟨S16384, .f32⟩
  | 39 => ⟨S16384x1, .f32⟩
  | 40 => ⟨S_, .f32⟩
  | 41 => ⟨S16384x1, .f32⟩
  | 42 => ⟨S16384x1, .f32⟩
  | 43 => ⟨S16384x384, .f32⟩
  | 44 => ⟨S16384x384, .f32⟩
  | 45 => ⟨S_, .f32⟩
  | 46 => ⟨S16384x1, .f32⟩
  | 47 => ⟨S16384x1, .f32⟩
  | 48 => ⟨S16384x1, .f32⟩
  | 49 => ⟨S16384x384, .f32⟩
  | 50 => ⟨S16384x384, .f32⟩
  | 51 => ⟨S1x384, .f32⟩
  | 52 => ⟨S16384x384, .f32⟩
  | 53 => ⟨S16384x384, .f32⟩
  | 54 => ⟨S1x384, .f32⟩
  | 55 => ⟨S16384x384, .f32⟩
  | 56 => ⟨S16384x384, .f32⟩
  | 57 => ⟨S16384x384, .f32⟩
  | 58 => ⟨S16384x384, .f32⟩
  | 59 => ⟨S_, .f32⟩
  | 60 => ⟨S16384x384, .f32⟩
  | 61 => ⟨S16384x384, .f32⟩
  | 62 => ⟨S_, .f32⟩
  | 63 => ⟨S16384x384, .f32⟩
  | 64 => ⟨S16384x384, .f32⟩
  | 65 => ⟨S16384x384, .f32⟩
  | 66 => ⟨S16384x1024, .f32⟩
  | 67 => ⟨S_, .f32⟩
  | 68 => ⟨S256x256, .f32⟩
  | 69 => ⟨S1x64x64, .f32⟩
  | 70 => ⟨S64x64, .f32⟩
  | 71 => ⟨S_, .i32⟩
  | 72 => ⟨S_, .i32⟩
  | 73 => ⟨S256x256, .f32⟩
  | 74 => ⟨S1x64x64, .f32⟩
  | 75 => ⟨S64x64, .f32⟩
  | 76 => ⟨S_, .i32⟩
  | 77 => ⟨S_, .i32⟩
  | 78 => ⟨S256x256, .f32⟩
  | 79 => ⟨S1x64x64, .f32⟩
  | 80 => ⟨S64x64, .f32⟩
  | 81 => ⟨S_, .i32⟩
  | 82 => ⟨S_, .i32⟩
  | 83 => ⟨S256x256, .f32⟩
  | 84 => ⟨S1x64x64, .f32⟩
  | 85 => ⟨S64x64, .f32⟩
  | 86 => ⟨S_, .i32⟩
  | 87 => ⟨S_, .i32⟩
  | 88 => ⟨S256x256, .f32⟩
  | 89 => ⟨S256x256, .bf16⟩
  | 90 => ⟨S16384x1024, .bf16⟩
  | 91 => ⟨S1024x1024, .bf16⟩
  | 92 => ⟨S1024x1024, .bf16⟩
  | 93 => ⟨S16384x1024, .bf16⟩
  | 94 => ⟨S16384x1024, .bf16⟩
  | 95 => ⟨S256x256, .bf16⟩
  | 96 => ⟨S1x256, .f32⟩
  | 97 => ⟨S_, .i32⟩
  | 98 => ⟨S_, .f32⟩
  | 99 => ⟨S8x384, .f32⟩
  | 100 => ⟨S_, .i32⟩
  | 101 => ⟨S_, .f32⟩
  | 102 => ⟨S32x384, .f32⟩
  | 103 => ⟨S1x384, .f32⟩
  | 104 => ⟨S1x384, .f32⟩
  | 105 => ⟨S16384x2176, .bf16⟩
  | 106 => ⟨S1024x2176, .f32⟩
  | 107 => ⟨S1024x1024, .f32⟩
  | 108 => ⟨S256x256, .f32⟩
  | 109 => ⟨S1x256, .f32⟩
  | 110 => ⟨S8x384, .f32⟩
  | 111 => ⟨S32x384, .f32⟩
  | 112 => ⟨S1x384, .f32⟩
  | 113 => ⟨S1x384, .f32⟩
  | 114 => ⟨S1x384, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S32x2176, .f32⟩
  | .local _ .vmem, ⟨1, _⟩ => ⟨S32x2176, .f32⟩
  | .local _ .vmem, ⟨2, _⟩ => ⟨S256x2176, .f32⟩
  | .local _ .vmem, ⟨3, _⟩ => ⟨S256x2176, .f32⟩
  | .local _ .vmem, ⟨4, _⟩ => ⟨S32x2176, .f32⟩
  | .local _ .vmem, ⟨5, _⟩ => ⟨S32x2176, .f32⟩
  | .local _ .vmem, ⟨6, _⟩ => ⟨S32x1024, .bf16⟩
  | .local _ .vmem, ⟨7, _⟩ => ⟨S32x1024, .bf16⟩
  | .local _ .vmem, ⟨8, _⟩ => ⟨S256x1024, .bf16⟩
  | .local _ .vmem, ⟨9, _⟩ => ⟨S256x1024, .bf16⟩
  | .local _ .vmem, ⟨10, _⟩ => ⟨S32x1024, .bf16⟩
  | .local _ .vmem, ⟨11, _⟩ => ⟨S32x1024, .bf16⟩
  | .local _ .vmem, ⟨12, _⟩ => ⟨S32x384, .f32⟩
  | .local _ .vmem, ⟨13, _⟩ => ⟨S32x384, .f32⟩
  | .local _ .vmem, ⟨14, _⟩ => ⟨S256x384, .f32⟩
  | .local _ .vmem, ⟨15, _⟩ => ⟨S256x384, .f32⟩
  | .local _ .vmem, ⟨16, _⟩ => ⟨S32x384, .f32⟩
  | .local _ .vmem, ⟨17, _⟩ => ⟨S32x384, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S1024x1024, .bf16⟩
  | .local _ .vmem, ⟨23, _⟩ => ⟨S256x256, .bf16⟩
  | .local _ .vmem, ⟨24, _⟩ => ⟨S256x256, .bf16⟩
  | .local _ .vmem, ⟨25, _⟩ => ⟨S1x256, .f32⟩
  | .local _ .vmem, ⟨26, _⟩ => ⟨S8x384, .f32⟩
  | .local _ .vmem, ⟨27, _⟩ => ⟨S32x384, .f32⟩
  | .local _ .vmem, ⟨28, _⟩ => ⟨S1x384, .f32⟩
  | .local _ .vmem, ⟨29, _⟩ => ⟨S1x384, .f32⟩
  | .local _ .vmem, ⟨30, _⟩ => ⟨S256x2176, .bf16⟩
  | .local _ .vmem, ⟨31, _⟩ => ⟨S256x2176, .bf16⟩
  | .local _ .vmem, ⟨32, _⟩ => ⟨S1024x2176, .f32⟩
  | .local _ .vmem, ⟨33, _⟩ => ⟨S1024x1024, .f32⟩
  | .local _ .vmem, ⟨34, _⟩ => ⟨S256x256, .f32⟩
  | .local _ .vmem, ⟨35, _⟩ => ⟨S1x256, .f32⟩
  | .local _ .vmem, ⟨36, _⟩ => ⟨S8x384, .f32⟩
  | .local _ .vmem, ⟨37, _⟩ => ⟨S32x384, .f32⟩
  | .local _ .vmem, ⟨38, _⟩ => ⟨S1x384, .f32⟩
  | .local _ .vmem, ⟨39, _⟩ => ⟨S1x384, .f32⟩
  | .local _ .vmem, ⟨40, _⟩ => ⟨S1x384, .f32⟩
  | .local _ .vmem, ⟨41, _⟩ => ⟨S320x2176, .f32⟩
  | .local _ .vmem, ⟨42, _⟩ => ⟨S320x1024, .bf16⟩
  | .local _ .vmem, ⟨43, _⟩ => ⟨S320x1024, .f32⟩
  | .local _ .vmem, ⟨44, _⟩ => ⟨S320x384, .f32⟩
  | .local _ .vmem, ⟨45, _⟩ => ⟨S320x384, .f32⟩
  | .local _ .vmem, ⟨46, _⟩ => ⟨S320x384, .f32⟩
  | .local _ .vmem, ⟨47, _⟩ => ⟨S320x384, .f32⟩
  | .local _ .vmem, ⟨48, _⟩ => ⟨S320x384, .f32⟩
  | .local _ .vmem, ⟨49, _⟩ => ⟨S320x256, .f32⟩
  | .local _ .vmem, ⟨50, _⟩ => ⟨S312x384, .f32⟩
  | .local _ .vmem, ⟨51, _⟩ => ⟨S8x312x384, .f32⟩
  | .local _ .vmem, ⟨52, _⟩ => ⟨S256x384, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_c_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v35 : Ref sig .tc := ⟨.hbm, 68, rfl⟩
abbrev main_cst_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_8 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_9 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_v65 : Ref sig .tc := ⟨.hbm, 105, rfl⟩
abbrev main_cst_10 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_11 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_12 : Ref sig .tc := ⟨.hbm, 116, rfl⟩
abbrev main_v74 : Ref sig .tc := ⟨.hbm, 117, rfl⟩
abbrev main_v75 : Ref sig .tc := ⟨.hbm, 118, rfl⟩
abbrev main_cst_13 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_14 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_15 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_v95 : Ref sig .tc := ⟨.hbm, 145, rfl⟩
abbrev main_cst_16 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_17 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_18 : Ref sig .tc := ⟨.hbm, 156, rfl⟩
abbrev main_v104 : Ref sig .tc := ⟨.hbm, 157, rfl⟩
abbrev main_v105 : Ref sig .tc := ⟨.hbm, 158, rfl⟩
abbrev main_cst_19 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_20 : Ref sig .tc := ⟨.hbm, 165, rfl⟩
abbrev main_v111 : Ref sig .tc := ⟨.hbm, 166, rfl⟩
abbrev main_v112 : Ref sig .tc := ⟨.hbm, 167, rfl⟩
abbrev main_cst_21 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_22 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_call5_v0 : Ref sig .tc := ⟨.hbm, 185, rfl⟩
abbrev main_call5_v1 : Ref sig .tc := ⟨.hbm, 186, rfl⟩
abbrev main_call5_cst : Ref sig .tc := ⟨.hbm, 187, rfl⟩
abbrev main_call5_v2 : Ref sig .tc := ⟨.hbm, 188, rfl⟩
abbrev main_call5_v3 : Ref sig .tc := ⟨.hbm, 189, rfl⟩
abbrev main_call5_cst_0 : Ref sig .tc := ⟨.hbm, 190, rfl⟩
abbrev main_call5_v4 : Ref sig .tc := ⟨.hbm, 191, rfl⟩
abbrev main_call5_v5 : Ref sig .tc := ⟨.hbm, 192, rfl⟩
abbrev main_v128 : Ref sig .tc := ⟨.hbm, 193, rfl⟩
abbrev main_v129 : Ref sig .tc := ⟨.hbm, 194, rfl⟩
abbrev main_cst_23 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_c_24 : Ref sig .tc := ⟨.hbm, 199, rfl⟩
abbrev main_c_25 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_c_26 : Ref sig .tc := ⟨.hbm, 204, rfl⟩
abbrev main_c_27 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_c_28 : Ref sig .tc := ⟨.hbm, 209, rfl⟩
abbrev main_c_29 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_c_30 : Ref sig .tc := ⟨.hbm, 214, rfl⟩
abbrev main_c_31 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_c_32 : Ref sig .tc := ⟨.hbm, 225, rfl⟩
abbrev main_call6_v0 : Ref sig .tc := ⟨.hbm, 226, rfl⟩
abbrev main_v151 : Ref sig .tc := ⟨.hbm, 227, rfl⟩
abbrev main_c_33 : Ref sig .tc := ⟨.hbm, 228, rfl⟩
abbrev main_call7_v0 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155_0 : Ref sig .tc := ⟨.hbm, 233, rfl⟩
abbrev main_v155_1 : Ref sig .tc := ⟨.hbm, 234, rfl⟩
abbrev main_v155_2 : Ref sig .tc := ⟨.hbm, 235, rfl⟩
abbrev main_v155_3 : Ref sig .tc := ⟨.hbm, 236, rfl⟩
abbrev main_v155_4 : Ref sig .tc := ⟨.hbm, 237, rfl⟩
abbrev main_v155_5 : Ref sig .tc := ⟨.hbm, 238, rfl⟩
abbrev main_v155_6 : Ref sig .tc := ⟨.hbm, 239, rfl⟩
abbrev main_v155_7 : Ref sig .tc := ⟨.hbm, 240, rfl⟩
abbrev main_v155_8 : Ref sig .tc := ⟨.hbm, 241, rfl⟩
abbrev main_v155_9 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg28_0 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_scratch5 : Ref sig .tc := ⟨.vmem, 46, rfl⟩
abbrev cc0_scratch6 : Ref sig .tc := ⟨.vmem, 47, rfl⟩
abbrev cc0_scratch7 : Ref sig .tc := ⟨.vmem, 48, rfl⟩
abbrev cc0_scratch8 : Ref sig .tc := ⟨.vmem, 49, rfl⟩
abbrev cc0_scratch9 : Ref sig .tc := ⟨.vmem, 50, rfl⟩
abbrev cc0_scratch10 : Ref sig .tc := ⟨.vmem, 51, rfl⟩
abbrev cc0_scratch11 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem26_0 : DmaSem sig := 38
abbrev cc0_sem27_0 : DmaSem sig := 39
abbrev cc0_sem28_0 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x2176 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1024x2176 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x384 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S32x384 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x384 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x384 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== MixBwdRefIdeal.lean ====
abbrev S16384x1024 : Shape := ⟨2, ![16384, 1024]⟩
abbrev S1024x2176 : Shape := ⟨2, ![1024, 2176]⟩
abbrev S4x64x64 : Shape := ⟨3, ![4, 64, 64]⟩
abbrev S256 : Shape := ⟨1, ![256]⟩
abbrev S3x384 : Shape := ⟨2, ![3, 384]⟩
abbrev S31x384 : Shape := ⟨2, ![31, 384]⟩
abbrev S384 : Shape := ⟨1, ![384]⟩
abbrev S1024x1024 : Shape := ⟨2, ![1024, 1024]⟩
abbrev S16384x2176 : Shape := ⟨2, ![16384, 2176]⟩
abbrev S16384x256 : Shape := ⟨2, ![16384, 256]⟩
abbrev S16384x384 : Shape := ⟨2, ![16384, 384]⟩
abbrev S_ : Shape := ⟨0, ![]⟩
abbrev S64 : Shape := ⟨1, ![64]⟩
abbrev S16384 : Shape := ⟨1, ![16384]⟩
abbrev S16384x1 : Shape := ⟨2, ![16384, 1]⟩
abbrev S1x256 : Shape := ⟨2, ![1, 256]⟩
abbrev S16384x1x256 : Shape := ⟨3, ![16384, 1, 256]⟩
abbrev S1x16384x1 : Shape := ⟨3, ![1, 16384, 1]⟩
abbrev S16384x16384x256 : Shape := ⟨3, ![16384, 16384, 256]⟩
abbrev S16384x4x64 : Shape := ⟨3, ![16384, 4, 64]⟩
abbrev S4x64x16384 : Shape := ⟨3, ![4, 64, 16384]⟩
abbrev S3 : Shape := ⟨1, ![3]⟩
abbrev S3x1x1 : Shape := ⟨3, ![3, 1, 1]⟩
abbrev S3x16384x1 : Shape := ⟨3, ![3, 16384, 1]⟩
abbrev S1x1x16384 : Shape := ⟨3, ![1, 1, 16384]⟩
abbrev S3x16384x16384 : Shape := ⟨3, ![3, 16384, 16384]⟩
abbrev S3x16384x16384x1 : Shape := ⟨4, ![3, 16384, 16384, 1]⟩
abbrev S3x16384x16384x384 : Shape := ⟨4, ![3, 16384, 16384, 384]⟩
abbrev S3x16384x384 : Shape := ⟨3, ![3, 16384, 384]⟩
abbrev S3x1x384 : Shape := ⟨3, ![3, 1, 384]⟩
abbrev S31 : Shape := ⟨1, ![31]⟩
abbrev S31x1x1 : Shape := ⟨3, ![31, 1, 1]⟩
abbrev S31x16384x1 : Shape := ⟨3, ![31, 16384, 1]⟩
abbrev S31x16384x16384 : Shape := ⟨3, ![31, 16384, 16384]⟩
abbrev S31x16384x16384x1 : Shape := ⟨4, ![31, 16384, 16384, 1]⟩
abbrev S31x16384x16384x384 : Shape := ⟨4, ![31, 16384, 16384, 384]⟩
abbrev S31x16384x384 : Shape := ⟨3, ![31, 16384, 384]⟩
abbrev S31x1x384 : Shape := ⟨3, ![31, 1, 384]⟩
abbrev S1x384 : Shape := ⟨2, ![1, 384]⟩

abbrev nBuf : Space → Nat
  | .hbm => 273
  | .vmem => 0
  | .smem => 0
  | _ => 0

abbrev hbmTy0_0 (i : Nat) : BufTy := match i % 128 with
  | 0 => ⟨S16384x1024, .f32⟩
  | 1 => ⟨S1024x2176, .f32⟩
  | 2 => ⟨S4x64x64, .f32⟩
  | 3 => ⟨S256, .f32⟩
  | 4 => ⟨S3x384, .f32⟩
  | 5 => ⟨S31x384, .f32⟩
  | 6 => ⟨S384, .f32⟩
  | 7 => ⟨S384, .f32⟩
  | 8 => ⟨S384, .f32⟩
  | 9 => ⟨S1024x1024, .f32⟩
  | 10 => ⟨S16384x1024, .f32⟩
  | 11 => ⟨S16384x2176, .f32⟩
  | 12 => ⟨S16384x256, .f32⟩
  | 13 => ⟨S16384x384, .f32⟩
  | 14 => ⟨S16384x384, .f32⟩
  | 15 => ⟨S16384x384, .f32⟩
  | 16 => ⟨S16384x384, .f32⟩
  | 17 => ⟨S16384x384, .f32⟩
  | 18 => ⟨S_, .i32⟩
  | 19 => ⟨S64, .i32⟩
  | 20 => ⟨S_, .i32⟩
  | 21 => ⟨S64, .i32⟩
  | 22 => ⟨S_, .i32⟩
  | 23 => ⟨S64, .i32⟩
  | 24 => ⟨S_, .i32⟩
  | 25 => ⟨S64, .i32⟩
  | 26 => ⟨S256, .i32⟩
  | 27 => ⟨S16384, .i32⟩
  | 28 => ⟨S16384x1, .i32⟩
  | 29 => ⟨S1x256, .i32⟩
  | 30 => ⟨S16384x256, .i32⟩
  | 31 => ⟨S16384x256, .i32⟩
  | 32 => ⟨S16384x256, .i32⟩
  | 33 => ⟨S_, .i32⟩
  | 34 => ⟨S_, .i32⟩
  | 35 => ⟨S_, .i32⟩
  | 36 => ⟨S16384x256, .i32⟩
  | 37 => ⟨S16384x256, .i32⟩
  | 38 => ⟨S_, .i32⟩
  | 39 => ⟨S16384x256, .i32⟩
  | 40 => ⟨S16384x256, .i32⟩
  | 41 => ⟨S1x256, .i32⟩
  | 42 => ⟨S16384x256, .i32⟩
  | 43 => ⟨S16384x256, .i32⟩
  | 44 => ⟨S16384x256, .i32⟩
  | 45 => ⟨S_, .i32⟩
  | 46 => ⟨S_, .i32⟩
  | 47 => ⟨S_, .i32⟩
  | 48 => ⟨S16384x256, .i32⟩
  | 49 => ⟨S16384x256, .i32⟩
  | 50 => ⟨S_, .i32⟩
  | 51 => ⟨S16384x256, .i32⟩
  | 52 => ⟨S16384x256, .i32⟩
  | 53 => ⟨S16384x1x256, .i32⟩
  | 54 => ⟨S1x16384x1, .i32⟩
  | 55 => ⟨S16384x16384x256, .i32⟩
  | 56 => ⟨S16384x16384x256, .i32⟩
  | 57 => ⟨S16384x16384x256, .i1⟩
  | 58 => ⟨S16384x1x256, .i32⟩
  | 59 => ⟨S1x16384x1, .i32⟩
  | 60 => ⟨S16384x16384x256, .i32⟩
  | 61 => ⟨S16384x16384x256, .i32⟩
  | 62 => ⟨S16384x16384x256, .i1⟩
  | 63 => ⟨S16384x16384x256, .i1⟩
  | 64 => ⟨S_, .f32⟩
  | 65 => ⟨S_, .f32⟩
  | 66 => ⟨S16384x16384x256, .f32⟩
  | 67 => ⟨S16384x16384x256, .f32⟩
  | 68 => ⟨S16384x16384x256, .f32⟩
  | 69 => ⟨S_, .f32⟩
  | 70 => ⟨S16384x256, .f32⟩
  | 71 => ⟨S16384x256, .i32⟩
  | 72 => ⟨S16384x256, .f32⟩
  | 73 => ⟨S16384x256, .f32⟩
  | 74 => ⟨S16384x256, .f32⟩
  | 75 => ⟨S16384x4x64, .f32⟩
  | 76 => ⟨S4x64x16384, .f32⟩
  | 77 => ⟨S16384x4x64, .f32⟩
  | 78 => ⟨S16384x256, .f32⟩
  | 79 => ⟨S1x256, .f32⟩
  | 80 => ⟨S16384x256, .f32⟩
  | 81 => ⟨S16384x256, .f32⟩
  | 82 => ⟨S16384x384, .f32⟩
  | 83 => ⟨S3, .i32⟩
  | 84 => ⟨S3x1x1, .i32⟩
  | 85 => ⟨S16384, .i32⟩
  | 86 => ⟨S16384x1, .i32⟩
  | 87 => ⟨S16384, .i32⟩
  | 88 => ⟨S_, .i32⟩
  | 89 => ⟨S16384, .i32⟩
  | 90 => ⟨S16384, .i32⟩
  | 91 => ⟨S1x16384x1, .i32⟩
  | 92 => ⟨S3x16384x1, .i32⟩
  | 93 => ⟨S3x16384x1, .i32⟩
  | 94 => ⟨S3x16384x1, .i32⟩
  | 95 => ⟨S1x1x16384, .i32⟩
  | 96 => ⟨S3x16384x16384, .i32⟩
  | 97 => ⟨S3x16384x16384, .i32⟩
  | 98 => ⟨S3x16384x16384, .i1⟩
  | 99 => ⟨S3x16384x16384x1, .i1⟩
  | 100 => ⟨S_, .f32⟩
  | 101 => ⟨S_, .f32⟩
  | 102 => ⟨S3x16384x16384x384, .i1⟩
  | 103 => ⟨S3x16384x16384x384, .f32⟩
  | 104 => ⟨S3x16384x16384x384, .f32⟩
  | 105 => ⟨S3x16384x16384x384, .f32⟩
  | 106 => ⟨S_, .f32⟩
  | 107 => ⟨S3x16384x384, .f32⟩
  | 108 => ⟨S3x1x384, .f32⟩
  | 109 => ⟨S3x16384x384, .f32⟩
  | 110 => ⟨S3x16384x384, .f32⟩
  | 111 => ⟨S_, .f32⟩
  | 112 => ⟨S16384x384, .f32⟩
  | 113 => ⟨S16384x384, .f32⟩
  | 114 => ⟨S16384x384, .f32⟩
  | 115 => ⟨S16384x384, .f32⟩
  | 116 => ⟨S_, .f32⟩
  | 117 => ⟨S16384x384, .f32⟩
  | 118 => ⟨S16384x384, .f32⟩
  | 119 => ⟨S_, .f32⟩
  | 120 => ⟨S16384x384, .f32⟩
  | 121 => ⟨S16384x384, .f32⟩
  | 122 => ⟨S16384x384, .f32⟩
  | 123 => ⟨S31, .i32⟩
  | 124 => ⟨S31x1x1, .i32⟩
  | 125 => ⟨S16384, .i32⟩
  | 126 => ⟨S16384x1, .i32⟩
  | 127 => ⟨S16384, .i32⟩
  | _ => ⟨S16384x1024, .f32⟩

abbrev hbmTy0_1 (i : Nat) : BufTy := match i % 128 with
  | 0 => ⟨S_, .i32⟩
  | 1 => ⟨S16384, .i32⟩
  | 2 => ⟨S16384, .i32⟩
  | 3 => ⟨S1x16384x1, .i32⟩
  | 4 => ⟨S31x16384x1, .i32⟩
  | 5 => ⟨S31x16384x1, .i32⟩
  | 6 => ⟨S31x16384x1, .i32⟩
  | 7 => ⟨S1x1x16384, .i32⟩
  | 8 => ⟨S31x16384x16384, .i32⟩
  | 9 => ⟨S31x16384x16384, .i32⟩
  | 10 => ⟨S31x16384x16384, .i1⟩
  | 11 => ⟨S31x16384x16384x1, .i1⟩
  | 12 => ⟨S_, .f32⟩
  | 13 => ⟨S_, .f32⟩
  | 14 => ⟨S31x16384x16384x384, .i1⟩
  | 15 => ⟨S31x16384x16384x384, .f32⟩
  | 16 => ⟨S31x16384x16384x384, .f32⟩
  | 17 => ⟨S31x16384x16384x384, .f32⟩
  | 18 => ⟨S_, .f32⟩
  | 19 => ⟨S31x16384x384, .f32⟩
  | 20 => ⟨S31x1x384, .f32⟩
  | 21 => ⟨S31x16384x384, .f32⟩
  | 22 => ⟨S31x16384x384, .f32⟩
  | 23 => ⟨S_, .f32⟩
  | 24 => ⟨S16384x384, .f32⟩
  | 25 => ⟨S1x384, .f32⟩
  | 26 => ⟨S16384x384, .f32⟩
  | 27 => ⟨S16384x384, .f32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S16384x384, .f32⟩
  | 35 => ⟨S16384x384, .f32⟩
  | 36 => ⟨S16384x384, .f32⟩
  | 37 => ⟨S_, .f32⟩
  | 38 => ⟨S16384x384, .f32⟩
  | 39 => ⟨S16384x384, .f32⟩
  | 40 => ⟨S_, .f32⟩
  | 41 => ⟨S16384, .f32⟩
  | 42 => ⟨S16384x1, .f32⟩
  | 43 => ⟨S_, .f32⟩
  | 44 => ⟨S16384x1, .f32⟩
  | 45 => ⟨S16384x1, .f32⟩
  | 46 => ⟨S16384x384, .f32⟩
  | 47 => ⟨S16384x384, .f32⟩
  | 48 => ⟨S_, .f32⟩
  | 49 => ⟨S16384x1, .f32⟩
  | 50 => ⟨S16384x1, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S16384x384, .f32⟩
  | 57 => ⟨S16384x384, .f32⟩
  | 58 => ⟨S1x384, .f32⟩
  | 59 => ⟨S16384x384, .f32⟩
  | 60 => ⟨S16384x384, .f32⟩
  | 61 => ⟨S1x384, .f32⟩
  | 62 => ⟨S16384x384, .f32⟩
  | 63 => ⟨S16384x384, .f32⟩
  | 64 => ⟨S16384x384, .f32⟩
  | 65 => ⟨S16384x384, .f32⟩
  | 66 => ⟨S_, .f32⟩
  | 67 => ⟨S16384x384, .f32⟩
  | 68 => ⟨S16384x384, .f32⟩
  | 69 => ⟨S_, .f32⟩
  | 70 => ⟨S16384x384, .f32⟩
  | 71 => ⟨S16384x384, .f32⟩
  | 72 => ⟨S_, .f32⟩
  | 73 => ⟨S16384x384, .f32⟩
  | 74 => ⟨S16384x384, .f32⟩
  | 75 => ⟨S16384x384, .f32⟩
  | 76 => ⟨S16384x384, .f32⟩
  | 77 => ⟨S16384x1024, .f32⟩
  | 78 => ⟨S_, .f32⟩
  | 79 => ⟨S16384x256, .f32⟩
  | 80 => ⟨S_, .f32⟩
  | 81 => ⟨S16384x384, .f32⟩
  | 82 => ⟨S16384x1024, .f32⟩
  | 83 => ⟨S1024x1024, .f32⟩
  | 84 => ⟨S1024x1024, .f32⟩
  | 85 => ⟨S16384x1024, .f32⟩
  | 86 => ⟨S16384x256, .f32⟩
  | 87 => ⟨S16384x384, .f32⟩
  | 88 => ⟨S16384x384, .f32⟩
  | 89 => ⟨S16384x384, .f32⟩
  | 90 => ⟨S16384x384, .f32⟩
  | 91 => ⟨S16384x384, .f32⟩
  | 92 => ⟨S16384x384, .f32⟩
  | 93 => ⟨S_, .f32⟩
  | 94 => ⟨S384, .f32⟩
  | 95 => ⟨S1x384, .f32⟩
  | 96 => ⟨S_, .f32⟩
  | 97 => ⟨S384, .f32⟩
  | 98 => ⟨S16384x384, .f32⟩
  | 99 => ⟨S_, .f32⟩
  | 100 => ⟨S384, .f32⟩
  | 101 => ⟨S1x384, .f32⟩
  | 102 => ⟨S16384x384, .f32⟩
  | 103 => ⟨S16384x384, .f32⟩
  | 104 => ⟨S_, .f32⟩
  | 105 => ⟨S384, .f32⟩
  | 106 => ⟨S16384x384, .f32⟩
  | 107 => ⟨S_, .f32⟩
  | 108 => ⟨S16384, .f32⟩
  | 109 => ⟨S16384x1, .f32⟩
  | 110 => ⟨S16384x384, .f32⟩
  | 111 => ⟨S16384x384, .f32⟩
  | 112 => ⟨S16384x1, .f32⟩
  | 113 => ⟨S16384x384, .f32⟩
  | 114 => ⟨S_, .f32⟩
  | 115 => ⟨S16384, .f32⟩
  | 116 => ⟨S16384x1, .f32⟩
  | 117 => ⟨S_, .f32⟩
  | 118 => ⟨S16384x1, .f32⟩
  | 119 => ⟨S16384x1, .f32⟩
  | 120 => ⟨S_, .f32⟩
  | 121 => ⟨S16384, .f32⟩
  | 122 => ⟨S16384x384, .f32⟩
  | 123 => ⟨S16384x384, .f32⟩
  | 124 => ⟨S16384x384, .f32⟩
  | 125 => ⟨S_, .f32⟩
  | 126 => ⟨S16384, .f32⟩
  | 127 => ⟨S16384x1, .f32⟩
  | _ => ⟨S16384x1024, .f32⟩

abbrev hbmTy0_2 (i : Nat) : BufTy := match i % 128 with
  | 0 => ⟨S16384x384, .f32⟩
  | 1 => ⟨S16384x1, .f32⟩
  | 2 => ⟨S_, .f32⟩
  | 3 => ⟨S16384x1, .f32⟩
  | 4 => ⟨S16384x1, .f32⟩
  | 5 => ⟨S_, .f32⟩
  | 6 => ⟨S16384, .f32⟩
  | 7 => ⟨S16384x384, .f32⟩
  | 8 => ⟨S16384x384, .f32⟩
  | 9 => ⟨S_, .f32⟩
  | 10 => ⟨S384, .f32⟩
  | 11 => ⟨S1x384, .f32⟩
  | 12 => ⟨S_, .f32⟩
  | 13 => ⟨S384, .f32⟩
  | 14 => ⟨S1x384, .f32⟩
  | 15 => ⟨S1x384, .f32⟩
  | 16 => ⟨S1x384, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_c_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v35 : Ref sig .tc := ⟨.hbm, 68, rfl⟩
abbrev main_cst_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_8 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_9 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_v65 : Ref sig .tc := ⟨.hbm, 105, rfl⟩
abbrev main_cst_10 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_11 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_12 : Ref sig .tc := ⟨.hbm, 116, rfl⟩
abbrev main_v74 : Ref sig .tc := ⟨.hbm, 117, rfl⟩
abbrev main_v75 : Ref sig .tc := ⟨.hbm, 118, rfl⟩
abbrev main_cst_13 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_c_14 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_15 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_v95 : Ref sig .tc := ⟨.hbm, 145, rfl⟩
abbrev main_cst_16 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_17 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_18 : Ref sig .tc := ⟨.hbm, 156, rfl⟩
abbrev main_v104 : Ref sig .tc := ⟨.hbm, 157, rfl⟩
abbrev main_v105 : Ref sig .tc := ⟨.hbm, 158, rfl⟩
abbrev main_cst_19 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_20 : Ref sig .tc := ⟨.hbm, 165, rfl⟩
abbrev main_v111 : Ref sig .tc := ⟨.hbm, 166, rfl⟩
abbrev main_v112 : Ref sig .tc := ⟨.hbm, 167, rfl⟩
abbrev main_cst_21 : Ref sig .tc := ⟨.hbm, 168, rfl⟩
abbrev main_v113 : Ref sig .tc := ⟨.hbm, 169, rfl⟩
abbrev main_v114 : Ref sig .tc := ⟨.hbm, 170, rfl⟩
abbrev main_cst_22 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_23 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_24 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_call5_v0 : Ref sig .tc := ⟨.hbm, 192, rfl⟩
abbrev main_call5_v1 : Ref sig .tc := ⟨.hbm, 193, rfl⟩
abbrev main_call5_cst : Ref sig .tc := ⟨.hbm, 194, rfl⟩
abbrev main_call5_v2 : Ref sig .tc := ⟨.hbm, 195, rfl⟩
abbrev main_call5_v3 : Ref sig .tc := ⟨.hbm, 196, rfl⟩
abbrev main_call5_cst_0 : Ref sig .tc := ⟨.hbm, 197, rfl⟩
abbrev main_call5_v4 : Ref sig .tc := ⟨.hbm, 198, rfl⟩
abbrev main_v133_2 : Ref sig .tc := ⟨.hbm, 199, rfl⟩
abbrev main_call5_cst_1 : Ref sig .tc := ⟨.hbm, 200, rfl⟩
abbrev main_call5_v6 : Ref sig .tc := ⟨.hbm, 201, rfl⟩
abbrev main_call5_v7 : Ref sig .tc := ⟨.hbm, 202, rfl⟩
abbrev main_v133_1 : Ref sig .tc := ⟨.hbm, 203, rfl⟩
abbrev main_v133_0 : Ref sig .tc := ⟨.hbm, 204, rfl⟩
abbrev main_v134 : Ref sig .tc := ⟨.hbm, 205, rfl⟩
abbrev main_cst_25 : Ref sig .tc := ⟨.hbm, 206, rfl⟩
abbrev main_v135 : Ref sig .tc := ⟨.hbm, 207, rfl⟩
abbrev main_cst_26 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_call6_v0 : Ref sig .tc := ⟨.hbm, 217, rfl⟩
abbrev main_call6_v1 : Ref sig .tc := ⟨.hbm, 218, rfl⟩
abbrev main_call6_v2 : Ref sig .tc := ⟨.hbm, 219, rfl⟩
abbrev main_v144 : Ref sig .tc := ⟨.hbm, 220, rfl⟩
abbrev main_cst_27 : Ref sig .tc := ⟨.hbm, 221, rfl⟩
abbrev main_v145 : Ref sig .tc := ⟨.hbm, 222, rfl⟩
abbrev main_v146 : Ref sig .tc := ⟨.hbm, 223, rfl⟩
abbrev main_cst_28 : Ref sig .tc := ⟨.hbm, 224, rfl⟩
abbrev main_v147 : Ref sig .tc := ⟨.hbm, 225, rfl⟩
abbrev main_v148 : Ref sig .tc := ⟨.hbm, 226, rfl⟩
abbrev main_cst_29 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_cst_30 : Ref sig .tc := ⟨.hbm, 232, rfl⟩
abbrev main_v153 : Ref sig .tc := ⟨.hbm, 233, rfl⟩
abbrev main_v154 : Ref sig .tc := ⟨.hbm, 234, rfl⟩
abbrev main_cst_31 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_cst_32 : Ref sig .tc := ⟨.hbm, 242, rfl⟩
abbrev main_v161 : Ref sig .tc := ⟨.hbm, 243, rfl⟩
abbrev main_v162 : Ref sig .tc := ⟨.hbm, 244, rfl⟩
abbrev main_cst_33 : Ref sig .tc := ⟨.hbm, 245, rfl⟩
abbrev main_v163 : Ref sig .tc := ⟨.hbm, 246, rfl⟩
abbrev main_v164 : Ref sig .tc := ⟨.hbm, 247, rfl⟩
abbrev main_cst_34 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_cst_35 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_cst_36 : Ref sig .tc := ⟨.hbm, 258, rfl⟩
abbrev main_v173 : Ref sig .tc := ⟨.hbm, 259, rfl⟩
abbrev main_v174 : Ref sig .tc := ⟨.hbm, 260, rfl⟩
abbrev main_cst_37 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_cst_38 : Ref sig .tc := ⟨.hbm, 265, rfl⟩
abbrev main_v178 : Ref sig .tc := ⟨.hbm, 266, rfl⟩
abbrev main_v179 : Ref sig .tc := ⟨.hbm, 267, rfl⟩
abbrev main_cst_39 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩

abbrev nD : Nat := 1
abbrev τ : Topo := Topo.v7x

variable {F : FTy → Type} [FloatOps F]
-- ==== AdamW.lean ====
abbrev S8x4x704x1024 : Shape := ⟨4, ![8, 4, 704, 1024]⟩
abbrev S4x704x1024 : Shape := ⟨3, ![4, 704, 1024]⟩
abbrev S8x1x64x1024 : Shape := ⟨4, ![8, 1, 64, 1024]⟩
abbrev S1x64x1024 : Shape := ⟨3, ![1, 64, 1024]⟩
abbrev S1x1x64x1024 : Shape := ⟨4, ![1, 1, 64, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x4x704x1024, .bf16⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .local _ .vmem, ⟨0, _⟩ => ⟨S8x1x64x1024, .bf16⟩
  | .local _ .vmem, ⟨1, _⟩ => ⟨S8x1x64x1024, .bf16⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | _, _ => ⟨S8x4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWRefIdeal.lean ====
abbrev S8x4x704x1024 : Shape := ⟨4, ![8, 4, 704, 1024]⟩
abbrev S4x704x1024 : Shape := ⟨3, ![4, 704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x704x1024, .bf16⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S8x4x704x1024, .f32⟩
  | .hbm, ⟨5, _⟩ => ⟨S_, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S_, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .hbm, ⟨14, _⟩ => ⟨S_, .f32⟩
  | .hbm, ⟨15, _⟩ => ⟨S4x704x1024, .f32⟩
  | .hbm, ⟨16, _⟩ => ⟨S4x704x1024, .f32⟩
  | .hbm, ⟨17, _⟩ => ⟨S4x704x1024, .f32⟩
  | .hbm, ⟨18, _⟩ => ⟨S_, .f32⟩
  | .hbm, ⟨19, _⟩ => ⟨S4x704x1024, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S_, .f32⟩
  | .hbm, ⟨26, _⟩ => ⟨S4x704x1024, .f32⟩
  | .hbm, ⟨27, _⟩ => ⟨S4x704x1024, .f32⟩
  | .hbm, ⟨28, _⟩ => ⟨S4x704x1024, .f32⟩
  | .hbm, ⟨29, _⟩ => ⟨S_, .f32⟩
  | .hbm, ⟨30, _⟩ => ⟨S4x704x1024, .f32⟩
  | .hbm, ⟨31, _⟩ => ⟨S4x704x1024, .f32⟩
  | .hbm, ⟨32, _⟩ => ⟨S4x704x1024, .f32⟩
  | .hbm, ⟨33, _⟩ => ⟨S_, .f32⟩
  | .hbm, ⟨34, _⟩ => ⟨S4x704x1024, .f32⟩
  | .hbm, ⟨35, _⟩ => ⟨S4x704x1024, .f32⟩
  | .hbm, ⟨36, _⟩ => ⟨S4x704x1024, .f32⟩
  | .hbm, ⟨37, _⟩ => ⟨S_, .f32⟩
  | .hbm, ⟨38, _⟩ => ⟨S4x704x1024, .f32⟩
  | .hbm, ⟨39, _⟩ => ⟨S4x704x1024, .f32⟩
  | _, _ => ⟨S8x4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AddParts.lean ====
abbrev S16384x1024 : Shape := ⟨2, ![16384, 1024]⟩
abbrev S4x16384x1024 : Shape := ⟨3, ![4, 16384, 1024]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .bf16⟩
  | .hbm, ⟨2, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S512x1024, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddPartsRefIdeal.lean ====
abbrev S16384x1024 : Shape := ⟨2, ![16384, 1024]⟩
abbrev S4x16384x1024 : Shape := ⟨3, ![4, 16384, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .bf16⟩
  | .hbm, ⟨2, _⟩ => ⟨S4x16384x1024, .f32⟩
  | .hbm, ⟨3, _⟩ => ⟨S_, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Norm.lean ====
/- The layer norm of a row of reals and its derivative: the two-mean form and the chain-rule form are equal. -/
module

public import Idealize.ShloMosaic.PureOps.Ideal

@[expose] public section

noncomputable section

namespace Cert.Norm

variable {n : ℕ}

/-- The mean of a row. -/
def mean (v : Fin n → ℝ) : ℝ := (∑ i, v i) / (n : ℝ)

/-- A row less its mean. -/
def cen (v : Fin n → ℝ) (i : Fin n) : ℝ := v i - mean v

/-- The mean square of the row less its mean. -/
def var (v : Fin n → ℝ) : ℝ := mean fun i => cen v i * cen v i

/-- The reciprocal standard deviation, the variance shifted by `e`. -/
def rstd (e : ℝ) (v : Fin n → ℝ) : ℝ := (√(var v + e))⁻¹

/-- The normalised row. -/
def hat (e : ℝ) (v : Fin n → ℝ) (i : Fin n) : ℝ := cen v i * rstd e v

/-- The derivative of the layer norm to its row, by two means: `q` is the cotangent times the scale. -/
def grad (e : ℝ) (q v : Fin n → ℝ) (i : Fin n) : ℝ :=
  rstd e v * (q i - mean q - hat e v i * mean fun k => q k * hat e v k)

/-- The derivative of the layer norm to its row, as the chain rule through mean, variance and root spells it. -/
def chain (e : ℝ) (q v : Fin n → ℝ) (i : Fin n) : ℝ :=
  (q i * rstd e v + (∑ k, cen v k * q k) * (-(1 / 2) * (rstd e v / (var v + e))) / (n : ℝ) * (2 * cen v i))
    + ((∑ k, -(q k * rstd e v))
        + ∑ k, -((∑ k, cen v k * q k) * (-(1 / 2) * (rstd e v / (var v + e))) / (n : ℝ) * (2 * cen v k))) / (n : ℝ)

theorem var_nonneg (v : Fin n → ℝ) : 0 ≤ var v :=
  div_nonneg (Finset.sum_nonneg fun i _ => mul_self_nonneg _) (Nat.cast_nonneg n)

theorem var_pos {e : ℝ} (he : 0 < e) (v : Fin n → ℝ) : 0 < var v + e := add_pos_of_nonneg_of_pos (var_nonneg v) he

/-- A row less its mean sums to zero. -/
theorem sum_cen (hn : n ≠ 0) (v : Fin n → ℝ) : ∑ i, cen v i = 0 := by
  have h : (n : ℝ) ≠ 0 := Nat.cast_ne_zero.mpr hn
  simp only [cen, mean, Finset.sum_sub_distrib, Finset.sum_const, Finset.card_univ, Fintype.card_fin, nsmul_eq_mul]
  field_simp
  simp

/-- The two forms of the derivative agree. -/
theorem chain_eq_grad (hn : n ≠ 0) {e : ℝ} (he : 0 < e) (q v : Fin n → ℝ) (i : Fin n) : chain e q v i = grad e q v i := by
  have h : (n : ℝ) ≠ 0 := Nat.cast_ne_zero.mpr hn
  have hr : rstd e v * rstd e v = (var v + e)⁻¹ := by
    unfold rstd
    rw [← mul_inv, Real.mul_self_sqrt (var_pos he v).le]
  have hv : rstd e v / (var v + e) = rstd e v * (rstd e v * rstd e v) := by rw [hr, div_eq_mul_inv]
  unfold chain grad
  rw [hv]
  simp only [hat, mean, Finset.sum_neg_distrib, ← Finset.sum_mul, ← Finset.mul_sum, sum_cen hn]
  have hs : ∑ k, q k * (cen v k * rstd e v) = (∑ k, cen v k * q k) * rstd e v := by
    rw [Finset.sum_mul]; exact Finset.sum_congr rfl fun k _ => by ring
  rw [hs]
  field_simp
  ring

end Cert.Norm

end
-- ==== Proof.Consts.lean ====
/- The float constants of the programs, as the extended reals their patterns denote at the ideal instance. -/
module

public import Idealize.ShloMosaic.PureOps.Ideal

@[expose] public section

noncomputable section

namespace Cert.Consts

open Idealize.ShloMosaic

/-- The deep-norm factor as the programs round it to single precision. -/
def alpha : ℝ := 14107901 / 8388608

/-- The small number added to a variance, as the programs round it to single precision. -/
def eps : ℝ := 10995116 / 1099511627776

theorem eps_pos : 0 < eps := by unfold eps; norm_num

/-- The deep-norm factor's pattern denotes `alpha`. -/
theorem ofBits_alpha : Ideal.ofBits .f32 0x3FD744FD#32 = ((alpha : ℝ) : EReal) := by
  simp [Ideal.ofBits, Ideal.ieee, alpha, -EReal.coe_mul]; norm_num

/-- The pattern of the variance's addend denotes `eps`. -/
theorem ofBits_eps : Ideal.ofBits .f32 0x3727C5AC#32 = ((eps : ℝ) : EReal) := by
  simp [Ideal.ofBits, Ideal.ieee, eps, -EReal.coe_mul]; norm_num

/-- The pattern of `1024.0` denotes the real `1024`. -/
theorem ofBits_1024 : Ideal.ofBits .f32 0x44800000#32 = ((1024 : ℝ) : EReal) := by
  simp [Ideal.ofBits, Ideal.ieee, -EReal.coe_mul]; norm_num

/-- The pattern of `384.0` denotes the real `384`. -/
theorem ofBits_384 : Ideal.ofBits .f32 0x43C00000#32 = ((384 : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `0.5` denotes one half. -/
theorem ofBits_half : Ideal.ofBits .f32 0x3F000000#32 = ((1 / 2 : ℝ) : EReal) := by
  simp [Ideal.ofBits, Ideal.ieee, -EReal.coe_mul]; norm_num

/-- The half-precision pattern of `0.5` denotes one half. -/
theorem ofBits_half_bf16 : Ideal.ofBits .bf16 0x3F00#16 = ((1 / 2 : ℝ) : EReal) := by
  simp [Ideal.ofBits, Ideal.ieee, -EReal.coe_mul]; norm_num

/-- The pattern of `-0.5` denotes minus one half. -/
theorem ofBits_neg_half : Ideal.ofBits .f32 0xBF000000#32 = ((-(1 / 2) : ℝ) : EReal) := by
  simp [Ideal.ofBits, Ideal.ieee, -EReal.coe_mul]; norm_num

/-- The pattern of `0.5/1024` denotes that real. -/
theorem ofBits_half_mean : Ideal.ofBits .f32 0x3A000000#32 = ((1 / 2048 : ℝ) : EReal) := by
  simp [Ideal.ofBits, Ideal.ieee, -EReal.coe_mul]; norm_num

/-- The pattern of `1/1024` denotes that real. -/
theorem ofBits_inv_1024 : Ideal.ofBits .f32 0x3A800000#32 = ((1 / 1024 : ℝ) : EReal) := by
  simp [Ideal.ofBits, Ideal.ieee, -EReal.coe_mul]; norm_num

/-- The pattern of the positive infinity denotes the top element. -/
theorem ofBits_inf : Ideal.ofBits .f32 0x7F800000#32 = ⊤ := by
  simp [Ideal.ofBits, Ideal.ieee]

end Cert.Consts

end
-- ==== Proof.Reals.lean ====
/- Finite extended reals are reals: sums, quotients, square roots and the finiteness test read there. -/
module

public import Idealize.ShloMosaic.PureOps.Ideal
public import Idealize.ShloMosaic.Lib.Pointwise
public import proofs.«01_k».proof.Proof.Consts

@[expose] public section

noncomputable section

namespace Cert.Reals

open Idealize.ShloMosaic Cert.Consts

/-- A finite sum of reals, taken in the extended reals, is the real sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals is the real quotient where the divisor is not zero. -/
theorem div_real (x : ℝ) {y : ℝ} (h : y ≠ 0) : Ideal.div ((x : ℝ) : EReal) ((y : ℝ) : EReal) = ((x / y : ℝ) : EReal) := by
  rw [Ideal.div_coe h, ← EReal.coe_mul, mul_one_div]

/-- The ideal reciprocal square root of a positive real. -/
theorem rsqrt_real {x : ℝ} (h : 0 < x) : Ideal.rsqrt ((x : ℝ) : EReal) = (((√x)⁻¹ : ℝ) : EReal) := by
  rw [Ideal.rsqrt_coe, if_neg (not_lt.mpr h.le), if_neg h.ne']

/-- The pattern of `0.0` denotes the real `0`. -/
theorem zero_real : (0 : EReal) = ((0 : ℝ) : EReal) := EReal.coe_zero.symm

/-- The pattern of `1.0` denotes the real `1`. -/
theorem one_real : (1 : EReal) = ((1 : ℝ) : EReal) := EReal.coe_one.symm

/-- A number whose absolute value is below infinity is a real. -/
theorem real_of_abs_lt {x : EReal} (h : max x (-x) < ⊤) : ∃ r : ℝ, x = (r : EReal) := by
  induction x using EReal.rec with
  | bot => simp at h
  | coe r => exact ⟨r, rfl⟩
  | top => simp at h

/-- An array whose finiteness test is all ones holds reals. -/
theorem reals_of_test {S : Shape} {x b : FVec Ideal S .f32} (h : cmpf .olt (Host.absf x) b = fun _ => 1#1)
    (hb : ∀ i, b i = Ideal.ofBits .f32 0x7F800000#32) : ∃ f : S.Idx → ℝ, ∀ i, x i = (f i : EReal) := by
  have hi : ∀ i, ∃ r : ℝ, x i = (r : EReal) := fun i => real_of_abs_lt (by
    have e : Ideal.cmp .olt (max (x i) (-(x i))) (b i) = 1 := congrFun h i
    rw [hb, ofBits_inf] at e
    by_contra hn
    simp [Ideal.cmp, hn] at e)
  exact ⟨fun i => (hi i).choose, fun i => (hi i).choose_spec⟩

/-- The same of a matrix, by row and column. -/
theorem matrix_of_test {n k : ℕ} {x b : FVec Ideal ⟨2, ![n, k]⟩ .f32} (h : cmpf .olt (Host.absf x) b = fun _ => 1#1)
    (hb : ∀ i, b i = Ideal.ofBits .f32 0x7F800000#32) : ∃ f : Fin n → Fin k → ℝ, ∀ r l, x (ix2 r l) = (f r l : EReal) :=
  (reals_of_test h hb).elim fun f hf => ⟨fun r l => f (ix2 r l), fun r l => hf _⟩

/-- The same of a vector. -/
theorem vector_of_test {n : ℕ} {x b : FVec Ideal ⟨1, ![n]⟩ .f32} (h : cmpf .olt (Host.absf x) b = fun _ => 1#1)
    (hb : ∀ i, b i = Ideal.ofBits .f32 0x7F800000#32) : ∃ f : Fin n → ℝ, ∀ l, x (ix1 l) = (f l : EReal) :=
  (reals_of_test h hb).elim fun f hf => ⟨fun l => f (ix1 l), fun l => hf _⟩

/-- The same of a stack of matrices. -/
theorem stack_of_test {p n k : ℕ} {x b : FVec Ideal ⟨3, ![p, n, k]⟩ .f32} (h : cmpf .olt (Host.absf x) b = fun _ => 1#1)
    (hb : ∀ i, b i = Ideal.ofBits .f32 0x7F800000#32) : ∃ f : Fin p → Fin n → Fin k → ℝ, ∀ q r l, x (ix3 q r l) = (f q r l : EReal) :=
  (reals_of_test h hb).elim fun f hf => ⟨fun q r l => f (ix3 q r l), fun q r l => hf _⟩

end Cert.Reals

end
-- ==== Proof.LnBlock.lean ====
/- What one grid point of the layer-norm backward call computes from its blocks, where the blocks hold reals. -/
module

public import proofs.«01_k».proof.Proof.Gen.LnBwdIdeal.Skeleton
public import proofs.«01_k».proof.Proof.Norm
public import proofs.«01_k».proof.Proof.Reals
public import Idealize.ShloMosaic.Lib.Pointwise

@[expose] public section

set_option maxRecDepth 16384

noncomputable section

namespace Cert.LnBwdIdeal.Block

open Idealize.ShloMosaic Cert.LnBwdIdeal Cert.LnBwdIdeal.Gen Cert.Reals Cert.Consts Cert.Norm

theorem n_real : ((1024 : ℕ) : ℝ) = 1024 := by norm_num

variable {x : FVec Ideal S512x1024 .f32} {z : Fin 512 → Fin 1024 → ℝ}

/-- The centred block. -/
theorem pay6_real (hx : ∀ r l, x (ix2 r l) = (z r l : EReal)) (r : Fin 512) (l : Fin 1024) :
    k0_pay6 (F := Ideal) x (ix2 r l) = ((cen (z r) l : ℝ) : EReal) := by
  pointwise [k0_pay6]
  simp only [hx, sum_coe, ofBits_1024, div_real _ (by norm_num : (1024 : ℝ) ≠ 0), ← EReal.coe_sub, cen, mean, n_real]

/-- The reciprocal standard deviation of each row of the block. -/
theorem pay7_real (hx : ∀ r l, x (ix2 r l) = (z r l : EReal)) (r : Fin 512) (l : Fin 1) :
    k0_pay7 (F := Ideal) x (ix2 r l) = ((rstd eps (z r) : ℝ) : EReal) := by
  pointwise [k0_pay7]
  simp only [pay6_real hx, sum_coe, ofBits_1024, ofBits_eps, div_real _ (by norm_num : (1024 : ℝ) ≠ 0), ← EReal.coe_mul, ← EReal.coe_add]
  rw [← n_real]
  exact rsqrt_real (var_pos eps_pos (z r))

/-- The normalised block. -/
theorem pay8_real (hx : ∀ r l, x (ix2 r l) = (z r l : EReal)) (r : Fin 512) (l : Fin 1024) :
    k0_pay8 (F := Ideal) x (ix2 r l) = ((hat eps (z r) l : ℝ) : EReal) := by
  pointwise [k0_pay8]
  simp only [pay6_real hx, pay7_real hx, ← EReal.coe_mul, hat]

variable {d : FVec Ideal S512x1024 .f32} {ct : Fin 512 → Fin 1024 → ℝ} {g : FVec Ideal S1x1024 .f32} {s : Fin 1024 → ℝ}

/-- The gradient block: the two-mean form of the derivative, row by row. -/
theorem pay9_real (hx : ∀ r l, x (ix2 r l) = (z r l : EReal)) (hd : ∀ r l, d (ix2 r l) = (ct r l : EReal))
    (hg : ∀ l, g (ix2 0 l) = (s l : EReal)) (r : Fin 512) (l : Fin 1024) :
    k0_pay9 (F := Ideal) d x g (ix2 r l) = ((grad eps (fun k => ct r k * s k) (z r) l : ℝ) : EReal) := by
  pointwise [k0_pay9]
  simp only [hd, hg, pay7_real hx, pay8_real hx, sum_coe, ofBits_1024, div_real _ (by norm_num : (1024 : ℝ) ≠ 0), ← EReal.coe_mul,
    ← EReal.coe_sub, grad, mean, n_real]

end Cert.LnBwdIdeal.Block

end
-- ==== Proof.LnArray.lean ====
/- What the result arrays of the layer-norm backward call hold after the run. -/
module

public import proofs.«01_k».proof.Proof.LnBlock
public import proofs.«01_k».proof.Proof.Gen.LnBwdIdeal.Value
public import Idealize.ShloMosaic.Lib.Pipeline.ValueKit

@[expose] public section

set_option maxRecDepth 16384

noncomputable section

namespace Cert.LnBwdIdeal.Arr

open Idealize.ShloMosaic Idealize.ShloMosaic.TcCoe Idealize.SL.Sem Cert.LnBwdIdeal Cert.LnBwdIdeal.Gen Cert.Reals Cert.Consts Cert.Norm
open Idealize.ShloMosaic.Pipeline (Dat)

variable (m : (ℓ : Loc nD τ sig) → Buf (Elt Ideal) ℓ)

/-- The index maps: the row windows step by one block, the others stay. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-- The row of the whole array that row `r` of block `t` is. -/
def row (t : Fin cfg0.N) (r : Fin 512) : Fin 16384 := ⟨t.val * 512 + r.val, by have := t.isLt; have h : cfg0.N = 32 := N_0; omega⟩

variable {z ct : Fin 16384 → Fin 1024 → ℝ} {s : Fin 1024 → ℝ}

/-- The cotangent's block at point `t`. -/
theorem blk0 (c : Dev nD) (hc : ∀ r l, (V m c main_arg4 : FVec Ideal S16384x1024 .f32) (ix2 r l) = (ct r l : EReal)) (t : Fin cfg0.N) (r : Fin 512) (l : Fin 1024) :
    (iblk m c 0 t : FVec Ideal S512x1024 .f32) (ix2 r l) = (ct (row t r) l : EReal) := by
  rw [← hc]
  blk_point [iblk, V, idx t]
  rfl

/-- The row's block at point `t`. -/
theorem blk1 (c : Dev nD) (hz : ∀ r l, (V m c main_v2 : FVec Ideal S16384x1024 .f32) (ix2 r l) = (z r l : EReal)) (t : Fin cfg0.N) (r : Fin 512) (l : Fin 1024) :
    (iblk m c 1 t : FVec Ideal S512x1024 .f32) (ix2 r l) = (z (row t r) l : EReal) := by
  rw [← hz]
  blk_point [iblk, V, idx t]
  rfl

/-- The scale's block at every point. -/
theorem blk2 (c : Dev nD) (hs : ∀ l, (V m c main_v3 : FVec Ideal S1x1024 .f32) (ix2 0 l) = (s l : EReal)) (t : Fin cfg0.N) (l : Fin 1024) :
    (iblk m c 2 t : FVec Ideal S1x1024 .f32) (ix2 0 l) = (s l : EReal) := by
  rw [← hs]
  blk_point [iblk, V, idx t]

/-- The reals behind the three input arrays at the call. -/
structure Reads (c : Dev nD) (ct z : Fin 16384 → Fin 1024 → ℝ) (s : Fin 1024 → ℝ) : Prop where
  hc : ∀ r l, (V m c main_arg4 : FVec Ideal S16384x1024 .f32) (ix2 r l) = (ct r l : EReal)
  hz : ∀ r l, (V m c main_v2 : FVec Ideal S16384x1024 .f32) (ix2 r l) = (z r l : EReal)
  hs : ∀ l, (V m c main_v3 : FVec Ideal S1x1024 .f32) (ix2 0 l) = (s l : EReal)

/-- Where element `y` of the first result's block at point `t` lies. -/
theorem emb3 (t : Fin cfg0.N) (y : S512x1024.Idx) : ((View.whole main_v4_0).slice (win0_3.rect t)).emb y = ix2 (row t (y 0)) (y 1) := by
  blk_ext [idx t]
  all_goals rfl

/-- Where element `y` of the second result's block at point `t` lies. -/
theorem emb4 (t : Fin cfg0.N) (y : S512x1024.Idx) : ((View.whole main_v4_1).slice (win0_4.rect t)).emb y = ix2 (row t (y 0)) (y 1) := by
  blk_ext [idx t]
  all_goals rfl

/-- The rounded gradient block at point `t`. -/
theorem point3 (c : Dev nD) (h : Reads m c ct z s) (t : Fin cfg0.N) (y : S512x1024.Idx) :
    k0_pay10 (F := Ideal) (iblk m c 0 t) (iblk m c 1 t) (iblk m c 2 t) y
      = ((grad eps (fun k => ct (row t (y 0)) k * s k) (z (row t (y 0))) (y 1) : ℝ) : EReal) := by
  rw [eq_ix2 y]
  exact Block.pay9_real (blk1 m c h.hz t) (blk0 m c h.hc t) (blk2 m c h.hs t) (y 0) (y 1)

/-- The scaled gradient block at point `t`. -/
theorem point4 (c : Dev nD) (h : Reads m c ct z s) (t : Fin cfg0.N) (y : S512x1024.Idx) :
    k0_pay1 (F := Ideal) (k0_pay9 (F := Ideal) (iblk m c 0 t) (iblk m c 1 t) (iblk m c 2 t)) y
      = ((alpha * grad eps (fun k => ct (row t (y 0)) k * s k) (z (row t (y 0))) (y 1) : ℝ) : EReal) := by
  have e := Block.pay9_real (blk1 m c h.hz t) (blk0 m c h.hc t) (blk2 m c h.hs t) (y 0) (y 1)
  rw [← eq_ix2 y] at e
  rw [EReal.coe_mul, ← e, ← ofBits_alpha]
  rfl

/-- The first result: the gradient to the branch, at every index. -/
theorem final3 (c : Dev nD) (h : Reads m c ct z s) :
    (dats m 0 c).arrAt 3 cfg0.N = (fun i => ((grad eps (fun k => ct (i 0) k * s k) (z (i 0)) (i 1) : ℝ) : EReal) : FVec Ideal S16384x1024 .bf16) := by
  refine (dats m 0 c).arrAt_eq_of_covers 3 _ (by decide +kernel) fun t _ y => ?_
  blk_simp
  rw [after0_3, emb3]
  by_cases h0 : t.val % 32 = 0
  · rw [outsAt0_A m c t h0]
    frame_out
    exact point3 m c h t y
  · rw [outsAt0_B m c t h0]
    frame_out
    exact point3 m c h t y

/-- The second result: the gradient to the residual stream, at every index. -/
theorem final4 (c : Dev nD) (h : Reads m c ct z s) :
    (dats m 0 c).arrAt 4 cfg0.N = (fun i => ((alpha * grad eps (fun k => ct (i 0) k * s k) (z (i 0)) (i 1) : ℝ) : EReal) : FVec Ideal S16384x1024 .f32) := by
  refine (dats m 0 c).arrAt_eq_of_covers 4 _ (by decide +kernel) fun t _ y => ?_
  blk_simp
  rw [after0_4, emb4]
  by_cases h0 : t.val % 32 = 0
  · rw [outsAt0_A m c t h0]
    frame_out
    exact point4 m c h t y
  · rw [outsAt0_B m c t h0]
    frame_out
    exact point4 m c h t y

/-- The scale's gradient: the body adds its block's column sums to what the array held. -/
theorem step5 (d x : FVec Ideal S512x1024 .f32) (acc : FVec Ideal S1x1024 .f32) (j : S1x1024.Idx) :
    k0_pay4 (F := Ideal) d (k0_pay8 (F := Ideal) x) acc j = acc j + ∑ r : Fin 512, d (ix2 r (j 1)) * k0_pay8 (F := Ideal) x (ix2 r (j 1)) := by
  pointwise [k0_pay4]

/-- The shift's gradient: the body adds its block's column sums to what the array held. -/
theorem step6 (d : FVec Ideal S512x1024 .f32) (acc : FVec Ideal S1x1024 .f32) (j : S1x1024.Idx) :
    k0_pay5 (F := Ideal) d acc j = acc j + ∑ r : Fin 512, d (ix2 r (j 1)) := by
  pointwise [k0_pay5]

theorem zero5 (j : S1x1024.Idx) : k0_pay2 (F := Ideal) j = 0 := by pointwise [k0_pay2]
theorem zero6 (j : S1x1024.Idx) : k0_pay3 (F := Ideal) j = 0 := by pointwise [k0_pay3]

/-- The rows of the blocks of all points, in order, are the rows of the array. -/
theorem sum_rows (f : Fin 16384 → ℝ) (q : ℕ) (hq : q = 0) (e : ∀ s : Fin 32, q + s.val < cfg0.N) :
    (∑ s : Fin 32, ∑ r : Fin 512, f (row ⟨q + s.val, e s⟩ r)) = ∑ k, f k := by
  subst hq
  rw [Fin.sum_univ_tiles 32 512 rfl f]
  refine Finset.sum_congr rfl fun s _ => Finset.sum_congr rfl fun r _ => congrArg f (Fin.ext ?_)
  show (0 + s.val) * 512 + r.val = s.val * 512 + r.val
  rw [zero_add]

/-- A sum over the points and over each block's rows, of terms that are reals, is the real sum over the array's rows. -/
theorem sum_blocks (a : Fin 32 → Fin 512 → EReal) (f : Fin 16384 → ℝ) (q : ℕ) (hq : q = 0) (e : ∀ s : Fin 32, q + s.val < cfg0.N)
    (h : ∀ s r, a s r = (f (row ⟨q + s.val, e s⟩ r) : EReal)) : (∑ s, ∑ r, a s r) = ((∑ k, f k : ℝ) : EReal) := by
  rw [← sum_rows f q hq e, ← sum_coe]
  exact Finset.sum_congr rfl fun s _ => by rw [← sum_coe]; exact Finset.sum_congr rfl fun r _ => h s r

/-- Where element `y` of an accumulated result's block lies. -/
theorem emb5 (t : Fin cfg0.N) (y : S1x1024.Idx) : (win0_5.blk t).view.emb y = y := by
  blk_ext [idx t]

theorem emb6 (t : Fin cfg0.N) (y : S1x1024.Idx) : (win0_6.blk t).view.emb y = y := by
  blk_ext [idx t]

/-- The third result: the gradient to the scale. -/
theorem final5 (c : Dev nD) (h : Reads m c ct z s) :
    (dats m 0 c).arrAt 5 cfg0.N = (fun i => ((∑ r, ct r (i 1) * hat eps (z r) (i 1) : ℝ) : EReal) : FVec Ideal S1x1024 .f32) := by
  refine (dats m 0 c).arrAt_eq_of_covers 5 _ (by decide +kernel) fun t hf y => ?_
  blk_simp
  rw [after0_5, Pipeline.eq_sum_fin_of_reset_step_apply_of_flush (fun n h => (outsAt0 m c n h).2.2.1) 32 (fun _ => 0) _
    (fun t h j => by rw [outsAt0_A m c t h]; frame_out; rw [step5, zero5]) (fun t h j => by rw [outsAt0_B m c t h]; frame_out; rw [step5])
    t ((flush0_5 t).mp hf) _, zero_add]
  rw [emb5]
  have ht : t.val < 32 := lt_of_lt_of_eq t.isLt N_0
  refine sum_blocks _ _ (32 * (t.val / 32)) (by omega) (fun s => Pipeline.run_point_lt_of_flush t ((flush0_5 t).mp hf) s) fun s' r => ?_
  rw [EReal.coe_mul]
  exact congrArg₂ (fun x y : EReal => x * y) (blk0 m c h.hc _ r (y 1)) (Block.pay8_real (blk1 m c h.hz _) r (y 1))

/-- The fourth result: the gradient to the shift. -/
theorem final6 (c : Dev nD) (h : Reads m c ct z s) :
    (dats m 0 c).arrAt 6 cfg0.N = (fun i => ((∑ r, ct r (i 1) : ℝ) : EReal) : FVec Ideal S1x1024 .f32) := by
  refine (dats m 0 c).arrAt_eq_of_covers 6 _ (by decide +kernel) fun t hf y => ?_
  blk_simp
  rw [after0_6, Pipeline.eq_sum_fin_of_reset_step_apply_of_flush (fun n h => (outsAt0 m c n h).2.2.2) 32 (fun _ => 0) _
    (fun t h j => by rw [outsAt0_A m c t h]; frame_out; rw [step6, zero6]) (fun t h j => by rw [outsAt0_B m c t h]; frame_out; rw [step6])
    t ((flush0_6 t).mp hf) _, zero_add]
  rw [emb6]
  have ht : t.val < 32 := lt_of_lt_of_eq t.isLt N_0
  exact sum_blocks _ _ (32 * (t.val / 32)) (by omega) (fun s => Pipeline.run_point_lt_of_flush t ((flush0_6 t).mp hf) s) fun s' r =>
    blk0 m c h.hc _ r (y 1)

end Cert.LnBwdIdeal.Arr

end
-- ==== Proof.LnRef.lean ====
/- What the reference of the layer-norm backward call computes, where its arguments hold reals. -/
module

public import proofs.«01_k».proof.Proof.Gen.LnBwdRefIdeal.Read
public import proofs.«01_k».proof.Proof.Norm
public import proofs.«01_k».proof.Proof.Reals
public import Idealize.ShloMosaic.Lib.Pointwise

@[expose] public section

set_option maxRecDepth 16384

noncomputable section

namespace Cert.LnBwdRefIdeal.Ref

open Idealize.ShloMosaic Cert.LnBwdRefIdeal Cert.LnBwdRefIdeal.Gen Cert.LnBwdRefIdeal.Read Cert.Reals Cert.Consts Cert.Norm

theorem n_real : ((1024 : ℕ) : ℝ) = 1024 := by norm_num

theorem n_ne : (1024 : ℝ) ≠ 0 := by norm_num

variable {x f d : FVec Ideal S16384x1024 .f32} {g : FVec Ideal S1024 .f32}
variable {X B D : Fin 16384 → Fin 1024 → ℝ} {G : Fin 1024 → ℝ}

/-- The reals behind the arguments the results depend on. -/
structure Args (x f d : FVec Ideal S16384x1024 .f32) (g : FVec Ideal S1024 .f32)
    (X B D : Fin 16384 → Fin 1024 → ℝ) (G : Fin 1024 → ℝ) : Prop where
  hx : ∀ r l, x (ix2 r l) = (X r l : EReal)
  hf : ∀ r l, f (ix2 r l) = (B r l : EReal)
  hd : ∀ r l, d (ix2 r l) = (D r l : EReal)
  hg : ∀ l, g (ix1 l) = (G l : EReal)

/-- The row the layer norm reads: the residual stream scaled, plus the branch. -/
def sum (X B : Fin 16384 → Fin 1024 → ℝ) (r : Fin 16384) (l : Fin 1024) : ℝ := alpha * X r l + B r l

/-- The layer norm's row. -/
theorem v2_real (h : Args x f d g X B D G) (r : Fin 16384) (l : Fin 1024) :
    val_main_v2 (F := Ideal) x f (ix2 r l) = ((sum X B r l : ℝ) : EReal) := by
  pointwise [val_main_v2, val_main_v1, val_main_v0, val_main_cst]
  simp only [h.hx, h.hf, ofBits_alpha, ← EReal.coe_mul, ← EReal.coe_add, sum]

/-- Its mean. -/
theorem v6_real (h : Args x f d g X B D G) (r : Fin 16384) (l : Fin 1) :
    val_main_v6 (F := Ideal) x f (ix2 r l) = ((mean (sum X B r) : ℝ) : EReal) := by
  pointwise [val_main_v6, val_main_v5, val_main_v4, val_main_v3, val_main_cst_0, val_main_cst_1]
  simp only [v2_real h, sum_coe, ofBits_1024, div_real _ n_ne, zero_add, mean, n_real]

/-- The row less its mean. -/
theorem v8_real (h : Args x f d g X B D G) (r : Fin 16384) (l : Fin 1024) :
    val_main_v8 (F := Ideal) x f (ix2 r l) = ((cen (sum X B r) l : ℝ) : EReal) := by
  pointwise [val_main_v8, val_main_v7]
  simp only [v2_real h, v6_real h, ← EReal.coe_sub, cen]

/-- The row less its mean, computed again. -/
theorem v17_real (h : Args x f d g X B D G) (r : Fin 16384) (l : Fin 1024) :
    val_main_v17 (F := Ideal) x f (ix2 r l) = ((cen (sum X B r) l : ℝ) : EReal) := by
  pointwise [val_main_v17, val_main_v16]
  simp only [v2_real h, v6_real h, ← EReal.coe_sub, cen]

/-- The shifted variance. -/
theorem v19_real (h : Args x f d g X B D G) (r : Fin 16384) (l : Fin 1) :
    val_main_v19 (F := Ideal) x f (ix2 r l) = ((var (sum X B r) + eps : ℝ) : EReal) := by
  pointwise [val_main_v19, val_main_v18, val_main_v15, val_main_v14, val_main_v13, val_main_v12, val_main_v9, val_main_cst_3, val_main_cst_4, val_main_cst_5]
  simp only [v8_real h, sum_coe, ofBits_1024, ofBits_eps, div_real _ n_ne, ← EReal.coe_mul, ← EReal.coe_add, zero_add, var, mean, n_real]

/-- The reciprocal standard deviation. -/
theorem v20_real (h : Args x f d g X B D G) (r : Fin 16384) (l : Fin 1) :
    val_main_v20 (F := Ideal) x f (ix2 r l) = ((rstd eps (sum X B r) : ℝ) : EReal) := by
  pointwise [val_main_v20]
  rw [v19_real h, rsqrt_real (var_pos eps_pos _), rstd]

/-- The normalised row. -/
theorem v25_real (h : Args x f d g X B D G) (r : Fin 16384) (l : Fin 1024) :
    val_main_v25 (F := Ideal) x f (ix2 r l) = ((hat eps (sum X B r) l : ℝ) : EReal) := by
  pointwise [val_main_v25, val_main_v24]
  simp only [v17_real h, v20_real h, ← EReal.coe_mul, hat]

/-- The derivative of the reciprocal root. -/
theorem v23_real (h : Args x f d g X B D G) (r : Fin 16384) (l : Fin 1) :
    val_main_v23 (F := Ideal) x f (ix2 r l) = ((-(1 / 2) * (rstd eps (sum X B r) / (var (sum X B r) + eps)) : ℝ) : EReal) := by
  pointwise [val_main_v23, val_main_v22, val_main_v21, val_main_cst_6]
  rw [v20_real h, v19_real h, ofBits_neg_half, div_real _ (var_pos eps_pos _).ne', ← EReal.coe_mul]

/-- The cotangent times the scale. -/
theorem v40_real (h : Args x f d g X B D G) (r : Fin 16384) (l : Fin 1024) :
    val_main_v40 (F := Ideal) g d (ix2 r l) = ((D r l * G l : ℝ) : EReal) := by
  pointwise [val_main_v40, val_main_v39, val_main_v32, val_main_v26]
  simp only [h.hd, h.hg, ← EReal.coe_mul]

/-- The part of the gradient past the root. -/
theorem v46_real (h : Args x f d g X B D G) (r : Fin 16384) (l : Fin 1024) :
    val_main_v46 (F := Ideal) x f g d (ix2 r l) = ((D r l * G l * rstd eps (sum X B r) : ℝ) : EReal) := by
  pointwise [val_main_v46, val_main_v45]
  simp only [v40_real h, v20_real h, ← EReal.coe_mul]

/-- The part of the gradient through the variance. -/
def through (X B D : Fin 16384 → Fin 1024 → ℝ) (G : Fin 1024 → ℝ) (r : Fin 16384) (l : Fin 1024) : ℝ :=
  (∑ k, cen (sum X B r) k * (D r k * G k)) * (-(1 / 2) * (rstd eps (sum X B r) / (var (sum X B r) + eps))) / 1024 * (2 * cen (sum X B r) l)

/-- The part of the gradient through the variance. -/
theorem v55_real (h : Args x f d g X B D G) (r : Fin 16384) (l : Fin 1024) :
    val_main_v55 (F := Ideal) x f g d (ix2 r l) = ((through X B D G r l : ℝ) : EReal) := by
  pointwise [val_main_v55, val_main_v54, val_main_v53, val_main_v52, val_main_v51, val_main_v47, val_main_v44, val_main_v43, val_main_v42,
    val_main_v11, val_main_v10, val_main_cst_2, val_main_cst_11, val_main_cst_13, val_main_cst_14]
  simp only [v17_real h, v8_real h, v40_real h, v23_real h, sum_coe, ofBits_1024, ofBits_two, div_real _ n_ne, zero_add,
    Fin.sum_univ_one, ← EReal.coe_mul, through]

/-- The gradient, as the chain rule spells it. -/
theorem v65_real (h : Args x f d g X B D G) (r : Fin 16384) (l : Fin 1024) :
    val_main_v65 (F := Ideal) x f g d (ix2 r l) = ((chain eps (fun k => D r k * G k) (sum X B r) l : ℝ) : EReal) := by
  pointwise [val_main_v65, val_main_v64, val_main_v63, val_main_v62, val_main_v61, val_main_v60, val_main_v59, val_main_v58, val_main_v57,
    val_main_v56, val_main_v50, val_main_v49, val_main_v48, val_main_cst_12, val_main_cst_15, val_main_cst_16, val_main_cst_17]
  simp only [v46_real h, v55_real h, sum_coe, ofBits_1024, div_real _ n_ne, zero_add, Fin.sum_univ_one, ← EReal.coe_mul, ← EReal.coe_add,
    ← EReal.coe_neg, chain, through, n_real]

/-- The gradient to the branch. -/
theorem out0 (h : Args x f d g X B D G) (r : Fin 16384) (l : Fin 1024) :
    val_main_v68 (F := Ideal) x f g d (ix2 r l) = ((grad eps (fun k => D r k * G k) (sum X B r) l : ℝ) : EReal) := by
  rw [← chain_eq_grad (by norm_num) eps_pos, ← v65_real h]
  rfl

/-- The gradient to the residual stream. -/
theorem out1 (h : Args x f d g X B D G) (r : Fin 16384) (l : Fin 1024) :
    val_main_v67 (F := Ideal) x f g d (ix2 r l) = ((alpha * grad eps (fun k => D r k * G k) (sum X B r) l : ℝ) : EReal) := by
  rw [← chain_eq_grad (by norm_num) eps_pos, EReal.coe_mul, ← v65_real h, ← ofBits_alpha]
  rfl

/-- The gradient to the scale. -/
theorem out2 (h : Args x f d g X B D G) (r : Fin 1) (l : Fin 1024) :
    val_main_v69 (F := Ideal) x f d (ix2 r l) = ((∑ r, D r l * hat eps (sum X B r) l : ℝ) : EReal) := by
  pointwise [val_main_v69, val_main_v41, val_main_v38, val_main_v37, val_main_v36, val_main_v32, val_main_cst_9, val_main_cst_10]
  simp only [v25_real h, h.hd, ← EReal.coe_mul, sum_coe, zero_add, Fin.sum_univ_one, mul_comm]

/-- The gradient to the shift. -/
theorem out3 (h : Args x f d g X B D G) (r : Fin 1) (l : Fin 1024) :
    val_main_v70 (F := Ideal) d (ix2 r l) = ((∑ r, D r l : ℝ) : EReal) := by
  pointwise [val_main_v70, val_main_v35, val_main_v34, val_main_v33, val_main_cst_7, val_main_cst_8]
  simp only [h.hd, sum_coe, zero_add, Fin.sum_univ_one]

end Cert.LnBwdRefIdeal.Ref

end
-- ==== Proof.LnPair.lean ====
/- The layer-norm backward call equals the derivative of the layer norm: the claims of this pair. -/
module

public import proofs.«01_k».proof.Defs
public import proofs.«01_k».proof.Proof.LnArray
public import proofs.«01_k».proof.Proof.LnRef
public import proofs.«01_k».proof.Proof.Gen.LnBwd.Frame
public import proofs.«01_k».proof.Proof.Gen.Pre_ln_finite
public import Idealize.ShloMosaic.Lib.Claim

@[expose] public section

set_option maxRecDepth 16384

noncomputable section

namespace Cert.LnPair

open Idealize.ShloMosaic Idealize.ShloMosaic.TcCoe Idealize.SL.Sem Cert.Reals Cert.Consts

/-- Under the precondition the call's arrays and the reference's arguments hold the same reals. -/
theorem reads (m : (ℓ : Loc LnBwdIdeal.nD LnBwdIdeal.τ LnBwdIdeal.sig) → Buf (Elt Ideal) ℓ) (h : Cert.Pre_LnBwdIdeal_ln_finite m) (c : Dev LnBwdIdeal.nD) :
    ∃ (X B D : Fin 16384 → Fin 1024 → ℝ) (G : Fin 1024 → ℝ),
      LnBwdRefIdeal.Ref.Args (m ((c.tc : Thread LnBwdIdeal.nD LnBwdIdeal.τ).loc LnBwdIdeal.main_arg0)) (m ((c.tc : Thread LnBwdIdeal.nD LnBwdIdeal.τ).loc LnBwdIdeal.main_arg1))
        (m ((c.tc : Thread LnBwdIdeal.nD LnBwdIdeal.τ).loc LnBwdIdeal.main_arg4)) (m ((c.tc : Thread LnBwdIdeal.nD LnBwdIdeal.τ).loc LnBwdIdeal.main_arg2)) X B D G
      ∧ LnBwdIdeal.Arr.Reads m c D (LnBwdRefIdeal.Ref.sum X B) G := by
  obtain ⟨h0, h1, h2, h4⟩ := h c
  obtain ⟨X, hX⟩ := matrix_of_test h0 fun _ => rfl
  obtain ⟨B, hB⟩ := matrix_of_test h1 fun _ => rfl
  obtain ⟨G, hG⟩ := vector_of_test h2 fun _ => rfl
  obtain ⟨D, hD⟩ := matrix_of_test h4 fun _ => rfl
  refine ⟨X, B, D, G, ⟨hX, hB, hD, hG⟩, ⟨fun r l => ?_, fun r l => ?_, fun l => ?_⟩⟩
  · rw [LnBwdIdeal.Gen.V_main_arg4]; exact hD r l
  · entry_read
    rw [LnBwdRefIdeal.Ref.sum, EReal.coe_add, EReal.coe_mul, ← hX, ← hB, ← ofBits_alpha]
    rfl
  · entry_read
    rw [← hG]
    pointwise

theorem frame_p : Cert.quiescent_LnBwd := fun m ρ _ => Cert.LnBwd.Gen.frame m ρ
theorem frame_pi : Cert.quiescent_LnBwdIdeal := fun m ρ _ => Cert.LnBwdIdeal.Gen.frame m ρ
theorem frame_pi_pre : Cert.quiescent_LnBwdIdeal_pre_ln_finite := fun m ρ _ => Cert.LnBwdIdeal.Gen.frame m ρ
theorem frame_ri : Cert.quiescent_LnBwdRefIdeal := fun m ρ _ =>
  (θ_run Cert.LnBwdRefIdeal.defs _ _).mono (fun r h => ⟨fun c => (h c).2.2.2.2, sem_eq_zero_of_no_sems (by decide) r.2⟩)
    (Cert.LnBwdRefIdeal.Value.run (F := Ideal) m ρ)
theorem frame_ri_pre : Cert.quiescent_LnBwdRefIdeal_pre_ln_finite := fun m g _ => frame_ri m g trivial

theorem algebraic : Cert.algebraic_LnBwdIdeal_LnBwdRefIdeal_pre_ln_finite := by
  pair_intro
  · run_from Cert.LnBwdIdeal.Gen.run_main m g
  · run_from Cert.LnBwdRefIdeal.Value.run m' g'
    · rw [LnBwdRefIdeal.Read.val_main_v68_eq, (hagree c).1, (hagree c).2.1, (hagree c).2.2.1, (hagree c).2.2.2.2]
      obtain ⟨X, B, D, G, ha, hr⟩ := reads m hpre c
      refine Eq.trans (funext fun i => ?_) (LnBwdIdeal.Arr.final3 m c hr).symm
      rw [eq_ix2 i]
      exact LnBwdRefIdeal.Ref.out0 ha (i 0) (i 1)
    · rw [LnBwdRefIdeal.Read.val_main_v67_eq, (hagree c).1, (hagree c).2.1, (hagree c).2.2.1, (hagree c).2.2.2.2]
      obtain ⟨X, B, D, G, ha, hr⟩ := reads m hpre c
      refine Eq.trans (funext fun i => ?_) (LnBwdIdeal.Arr.final4 m c hr).symm
      rw [eq_ix2 i]
      exact LnBwdRefIdeal.Ref.out1 ha (i 0) (i 1)
    · obtain ⟨X, B, D, G, ha, hr⟩ := reads m hpre c
      refine Eq.trans (funext fun i => ?_) (LnBwdIdeal.Arr.final5 m c hr).symm
      rw [eq_ix2 i]
      exact LnBwdRefIdeal.Ref.out2 ha (i 0) (i 1)
    · obtain ⟨X, B, D, G, ha, hr⟩ := reads m hpre c
      refine Eq.trans (funext fun i => ?_) (LnBwdIdeal.Arr.final6 m c hr).symm
      rw [eq_ix2 i]
      exact LnBwdRefIdeal.Ref.out3 ha (i 0) (i 1)

end Cert.LnPair

end
-- ==== Proof.LnForms.lean ====
/- The two calls that take the incoming gradient in pieces do to a block what the plain call does, once the pieces are added. -/
module

public import proofs.«01_k».proof.Proof.LnArray
public import proofs.«01_k».proof.Proof.Gen.LnBwdPartsIdeal.Skeleton
public import proofs.«01_k».proof.Proof.Gen.LnBwdMmIdeal.Skeleton

@[expose] public section

set_option maxRecDepth 16384

noncomputable section

namespace Cert.LnForms

open Idealize.ShloMosaic Cert.Reals Cert.Consts Cert.Norm Cert.LnBwdIdeal Cert.LnBwdIdeal.Gen

variable {d x : FVec Ideal S512x1024 .f32} {g acc : FVec Ideal S1x1024 .f32} {ct z : Fin 512 → Fin 1024 → ℝ} {s : Fin 1024 → ℝ}

/-- The gradient block at any index. -/
theorem grad_at (hx : ∀ r l, x (ix2 r l) = (z r l : EReal)) (hg : ∀ l, g (ix2 0 l) = (s l : EReal)) (hd : ∀ r l, d (ix2 r l) = (ct r l : EReal))
    (y : S512x1024.Idx) : k0_pay9 (F := Ideal) d x g y = ((grad eps (fun k => ct (y 0) k * s k) (z (y 0)) (y 1) : ℝ) : EReal) := by
  have e := Block.pay9_real hx hd hg (y 0) (y 1)
  rwa [← eq_ix2 y] at e

/-- The gradient block times the residual scale, at any index. -/
theorem scaled_at (hx : ∀ r l, x (ix2 r l) = (z r l : EReal)) (hg : ∀ l, g (ix2 0 l) = (s l : EReal)) (hd : ∀ r l, d (ix2 r l) = (ct r l : EReal))
    (y : S512x1024.Idx) : k0_pay1 (F := Ideal) (k0_pay9 d x g) y = ((alpha * grad eps (fun k => ct (y 0) k * s k) (z (y 0)) (y 1) : ℝ) : EReal) := by
  rw [EReal.coe_mul, ← grad_at hx hg hd, ← ofBits_alpha]
  rfl

/-- The call with partial sums: its gradient blocks are the plain call's. -/
theorem parts_grad : LnBwdPartsIdeal.Gen.k0_pay9 (F := Ideal) d (LnBwdPartsIdeal.Gen.k0_pay3 g) (LnBwdPartsIdeal.Gen.k0_pay4 x)
    (LnBwdPartsIdeal.Gen.k0_pay5 x) (LnBwdPartsIdeal.Gen.k0_pay6 x) = k0_pay9 (F := Ideal) d x g := rfl

theorem parts_scaled : LnBwdPartsIdeal.Gen.k0_pay10 (F := Ideal) d (LnBwdPartsIdeal.Gen.k0_pay3 g) (LnBwdPartsIdeal.Gen.k0_pay4 x)
    (LnBwdPartsIdeal.Gen.k0_pay5 x) (LnBwdPartsIdeal.Gen.k0_pay6 x) = k0_pay1 (F := Ideal) (k0_pay9 d x g) := rfl

/-- … its step for the scale's gradient is the plain call's. -/
theorem parts_scale : LnBwdPartsIdeal.Gen.k0_pay13 (F := Ideal) d (LnBwdPartsIdeal.Gen.k0_pay4 x) (LnBwdPartsIdeal.Gen.k0_pay6 x) acc
    = k0_pay4 (F := Ideal) d (k0_pay8 x) acc := rfl

/-- … and so is its step for the shift's gradient. -/
theorem parts_shift : LnBwdPartsIdeal.Gen.k0_pay1 (F := Ideal) (LnBwdPartsIdeal.Gen.k0_pay14 acc) (LnBwdPartsIdeal.Gen.k0_pay15 d)
    = k0_pay5 (F := Ideal) d acc := rfl

open Cert.LnBwdMmIdeal (S512x2176 S2176x1024)

variable {p : FVec Ideal S512x2176 .bf16} {w : FVec Ideal S2176x1024 .bf16} {b : FVec Ideal S512x1024 .f32}

/-- The call with a product: its gradient blocks are the plain call's at the sum of the block and the product. -/
theorem mm_grad : LnBwdMmIdeal.Gen.k0_pay2 (F := Ideal) (LnBwdMmIdeal.Gen.k0_pay10 x) (LnBwdMmIdeal.Gen.k0_pay11 x) (LnBwdMmIdeal.Gen.k0_pay13 b p w x g)
    (LnBwdMmIdeal.Gen.k0_pay14 b p w g) = k0_pay9 (F := Ideal) (LnBwdMmIdeal.Gen.k0_pay8 (F := Ideal) b p w) x g := rfl

theorem mm_scaled : LnBwdMmIdeal.Gen.k0_pay3 (F := Ideal) (LnBwdMmIdeal.Gen.k0_pay10 x) (LnBwdMmIdeal.Gen.k0_pay11 x) (LnBwdMmIdeal.Gen.k0_pay13 b p w x g)
    (LnBwdMmIdeal.Gen.k0_pay14 b p w g) = k0_pay1 (F := Ideal) (k0_pay9 (LnBwdMmIdeal.Gen.k0_pay8 (F := Ideal) b p w) x g) := rfl

theorem mm_scale : LnBwdMmIdeal.Gen.k0_pay6 (F := Ideal) d (LnBwdMmIdeal.Gen.k0_pay11 x) acc = k0_pay4 (F := Ideal) d (k0_pay8 x) acc := rfl

theorem mm_shift : LnBwdMmIdeal.Gen.k0_pay7 (F := Ideal) d acc = k0_pay5 (F := Ideal) d acc := rfl

end Cert.LnForms

end
-- ==== Proof.LnPartsArray.lean ====
/- What the result arrays of the layer-norm backward call that adds four partial gradients hold after the run. -/
module

public import proofs.«01_k».proof.Proof.LnForms
public import proofs.«01_k».proof.Proof.Gen.LnBwdPartsIdeal.Value

@[expose] public section

set_option maxRecDepth 16384

noncomputable section

namespace Cert.LnBwdPartsIdeal.Arr

open Idealize.ShloMosaic Idealize.ShloMosaic.TcCoe Idealize.SL.Sem Cert.LnBwdPartsIdeal Cert.LnBwdPartsIdeal.Gen Cert.Reals Cert.Consts Cert.Norm
open Idealize.ShloMosaic.Pipeline (Dat)

variable (m : (ℓ : Loc nD τ sig) → Buf (Elt Ideal) ℓ)

/-- The index maps: the row windows step by one block, the others stay. -/
theorem idx : ∀ t : Fin cfg0.N, win0_0.index t = ![t.val, 0] ∧ win0_1.index t = ![0, t.val, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] :=
  (by decide +kernel : ∀ t : Fin grid0.N, _)

/-- The row of the whole array that row `r` of block `t` is. -/
abbrev row (t : Fin cfg0.N) (r : Fin 512) : Fin 16384 := LnBwdIdeal.Arr.row t r

/-- The reals behind the input arrays at the call. -/
structure Reads (c : Dev nD) (b : Fin 16384 → Fin 1024 → ℝ) (q : Fin 4 → Fin 16384 → Fin 1024 → ℝ) (z : Fin 16384 → Fin 1024 → ℝ) (s : Fin 1024 → ℝ) : Prop where
  hb : ∀ r l, (V m c main_arg4 : FVec Ideal S16384x1024 .f32) (ix2 r l) = (b r l : EReal)
  hq : ∀ k r l, (V m c main_arg5 : FVec Ideal S4x16384x1024 .bf16) (ix3 k r l) = (q k r l : EReal)
  hz : ∀ r l, (V m c main_v2 : FVec Ideal S16384x1024 .f32) (ix2 r l) = (z r l : EReal)
  hs : ∀ l, (V m c main_v3 : FVec Ideal S1x1024 .f32) (ix2 0 l) = (s l : EReal)

/-- The whole incoming gradient: the array and its four parts. -/
def total (b : Fin 16384 → Fin 1024 → ℝ) (q : Fin 4 → Fin 16384 → Fin 1024 → ℝ) (r : Fin 16384) (l : Fin 1024) : ℝ := b r l + ∑ k, q k r l

variable {m} {c : Dev nD} {b z : Fin 16384 → Fin 1024 → ℝ} {q : Fin 4 → Fin 16384 → Fin 1024 → ℝ} {s : Fin 1024 → ℝ}

/-- The gradient's block at point `t`. -/
theorem blk0 (h : Reads m c b q z s) (t : Fin cfg0.N) (r : Fin 512) (l : Fin 1024) :
    (iblk m c 0 t : FVec Ideal S512x1024 .f32) (ix2 r l) = (b (row t r) l : EReal) := by
  rw [← h.hb]
  blk_point [iblk, V, idx t]
  rfl

/-- The parts' block at point `t`. -/
theorem blk1 (h : Reads m c b q z s) (t : Fin cfg0.N) (k : Fin 4) (r : Fin 512) (l : Fin 1024) :
    (iblk m c 1 t : FVec Ideal S4x512x1024 .bf16) (ix3 k r l) = (q k (row t r) l : EReal) := by
  rw [← h.hq]
  blk_point [iblk, V, idx t]
  rfl

/-- The row's block at point `t`. -/
theorem blk2 (h : Reads m c b q z s) (t : Fin cfg0.N) (r : Fin 512) (l : Fin 1024) :
    (iblk m c 2 t : FVec Ideal S512x1024 .f32) (ix2 r l) = (z (row t r) l : EReal) := by
  rw [← h.hz]
  blk_point [iblk, V, idx t]
  rfl

/-- The scale's block at every point. -/
theorem blk3 (h : Reads m c b q z s) (t : Fin cfg0.N) (l : Fin 1024) : (iblk m c 3 t : FVec Ideal S1x1024 .f32) (ix2 0 l) = (s l : EReal) := by
  rw [← h.hs]
  blk_point [iblk, V, idx t]

/-- The sum the body forms from the gradient's block and the four parts' blocks. -/
theorem added (h : Reads m c b q z s) (t : Fin cfg0.N) (r : Fin 512) (l : Fin 1024) :
    (show EReal from (iblk m c 0 t : FVec Ideal S512x1024 .f32) (ix2 r l)) + (show EReal from (iblk m c 1 t : FVec Ideal S4x512x1024 .bf16) (ix3 0 r l)) + (show EReal from (iblk m c 1 t : FVec Ideal S4x512x1024 .bf16) (ix3 1 r l))
      + (show EReal from (iblk m c 1 t : FVec Ideal S4x512x1024 .bf16) (ix3 2 r l)) + (show EReal from (iblk m c 1 t : FVec Ideal S4x512x1024 .bf16) (ix3 3 r l)) = (total b q (row t r) l : EReal) := by
  rw [blk0 h, blk1 h, blk1 h, blk1 h, blk1 h, total, Fin.sum_univ_four, EReal.coe_add, EReal.coe_add, EReal.coe_add, EReal.coe_add]
  simp only [add_assoc]

/-- Where element `y` of a row block at point `t` lies. -/
theorem emb4 (t : Fin cfg0.N) (y : S512x1024.Idx) : ((View.whole main_v4_0).slice (win0_4.rect t)).emb y = ix2 (row t (y 0)) (y 1) := by
  blk_ext [idx t]
  all_goals rfl

theorem emb5 (t : Fin cfg0.N) (y : S512x1024.Idx) : ((View.whole main_v4_1).slice (win0_5.rect t)).emb y = ix2 (row t (y 0)) (y 1) := by
  blk_ext [idx t]
  all_goals rfl

/-- The first result: the gradient to the branch, at every index. -/
theorem final4 (h : Reads m c b q z s) :
    (dats m 0 c).arrAt 4 cfg0.N = (fun i => ((grad eps (fun k => total b q (i 0) k * s k) (z (i 0)) (i 1) : ℝ) : EReal) : FVec Ideal S16384x1024 .bf16) := by
  refine (dats m 0 c).arrAt_eq_of_covers 4 _ (by decide +kernel) fun t _ y => ?_
  blk_simp
  rw [after0_4, emb4]
  by_cases h0 : t.val % 32 = 0
  · rw [outsAt0_A m c t h0]
    frame_out
    rw [LnForms.parts_grad]
    refine LnForms.grad_at (ct := fun r l => total b q (row t r) l) (blk2 h t) (blk3 h t) (fun r l => ?_) y
    pointwise [k0_pay2]
    exact added h t r l
  · rw [outsAt0_B m c t h0]
    frame_out
    rw [LnForms.parts_grad]
    refine LnForms.grad_at (ct := fun r l => total b q (row t r) l) (blk2 h t) (blk3 h t) (fun r l => ?_) y
    pointwise [k0_pay2]
    exact added h t r l

/-- The second result: the gradient to the residual stream, at every index. -/
theorem final5 (h : Reads m c b q z s) :
    (dats m 0 c).arrAt 5 cfg0.N = (fun i => ((alpha * grad eps (fun k => total b q (i 0) k * s k) (z (i 0)) (i 1) : ℝ) : EReal) : FVec Ideal S16384x1024 .f32) := by
  refine (dats m 0 c).arrAt_eq_of_covers 5 _ (by decide +kernel) fun t _ y => ?_
  blk_simp
  rw [after0_5, emb5]
  by_cases h0 : t.val % 32 = 0
  · rw [outsAt0_A m c t h0]
    frame_out
    rw [LnForms.parts_scaled]
    refine LnForms.scaled_at (ct := fun r l => total b q (row t r) l) (blk2 h t) (blk3 h t) (fun r l => ?_) y
    pointwise [k0_pay2]
    exact added h t r l
  · rw [outsAt0_B m c t h0]
    frame_out
    rw [LnForms.parts_scaled]
    refine LnForms.scaled_at (ct := fun r l => total b q (row t r) l) (blk2 h t) (blk3 h t) (fun r l => ?_) y
    pointwise [k0_pay2]
    exact added h t r l

theorem zero6 (j : S1x1024.Idx) : k0_pay11 (F := Ideal) j = 0 := by pointwise [k0_pay11]
theorem zero7 (j : S1x1024.Idx) : k0_pay12 (F := Ideal) j = 0 := by pointwise [k0_pay12]

/-- Where element `y` of an accumulated result's block lies. -/
theorem emb6 (t : Fin cfg0.N) (y : S1x1024.Idx) : (win0_6.blk t).view.emb y = y := by
  blk_ext [idx t]

theorem emb7 (t : Fin cfg0.N) (y : S1x1024.Idx) : (win0_7.blk t).view.emb y = y := by
  blk_ext [idx t]

/-- The third result: the gradient to the scale. -/
theorem final6 (h : Reads m c b q z s) :
    (dats m 0 c).arrAt 6 cfg0.N = (fun i => ((∑ r, total b q r (i 1) * hat eps (z r) (i 1) : ℝ) : EReal) : FVec Ideal S1x1024 .f32) := by
  refine (dats m 0 c).arrAt_eq_of_covers 6 _ (by decide +kernel) fun t hf y => ?_
  blk_simp
  rw [after0_6, Pipeline.eq_sum_fin_of_reset_step_apply_of_flush (fun n h => (outsAt0 m c n h).2.2.1) 32 (fun _ => 0) _
    (fun t h j => by rw [outsAt0_A m c t h]; frame_out; rw [LnForms.parts_scale, LnBwdIdeal.Arr.step5, zero6])
    (fun t h j => by rw [outsAt0_B m c t h]; frame_out; rw [LnForms.parts_scale, LnBwdIdeal.Arr.step5])
    t ((flush0_6 t).mp hf) _, zero_add]
  rw [emb6]
  have ht : t.val < 32 := lt_of_lt_of_eq t.isLt N_0
  refine LnBwdIdeal.Arr.sum_blocks _ _ (32 * (t.val / 32)) (by omega) (fun s => Pipeline.run_point_lt_of_flush t ((flush0_6 t).mp hf) s) fun s' r => ?_
  rw [EReal.coe_mul]
  refine congrArg₂ (fun x y : EReal => x * y) ?_ (LnBwdIdeal.Block.pay8_real (blk2 h _) r (y 1))
  pointwise [k0_pay2]
  exact added h _ r (y 1)

/-- The fourth result: the gradient to the shift. -/
theorem final7 (h : Reads m c b q z s) :
    (dats m 0 c).arrAt 7 cfg0.N = (fun i => ((∑ r, total b q r (i 1) : ℝ) : EReal) : FVec Ideal S1x1024 .f32) := by
  refine (dats m 0 c).arrAt_eq_of_covers 7 _ (by decide +kernel) fun t hf y => ?_
  blk_simp
  rw [after0_7, Pipeline.eq_sum_fin_of_reset_step_apply_of_flush (fun n h => (outsAt0 m c n h).2.2.2) 32 (fun _ => 0) _
    (fun t h j => by rw [outsAt0_A m c t h]; frame_out; rw [LnForms.parts_shift, LnBwdIdeal.Arr.step6, zero7])
    (fun t h j => by rw [outsAt0_B m c t h]; frame_out; rw [LnForms.parts_shift, LnBwdIdeal.Arr.step6])
    t ((flush0_7 t).mp hf) _, zero_add]
  rw [emb7]
  have ht : t.val < 32 := lt_of_lt_of_eq t.isLt N_0
  refine LnBwdIdeal.Arr.sum_blocks _ _ (32 * (t.val / 32)) (by omega) (fun s => Pipeline.run_point_lt_of_flush t ((flush0_7 t).mp hf) s) fun s' r => ?_
  pointwise [k0_pay2]
  exact added h _ r (y 1)

end Cert.LnBwdPartsIdeal.Arr

end
-- ==== Proof.LnVariantRefs.lean ====
/- The references of the two calls whose incoming gradient comes in pieces are the plain reference at the added gradient. -/
module

public import proofs.«01_k».proof.Proof.LnRef
public import proofs.«01_k».proof.Proof.Gen.LnBwdPartsRefIdeal.Read
public import proofs.«01_k».proof.Proof.Gen.LnBwdMmRefIdeal.Read

@[expose] public section

set_option maxRecDepth 16384

noncomputable section

namespace Cert.LnVariantRefs

open Idealize.ShloMosaic Cert.Reals Cert.Consts

variable {x f b : FVec Ideal LnBwdRefIdeal.S16384x1024 .f32} {g : FVec Ideal LnBwdRefIdeal.S1024 .f32}

section Parts
open Cert.LnBwdPartsRefIdeal Cert.LnBwdPartsRefIdeal.Read
variable {q : FVec Ideal S4x16384x1024 .bf16}

/-- A reshape to the same shape changes nothing. -/
theorem same (d : FVec Ideal LnBwdRefIdeal.S16384x1024 .f32) : LnBwdRefIdeal.Read.val_main_v32 (F := Ideal) d = d := by
  funext i
  rw [eq_ix2 i]
  pointwise [LnBwdRefIdeal.Read.val_main_v32]

/-- The gradient times the scale, and times the normalised row, are the plain reference's at the added gradient. -/
theorem parts_v42 : val_main_v42 (F := Ideal) g b q = LnBwdRefIdeal.Read.val_main_v40 (F := Ideal) g (val_main_v2 (F := Ideal) b q) := by
  unfold LnBwdRefIdeal.Read.val_main_v40
  rw [same]
  rfl

theorem parts_v38 : val_main_v38 (F := Ideal) x f b q = LnBwdRefIdeal.Read.val_main_v36 (F := Ideal) x f (val_main_v2 (F := Ideal) b q) := by
  unfold LnBwdRefIdeal.Read.val_main_v36
  rw [same]
  rfl

/-- The gradient itself is the plain reference's at the added gradient. -/
theorem parts_v67 : val_main_v67 (F := Ideal) x f g b q = LnBwdRefIdeal.Read.val_main_v65 (F := Ideal) x f g (val_main_v2 (F := Ideal) b q) := by
  simp only [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, parts_v42,
    LnBwdRefIdeal.Read.val_main_v65, LnBwdRefIdeal.Read.val_main_v64, LnBwdRefIdeal.Read.val_main_v63, LnBwdRefIdeal.Read.val_main_v62, LnBwdRefIdeal.Read.val_main_v61, LnBwdRefIdeal.Read.val_main_v60, LnBwdRefIdeal.Read.val_main_v59, LnBwdRefIdeal.Read.val_main_v58, LnBwdRefIdeal.Read.val_main_v57, LnBwdRefIdeal.Read.val_main_v56, LnBwdRefIdeal.Read.val_main_v55, LnBwdRefIdeal.Read.val_main_v54, LnBwdRefIdeal.Read.val_main_v53, LnBwdRefIdeal.Read.val_main_v52, LnBwdRefIdeal.Read.val_main_v51, LnBwdRefIdeal.Read.val_main_v50, LnBwdRefIdeal.Read.val_main_v49, LnBwdRefIdeal.Read.val_main_v48, LnBwdRefIdeal.Read.val_main_v47, LnBwdRefIdeal.Read.val_main_v46, LnBwdRefIdeal.Read.val_main_v45, LnBwdRefIdeal.Read.val_main_v44, LnBwdRefIdeal.Read.val_main_v43, LnBwdRefIdeal.Read.val_main_v42]
  rfl

/-- The four results with partial gradients are the plain reference's results at the added gradient. -/
theorem parts0 : val_main_v70 (F := Ideal) x f g b q = LnBwdRefIdeal.Read.val_main_v68 (F := Ideal) x f g (val_main_v2 (F := Ideal) b q) := by
  unfold val_main_v70 LnBwdRefIdeal.Read.val_main_v68
  rw [parts_v67]
theorem parts1 : val_main_v69 (F := Ideal) x f g b q = LnBwdRefIdeal.Read.val_main_v67 (F := Ideal) x f g (val_main_v2 (F := Ideal) b q) := by
  unfold val_main_v69 LnBwdRefIdeal.Read.val_main_v67
  rw [parts_v67]
  rfl
theorem parts2 : val_main_v71 (F := Ideal) x f b q = LnBwdRefIdeal.Read.val_main_v69 (F := Ideal) x f (val_main_v2 (F := Ideal) b q) := by
  simp only [val_main_v71, val_main_v43, val_main_v40, val_main_v39, parts_v38]
  rfl
theorem parts3 : val_main_v72 (F := Ideal) b q = LnBwdRefIdeal.Read.val_main_v70 (F := Ideal) (val_main_v2 (F := Ideal) b q) := rfl

/-- The added gradient, where the array and the parts hold reals. -/
theorem parts_total {B : Fin 16384 → Fin 1024 → ℝ} {Q : Fin 4 → Fin 16384 → Fin 1024 → ℝ} (hb : ∀ r l, b (ix2 r l) = (B r l : EReal))
    (hq : ∀ k r l, q (ix3 k r l) = (Q k r l : EReal)) (r : Fin 16384) (l : Fin 1024) :
    val_main_v2 (F := Ideal) b q (ix2 r l) = ((B r l + ∑ k, Q k r l : ℝ) : EReal) := by
  pointwise [val_main_v2, val_main_v1, val_main_v0, val_main_cst]
  simp only [hb, hq, sum_coe, zero_add, ← EReal.coe_add]

end Parts

section Mm
open Cert.LnBwdMmRefIdeal Cert.LnBwdMmRefIdeal.Read
variable {w : FVec Ideal S1024x2176 .f32} {p : FVec Ideal S16384x2176 .bf16}

/-- The four results with a product are the plain reference's results at the added gradient. -/
theorem mm0 : val_main_v72 (F := Ideal) x f g w b p = LnBwdRefIdeal.Read.val_main_v68 (F := Ideal) x f g (val_main_v35 (F := Ideal) w b p) := rfl
theorem mm1 : val_main_v71 (F := Ideal) x f g w b p = LnBwdRefIdeal.Read.val_main_v67 (F := Ideal) x f g (val_main_v35 (F := Ideal) w b p) := rfl
theorem mm2 : val_main_v73 (F := Ideal) x f w b p = LnBwdRefIdeal.Read.val_main_v69 (F := Ideal) x f (val_main_v35 (F := Ideal) w b p) := rfl
theorem mm3 : val_main_v74 (F := Ideal) w b p = LnBwdRefIdeal.Read.val_main_v70 (F := Ideal) (val_main_v35 (F := Ideal) w b p) := rfl

/-- The added gradient, where the arrays hold reals. -/
theorem mm_total {B : Fin 16384 → Fin 1024 → ℝ} {P : Fin 16384 → Fin 2176 → ℝ} {W : Fin 1024 → Fin 2176 → ℝ} (hb : ∀ r l, b (ix2 r l) = (B r l : EReal))
    (hp : ∀ r k, p (ix2 r k) = (P r k : EReal)) (hw : ∀ l k, w (ix2 l k) = (W l k : EReal)) (r : Fin 16384) (l : Fin 1024) :
    val_main_v35 (F := Ideal) w b p (ix2 r l) = ((B r l + ∑ k, P r k * W l k : ℝ) : EReal) := by
  pointwise [val_main_v35, val_main_v34, val_main_v33]
  simp only [hb, hp, hw, sum_coe, zero_add, ← EReal.coe_add, ← EReal.coe_mul]

end Mm

end Cert.LnVariantRefs

end
-- ==== Proof.LnPartsPair.lean ====
/- The layer-norm backward call that adds four partial gradients equals the derivative at their sum: the claims of this pair. -/
module

public import proofs.«01_k».proof.Defs
public import proofs.«01_k».proof.Proof.LnPartsArray
public import proofs.«01_k».proof.Proof.LnVariantRefs
public import proofs.«01_k».proof.Proof.Gen.LnBwdParts.Frame
public import proofs.«01_k».proof.Proof.Gen.Pre_ln_parts_finite
public import Idealize.ShloMosaic.Lib.Claim

@[expose] public section

set_option maxRecDepth 16384

noncomputable section

namespace Cert.LnPartsPair

open Idealize.ShloMosaic Idealize.ShloMosaic.TcCoe Idealize.SL.Sem Cert.Reals Cert.Consts

/-- Under the precondition the call's arrays and the reference's arguments hold the same reals. -/
theorem reads (m : (ℓ : Loc LnBwdPartsIdeal.nD LnBwdPartsIdeal.τ LnBwdPartsIdeal.sig) → Buf (Elt Ideal) ℓ) (h : Cert.Pre_LnBwdPartsIdeal_ln_parts_finite m) (c : Dev LnBwdPartsIdeal.nD) :
    ∃ (X B D : Fin 16384 → Fin 1024 → ℝ) (Q : Fin 4 → Fin 16384 → Fin 1024 → ℝ) (G : Fin 1024 → ℝ),
      LnBwdRefIdeal.Ref.Args (m ((c.tc : Thread LnBwdPartsIdeal.nD LnBwdPartsIdeal.τ).loc LnBwdPartsIdeal.main_arg0)) (m ((c.tc : Thread LnBwdPartsIdeal.nD LnBwdPartsIdeal.τ).loc LnBwdPartsIdeal.main_arg1))
        (LnBwdPartsRefIdeal.Read.val_main_v2 (F := Ideal) (m ((c.tc : Thread LnBwdPartsIdeal.nD LnBwdPartsIdeal.τ).loc LnBwdPartsIdeal.main_arg4)) (m ((c.tc : Thread LnBwdPartsIdeal.nD LnBwdPartsIdeal.τ).loc LnBwdPartsIdeal.main_arg5))) (m ((c.tc : Thread LnBwdPartsIdeal.nD LnBwdPartsIdeal.τ).loc LnBwdPartsIdeal.main_arg2)) X B (LnBwdPartsIdeal.Arr.total D Q) G
      ∧ LnBwdPartsIdeal.Arr.Reads m c D Q (LnBwdRefIdeal.Ref.sum X B) G := by
  obtain ⟨h0, h1, h2, h4, h5⟩ := h c
  obtain ⟨X, hX⟩ := matrix_of_test h0 fun _ => rfl
  obtain ⟨B, hB⟩ := matrix_of_test h1 fun _ => rfl
  obtain ⟨G, hG⟩ := vector_of_test h2 fun _ => rfl
  obtain ⟨D, hD⟩ := matrix_of_test h4 fun _ => rfl
  obtain ⟨Q, hQ⟩ := stack_of_test h5 fun _ => rfl
  refine ⟨X, B, D, Q, G, ⟨hX, hB, LnVariantRefs.parts_total hD hQ, hG⟩, ⟨fun r l => ?_, fun k r l => ?_, fun r l => ?_, fun l => ?_⟩⟩
  · rw [LnBwdPartsIdeal.Gen.V_main_arg4]; exact hD r l
  · rw [LnBwdPartsIdeal.Gen.V_main_arg5]; exact hQ k r l
  · entry_read
    rw [LnBwdRefIdeal.Ref.sum, EReal.coe_add, EReal.coe_mul, ← hX, ← hB, ← ofBits_alpha]
    rfl
  · entry_read
    rw [← hG]
    pointwise

theorem frame_p : Cert.quiescent_LnBwdParts := fun m ρ _ => Cert.LnBwdParts.Gen.frame m ρ
theorem frame_pi : Cert.quiescent_LnBwdPartsIdeal := fun m ρ _ => Cert.LnBwdPartsIdeal.Gen.frame m ρ
theorem frame_pi_pre : Cert.quiescent_LnBwdPartsIdeal_pre_ln_parts_finite := fun m ρ _ => Cert.LnBwdPartsIdeal.Gen.frame m ρ
theorem frame_ri : Cert.quiescent_LnBwdPartsRefIdeal := fun m ρ _ =>
  (θ_run Cert.LnBwdPartsRefIdeal.defs _ _).mono (fun r h => ⟨fun c => (h c).2.2.2.2, sem_eq_zero_of_no_sems (by decide) r.2⟩)
    (Cert.LnBwdPartsRefIdeal.Value.run (F := Ideal) m ρ)
theorem frame_ri_pre : Cert.quiescent_LnBwdPartsRefIdeal_pre_ln_parts_finite := fun m g _ => frame_ri m g trivial

theorem algebraic : Cert.algebraic_LnBwdPartsIdeal_LnBwdPartsRefIdeal_pre_ln_parts_finite := by
  pair_intro
  · run_from Cert.LnBwdPartsIdeal.Gen.run_main m g
  · run_from Cert.LnBwdPartsRefIdeal.Value.run m' g'
    · rw [LnBwdPartsRefIdeal.Read.val_main_v70_eq, (hagree c).1, (hagree c).2.1, (hagree c).2.2.1, (hagree c).2.2.2.2.1, (hagree c).2.2.2.2.2]
      obtain ⟨X, B, D, Q, G, ha, hr⟩ := reads m hpre c
      refine Eq.trans (funext fun i => ?_) (LnBwdPartsIdeal.Arr.final4 hr).symm
      rw [eq_ix2 i]
      exact (congrFun LnVariantRefs.parts0 _).trans (LnBwdRefIdeal.Ref.out0 ha (i 0) (i 1))
    · rw [LnBwdPartsRefIdeal.Read.val_main_v69_eq, (hagree c).1, (hagree c).2.1, (hagree c).2.2.1, (hagree c).2.2.2.2.1, (hagree c).2.2.2.2.2]
      obtain ⟨X, B, D, Q, G, ha, hr⟩ := reads m hpre c
      refine Eq.trans (funext fun i => ?_) (LnBwdPartsIdeal.Arr.final5 hr).symm
      rw [eq_ix2 i]
      exact (congrFun LnVariantRefs.parts1 _).trans (LnBwdRefIdeal.Ref.out1 ha (i 0) (i 1))
    · obtain ⟨X, B, D, Q, G, ha, hr⟩ := reads m hpre c
      refine Eq.trans (funext fun i => ?_) (LnBwdPartsIdeal.Arr.final6 hr).symm
      rw [eq_ix2 i]
      exact (congrFun LnVariantRefs.parts2 _).trans (LnBwdRefIdeal.Ref.out2 ha (i 0) (i 1))
    · obtain ⟨X, B, D, Q, G, ha, hr⟩ := reads m hpre c
      refine Eq.trans (funext fun i => ?_) (LnBwdPartsIdeal.Arr.final7 hr).symm
      rw [eq_ix2 i]
      exact (congrFun LnVariantRefs.parts3 _).trans (LnBwdRefIdeal.Ref.out3 ha (i 0) (i 1))

end Cert.LnPartsPair

end
-- ==== Proof.LnMmArray.lean ====
/- What the result arrays of the layer-norm backward call that adds a product to the gradient hold after the run. -/
module

public import proofs.«01_k».proof.Proof.LnForms
public import proofs.«01_k».proof.Proof.Gen.LnBwdMmIdeal.Value

@[expose] public section

set_option maxRecDepth 16384

noncomputable section

namespace Cert.LnBwdMmIdeal.Arr

open Idealize.ShloMosaic Idealize.ShloMosaic.TcCoe Idealize.SL.Sem Cert.LnBwdMmIdeal Cert.LnBwdMmIdeal.Gen Cert.Reals Cert.Consts Cert.Norm
open Idealize.ShloMosaic.Pipeline (Dat)

variable (m : (ℓ : Loc nD τ sig) → Buf (Elt Ideal) ℓ)

/-- The index maps: the row windows step by one block, the others stay. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![0, 0] ∧ win0_8.index t = ![0, 0] :=
  (by decide +kernel : ∀ t : Fin grid0.N, _)

/-- The row of the whole array that row `r` of block `t` is. -/
abbrev row (t : Fin cfg0.N) (r : Fin 512) : Fin 16384 := LnBwdIdeal.Arr.row t r

/-- The reals behind the input arrays at the call. -/
structure Reads (c : Dev nD) (b : Fin 16384 → Fin 1024 → ℝ) (p : Fin 16384 → Fin 2176 → ℝ) (w : Fin 1024 → Fin 2176 → ℝ) (z : Fin 16384 → Fin 1024 → ℝ)
    (s : Fin 1024 → ℝ) : Prop where
  hb : ∀ r l, (V m c main_arg5 : FVec Ideal S16384x1024 .f32) (ix2 r l) = (b r l : EReal)
  hp : ∀ r k, (V m c main_arg6 : FVec Ideal S16384x2176 .bf16) (ix2 r k) = (p r k : EReal)
  hw : ∀ k l, (V m c main_v5 : FVec Ideal S2176x1024 .bf16) (ix2 k l) = (w l k : EReal)
  hz : ∀ r l, (V m c main_v2 : FVec Ideal S16384x1024 .f32) (ix2 r l) = (z r l : EReal)
  hs : ∀ l, (V m c main_v3 : FVec Ideal S1x1024 .f32) (ix2 0 l) = (s l : EReal)

/-- The whole incoming gradient: the array and the product of the projection's gradient with its transposed weight. -/
def total (b : Fin 16384 → Fin 1024 → ℝ) (p : Fin 16384 → Fin 2176 → ℝ) (w : Fin 1024 → Fin 2176 → ℝ) (r : Fin 16384) (l : Fin 1024) : ℝ :=
  b r l + ∑ k, p r k * w l k

variable {m} {c : Dev nD} {b z : Fin 16384 → Fin 1024 → ℝ} {p : Fin 16384 → Fin 2176 → ℝ} {w : Fin 1024 → Fin 2176 → ℝ} {s : Fin 1024 → ℝ}

/-- The gradient's block at point `t`. -/
theorem blk0 (h : Reads m c b p w z s) (t : Fin cfg0.N) (r : Fin 512) (l : Fin 1024) :
    (iblk m c 0 t : FVec Ideal S512x1024 .f32) (ix2 r l) = (b (row t r) l : EReal) := by
  rw [← h.hb]
  blk_point [iblk, V, idx t]
  rfl

/-- The projection's gradient's block at point `t`. -/
theorem blk1 (h : Reads m c b p w z s) (t : Fin cfg0.N) (r : Fin 512) (k : Fin 2176) :
    (iblk m c 1 t : FVec Ideal S512x2176 .bf16) (ix2 r k) = (p (row t r) k : EReal) := by
  rw [← h.hp]
  blk_point [iblk, V, idx t]
  rfl

/-- The transposed weight's block at every point. -/
theorem blk2 (h : Reads m c b p w z s) (t : Fin cfg0.N) (k : Fin 2176) (l : Fin 1024) :
    (iblk m c 2 t : FVec Ideal S2176x1024 .bf16) (ix2 k l) = (w l k : EReal) := by
  rw [← h.hw]
  blk_point [iblk, V, idx t]

/-- The row's block at point `t`. -/
theorem blk3 (h : Reads m c b p w z s) (t : Fin cfg0.N) (r : Fin 512) (l : Fin 1024) :
    (iblk m c 3 t : FVec Ideal S512x1024 .f32) (ix2 r l) = (z (row t r) l : EReal) := by
  rw [← h.hz]
  blk_point [iblk, V, idx t]
  rfl

/-- The scale's block at every point. -/
theorem blk4 (h : Reads m c b p w z s) (t : Fin cfg0.N) (l : Fin 1024) : (iblk m c 4 t : FVec Ideal S1x1024 .f32) (ix2 0 l) = (s l : EReal) := by
  rw [← h.hs]
  blk_point [iblk, V, idx t]

/-- The sum the body forms from the gradient's block and the product. -/
theorem added (h : Reads m c b p w z s) (t : Fin cfg0.N) (r : Fin 512) (l : Fin 1024) :
    k0_pay8 (F := Ideal) (iblk m c 0 t) (iblk m c 1 t) (iblk m c 2 t) (ix2 r l) = (total b p w (row t r) l : EReal) := by
  pointwise [k0_pay8]
  simp only [blk0 h, blk1 h, blk2 h, ← EReal.coe_mul, sum_coe, ← EReal.coe_add, total]

/-- Where element `y` of a row block at point `t` lies. -/
theorem emb5 (t : Fin cfg0.N) (y : S512x1024.Idx) : ((View.whole main_v6_0).slice (win0_5.rect t)).emb y = ix2 (row t (y 0)) (y 1) := by
  blk_ext [idx t]
  all_goals rfl

theorem emb6 (t : Fin cfg0.N) (y : S512x1024.Idx) : ((View.whole main_v6_1).slice (win0_6.rect t)).emb y = ix2 (row t (y 0)) (y 1) := by
  blk_ext [idx t]
  all_goals rfl

/-- The first result: the gradient to the branch, at every index. -/
theorem final5 (h : Reads m c b p w z s) :
    (dats m 0 c).arrAt 5 cfg0.N = (fun i => ((grad eps (fun k => total b p w (i 0) k * s k) (z (i 0)) (i 1) : ℝ) : EReal) : FVec Ideal S16384x1024 .bf16) := by
  refine (dats m 0 c).arrAt_eq_of_covers 5 _ (by decide +kernel) fun t _ y => ?_
  blk_simp
  rw [after0_5, emb5]
  by_cases h0 : t.val % 32 = 0
  · rw [outsAt0_A m c t h0]
    frame_out
    rw [LnForms.mm_grad]
    exact LnForms.grad_at (blk3 h t) (blk4 h t) (added h t) y
  · rw [outsAt0_B m c t h0]
    frame_out
    rw [LnForms.mm_grad]
    exact LnForms.grad_at (blk3 h t) (blk4 h t) (added h t) y

/-- The second result: the gradient to the residual stream, at every index. -/
theorem final6 (h : Reads m c b p w z s) :
    (dats m 0 c).arrAt 6 cfg0.N = (fun i => ((alpha * grad eps (fun k => total b p w (i 0) k * s k) (z (i 0)) (i 1) : ℝ) : EReal) : FVec Ideal S16384x1024 .f32) := by
  refine (dats m 0 c).arrAt_eq_of_covers 6 _ (by decide +kernel) fun t _ y => ?_
  blk_simp
  rw [after0_6, emb6]
  by_cases h0 : t.val % 32 = 0
  · rw [outsAt0_A m c t h0]
    frame_out
    rw [LnForms.mm_scaled]
    exact LnForms.scaled_at (blk3 h t) (blk4 h t) (added h t) y
  · rw [outsAt0_B m c t h0]
    frame_out
    rw [LnForms.mm_scaled]
    exact LnForms.scaled_at (blk3 h t) (blk4 h t) (added h t) y

theorem zero7 (j : S1x1024.Idx) : k0_pay4 (F := Ideal) j = 0 := by pointwise [k0_pay4]
theorem zero8 (j : S1x1024.Idx) : k0_pay5 (F := Ideal) j = 0 := by pointwise [k0_pay5]

/-- Where element `y` of an accumulated result's block lies. -/
theorem emb7 (t : Fin cfg0.N) (y : S1x1024.Idx) : (win0_7.blk t).view.emb y = y := by
  blk_ext [idx t]

theorem emb8 (t : Fin cfg0.N) (y : S1x1024.Idx) : (win0_8.blk t).view.emb y = y := by
  blk_ext [idx t]

/-- The third result: the gradient to the scale. -/
theorem final7 (h : Reads m c b p w z s) :
    (dats m 0 c).arrAt 7 cfg0.N = (fun i => ((∑ r, total b p w r (i 1) * hat eps (z r) (i 1) : ℝ) : EReal) : FVec Ideal S1x1024 .f32) := by
  refine (dats m 0 c).arrAt_eq_of_covers 7 _ (by decide +kernel) fun t hf y => ?_
  blk_simp
  rw [after0_7, Pipeline.eq_sum_fin_of_reset_step_apply_of_flush (fun n h => (outsAt0 m c n h).2.2.1) 32 (fun _ => 0) _
    (fun t h j => by rw [outsAt0_A m c t h]; frame_out; rw [LnForms.mm_scale, LnBwdIdeal.Arr.step5, zero7])
    (fun t h j => by rw [outsAt0_B m c t h]; frame_out; rw [LnForms.mm_scale, LnBwdIdeal.Arr.step5])
    t ((flush0_7 t).mp hf) _, zero_add]
  rw [emb7]
  have ht : t.val < 32 := lt_of_lt_of_eq t.isLt N_0
  refine LnBwdIdeal.Arr.sum_blocks _ _ (32 * (t.val / 32)) (by omega) (fun s => Pipeline.run_point_lt_of_flush t ((flush0_7 t).mp hf) s) fun s' r => ?_
  rw [EReal.coe_mul]
  refine congrArg₂ (fun x y : EReal => x * y) ?_ (LnBwdIdeal.Block.pay8_real (blk3 h _) r (y 1))
  exact added h _ r (y 1)

/-- The fourth result: the gradient to the shift. -/
theorem final8 (h : Reads m c b p w z s) :
    (dats m 0 c).arrAt 8 cfg0.N = (fun i => ((∑ r, total b p w r (i 1) : ℝ) : EReal) : FVec Ideal S1x1024 .f32) := by
  refine (dats m 0 c).arrAt_eq_of_covers 8 _ (by decide +kernel) fun t hf y => ?_
  blk_simp
  rw [after0_8, Pipeline.eq_sum_fin_of_reset_step_apply_of_flush (fun n h => (outsAt0 m c n h).2.2.2) 32 (fun _ => 0) _
    (fun t h j => by rw [outsAt0_A m c t h]; frame_out; rw [LnForms.mm_shift, LnBwdIdeal.Arr.step6, zero8])
    (fun t h j => by rw [outsAt0_B m c t h]; frame_out; rw [LnForms.mm_shift, LnBwdIdeal.Arr.step6])
    t ((flush0_8 t).mp hf) _, zero_add]
  rw [emb8]
  have ht : t.val < 32 := lt_of_lt_of_eq t.isLt N_0
  refine LnBwdIdeal.Arr.sum_blocks _ _ (32 * (t.val / 32)) (by omega) (fun s => Pipeline.run_point_lt_of_flush t ((flush0_8 t).mp hf) s) fun s' r => ?_
  exact added h _ r (y 1)

end Cert.LnBwdMmIdeal.Arr

end
-- ==== Proof.LnMmPair.lean ====
/- The layer-norm backward call that adds a product equals the derivative at the sum: the claims of this pair. -/
module

public import proofs.«01_k».proof.Defs
public import proofs.«01_k».proof.Proof.LnMmArray
public import proofs.«01_k».proof.Proof.LnVariantRefs
public import proofs.«01_k».proof.Proof.Gen.LnBwdMm.Frame
public import proofs.«01_k».proof.Proof.Gen.Pre_ln_mm_finite
public import Idealize.ShloMosaic.Lib.Claim

@[expose] public section

set_option maxRecDepth 16384

noncomputable section

namespace Cert.LnMmPair

open Idealize.ShloMosaic Idealize.ShloMosaic.TcCoe Idealize.SL.Sem Cert.Reals Cert.Consts

/-- Under the precondition the call's arrays and the reference's arguments hold the same reals. -/
theorem reads (m : (ℓ : Loc LnBwdMmIdeal.nD LnBwdMmIdeal.τ LnBwdMmIdeal.sig) → Buf (Elt Ideal) ℓ) (h : Cert.Pre_LnBwdMmIdeal_ln_mm_finite m) (c : Dev LnBwdMmIdeal.nD) :
    ∃ (X B D : Fin 16384 → Fin 1024 → ℝ) (Q : Fin 16384 → Fin 2176 → ℝ) (W : Fin 1024 → Fin 2176 → ℝ) (G : Fin 1024 → ℝ),
      LnBwdRefIdeal.Ref.Args (m ((c.tc : Thread LnBwdMmIdeal.nD LnBwdMmIdeal.τ).loc LnBwdMmIdeal.main_arg0)) (m ((c.tc : Thread LnBwdMmIdeal.nD LnBwdMmIdeal.τ).loc LnBwdMmIdeal.main_arg1))
        (LnBwdMmRefIdeal.Read.val_main_v35 (F := Ideal) (m ((c.tc : Thread LnBwdMmIdeal.nD LnBwdMmIdeal.τ).loc LnBwdMmIdeal.main_arg4)) (m ((c.tc : Thread LnBwdMmIdeal.nD LnBwdMmIdeal.τ).loc LnBwdMmIdeal.main_arg5)) (m ((c.tc : Thread LnBwdMmIdeal.nD LnBwdMmIdeal.τ).loc LnBwdMmIdeal.main_arg6))) (m ((c.tc : Thread LnBwdMmIdeal.nD LnBwdMmIdeal.τ).loc LnBwdMmIdeal.main_arg2)) X B (LnBwdMmIdeal.Arr.total D Q W) G
      ∧ LnBwdMmIdeal.Arr.Reads m c D Q W (LnBwdRefIdeal.Ref.sum X B) G := by
  obtain ⟨h0, h1, h2, h4, h5, h6⟩ := h c
  obtain ⟨X, hX⟩ := matrix_of_test h0 fun _ => rfl
  obtain ⟨B, hB⟩ := matrix_of_test h1 fun _ => rfl
  obtain ⟨G, hG⟩ := vector_of_test h2 fun _ => rfl
  obtain ⟨W, hW⟩ := matrix_of_test h4 fun _ => rfl
  obtain ⟨D, hD⟩ := matrix_of_test h5 fun _ => rfl
  obtain ⟨Q, hQ⟩ := matrix_of_test h6 fun _ => rfl
  refine ⟨X, B, D, Q, W, G, ⟨hX, hB, LnVariantRefs.mm_total hD hQ hW, hG⟩, ⟨fun r l => ?_, fun r k => ?_, fun k l => ?_, fun r l => ?_, fun l => ?_⟩⟩
  · rw [LnBwdMmIdeal.Gen.V_main_arg5]; exact hD r l
  · rw [LnBwdMmIdeal.Gen.V_main_arg6]; exact hQ r k
  · entry_read
    rw [← hW]
    pointwise
  · entry_read
    rw [LnBwdRefIdeal.Ref.sum, EReal.coe_add, EReal.coe_mul, ← hX, ← hB, ← ofBits_alpha]
    rfl
  · entry_read
    rw [← hG]
    pointwise

theorem frame_p : Cert.quiescent_LnBwdMm := fun m ρ _ => Cert.LnBwdMm.Gen.frame m ρ
theorem frame_pi : Cert.quiescent_LnBwdMmIdeal := fun m ρ _ => Cert.LnBwdMmIdeal.Gen.frame m ρ
theorem frame_pi_pre : Cert.quiescent_LnBwdMmIdeal_pre_ln_mm_finite := fun m ρ _ => Cert.LnBwdMmIdeal.Gen.frame m ρ
theorem frame_ri : Cert.quiescent_LnBwdMmRefIdeal := fun m ρ _ =>
  (θ_run Cert.LnBwdMmRefIdeal.defs _ _).mono (fun r h => ⟨fun c => (h c).2.2.2.2, sem_eq_zero_of_no_sems (by decide) r.2⟩)
    (Cert.LnBwdMmRefIdeal.Value.run (F := Ideal) m ρ)
theorem frame_ri_pre : Cert.quiescent_LnBwdMmRefIdeal_pre_ln_mm_finite := fun m g _ => frame_ri m g trivial

set_option maxHeartbeats 1600000 in
/-- The four results of the call equal the four derivatives. -/
theorem algebraic : Cert.algebraic_LnBwdMmIdeal_LnBwdMmRefIdeal_pre_ln_mm_finite := by
  pair_intro
  · run_from Cert.LnBwdMmIdeal.Gen.run_main m g
  · run_from Cert.LnBwdMmRefIdeal.Value.run m' g'
    · rw [LnBwdMmRefIdeal.Read.val_main_v72_eq, (hagree c).1, (hagree c).2.1, (hagree c).2.2.1, (hagree c).2.2.2.2.1, (hagree c).2.2.2.2.2.1, (hagree c).2.2.2.2.2.2]
      obtain ⟨X, B, D, Q, W, G, ha, hr⟩ := reads m hpre c
      refine Eq.trans (funext fun i => ?_) (LnBwdMmIdeal.Arr.final5 hr).symm
      rw [eq_ix2 i]
      exact (congrFun LnVariantRefs.mm0 _).trans (LnBwdRefIdeal.Ref.out0 ha (i 0) (i 1))
    · rw [LnBwdMmRefIdeal.Read.val_main_v71_eq, (hagree c).1, (hagree c).2.1, (hagree c).2.2.1, (hagree c).2.2.2.2.1, (hagree c).2.2.2.2.2.1, (hagree c).2.2.2.2.2.2]
      obtain ⟨X, B, D, Q, W, G, ha, hr⟩ := reads m hpre c
      refine Eq.trans (funext fun i => ?_) (LnBwdMmIdeal.Arr.final6 hr).symm
      rw [eq_ix2 i]
      exact (congrFun LnVariantRefs.mm1 _).trans (LnBwdRefIdeal.Ref.out1 ha (i 0) (i 1))
    · obtain ⟨X, B, D, Q, W, G, ha, hr⟩ := reads m hpre c
      refine Eq.trans (funext fun i => ?_) (LnBwdMmIdeal.Arr.final7 hr).symm
      rw [eq_ix2 i]
      exact (congrFun LnVariantRefs.mm2 _).trans (LnBwdRefIdeal.Ref.out2 ha (i 0) (i 1))
    · obtain ⟨X, B, D, Q, W, G, ha, hr⟩ := reads m hpre c
      refine Eq.trans (funext fun i => ?_) (LnBwdMmIdeal.Arr.final8 hr).symm
      rw [eq_ix2 i]
      exact (congrFun LnVariantRefs.mm3 _).trans (LnBwdRefIdeal.Ref.out3 ha (i 0) (i 1))

end Cert.LnMmPair

end
-- ==== Proof.Ffn.lean ====
/- The gated feed-forward's backward formulas over the reals: one definition serves a block and the whole array. -/
module

public import proofs.«01_k».proof.Proof.Reals

@[expose] public section

noncomputable section

namespace Cert.Ffn

open Idealize.ShloMosaic

/-- The logistic function. -/
def sgm (x : ℝ) : ℝ := 1 / (1 + Real.exp (-x))

theorem one_add_exp_ne (x : ℝ) : 1 + Real.exp (-x) ≠ 0 := (add_pos one_pos (Real.exp_pos _)).ne'

/-- The gate's activation. -/
def silu (x : ℝ) : ℝ := x * sgm x

/-- The activation's derivative. -/
def dsilu (x : ℝ) : ℝ := sgm x * (1 + x * (1 - sgm x))

/-- The derivative as the product rule spells it. -/
theorem dsilu_eq (a x : ℝ) : a * sgm x + a * x * (sgm x * (1 - sgm x)) = a * dsilu x := by unfold dsilu; ring

variable {n k p : ℕ}

/-- A product of two matrices. -/
def mm (X : Fin n → Fin k → ℝ) (W : Fin k → Fin p → ℝ) (r : Fin n) (j : Fin p) : ℝ := ∑ l, X r l * W l j

/-- The cotangent of the gated product: half the output's cotangent times the transposed down projection. -/
def back (C : Fin n → Fin k → ℝ) (D : Fin p → Fin k → ℝ) (r : Fin n) (j : Fin p) : ℝ := ∑ l, C r l * (1 / 2) * D j l

/-- The cotangent of the gate's pre-activation. -/
def dgate (g u : Fin n → Fin p → ℝ) (C : Fin n → Fin k → ℝ) (D : Fin p → Fin k → ℝ) (r : Fin n) (j : Fin p) : ℝ :=
  back C D r j * u r j * dsilu (g r j)

/-- The cotangent of the up projection. -/
def dup (g : Fin n → Fin p → ℝ) (C : Fin n → Fin k → ℝ) (D : Fin p → Fin k → ℝ) (r : Fin n) (j : Fin p) : ℝ :=
  back C D r j * silu (g r j)

/-- The gated product itself. -/
def act (g u : Fin n → Fin p → ℝ) (r : Fin n) (j : Fin p) : ℝ := silu (g r j) * u r j

end Cert.Ffn

end
-- ==== Proof.FfnBlock.lean ====
/- What one grid point of the feed-forward backward call computes from its blocks, where the blocks hold reals. -/
module

public import proofs.«01_k».proof.Proof.Gen.FfnBwdIdeal.Skeleton
public import proofs.«01_k».proof.Proof.Ffn
public import Idealize.ShloMosaic.Lib.Pointwise

@[expose] public section

set_option maxRecDepth 16384

noncomputable section

namespace Cert.FfnBwdIdeal.Block

open Idealize.ShloMosaic Cert.FfnBwdIdeal Cert.FfnBwdIdeal.Gen Cert.Reals Cert.Consts Cert.Ffn

variable {g u : FVec Ideal S1x512x704 .bf16} {G U : Fin 512 → Fin 704 → ℝ}
variable {z x : FVec Ideal S512x1024 .bf16} {Z X : Fin 512 → Fin 1024 → ℝ}
variable {d : FVec Ideal S1x704x1024 .bf16} {D : Fin 704 → Fin 1024 → ℝ}
variable {v w : FVec Ideal S1x1024x704 .bf16} {V W : Fin 1024 → Fin 704 → ℝ}

theorem pay9_real (hg : ∀ r j, g (ix3 0 r j) = (G r j : EReal)) (r : Fin 512) (j : Fin 704) :
    k0_pay9 (F := Ideal) g (ix2 r j) = ((G r j : ℝ) : EReal) := by
  pointwise [k0_pay9]
  exact hg r j

theorem pay10_real (hu : ∀ r j, u (ix3 0 r j) = (U r j : EReal)) (r : Fin 512) (j : Fin 704) :
    k0_pay10 (F := Ideal) u (ix2 r j) = ((U r j : ℝ) : EReal) := by
  pointwise [k0_pay10]
  exact hu r j

/-- The logistic of the gate. -/
theorem pay11_real (hg : ∀ r j, g (ix3 0 r j) = (G r j : EReal)) (r : Fin 512) (j : Fin 704) :
    k0_pay11 (F := Ideal) g (ix2 r j) = ((sgm (G r j) : ℝ) : EReal) := by
  pointwise [k0_pay11]
  simp only [pay9_real hg, zero_sub, ← EReal.coe_neg, Ideal.exp_coe, one_real, ← EReal.coe_add, div_real _ (one_add_exp_ne _), sgm]

theorem pay12_real (hg : ∀ r j, g (ix3 0 r j) = (G r j : EReal)) (r : Fin 512) (j : Fin 704) :
    k0_pay12 (F := Ideal) g (ix2 r j) = ((silu (G r j) : ℝ) : EReal) := by
  pointwise [k0_pay12]
  simp only [pay9_real hg, pay11_real hg, ← EReal.coe_mul, silu]

theorem pay13_real (hg : ∀ r j, g (ix3 0 r j) = (G r j : EReal)) (hu : ∀ r j, u (ix3 0 r j) = (U r j : EReal)) (r : Fin 512) (j : Fin 704) :
    k0_pay13 (F := Ideal) g u (ix2 r j) = ((act G U r j : ℝ) : EReal) := by
  pointwise [k0_pay13]
  simp only [pay12_real hg, pay10_real hu, ← EReal.coe_mul, act]

theorem pay14_real (hz : ∀ r l, z (ix2 r l) = (Z r l : EReal)) (r : Fin 512) (l : Fin 1024) :
    k0_pay14 (F := Ideal) z (ix2 r l) = ((Z r l * (1 / 2) : ℝ) : EReal) := by
  pointwise [k0_pay14]
  simp only [hz, ofBits_half_bf16, ← EReal.coe_mul]

/-- The cotangent of the gated product. -/
theorem pay15_real (hz : ∀ r l, z (ix2 r l) = (Z r l : EReal)) (hd : ∀ j l, d (ix3 0 j l) = (D j l : EReal)) (r : Fin 512) (j : Fin 704) :
    k0_pay15 (F := Ideal) z d (ix2 r j) = ((back Z D r j : ℝ) : EReal) := by
  pointwise [k0_pay15]
  simp only [pay14_real hz, hd, ← EReal.coe_mul, sum_coe, back]

theorem pay16_real (hu : ∀ r j, u (ix3 0 r j) = (U r j : EReal)) (hz : ∀ r l, z (ix2 r l) = (Z r l : EReal)) (hd : ∀ j l, d (ix3 0 j l) = (D j l : EReal))
    (r : Fin 512) (j : Fin 704) : k0_pay16 (F := Ideal) u z d (ix2 r j) = ((back Z D r j * U r j : ℝ) : EReal) := by
  pointwise [k0_pay16]
  simp only [pay15_real hz hd, pay10_real hu, ← EReal.coe_mul]

theorem pay17_real (hg : ∀ r j, g (ix3 0 r j) = (G r j : EReal)) (r : Fin 512) (j : Fin 704) :
    k0_pay17 (F := Ideal) g (ix2 r j) = ((dsilu (G r j) : ℝ) : EReal) := by
  pointwise [k0_pay17]
  simp only [pay9_real hg, pay11_real hg, one_real, ← EReal.coe_sub, ← EReal.coe_mul, ← EReal.coe_add, dsilu]

/-- The reals behind the blocks the gradients are computed from. -/
structure Reads (g u : FVec Ideal S1x512x704 .bf16) (z : FVec Ideal S512x1024 .bf16) (d : FVec Ideal S1x704x1024 .bf16)
    (G U : Fin 512 → Fin 704 → ℝ) (Z : Fin 512 → Fin 1024 → ℝ) (D : Fin 704 → Fin 1024 → ℝ) : Prop where
  hg : ∀ r j, g (ix3 0 r j) = (G r j : EReal)
  hu : ∀ r j, u (ix3 0 r j) = (U r j : EReal)
  hz : ∀ r l, z (ix2 r l) = (Z r l : EReal)
  hd : ∀ j l, d (ix3 0 j l) = (D j l : EReal)

/-- The cotangent of the gate. -/
theorem pay18_real (h : Reads g u z d G U Z D) (r : Fin 512) (j : Fin 704) :
    k0_pay18 (F := Ideal) (k0_pay16 u z d) (k0_pay17 g) (ix2 r j) = ((dgate G U Z D r j : ℝ) : EReal) := by
  pointwise [k0_pay18]
  simp only [pay16_real h.hu h.hz h.hd, pay17_real h.hg, ← EReal.coe_mul, dgate]

/-- The cotangent of the up projection. -/
theorem pay19_real (h : Reads g u z d G U Z D) (r : Fin 512) (j : Fin 704) :
    k0_pay19 (F := Ideal) (k0_pay12 g) (k0_pay15 z d) (ix2 r j) = ((dup G Z D r j : ℝ) : EReal) := by
  pointwise [k0_pay19]
  simp only [pay15_real h.hz h.hd, pay12_real h.hg, ← EReal.coe_mul, dup]

/-- The block of this shard's share of the input's gradient. -/
theorem pay20_real (h : Reads g u z d G U Z D) (hv : ∀ l j, v (ix3 0 l j) = (V l j : EReal)) (hw : ∀ l j, w (ix3 0 l j) = (W l j : EReal))
    (q : Fin 1) (r : Fin 512) (l : Fin 1024) :
    k0_pay20 (F := Ideal) (k0_pay12 g) (k0_pay15 z d) (k0_pay16 u z d) (k0_pay17 g) v w (ix3 q r l)
      = (((∑ j, dgate G U Z D r j * V l j) + ∑ j, dup G Z D r j * W l j : ℝ) : EReal) := by
  pointwise [k0_pay20]
  simp only [pay18_real h, pay19_real h, hv, hw, ← EReal.coe_mul, sum_coe, ← EReal.coe_add]

/-- One point's addend to the gate weight's gradient. -/
theorem pay21_real (h : Reads g u z d G U Z D) (hx : ∀ r l, x (ix2 r l) = (X r l : EReal)) (acc : FVec Ideal S704x1024 .f32) (i : S704x1024.Idx) :
    k0_pay21 (F := Ideal) (k0_pay8 x) (k0_pay16 u z d) (k0_pay17 g) acc i
      = acc i + ((∑ r, dgate G U Z D r (i 0) * X r (i 1) : ℝ) : EReal) := by
  obtain ⟨j, l, rfl⟩ : ∃ j l, i = ix2 j l := ⟨i 0, i 1, eq_ix2 i⟩
  pointwise [k0_pay21, k0_pay8]
  simp only [pay18_real h, hx, ← EReal.coe_mul, sum_coe]

/-- One point's addend to the up weight's gradient. -/
theorem pay22_real (h : Reads g u z d G U Z D) (hx : ∀ r l, x (ix2 r l) = (X r l : EReal)) (acc : FVec Ideal S704x1024 .f32) (i : S704x1024.Idx) :
    k0_pay22 (F := Ideal) (k0_pay8 x) (k0_pay12 g) (k0_pay15 z d) acc i
      = acc i + ((∑ r, dup G Z D r (i 0) * X r (i 1) : ℝ) : EReal) := by
  obtain ⟨j, l, rfl⟩ : ∃ j l, i = ix2 j l := ⟨i 0, i 1, eq_ix2 i⟩
  pointwise [k0_pay22, k0_pay8]
  simp only [pay19_real h, hx, ← EReal.coe_mul, sum_coe]

/-- One point's addend to the down weight's gradient. -/
theorem pay23_real (h : Reads g u z d G U Z D) (acc : FVec Ideal S704x1024 .f32) (i : S704x1024.Idx) :
    k0_pay1 (F := Ideal) (k0_pay23 (k0_pay13 g u) (k0_pay14 z) acc) i
      = acc i + ((∑ r, act G U r (i 0) * (Z r (i 1) * (1 / 2)) : ℝ) : EReal) := by
  obtain ⟨j, l, rfl⟩ : ∃ j l, i = ix2 j l := ⟨i 0, i 1, eq_ix2 i⟩
  pointwise [k0_pay1, k0_pay23]
  simp only [pay13_real h.hg h.hu, pay14_real h.hz, ← EReal.coe_mul, sum_coe]

theorem zero5 (i : S704x1024.Idx) : k0_pay5 (F := Ideal) i = 0 := by pointwise [k0_pay5]
theorem zero6 (i : S704x1024.Idx) : k0_pay6 (F := Ideal) i = 0 := by pointwise [k0_pay6]
theorem zero7 (i : S704x1024.Idx) : k0_pay7 (F := Ideal) i = 0 := by pointwise [k0_pay7]

/-- The three roundings on the way out. -/
theorem out2 (a : FVec Ideal S704x1024 .f32) (q : Fin 1) (j : Fin 704) (l : Fin 1024) : k0_pay2 (F := Ideal) a (ix3 q j l) = a (ix2 j l) := by
  pointwise [k0_pay2]
theorem out3 (a : FVec Ideal S704x1024 .f32) (q : Fin 1) (j : Fin 704) (l : Fin 1024) : k0_pay3 (F := Ideal) a (ix3 q j l) = a (ix2 j l) := by
  pointwise [k0_pay3]
theorem out4 (a : FVec Ideal S704x1024 .f32) (q : Fin 1) (j : Fin 704) (l : Fin 1024) : k0_pay4 (F := Ideal) a (ix3 q j l) = a (ix2 j l) := by
  pointwise [k0_pay4]

end Cert.FfnBwdIdeal.Block

end
-- ==== Proof.FfnArray.lean ====
/- What the result arrays of the feed-forward backward call hold after the run. -/
module

public import proofs.«01_k».proof.Proof.FfnBlock
public import proofs.«01_k».proof.Proof.Gen.FfnBwdIdeal.Frame
public import Idealize.ShloMosaic.Lib.Pipeline.ValueKit

@[expose] public section

set_option maxRecDepth 16384

noncomputable section

namespace Cert.FfnBwdIdeal.Arr

open Idealize.ShloMosaic Idealize.ShloMosaic.TcCoe Idealize.SL.Sem Cert.FfnBwdIdeal Cert.FfnBwdIdeal.Gen Cert.Reals Cert.Consts Cert.Ffn
open Idealize.ShloMosaic.Pipeline (Dat)

variable (m : (ℓ : Loc nD τ sig) → Buf (Elt Ideal) ℓ)

/-- The index maps of the operands: rows step fastest, shards after them. -/
theorem idx : ∀ t : Fin cfg0.N, win0_0.index t = ![t.val % 32, 0] ∧ win0_1.index t = ![t.val % 32, 0]
    ∧ win0_2.index t = ![t.val / 32, t.val % 32, 0] ∧ win0_3.index t = ![t.val / 32, t.val % 32, 0]
    ∧ win0_4.index t = ![t.val / 32, 0, 0] ∧ win0_5.index t = ![t.val / 32, 0, 0] ∧ win0_6.index t = ![t.val / 32, 0, 0] :=
  (by decide +kernel : ∀ t : Fin grid0.N, _)

/-- The index maps of the results. -/
theorem odx : ∀ t : Fin cfg0.N, win0_7.index t = ![t.val / 32, t.val % 32, 0]
    ∧ win0_8.index t = ![t.val / 32, 0, 0] ∧ win0_9.index t = ![t.val / 32, 0, 0] ∧ win0_10.index t = ![t.val / 32, 0, 0] :=
  (by decide +kernel : ∀ t : Fin grid0.N, _)

/-- The row of the whole array that row `r` of the block at point `t` is. -/
def row (t : Fin cfg0.N) (r : Fin 512) : Fin 16384 := ⟨t.val % 32 * 512 + r.val, by omega⟩

/-- The shard of point `t`. -/
def shard (t : Fin cfg0.N) : Fin 4 := ⟨t.val / 32, by have := t.isLt; have h : cfg0.N = 128 := N_0; omega⟩

/-- The reals behind the operands: rows, half-step cotangent, and the gate, up and down arrays by shards. -/
structure Reads (c : Dev nD) (X C : Fin 16384 → Fin 1024 → ℝ) (g u : Fin 4 → Fin 16384 → Fin 704 → ℝ)
    (G U : Fin 4 → Fin 1024 → Fin 704 → ℝ) (D : Fin 4 → Fin 704 → Fin 1024 → ℝ) : Prop where
  hx : ∀ r l, (V m c main_v8 : FVec Ideal S16384x1024 .bf16) (ix2 r l) = (X r l : EReal)
  hc : ∀ r l, (V m c main_v9 : FVec Ideal S16384x1024 .bf16) (ix2 r l) = (C r l : EReal)
  hg : ∀ s r j, (V m c main_v3 : FVec Ideal S4x16384x704 .bf16) (ix3 s r j) = (g s r j : EReal)
  hu : ∀ s r j, (V m c main_v7 : FVec Ideal S4x16384x704 .bf16) (ix3 s r j) = (u s r j : EReal)
  hG : ∀ s l j, (V m c main_v12 : FVec Ideal S4x1024x704 .bf16) (ix3 s l j) = (G s l j : EReal)
  hU : ∀ s l j, (V m c main_v15 : FVec Ideal S4x1024x704 .bf16) (ix3 s l j) = (U s l j : EReal)
  hD : ∀ s j l, (V m c main_v17 : FVec Ideal S4x704x1024 .bf16) (ix3 s j l) = (D s j l : EReal)

variable {X C : Fin 16384 → Fin 1024 → ℝ} {g u : Fin 4 → Fin 16384 → Fin 704 → ℝ}
variable {G U : Fin 4 → Fin 1024 → Fin 704 → ℝ} {D : Fin 4 → Fin 704 → Fin 1024 → ℝ} {m}

theorem blk0 {c : Dev nD} (h : Reads m c X C g u G U D) (t : Fin cfg0.N) (r : Fin 512) (l : Fin 1024) :
    (iblk m c 0 t : FVec Ideal S512x1024 .bf16) (ix2 r l) = (X (row t r) l : EReal) := by
  rw [← h.hx]
  blk_point [iblk, V, idx t]
  rfl

theorem blk1 {c : Dev nD} (h : Reads m c X C g u G U D) (t : Fin cfg0.N) (r : Fin 512) (l : Fin 1024) :
    (iblk m c 1 t : FVec Ideal S512x1024 .bf16) (ix2 r l) = (C (row t r) l : EReal) := by
  rw [← h.hc]
  blk_point [iblk, V, idx t]
  rfl

theorem blk2 {c : Dev nD} (h : Reads m c X C g u G U D) (t : Fin cfg0.N) (r : Fin 512) (j : Fin 704) :
    (iblk m c 2 t : FVec Ideal S1x512x704 .bf16) (ix3 0 r j) = (g (shard t) (row t r) j : EReal) := by
  rw [← h.hg]
  blk_point [iblk, V, idx t]
  all_goals rfl

theorem blk3 {c : Dev nD} (h : Reads m c X C g u G U D) (t : Fin cfg0.N) (r : Fin 512) (j : Fin 704) :
    (iblk m c 3 t : FVec Ideal S1x512x704 .bf16) (ix3 0 r j) = (u (shard t) (row t r) j : EReal) := by
  rw [← h.hu]
  blk_point [iblk, V, idx t]
  all_goals rfl

theorem blk4 {c : Dev nD} (h : Reads m c X C g u G U D) (t : Fin cfg0.N) (l : Fin 1024) (j : Fin 704) :
    (iblk m c 4 t : FVec Ideal S1x1024x704 .bf16) (ix3 0 l j) = (G (shard t) l j : EReal) := by
  rw [← h.hG]
  blk_point [iblk, V, idx t]
  rfl

theorem blk5 {c : Dev nD} (h : Reads m c X C g u G U D) (t : Fin cfg0.N) (l : Fin 1024) (j : Fin 704) :
    (iblk m c 5 t : FVec Ideal S1x1024x704 .bf16) (ix3 0 l j) = (U (shard t) l j : EReal) := by
  rw [← h.hU]
  blk_point [iblk, V, idx t]
  rfl

theorem blk6 {c : Dev nD} (h : Reads m c X C g u G U D) (t : Fin cfg0.N) (j : Fin 704) (l : Fin 1024) :
    (iblk m c 6 t : FVec Ideal S1x704x1024 .bf16) (ix3 0 j l) = (D (shard t) j l : EReal) := by
  rw [← h.hD]
  blk_point [iblk, V, idx t]
  rfl

/-- The blocks of one point, as reals. -/
theorem block {c : Dev nD} (h : Reads m c X C g u G U D) (t : Fin cfg0.N) :
    Block.Reads (iblk m c 2 t) (iblk m c 3 t) (iblk m c 1 t) (iblk m c 6 t) (fun r j => g (shard t) (row t r) j)
      (fun r j => u (shard t) (row t r) j) (fun r l => C (row t r) l) (D (shard t)) :=
  ⟨blk2 h t, blk3 h t, blk1 h t, blk6 h t⟩

theorem emb7 (t : Fin cfg0.N) (y : S1x512x1024.Idx) : ((View.whole main_v18_0).slice (win0_7.rect t)).emb y = ix3 (shard t) (row t (y 1)) (y 2) := by
  blk_ext [odx t]
  all_goals rfl

theorem emb8 (t : Fin cfg0.N) (y : S1x704x1024.Idx) : ((View.whole main_v18_1).slice (win0_8.rect t)).emb y = ix3 (shard t) (y 1) (y 2) := by
  blk_ext [odx t]
  all_goals rfl

theorem emb9 (t : Fin cfg0.N) (y : S1x704x1024.Idx) : ((View.whole main_v18_2).slice (win0_9.rect t)).emb y = ix3 (shard t) (y 1) (y 2) := by
  blk_ext [odx t]
  all_goals rfl

theorem emb10 (t : Fin cfg0.N) (y : S1x704x1024.Idx) : ((View.whole main_v18_3).slice (win0_10.rect t)).emb y = ix3 (shard t) (y 1) (y 2) := by
  blk_ext [odx t]
  all_goals rfl

/-- The shards' shares of the input's gradient. -/
theorem final7 {c : Dev nD} (h : Reads m c X C g u G U D) :
    (dats m 0 c).arrAt 7 cfg0.N = (fun i => (((∑ j, dgate (g (i 0)) (u (i 0)) C (D (i 0)) (i 1) j * G (i 0) (i 2) j)
      + ∑ j, dup (g (i 0)) C (D (i 0)) (i 1) j * U (i 0) (i 2) j : ℝ) : EReal) : FVec Ideal S4x16384x1024 .bf16) := by
  refine (dats m 0 c).arrAt_eq_of_covers 7 _ (by decide +kernel) fun t _ y => ?_
  blk_simp
  rw [after0_7, emb7]
  have e := Block.pay20_real (block h t) (blk4 h t) (blk5 h t) (y 0) (y 1) (y 2)
  rw [← eq_ix3 y] at e
  by_cases h0 : t.val % 32 = 0
  · rw [outsAt0_A m c t h0 (by omega)]
    frame_out
    exact e
  · by_cases h1 : t.val % 32 = 31
    · rw [outsAt0_C m c t h0 h1]
      frame_out
      exact e
    · rw [outsAt0_B m c t h0 h1]
      frame_out
      exact e

/-- A scratch carried from the point before holds what that point left. -/
theorem keep0 (h : (Memref.whole cc0_scratch0).IsWhole) (a : FVec Ideal S704x1024 .f32) : View.read (Elt Ideal) (View.whole cc0_scratch0) (h.unread a) = a :=
  Memref.IsWhole.read_unread (Val := Elt Ideal) h a
theorem keep1 (h : (Memref.whole cc0_scratch1).IsWhole) (a : FVec Ideal S704x1024 .f32) : View.read (Elt Ideal) (View.whole cc0_scratch1) (h.unread a) = a :=
  Memref.IsWhole.read_unread (Val := Elt Ideal) h a
theorem keep2 (h : (Memref.whole cc0_scratch2).IsWhole) (a : FVec Ideal S704x1024 .f32) : View.read (Elt Ideal) (View.whole cc0_scratch2) (h.unread a) = a :=
  Memref.IsWhole.read_unread (Val := Elt Ideal) h a

/-- A sum over the points of one shard and over each block's rows is the sum over the array's rows. -/
theorem sum_rows (f : Fin 4 → Fin 16384 → ℝ) (t : Fin cfg0.N) (e : ∀ s : Fin 32, 32 * (t.val / 32) + s.val < cfg0.N) :
    (∑ s : Fin 32, ((∑ r : Fin 512, f (shard ⟨32 * (t.val / 32) + s.val, e s⟩) (row ⟨32 * (t.val / 32) + s.val, e s⟩ r) : ℝ) : EReal))
      = ((∑ k, f (shard t) k : ℝ) : EReal) := by
  rw [sum_coe, Fin.sum_univ_tiles 32 512 rfl (f (shard t))]
  refine congrArg (fun x : ℝ => (x : EReal)) (Finset.sum_congr rfl fun s _ => Finset.sum_congr rfl fun r _ => ?_)
  have h1 : shard ⟨32 * (t.val / 32) + s.val, e s⟩ = shard t := Fin.ext (by show (32 * (t.val / 32) + s.val) / 32 = t.val / 32; omega)
  have h2 : row ⟨32 * (t.val / 32) + s.val, e s⟩ r = ⟨s.val * 512 + r.val, by omega⟩ := Fin.ext (by show (32 * (t.val / 32) + s.val) % 32 * 512 + r.val = s.val * 512 + r.val; omega)
  rw [h1, h2]

/-- The gate weight's gradient. -/
theorem final8 {c : Dev nD} (h : Reads m c X C g u G U D) :
    (dats m 0 c).arrAt 8 cfg0.N = (fun i => ((∑ r, dgate (g (i 0)) (u (i 0)) C (D (i 0)) r (i 1) * X r (i 2) : ℝ) : EReal) : FVec Ideal S4x704x1024 .bf16) := by
  refine (dats m 0 c).arrAt_eq_of_covers 8 _ (by decide +kernel) fun t hf y => ?_
  have hm := (flush0_8 t).mp hf
  have hs : ∀ i, (outsAt0 m c t.val t.isLt).2.2.2.2.1 i = _ := Pipeline.eq_sum_fin_of_reset_step_apply_of_flush (fun n h => (outsAt0 m c n h).2.2.2.2.1) 32 (fun _ => 0) _
    (fun t h0 i => by rw [outsAt0_A m c t h0 (by omega)]; frame_out; rw [Block.pay21_real (block h t) (blk0 h t), Block.zero5])
    (fun t h0 i => by
      by_cases h1 : t.val % 32 = 31
      · rw [outsAt0_C m c t h0 h1]; frame_out; rw [Block.pay21_real (block h t) (blk0 h t)]; exact congrArg (· + _) (congrFun (keep0 _ _) i)
      · rw [outsAt0_B m c t h0 h1]; frame_out; rw [Block.pay21_real (block h t) (blk0 h t)]; exact congrArg (· + _) (congrFun (keep0 _ _) i))
    t hm
  have he : (outsAt0 m c t.val t.isLt).2.1 y = (outsAt0 m c t.val t.isLt).2.2.2.2.1 (ix2 (y 1) (y 2)) := by
    rw [outsAt0_C m c t (by omega) hm]
    frame_out
    rw [eq_ix3 y]
    exact Block.out2 _ _ _ _
  blk_simp
  rw [after0_8, emb8, he, hs, zero_add]
  exact sum_rows (fun s r => dgate (g s) (u s) C (D s) r (y 1) * X r (y 2)) t fun s => Pipeline.run_point_lt_of_flush t hm s

/-- The up weight's gradient. -/
theorem final9 {c : Dev nD} (h : Reads m c X C g u G U D) :
    (dats m 0 c).arrAt 9 cfg0.N = (fun i => ((∑ r, dup (g (i 0)) C (D (i 0)) r (i 1) * X r (i 2) : ℝ) : EReal) : FVec Ideal S4x704x1024 .bf16) := by
  refine (dats m 0 c).arrAt_eq_of_covers 9 _ (by decide +kernel) fun t hf y => ?_
  have hm := (flush0_9 t).mp hf
  have hs : ∀ i, (outsAt0 m c t.val t.isLt).2.2.2.2.2.1 i = _ := Pipeline.eq_sum_fin_of_reset_step_apply_of_flush (fun n h => (outsAt0 m c n h).2.2.2.2.2.1) 32 (fun _ => 0) _
    (fun t h0 i => by rw [outsAt0_A m c t h0 (by omega)]; frame_out; rw [Block.pay22_real (block h t) (blk0 h t), Block.zero6])
    (fun t h0 i => by
      by_cases h1 : t.val % 32 = 31
      · rw [outsAt0_C m c t h0 h1]; frame_out; rw [Block.pay22_real (block h t) (blk0 h t)]; exact congrArg (· + _) (congrFun (keep1 _ _) i)
      · rw [outsAt0_B m c t h0 h1]; frame_out; rw [Block.pay22_real (block h t) (blk0 h t)]; exact congrArg (· + _) (congrFun (keep1 _ _) i))
    t hm
  have he : (outsAt0 m c t.val t.isLt).2.2.1 y = (outsAt0 m c t.val t.isLt).2.2.2.2.2.1 (ix2 (y 1) (y 2)) := by
    rw [outsAt0_C m c t (by omega) hm]
    frame_out
    rw [eq_ix3 y]
    exact Block.out3 _ _ _ _
  blk_simp
  rw [after0_9, emb9, he, hs, zero_add]
  exact sum_rows (fun s r => dup (g s) C (D s) r (y 1) * X r (y 2)) t fun s => Pipeline.run_point_lt_of_flush t hm s

/-- The down weight's gradient. -/
theorem final10 {c : Dev nD} (h : Reads m c X C g u G U D) :
    (dats m 0 c).arrAt 10 cfg0.N = (fun i => ((∑ r, act (g (i 0)) (u (i 0)) r (i 1) * (C r (i 2) * (1 / 2)) : ℝ) : EReal) : FVec Ideal S4x704x1024 .bf16) := by
  refine (dats m 0 c).arrAt_eq_of_covers 10 _ (by decide +kernel) fun t hf y => ?_
  have hm := (flush0_10 t).mp hf
  have hs : ∀ i, (outsAt0 m c t.val t.isLt).2.2.2.2.2.2 i = _ := Pipeline.eq_sum_fin_of_reset_step_apply_of_flush (fun n h => (outsAt0 m c n h).2.2.2.2.2.2) 32 (fun _ => 0) _
    (fun t h0 i => by rw [outsAt0_A m c t h0 (by omega)]; frame_out; rw [Block.pay23_real (block h t), Block.zero7])
    (fun t h0 i => by
      by_cases h1 : t.val % 32 = 31
      · rw [outsAt0_C m c t h0 h1]; frame_out; rw [Block.pay23_real (block h t)]; exact congrArg (· + _) (congrFun (keep2 _ _) i)
      · rw [outsAt0_B m c t h0 h1]; frame_out; rw [Block.pay23_real (block h t)]; exact congrArg (· + _) (congrFun (keep2 _ _) i))
    t hm
  have he : (outsAt0 m c t.val t.isLt).2.2.2.1 y = (outsAt0 m c t.val t.isLt).2.2.2.2.2.2 (ix2 (y 1) (y 2)) := by
    rw [outsAt0_C m c t (by omega) hm]
    frame_out
    rw [eq_ix3 y]
    exact Block.out4 _ _ _ _
  blk_simp
  rw [after0_10, emb10, he, hs, zero_add]
  exact sum_rows (fun s r => act (g s) (u s) r (y 1) * (C r (y 2) * (1 / 2))) t fun s => Pipeline.run_point_lt_of_flush t hm s

end Cert.FfnBwdIdeal.Arr

end
-- ==== Proof.FfnRef.lean ====
/- What the reference of the feed-forward backward call computes, where its arguments hold reals. -/
module

public import proofs.«01_k».proof.Proof.Gen.FfnBwdRefIdeal.Read
public import proofs.«01_k».proof.Proof.Ffn
public import Idealize.ShloMosaic.Lib.Pointwise

@[expose] public section

set_option maxRecDepth 16384

noncomputable section

namespace Cert.FfnBwdRefIdeal.Ref

open Idealize.ShloMosaic Cert.FfnBwdRefIdeal Cert.FfnBwdRefIdeal.Gen Cert.FfnBwdRefIdeal.Read Cert.Reals Cert.Consts Cert.Ffn

variable {x c : FVec Ideal S16384x1024 .f32} {g u : FVec Ideal S1024x2816 .f32} {d : FVec Ideal S2816x1024 .f32}
variable {X C : Fin 16384 → Fin 1024 → ℝ} {G U : Fin 1024 → Fin 2816 → ℝ} {D : Fin 2816 → Fin 1024 → ℝ}

/-- The reals behind the arguments. -/
structure Args (x : FVec Ideal S16384x1024 .f32) (g u : FVec Ideal S1024x2816 .f32) (d : FVec Ideal S2816x1024 .f32) (c : FVec Ideal S16384x1024 .f32)
    (X : Fin 16384 → Fin 1024 → ℝ) (G U : Fin 1024 → Fin 2816 → ℝ) (D : Fin 2816 → Fin 1024 → ℝ) (C : Fin 16384 → Fin 1024 → ℝ) : Prop where
  hx : ∀ r l, x (ix2 r l) = (X r l : EReal)
  hg : ∀ l j, g (ix2 l j) = (G l j : EReal)
  hu : ∀ l j, u (ix2 l j) = (U l j : EReal)
  hd : ∀ j l, d (ix2 j l) = (D j l : EReal)
  hc : ∀ r l, c (ix2 r l) = (C r l : EReal)

/-- The gate's pre-activation. -/
theorem v0_real (h : Args x g u d c X G U D C) (r : Fin 16384) (j : Fin 2816) :
    val_main_v0 (F := Ideal) x g (ix2 r j) = ((mm X G r j : ℝ) : EReal) := by
  pointwise [val_main_v0]
  simp only [h.hx, h.hg, ← EReal.coe_mul, sum_coe, mm]

/-- The up projection. -/
theorem v2_real (h : Args x g u d c X G U D C) (r : Fin 16384) (j : Fin 2816) :
    val_main_v2 (F := Ideal) x u (ix2 r j) = ((mm X U r j : ℝ) : EReal) := by
  pointwise [val_main_v2]
  simp only [h.hx, h.hu, ← EReal.coe_mul, sum_coe, mm]

/-- The gate's logistic. -/
theorem sig_real (h : Args x g u d c X G U D C) (r : Fin 16384) (j : Fin 2816) :
    val_main_v1_2 (F := Ideal) x g (ix2 r j) = ((sgm (mm X G r j) : ℝ) : EReal) := by
  pointwise [val_main_v1_2, val_main_call0_v4, val_main_call0_v3, val_main_call0_v2, val_main_call0_v1, val_main_call0_v0, val_main_call0_cst, val_main_call0_cst_0]
  simp only [v0_real h, ← EReal.coe_neg, Ideal.exp_coe, one_real, ← EReal.coe_add, div_real _ (one_add_exp_ne _), sgm]

/-- The activation. -/
theorem silu_real (h : Args x g u d c X G U D C) (r : Fin 16384) (j : Fin 2816) :
    val_main_v1_0 (F := Ideal) x g (ix2 r j) = ((silu (mm X G r j) : ℝ) : EReal) := by
  pointwise [val_main_v1_0]
  simp only [v0_real h, sig_real h, ← EReal.coe_mul, silu]

/-- The logistic's derivative. -/
theorem dsig_real (h : Args x g u d c X G U D C) (r : Fin 16384) (j : Fin 2816) :
    val_main_v1_1 (F := Ideal) x g (ix2 r j) = ((sgm (mm X G r j) * (1 - sgm (mm X G r j)) : ℝ) : EReal) := by
  pointwise [val_main_v1_1, val_main_call0_v7, val_main_call0_v6, val_main_call0_cst_1]
  simp only [sig_real h, one_real, ← EReal.coe_sub, ← EReal.coe_mul]

/-- The gated product. -/
theorem v3_real (h : Args x g u d c X G U D C) (r : Fin 16384) (j : Fin 2816) :
    val_main_v3 (F := Ideal) x g u (ix2 r j) = ((act (mm X G) (mm X U) r j : ℝ) : EReal) := by
  pointwise [val_main_v3]
  simp only [silu_real h, v2_real h, ← EReal.coe_mul, act]

/-- Half the cotangent. -/
theorem v8_real (h : Args x g u d c X G U D C) (r : Fin 16384) (l : Fin 1024) :
    val_main_v8 (F := Ideal) c (ix2 r l) = ((C r l * (1 / 2) : ℝ) : EReal) := by
  pointwise [val_main_v8, val_main_v7, val_main_cst_0]
  simp only [h.hc, ofBits_half, ← EReal.coe_mul, mul_comm]

/-- The cotangent of the gated product. -/
theorem v11_real (h : Args x g u d c X G U D C) (r : Fin 16384) (j : Fin 2816) :
    val_main_v11 (F := Ideal) d c (ix2 r j) = ((back C D r j : ℝ) : EReal) := by
  pointwise [val_main_v11]
  simp only [v8_real h, h.hd, ← EReal.coe_mul, sum_coe, back]

/-- The cotangent of the up projection. -/
theorem v12_real (h : Args x g u d c X G U D C) (r : Fin 16384) (j : Fin 2816) :
    val_main_v12 (F := Ideal) x g d c (ix2 r j) = ((dup (mm X G) C D r j : ℝ) : EReal) := by
  pointwise [val_main_v12]
  simp only [silu_real h, v11_real h, ← EReal.coe_mul, dup, mul_comm]

/-- The cotangent of the gate's pre-activation. -/
theorem v17_real (h : Args x g u d c X G U D C) (r : Fin 16384) (j : Fin 2816) :
    val_main_v17 (F := Ideal) x g u d c (ix2 r j) = ((dgate (mm X G) (mm X U) C D r j : ℝ) : EReal) := by
  pointwise [val_main_v17, val_main_call1_v2, val_main_call1_v1, val_main_call1_v0, val_main_v13]
  simp only [sig_real h, dsig_real h, v0_real h, v2_real h, v11_real h, ← EReal.coe_mul, ← EReal.coe_add, dgate]
  congr 1
  unfold dsilu; ring

/-- The input's gradient. -/
theorem out0 (h : Args x g u d c X G U D C) (r : Fin 16384) (l : Fin 1024) :
    val_main_v21 (F := Ideal) x g u d c (ix2 r l)
      = (((∑ j, dgate (mm X G) (mm X U) C D r j * G l j) + ∑ j, dup (mm X G) C D r j * U l j : ℝ) : EReal) := by
  pointwise [val_main_v21, val_main_v20, val_main_v16]
  simp only [v17_real h, v12_real h, h.hg, h.hu, ← EReal.coe_mul, sum_coe, ← EReal.coe_add]
  rw [add_comm]

/-- The hidden column that column `j` of shard `s` is. -/
def col (s : Fin 4) (j : Fin 704) : Fin 2816 := ⟨s.val * 704 + j.val, by omega⟩

/-- The gate weight's gradient, by shards. -/
theorem out1 (h : Args x g u d c X G U D C) (s : Fin 4) (j : Fin 704) (l : Fin 1024) :
    val_main_v26 (F := Ideal) x g u d c (ix3 s j l) = ((∑ r, dgate (mm X G) (mm X U) C D r (col s j) * X r l : ℝ) : EReal) := by
  pointwise [val_main_v26, val_main_v23, val_main_v22, val_main_v19, val_main_v18]
  simp only [← EReal.coe_mul, ← sum_coe]
  refine Finset.sum_congr rfl fun r _ => ?_
  rw [EReal.coe_mul, ← v17_real h, ← h.hx]
  rfl

/-- The up weight's gradient, by shards. -/
theorem out2 (h : Args x g u d c X G U D C) (s : Fin 4) (j : Fin 704) (l : Fin 1024) :
    val_main_v27 (F := Ideal) x g d c (ix3 s j l) = ((∑ r, dup (mm X G) C D r (col s j) * X r l : ℝ) : EReal) := by
  pointwise [val_main_v27, val_main_v25, val_main_v24, val_main_v15, val_main_v14]
  simp only [← EReal.coe_mul, ← sum_coe]
  refine Finset.sum_congr rfl fun r _ => ?_
  rw [EReal.coe_mul, ← v12_real h, ← h.hx]
  rfl

/-- The down weight's gradient, by shards. -/
theorem out3 (h : Args x g u d c X G U D C) (s : Fin 4) (j : Fin 704) (l : Fin 1024) :
    val_main_v29 (F := Ideal) x g u c (ix3 s j l) = ((∑ r, act (mm X G) (mm X U) r (col s j) * (C r l * (1 / 2)) : ℝ) : EReal) := by
  pointwise [val_main_v29, val_main_v28, val_main_v10, val_main_v9]
  simp only [← EReal.coe_mul, ← sum_coe]
  refine Finset.sum_congr rfl fun r _ => ?_
  rw [mul_comm, EReal.coe_mul, ← v3_real h, ← v8_real h]
  rfl

end Cert.FfnBwdRefIdeal.Ref

end
-- ==== Proof.FfnPair.lean ====
/- The feed-forward backward call equals the derivative of the half-step feed-forward: the claims of this pair. -/
module

public import proofs.«01_k».proof.Defs
public import proofs.«01_k».proof.Proof.FfnArray
public import proofs.«01_k».proof.Proof.FfnRef
public import proofs.«01_k».proof.Proof.Gen.FfnBwd.Frame
public import proofs.«01_k».proof.Proof.Gen.FfnBwdRefIdeal.Run
public import proofs.«01_k».proof.Proof.Gen.Pre_ffn_finite
public import Idealize.ShloMosaic.Lib.Claim

@[expose] public section

set_option maxRecDepth 16384

noncomputable section

namespace Cert.FfnPair

open Idealize.ShloMosaic Idealize.ShloMosaic.TcCoe Idealize.SL.Sem Cert.Reals Cert.Consts Cert.Ffn
open Cert.FfnBwdRefIdeal.Ref (col)

/-- Under the precondition the call's arrays and the reference's arguments hold the same reals. -/
theorem reads (m : (ℓ : Loc FfnBwdIdeal.nD FfnBwdIdeal.τ FfnBwdIdeal.sig) → Buf (Elt Ideal) ℓ) (h : Cert.Pre_FfnBwdIdeal_ffn_finite m) (c : Dev FfnBwdIdeal.nD) :
    ∃ (X : Fin 16384 → Fin 1024 → ℝ) (G U : Fin 1024 → Fin 2816 → ℝ) (D : Fin 2816 → Fin 1024 → ℝ) (C : Fin 16384 → Fin 1024 → ℝ),
      FfnBwdRefIdeal.Ref.Args (m ((c.tc : Thread FfnBwdIdeal.nD FfnBwdIdeal.τ).loc FfnBwdIdeal.main_arg0)) (m ((c.tc : Thread FfnBwdIdeal.nD FfnBwdIdeal.τ).loc FfnBwdIdeal.main_arg1))
        (m ((c.tc : Thread FfnBwdIdeal.nD FfnBwdIdeal.τ).loc FfnBwdIdeal.main_arg2)) (m ((c.tc : Thread FfnBwdIdeal.nD FfnBwdIdeal.τ).loc FfnBwdIdeal.main_arg3))
        (m ((c.tc : Thread FfnBwdIdeal.nD FfnBwdIdeal.τ).loc FfnBwdIdeal.main_arg4)) X G U D C
      ∧ FfnBwdIdeal.Arr.Reads m c X C (fun s r j => mm X G r (col s j)) (fun s r j => mm X U r (col s j))
          (fun s l j => G l (col s j)) (fun s l j => U l (col s j)) (fun s j l => D (col s j) l) := by
  obtain ⟨h0, h1, h2, h3, h4⟩ := h c
  obtain ⟨X, hX⟩ := matrix_of_test h0 fun _ => rfl
  obtain ⟨G, hG⟩ := matrix_of_test h1 fun _ => rfl
  obtain ⟨U, hU⟩ := matrix_of_test h2 fun _ => rfl
  obtain ⟨D, hD⟩ := matrix_of_test h3 fun _ => rfl
  obtain ⟨C, hC⟩ := matrix_of_test h4 fun _ => rfl
  refine ⟨X, G, U, D, C, ⟨hX, hG, hU, hD, hC⟩, ⟨fun r l => ?_, fun r l => ?_, fun s r j => ?_, fun s r j => ?_, fun s l j => ?_, fun s l j => ?_, fun s j l => ?_⟩⟩
  · simp only [FfnBwdIdeal.Gen.V, FfnBwdIdeal.Gen.V0, List.flatten_cons, List.flatten_nil, List.append_nil]; entry_read; rw [← hX]; pointwise
  · simp only [FfnBwdIdeal.Gen.V, FfnBwdIdeal.Gen.V0, List.flatten_cons, List.flatten_nil, List.append_nil]; entry_read; rw [← hC]; pointwise
  · simp only [FfnBwdIdeal.Gen.V, FfnBwdIdeal.Gen.V0, List.flatten_cons, List.flatten_nil, List.append_nil]; entry_read
    refine Eq.trans ?_ (FfnBwdRefIdeal.Ref.v0_real ⟨hX, hG, hU, hD, hC⟩ r (col s j))
    pointwise [FfnBwdRefIdeal.Read.val_main_v0]; rfl
  · simp only [FfnBwdIdeal.Gen.V, FfnBwdIdeal.Gen.V0, List.flatten_cons, List.flatten_nil, List.append_nil]; entry_read
    refine Eq.trans ?_ (FfnBwdRefIdeal.Ref.v2_real ⟨hX, hG, hU, hD, hC⟩ r (col s j))
    pointwise [FfnBwdRefIdeal.Read.val_main_v2]; rfl
  · simp only [FfnBwdIdeal.Gen.V, FfnBwdIdeal.Gen.V0, List.flatten_cons, List.flatten_nil, List.append_nil]; entry_read; rw [← hG]; pointwise; rfl
  · simp only [FfnBwdIdeal.Gen.V, FfnBwdIdeal.Gen.V0, List.flatten_cons, List.flatten_nil, List.append_nil]; entry_read; rw [← hU]; pointwise; rfl
  · simp only [FfnBwdIdeal.Gen.V, FfnBwdIdeal.Gen.V0, List.flatten_cons, List.flatten_nil, List.append_nil]; entry_read; rw [← hD]; pointwise; rfl

/-- The line after the call: the shards' shares summed. -/
theorem tail (m : (ℓ : Loc FfnBwdIdeal.nD FfnBwdIdeal.τ FfnBwdIdeal.sig) → Buf (Elt Ideal) ℓ) (c : Dev FfnBwdIdeal.nD) :
    @Eq (FVec Ideal FfnBwdIdeal.S16384x1024 .f32) (Pipeline.afterTail₀ FfnBwdIdeal.cfgs (FfnBwdIdeal.Gen.dats m) 0 (FfnBwdIdeal.Gen.V0 m) [FfnBwdIdeal.Gen.hostOps1] c FfnBwdIdeal.main_v20)
      (Host.reduceAdd (extf .f32 ((FfnBwdIdeal.Gen.dats m 0 c).arrAt 7 FfnBwdIdeal.cfg0.N : FVec Ideal FfnBwdIdeal.S4x16384x1024 .bf16) FfnBwdIdeal.Gen.bitsLt_bf16_f32)
          (constant FfnBwdIdeal.S_ .f32 0x00000000#32) FfnBwdIdeal.Gen.reducesTo_S4x16384x1024_S16384x1024_d0 FfnBwdIdeal.Gen.h_S_) := by
  unfold Pipeline.afterTail₀
  simp only [List.flatten_cons, List.flatten_nil, List.append_nil]
  entry_read
  refine congrArg (fun a : FVec Ideal FfnBwdIdeal.S4x16384x1024 .bf16 => Host.reduceAdd (extf .f32 a FfnBwdIdeal.Gen.bitsLt_bf16_f32)
    (constant FfnBwdIdeal.S_ .f32 0x00000000#32) FfnBwdIdeal.Gen.reducesTo_S4x16384x1024_S16384x1024_d0 FfnBwdIdeal.Gen.h_S_) ?_
  exact Pipeline.withArrays_arr (FfnBwdIdeal.cfgs 0).spec (by decide) c (FfnBwdIdeal.Gen.V0 m c) _ 7

/-- Summing the shards' shares of the input's gradient gives the sum over all hidden columns. -/
theorem dx_real {m : (ℓ : Loc FfnBwdIdeal.nD FfnBwdIdeal.τ FfnBwdIdeal.sig) → Buf (Elt Ideal) ℓ} {c : Dev FfnBwdIdeal.nD}
    {X : Fin 16384 → Fin 1024 → ℝ} {G U : Fin 1024 → Fin 2816 → ℝ} {D : Fin 2816 → Fin 1024 → ℝ} {C : Fin 16384 → Fin 1024 → ℝ}
    (hr : FfnBwdIdeal.Arr.Reads m c X C (fun s r j => mm X G r (col s j)) (fun s r j => mm X U r (col s j))
      (fun s l j => G l (col s j)) (fun s l j => U l (col s j)) (fun s j l => D (col s j) l)) (r : Fin 16384) (l : Fin 1024) :
    (Host.reduceAdd (extf .f32 ((FfnBwdIdeal.Gen.dats m 0 c).arrAt 7 FfnBwdIdeal.cfg0.N : FVec Ideal FfnBwdIdeal.S4x16384x1024 .bf16) FfnBwdIdeal.Gen.bitsLt_bf16_f32)
      (constant FfnBwdIdeal.S_ .f32 0x00000000#32) FfnBwdIdeal.Gen.reducesTo_S4x16384x1024_S16384x1024_d0 FfnBwdIdeal.Gen.h_S_ : FVec Ideal FfnBwdIdeal.S16384x1024 .f32) (ix2 r l)
      = (((∑ j, dgate (mm X G) (mm X U) C D r j * G l j) + ∑ j, dup (mm X G) C D r j * U l j : ℝ) : EReal) := by
  rw [FfnBwdIdeal.Arr.final7 hr, Fin.sum_univ_tiles 4 704 rfl (fun j => dgate (mm X G) (mm X U) C D r j * G l j),
    Fin.sum_univ_tiles 4 704 rfl (fun j => dup (mm X G) C D r j * U l j), ← Finset.sum_add_distrib, ← sum_coe]
  pointwise
  rfl

/-- The input's gradient as the whole program leaves it. -/
@[irreducible] def dxArr (m : (ℓ : Loc FfnBwdIdeal.nD FfnBwdIdeal.τ FfnBwdIdeal.sig) → Buf (Elt Ideal) ℓ) (c : Dev FfnBwdIdeal.nD) : FVec Ideal FfnBwdIdeal.S16384x1024 .f32 :=
  Pipeline.afterTail₀ FfnBwdIdeal.cfgs (FfnBwdIdeal.Gen.dats m) 0 (FfnBwdIdeal.Gen.V0 m) [FfnBwdIdeal.Gen.hostOps1] c FfnBwdIdeal.main_v20

open FfnBwdIdeal in
/-- The whole program leaves the summed shares and the call's three other arrays, and its arguments as they were. -/
theorem run (m : (ℓ : Loc nD τ sig) → Buf (Elt Ideal) ℓ) (ρ : Dev nD → PrngReg) :
    θ_run defs (onTc (τ := τ) (main (F := Ideal))) ⟨m, fun _ => 0, ρ⟩ (fun q => ∀ c : Dev nD,
      q.2.mem ((c.tc : Thread nD τ).loc main_v20) = dxArr m c
      ∧ q.2.mem ((c.tc : Thread nD τ).loc main_v18_1) = (Gen.dats m 0 c).arrAt 8 cfg0.N
      ∧ q.2.mem ((c.tc : Thread nD τ).loc main_v18_2) = (Gen.dats m 0 c).arrAt 9 cfg0.N
      ∧ q.2.mem ((c.tc : Thread nD τ).loc main_v18_3) = (Gen.dats m 0 c).arrAt 10 cfg0.N
      ∧ q.2.mem ((c.tc : Thread nD τ).loc main_arg0) = m ((c.tc : Thread nD τ).loc main_arg0)
      ∧ q.2.mem ((c.tc : Thread nD τ).loc main_arg1) = m ((c.tc : Thread nD τ).loc main_arg1)
      ∧ q.2.mem ((c.tc : Thread nD τ).loc main_arg2) = m ((c.tc : Thread nD τ).loc main_arg2)
      ∧ q.2.mem ((c.tc : Thread nD τ).loc main_arg3) = m ((c.tc : Thread nD τ).loc main_arg3)
      ∧ q.2.mem ((c.tc : Thread nD τ).loc main_arg4) = m ((c.tc : Thread nD τ).loc main_arg4)) :=
  (θ_run defs _ _).mono (fun _ h c =>
    ⟨((h c).2 main_v20 (Pipeline.mem_restRefs_of main_v20 (by decide) (by decide))).trans (by unfold dxArr; rfl), (h c).1 8, (h c).1 9, (h c).1 10,
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c)⟩) (Gen.run_main m ρ)

theorem frame_p : Cert.quiescent_FfnBwd := fun m ρ _ => Cert.FfnBwd.Gen.frame m ρ
theorem frame_pi : Cert.quiescent_FfnBwdIdeal := fun m ρ _ => Cert.FfnBwdIdeal.Gen.frame m ρ
theorem frame_pi_pre : Cert.quiescent_FfnBwdIdeal_pre_ffn_finite := fun m ρ _ => Cert.FfnBwdIdeal.Gen.frame m ρ
theorem frame_ri : Cert.quiescent_FfnBwdRefIdeal := fun m ρ _ =>
  (θ_run Cert.FfnBwdRefIdeal.defs _ _).mono (fun r h => ⟨fun c => (h c).2.2.2.2, sem_eq_zero_of_no_sems (by decide) r.2⟩)
    (Cert.FfnBwdRefIdeal.Value.run (F := Ideal) m ρ)
theorem frame_ri_pre : Cert.quiescent_FfnBwdRefIdeal_pre_ffn_finite := fun m g _ => frame_ri m g trivial

set_option maxHeartbeats 1600000 in
theorem algebraic : Cert.algebraic_FfnBwdIdeal_FfnBwdRefIdeal_pre_ffn_finite := by
  pair_intro
  · refine θ_run_mono (run m g) ?_
    intro r hr c
    exact hr c
  · refine θ_run_mono (Cert.FfnBwdRefIdeal.Value.run m' g') ?_
    intro r hr c
    obtain ⟨h0, h1, h2, h3, h4⟩ := hr c
    refine ⟨h0.trans ?_, h1.trans ?_, h2.trans ?_, h3.trans ?_, h4⟩
    all_goals clear h0 h1 h2 h3 h4
    · rw [FfnBwdRefIdeal.Read.val_main_v21_eq, (hagree c).1, (hagree c).2.1, (hagree c).2.2.1, (hagree c).2.2.2.1, (hagree c).2.2.2.2]
      obtain ⟨X, G, U, D, C, ha, hr⟩ := reads m hpre c
      unfold dxArr
      rw [tail m c]
      funext i
      rw [eq_ix2 i]
      exact (FfnBwdRefIdeal.Ref.out0 ha (i 0) (i 1)).trans (dx_real hr (i 0) (i 1)).symm
    · rw [FfnBwdRefIdeal.Read.val_main_v26_eq, (hagree c).1, (hagree c).2.1, (hagree c).2.2.1, (hagree c).2.2.2.1, (hagree c).2.2.2.2]
      obtain ⟨X, G, U, D, C, ha, hr⟩ := reads m hpre c
      refine Eq.trans (funext fun i => ?_) (FfnBwdIdeal.Arr.final8 hr).symm
      rw [eq_ix3 i]
      exact FfnBwdRefIdeal.Ref.out1 ha (i 0) (i 1) (i 2)
    · rw [FfnBwdRefIdeal.Read.val_main_v27_eq, (hagree c).1, (hagree c).2.1, (hagree c).2.2.2.1, (hagree c).2.2.2.2]
      obtain ⟨X, G, U, D, C, ha, hr⟩ := reads m hpre c
      refine Eq.trans (funext fun i => ?_) (FfnBwdIdeal.Arr.final9 hr).symm
      rw [eq_ix3 i]
      exact FfnBwdRefIdeal.Ref.out2 ha (i 0) (i 1) (i 2)
    · rw [FfnBwdRefIdeal.Read.val_main_v29_eq, (hagree c).1, (hagree c).2.1, (hagree c).2.2.1, (hagree c).2.2.2.2]
      obtain ⟨X, G, U, D, C, ha, hr⟩ := reads m hpre c
      refine Eq.trans (funext fun i => ?_) (FfnBwdIdeal.Arr.final10 hr).symm
      rw [eq_ix3 i]
      exact FfnBwdRefIdeal.Ref.out3 ha (i 0) (i 1) (i 2)

end Cert.FfnPair

end
-- ==== Proof.LossArray.lean ====
/- What the result arrays of the loss call hold after the run. -/
module

public import proofs.«01_k».proof.Proof.Gen.LossIdeal.Frame
public import proofs.«01_k».proof.Proof.Reals
public import Idealize.ShloMosaic.Lib.Pipeline.ValueKit

@[expose] public section

set_option maxRecDepth 16384

noncomputable section

namespace Cert.LossIdeal.Arr

open Idealize.ShloMosaic Idealize.ShloMosaic.TcCoe Idealize.SL.Sem Cert.LossIdeal Cert.LossIdeal.Gen Cert.Reals Cert.Consts
open Idealize.ShloMosaic.Pipeline (Dat)

variable (m : (ℓ : Loc nD τ sig) → Buf (Elt Ideal) ℓ)

/-- The index maps of the operands and results: the row blocks one after the other, and the whole loss block. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- The row of the whole array that row `r` of the block at point `t` is. -/
def row (t : Fin cfg0.N) (r : Fin 512) : Fin 16384 := ⟨t.val * 512 + r.val, by have := t.isLt; have h : cfg0.N = 32 := N_0; omega⟩

/-- The reals behind the operands: prediction and target. -/
structure Reads (c : Dev nD) (Y T : Fin 16384 → Fin 1024 → ℝ) : Prop where
  hy : ∀ r l, (V m c main_arg0 : FVec Ideal S16384x1024 .f32) (ix2 r l) = (Y r l : EReal)
  ht : ∀ r l, (V m c main_arg1 : FVec Ideal S16384x1024 .f32) (ix2 r l) = (T r l : EReal)

variable {Y T : Fin 16384 → Fin 1024 → ℝ} {m}

/-- The prediction's block at a point. -/
theorem blk0 {c : Dev nD} (h : Reads m c Y T) (t : Fin cfg0.N) (r : Fin 512) (l : Fin 1024) :
    (iblk m c 0 t : FVec Ideal S512x1024 .f32) (ix2 r l) = (Y (row t r) l : EReal) := by
  rw [← h.hy]
  blk_point [iblk, V, idx t]
  rfl

/-- The target's block at a point. -/
theorem blk1 {c : Dev nD} (h : Reads m c Y T) (t : Fin cfg0.N) (r : Fin 512) (l : Fin 1024) :
    (iblk m c 1 t : FVec Ideal S512x1024 .f32) (ix2 r l) = (T (row t r) l : EReal) := by
  rw [← h.ht]
  blk_point [iblk, V, idx t]
  rfl

theorem emb2 (t : Fin cfg0.N) (y : S512x1024.Idx) : (win0_2.blk t).view.emb y = ix2 (row t (y 0)) (y 1) := by
  blk_ext [idx t]
  all_goals rfl

theorem emb3 (t : Fin cfg0.N) (y : S8x128.Idx) : (win0_3.blk t).view.emb y = y := by
  blk_ext [idx t]

/-- The gradient's block at a point: the error over the row length. -/
theorem pay2_real {c : Dev nD} (h : Reads m c Y T) (t : Fin cfg0.N) (r : Fin 512) (l : Fin 1024) :
    k0_pay2 (F := Ideal) (iblk m c 0 t) (iblk m c 1 t) (ix2 r l) = (((Y (row t r) l - T (row t r) l) * (1 / 1024) : ℝ) : EReal) := by
  pointwise [k0_pay2, k0_pay1]
  simp only [blk0 h, blk1 h, ofBits_inv_1024, ← EReal.coe_mul, ← EReal.coe_sub]

/-- One step of the loss: the body adds its block's squared errors, scaled, to what the array held. -/
theorem pay4_real {c : Dev nD} (h : Reads m c Y T) (t : Fin cfg0.N) (acc : FVec Ideal S8x128 .f32) (y : S8x128.Idx) :
    k0_pay4 (F := Ideal) (iblk m c 0 t) (iblk m c 1 t) acc y = acc y
      + ((∑ r : Fin 512, 1 / 2048 * ∑ l, (Y (row t r) l - T (row t r) l) * (Y (row t r) l - T (row t r) l) : ℝ) : EReal) := by
  pointwise [k0_pay4, k0_pay1]
  simp only [blk0 h, blk1 h, ofBits_half_mean, ← EReal.coe_mul, ← EReal.coe_sub, sum_coe, Finset.mul_sum]

theorem zero3 (j : S8x128.Idx) : k0_pay3 (F := Ideal) j = 0 := by
  pointwise [k0_pay3]

/-- The gradient. -/
theorem final2 {c : Dev nD} (h : Reads m c Y T) :
    (dats m 0 c).arrAt 2 cfg0.N = (fun i => (((Y (i 0) (i 1) - T (i 0) (i 1)) * (1 / 1024) : ℝ) : EReal) : FVec Ideal S16384x1024 .f32) := by
  refine (dats m 0 c).arrAt_eq_of_covers 2 _ (by decide +kernel) fun t _ y => ?_
  blk_simp
  rw [after0_2, emb2]
  have e := pay2_real h t (y 0) (y 1)
  rw [← eq_ix2 y] at e
  by_cases h0 : t.val % 32 = 0
  · rw [outsAt0_A m c t h0]
    frame_out
    exact e
  · rw [outsAt0_B m c t h0]
    frame_out
    exact e

/-- The loss, at every place of its block. -/
theorem final3 {c : Dev nD} (h : Reads m c Y T) :
    (dats m 0 c).arrAt 3 cfg0.N = (fun _ => ((∑ r, 1 / 2048 * ∑ l, (Y r l - T r l) * (Y r l - T r l) : ℝ) : EReal) : FVec Ideal S8x128 .f32) := by
  refine (dats m 0 c).arrAt_eq_of_covers 3 _ (by decide +kernel) fun t hf y => ?_
  have hm := (flush0_3 t).mp hf
  have ht : t.val < 32 := lt_of_lt_of_eq t.isLt N_0
  blk_simp
  rw [after0_3, Pipeline.eq_sum_fin_of_reset_step_apply_of_flush (fun n h => (outsAt0 m c n h).2) 32 (fun _ => 0) _
    (fun t h0 i => by rw [outsAt0_A m c t h0]; frame_out; rw [pay4_real h t, zero3])
    (fun t h0 i => by rw [outsAt0_B m c t h0]; frame_out; rw [pay4_real h t]) t hm, zero_add, sum_coe,
    Fin.sum_univ_tiles 32 512 rfl (fun r => 1 / 2048 * ∑ l, (Y r l - T r l) * (Y r l - T r l))]
  refine congrArg (fun x : ℝ => (x : EReal)) (Finset.sum_congr rfl fun s _ => Finset.sum_congr rfl fun r _ => ?_)
  have e : row ⟨32 * (t.val / 32) + s.val, Pipeline.run_point_lt_of_flush t hm s⟩ r = ⟨s.val * 512 + r.val, by omega⟩ :=
    Fin.ext (by show (32 * (t.val / 32) + s.val) * 512 + r.val = s.val * 512 + r.val; omega)
  rw [e]

end Cert.LossIdeal.Arr

end
-- ==== Proof.LossPair.lean ====
/- The loss call equals the loss and its derivative: the claims of this pair. -/
module

public import proofs.«01_k».proof.Defs
public import proofs.«01_k».proof.Proof.LossArray
public import proofs.«01_k».proof.Proof.Gen.Loss.Frame
public import proofs.«01_k».proof.Proof.Gen.LossRefIdeal.Run
public import proofs.«01_k».proof.Proof.Gen.LossRefIdeal.Read
public import proofs.«01_k».proof.Proof.Gen.Pre_loss_finite
public import Idealize.ShloMosaic.Lib.Claim

@[expose] public section

set_option maxRecDepth 16384

noncomputable section

namespace Cert.LossPair

open Idealize.ShloMosaic Idealize.ShloMosaic.TcCoe Idealize.SL.Sem Cert.Reals Cert.Consts

section Ref

open Cert.LossRefIdeal Cert.LossRefIdeal.Gen Cert.LossRefIdeal.Read

variable {y t : FVec Ideal S16384x1024 .f32} {Y T : Fin 16384 → Fin 1024 → ℝ}

theorem n_ne : (1024 : ℝ) ≠ 0 := by norm_num

/-- The reference's gradient: the error over the row length. -/
theorem grad_real (hy : ∀ r l, y (ix2 r l) = (Y r l : EReal)) (ht : ∀ r l, t (ix2 r l) = (T r l : EReal)) (r : Fin 16384) (l : Fin 1024) :
    val_main_v14 (F := Ideal) y t (ix2 r l) = (((Y r l - T r l) * (1 / 1024) : ℝ) : EReal) := by
  pointwise [val_main_v14, val_main_v13, val_main_v12, val_main_v11, val_main_v10, val_main_v9, val_main_v3, val_main_v2, val_main_v0,
    val_main_cst, val_main_cst_4, val_main_cst_5, val_main_cst_6]
  simp only [hy, ht, ofBits_half, ofBits_two, ofBits_1024, one_real, div_real _ n_ne, ← EReal.coe_mul, ← EReal.coe_sub]
  exact congrArg (fun x : ℝ => (x : EReal)) (by ring)

/-- The reference's loss: half the sum of the rows' mean squared errors. -/
theorem loss_real (hy : ∀ r l, y (ix2 r l) = (Y r l : EReal)) (ht : ∀ r l, t (ix2 r l) = (T r l : EReal)) (i : S_.Idx) :
    val_main_v8 (F := Ideal) y t i = ((∑ r, 1 / 2048 * ∑ l, (Y r l - T r l) * (Y r l - T r l) : ℝ) : EReal) := by
  pointwise [val_main_v8, val_main_v7, val_main_v6, val_main_v5, val_main_v4, val_main_v1, val_main_v0,
    val_main_cst_0, val_main_cst_1, val_main_cst_2, val_main_cst_3]
  simp only [hy, ht, ofBits_half, ofBits_1024, zero_add, ← EReal.coe_mul, ← EReal.coe_sub, sum_coe, div_real _ n_ne]
  refine congrArg (fun x : ℝ => (x : EReal)) ?_
  rw [Finset.mul_sum]
  exact Finset.sum_congr rfl fun r _ => by ring

end Ref

/-- Under the precondition the call's arrays hold reals. -/
theorem reads (m : (ℓ : Loc LossIdeal.nD LossIdeal.τ LossIdeal.sig) → Buf (Elt Ideal) ℓ) (h : Cert.Pre_LossIdeal_loss_finite m) (c : Dev LossIdeal.nD) :
    ∃ Y T : Fin 16384 → Fin 1024 → ℝ,
      (∀ r l, (m ((c.tc : Thread LossIdeal.nD LossIdeal.τ).loc LossIdeal.main_arg0) : FVec Ideal LossIdeal.S16384x1024 .f32) (ix2 r l) = (Y r l : EReal))
      ∧ (∀ r l, (m ((c.tc : Thread LossIdeal.nD LossIdeal.τ).loc LossIdeal.main_arg1) : FVec Ideal LossIdeal.S16384x1024 .f32) (ix2 r l) = (T r l : EReal))
      ∧ LossIdeal.Arr.Reads m c Y T := by
  obtain ⟨h0, h1⟩ := h c
  obtain ⟨Y, hY⟩ := matrix_of_test h0 fun _ => rfl
  obtain ⟨T, hT⟩ := matrix_of_test h1 fun _ => rfl
  exact ⟨Y, T, hY, hT, ⟨hY, hT⟩⟩

/-- The lines after the call: the first place of the loss block. -/
theorem tail (m : (ℓ : Loc LossIdeal.nD LossIdeal.τ LossIdeal.sig) → Buf (Elt Ideal) ℓ) (c : Dev LossIdeal.nD) :
    @Eq (FVec Ideal LossIdeal.S_ .f32) (Pipeline.afterTail₀ LossIdeal.cfgs (LossIdeal.Gen.dats m) 0 (LossIdeal.Gen.V0 m) [LossIdeal.Gen.hostOps1] c LossIdeal.main_v2)
      (shapeCast LossIdeal.S_ (extractStridedSlice LossIdeal.S1x1 ![0, 0] ((LossIdeal.Gen.dats m 0 c).arrAt 3 LossIdeal.cfg0.N : FVec Ideal LossIdeal.S8x128 .f32)
        LossIdeal.Gen.slices_S8x128_S1x1_0_0) LossIdeal.Gen.shapeCasts_S1x1_S_) := by
  unfold Pipeline.afterTail₀
  simp only [List.flatten_cons, List.flatten_nil, List.append_nil]
  entry_read
  refine congrArg (fun a : FVec Ideal LossIdeal.S8x128 .f32 => shapeCast LossIdeal.S_ (extractStridedSlice LossIdeal.S1x1 ![0, 0] a
    LossIdeal.Gen.slices_S8x128_S1x1_0_0) LossIdeal.Gen.shapeCasts_S1x1_S_) ?_
  exact Pipeline.withArrays_arr (LossIdeal.cfgs 0).spec (by decide) c (LossIdeal.Gen.V0 m c) _ 3

/-- The loss as the whole program leaves it. -/
@[irreducible] def lossArr (m : (ℓ : Loc LossIdeal.nD LossIdeal.τ LossIdeal.sig) → Buf (Elt Ideal) ℓ) (c : Dev LossIdeal.nD) : FVec Ideal LossIdeal.S_ .f32 :=
  Pipeline.afterTail₀ LossIdeal.cfgs (LossIdeal.Gen.dats m) 0 (LossIdeal.Gen.V0 m) [LossIdeal.Gen.hostOps1] c LossIdeal.main_v2

open LossIdeal in
/-- The whole program leaves the call's gradient array and the loss, and its arguments as they were. -/
theorem run (m : (ℓ : Loc nD τ sig) → Buf (Elt Ideal) ℓ) (ρ : Dev nD → PrngReg) :
    θ_run defs (onTc (τ := τ) (main (F := Ideal))) ⟨m, fun _ => 0, ρ⟩ (fun q => ∀ c : Dev nD,
      q.2.mem ((c.tc : Thread nD τ).loc main_v0_0) = (Gen.dats m 0 c).arrAt 2 cfg0.N
      ∧ q.2.mem ((c.tc : Thread nD τ).loc main_v2) = lossArr m c
      ∧ q.2.mem ((c.tc : Thread nD τ).loc main_arg0) = m ((c.tc : Thread nD τ).loc main_arg0)
      ∧ q.2.mem ((c.tc : Thread nD τ).loc main_arg1) = m ((c.tc : Thread nD τ).loc main_arg1)) :=
  (θ_run defs _ _).mono (fun _ h c =>
    ⟨(h.1 c).1 2, ((h.1 c).2 main_v2 (Pipeline.mem_restRefs_of main_v2 (by decide) (by decide))).trans (by unfold lossArr; rfl), h.2 c⟩)
    (θ_run_and (Gen.run_main m ρ) (Gen.unchanged m ρ))

theorem frame_p : Cert.quiescent_Loss := fun m ρ _ => Cert.Loss.Gen.frame m ρ
theorem frame_pi : Cert.quiescent_LossIdeal := fun m ρ _ => Cert.LossIdeal.Gen.frame m ρ
theorem frame_pi_pre : Cert.quiescent_LossIdeal_pre_loss_finite := fun m ρ _ => Cert.LossIdeal.Gen.frame m ρ
theorem frame_ri : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)
theorem frame_ri_pre : Cert.quiescent_LossRefIdeal_pre_loss_finite := fun m g _ => frame_ri m g trivial

set_option maxHeartbeats 1600000 in
theorem algebraic : Cert.algebraic_LossIdeal_LossRefIdeal_pre_loss_finite := by
  pair_intro
  · refine θ_run_mono (run m g) ?_
    intro r hr c
    exact hr c
  · refine θ_run_mono (Cert.LossRefIdeal.Value.run m' g') ?_
    intro r hr c
    obtain ⟨h0, h1, h2⟩ := hr c
    refine ⟨h0.trans ?_, h1.trans ?_, h2⟩
    all_goals clear h0 h1 h2
    · rw [LossRefIdeal.Read.val_main_v14_eq, (hagree c).1, (hagree c).2]
      obtain ⟨Y, T, hY, hT, hr⟩ := reads m hpre c
      refine Eq.trans (funext fun i => ?_) (LossIdeal.Arr.final2 hr).symm
      rw [eq_ix2 i]
      exact grad_real hY hT (i 0) (i 1)
    · rw [LossRefIdeal.Read.val_main_v8_eq, (hagree c).1, (hagree c).2]
      obtain ⟨Y, T, hY, hT, hr⟩ := reads m hpre c
      unfold lossArr
      rw [tail m c, LossIdeal.Arr.final3 hr]
      funext i
      exact loss_real hY hT i

end Cert.LossPair

end
-- ==== Proof.FwdNorm.lean ====
/- The layer norm and the gated product of the forward calls, over the extended reals. -/
module

public import Idealize.ShloMosaic.PureOps.Ideal

@[expose] public section

noncomputable section

namespace Cert.Fwd

open Idealize.ShloMosaic

/-- The average of a row, its length given as a number. -/
def mean {n : ℕ} (d : EReal) (z : Fin n → EReal) : EReal := Ideal.div (∑ k, z k) d

/-- A row's deviation from its average, over the root of its variance. -/
def hat {n : ℕ} (d : EReal) (z : Fin n → EReal) (l : Fin n) : EReal :=
  (z l - mean d z) * Ideal.rsqrt (Ideal.div (∑ k, (z k - mean d z) * (z k - mean d z)) d + Ideal.ofBits .f32 0x3727C5AC#32)

/-- The layer norm of a row, scaled and shifted. -/
def lnorm {n : ℕ} (d : EReal) (z g b : Fin n → EReal) (l : Fin n) : EReal := hat d z l * g l + b l

/-- The product of two matrices. -/
def mm {n k p : ℕ} (x : Fin n → Fin k → EReal) (w : Fin k → Fin p → EReal) (r : Fin n) (j : Fin p) : EReal := ∑ l, x r l * w l j

/-- The gated activation: the gate times its logistic, times the other branch. -/
def act (g u : EReal) : EReal := g * Ideal.logistic g * u

/-- The number of columns of a row of the model's width. -/
abbrev width : EReal := Ideal.ofBits .f32 0x44800000#32

/-- The row the half-step feed-forward hands to its layer norm. -/
def half (x f : EReal) : EReal := Ideal.ofBits .f32 0x3FD744FD#32 * x + Ideal.ofBits .f32 0x3F000000#32 * f

end Cert.Fwd

end
-- ==== Proof.FfnFwdBlock.lean ====
/- What one block of the feed-forward call computes. -/
module

public import proofs.«01_k».proof.Proof.FwdNorm
public import proofs.«01_k».proof.Proof.Gen.FfnFwdIdeal.Skeleton
public import Idealize.ShloMosaic.Lib.Pointwise

@[expose] public section

set_option maxRecDepth 16384

noncomputable section

namespace Cert.FfnFwdIdeal.Block

open Idealize.ShloMosaic Cert.FfnFwdIdeal Cert.FfnFwdIdeal.Gen Cert.Fwd

variable {x : FVec Ideal S512x1024 .f32} {xb : FVec Ideal S512x1024 .bf16} {wg wu : FVec Ideal S1x1024x704 .bf16} {wd : FVec Ideal S1x704x1024 .bf16}
variable {a : FVec Ideal S512x1024 .f32} {g b : FVec Ideal S1x1024 .f32}

/-- The gate's block. -/
theorem gate (r : Fin 512) (j : Fin 704) : k0_pay7 (F := Ideal) xb wg (ix2 r j) = ∑ l, xb (ix2 r l) * wg (ix3 0 l j) := by
  pointwise [k0_pay7, k0_pay6]

/-- The other branch's block. -/
theorem up (r : Fin 512) (j : Fin 704) : k0_pay8 (F := Ideal) xb wu (ix2 r j) = ∑ l, xb (ix2 r l) * wu (ix3 0 l j) := by
  pointwise [k0_pay8, k0_pay6]

/-- The gate's block as stored. -/
theorem gate_out (s : Fin 1) (r : Fin 512) (j : Fin 704) : k0_pay9 (F := Ideal) xb wg (ix3 s r j) = ∑ l, xb (ix2 r l) * wg (ix3 0 l j) := by
  rw [← gate]
  pointwise [k0_pay9]

/-- The other branch's block as stored. -/
theorem up_out (s : Fin 1) (r : Fin 512) (j : Fin 704) : k0_pay10 (F := Ideal) xb wu (ix3 s r j) = ∑ l, xb (ix2 r l) * wu (ix3 0 l j) := by
  rw [← up]
  pointwise [k0_pay10]

/-- One shard's share of the feed-forward's rows. -/
theorem part (r : Fin 512) (l : Fin 1024) : k0_pay11 (F := Ideal) xb wg wu wd (ix2 r l)
    = ∑ j, act (∑ k, xb (ix2 r k) * wg (ix3 0 k j)) (∑ k, xb (ix2 r k) * wu (ix3 0 k j)) * wd (ix3 0 j l) := by
  simp only [← gate (xb := xb) (wg := wg), ← up (xb := xb) (wu := wu), act, Ideal.logistic]
  pointwise [k0_pay11]
  simp only [zero_sub]

/-- The row handed to the layer norm. -/
theorem pre (r : Fin 512) (l : Fin 1024) : k0_pay3 (F := Ideal) x a (ix2 r l) = half (x (ix2 r l)) (a (ix2 r l)) := by
  pointwise [k0_pay3]
  rfl

/-- The layer norm's block. -/
theorem out (r : Fin 512) (l : Fin 1024) : k0_pay4 (F := Ideal) x a g b (ix2 r l)
    = lnorm width (fun k => half (x (ix2 r k)) (a (ix2 r k))) (fun k => g (ix2 0 k)) (fun k => b (ix2 0 k)) l := by
  simp only [← pre, lnorm, hat, mean]
  pointwise [k0_pay4]

/-- The layer norm's block, stored at half the width. -/
theorem out_b (r : Fin 512) (l : Fin 1024) : k0_pay5 (F := Ideal) x a g b (ix2 r l) = k0_pay4 (F := Ideal) x a g b (ix2 r l) := by
  pointwise [k0_pay5]

/-- The first shard's share is stored as it is. -/
theorem first (i : S512x1024.Idx) : k0_pay1 (F := Ideal) a i = a i := by
  pointwise [k0_pay1]

/-- Each further shard's share is added. -/
theorem next (a' : FVec Ideal S512x1024 .f32) (i : S512x1024.Idx) : k0_pay2 (F := Ideal) a a' i = a' i + a i := by
  pointwise [k0_pay2]

end Cert.FfnFwdIdeal.Block

end
-- ==== Proof.FfnFwdRef.lean ====
/- What the reference of the feed-forward call computes. -/
module

public import proofs.«01_k».proof.Proof.FwdNorm
public import proofs.«01_k».proof.Proof.Gen.FfnFwdRefIdeal.Read
public import Idealize.ShloMosaic.Lib.Pointwise

@[expose] public section

set_option maxRecDepth 16384

noncomputable section

namespace Cert.FfnFwdRefIdeal.Ref

open Idealize.ShloMosaic Cert.FfnFwdRefIdeal Cert.FfnFwdRefIdeal.Gen Cert.FfnFwdRefIdeal.Read Cert.Fwd

variable (x : FVec Ideal S16384x1024 .f32) (wg wu : FVec Ideal S1024x2816 .f32) (wd : FVec Ideal S2816x1024 .f32) (g b : FVec Ideal S1024 .f32)

/-- The hidden column that column `j` of shard `s` is. -/
def col (s : Fin 4) (j : Fin 704) : Fin 2816 := ⟨s.val * 704 + j.val, by omega⟩

/-- The feed-forward's rows: the gated activations times the down weights. -/
def ffn (r : Fin 16384) (l : Fin 1024) : EReal :=
  ∑ j : Fin 2816, act (∑ k : Fin 1024, x (ix2 r k) * wg (ix2 k j)) (∑ k : Fin 1024, x (ix2 r k) * wu (ix2 k j)) * wd (ix2 j l)

/-- The row handed to the layer norm. -/
def row (r : Fin 16384) (l : Fin 1024) : EReal := half (x (ix2 r l)) (ffn x wg wu wd r l)

/-- One branch's columns, by shards. -/
def branch (w : FVec Ideal S1024x2816 .f32) (s : Fin 4) (r : Fin 16384) (j : Fin 704) : EReal := ∑ k : Fin 1024, x (ix2 r k) * w (ix2 k (col s j))

theorem v2 (r : Fin 16384) (j : Fin 2816) : val_main_v2 (F := Ideal) x wg (ix2 r j) = ∑ k : Fin 1024, x (ix2 r k) * wg (ix2 k j) := by
  pointwise [val_main_v2]

theorem v5 (r : Fin 16384) (j : Fin 2816) : val_main_v5 (F := Ideal) x wg wu (ix2 r j)
    = act (∑ k : Fin 1024, x (ix2 r k) * wg (ix2 k j)) (∑ k : Fin 1024, x (ix2 r k) * wu (ix2 k j)) := by
  rw [← v2, ← v2]
  pointwise [val_main_v5, val_main_v4, val_main_v3, val_main_call0_v5, val_main_call0_v4, val_main_call0_v3, val_main_call0_v2, val_main_call0_v1,
    val_main_call0_v0, val_main_call0_cst, val_main_call0_cst_0]
  rw [v2 x wu]
  rfl

/-- The reference's row before the layer norm. -/
theorem v9 (r : Fin 16384) (l : Fin 1024) : val_main_v9 (F := Ideal) x wg wu wd (ix2 r l) = row x wg wu wd r l := by
  pointwise [val_main_v9, val_main_v8, val_main_v7, val_main_v6, val_main_v1, val_main_v0, val_main_cst, val_main_cst_0]
  simp only [v5]
  rfl

/-- The reference's layer norm. -/
theorem v33 (r : Fin 16384) (l : Fin 1024) : val_main_v33 (F := Ideal) x wg wu wd g b (ix2 r l)
    = lnorm width (row x wg wu wd r) (fun k => g (ix1 k)) (fun k => b (ix1 k)) l := by
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14, val_main_v13,
    val_main_v12, val_main_v11, val_main_v10, val_main_cst_1, val_main_cst_2, val_main_cst_3, val_main_cst_4, val_main_cst_5]
  simp only [v9, lnorm, hat, mean, zero_add]

/-- The reference's gates, by shards. -/
theorem v41 (s : Fin 4) (r : Fin 16384) (j : Fin 704) : val_main_v41 (F := Ideal) x wg (ix3 s r j) = branch x wg s r j := by
  pointwise [val_main_v41, val_main_v36, val_main_v35, val_main_v34]
  rfl

/-- The reference's other branch, by shards. -/
theorem v42 (s : Fin 4) (r : Fin 16384) (j : Fin 704) : val_main_v42 (F := Ideal) x wu (ix3 s r j) = branch x wu s r j := by
  pointwise [val_main_v42, val_main_v39, val_main_v38, val_main_v37]
  rfl

end Cert.FfnFwdRefIdeal.Ref

end
-- ==== Proof.FfnFwdArray.lean ====
/- What the result arrays of the feed-forward call hold after the run. -/
module

public import proofs.«01_k».proof.Proof.FfnFwdBlock
public import proofs.«01_k».proof.Proof.FfnFwdRef
public import proofs.«01_k».proof.Proof.Gen.FfnFwdIdeal.Frame
public import Idealize.ShloMosaic.Lib.Pipeline.ValueKit

@[expose] public section

set_option maxRecDepth 16384

noncomputable section

namespace Cert.FfnFwdIdeal.Arr

open Idealize.ShloMosaic Idealize.ShloMosaic.TcCoe Idealize.SL.Sem Cert.FfnFwdIdeal Cert.FfnFwdIdeal.Gen Cert.Fwd
open Cert.FfnFwdRefIdeal.Ref (col ffn row branch)

variable {m : (ℓ : Loc nD τ sig) → Buf (Elt Ideal) ℓ}

/-- The index maps of the operands: shards step fastest, rows after them. -/
theorem idx : ∀ t : Fin cfg0.N, win0_0.index t = ![t.val / 4, 0] ∧ win0_1.index t = ![t.val / 4, 0]
    ∧ win0_2.index t = ![t.val % 4, 0, 0] ∧ win0_3.index t = ![t.val % 4, 0, 0] ∧ win0_4.index t = ![t.val % 4, 0, 0]
    ∧ win0_5.index t = ![0, 0] ∧ win0_6.index t = ![0, 0] :=
  (by decide +kernel : ∀ t : Fin grid0.N, _)

/-- The index maps of the results. -/
theorem odx : ∀ t : Fin cfg0.N, win0_7.index t = ![t.val / 4, 0] ∧ win0_8.index t = ![t.val / 4, 0] ∧ win0_9.index t = ![t.val / 4, 0]
    ∧ win0_10.index t = ![t.val % 4, t.val / 4, 0] ∧ win0_11.index t = ![t.val % 4, t.val / 4, 0] :=
  (by decide +kernel : ∀ t : Fin grid0.N, _)

/-- The row of the whole array that row `r` of the block at point `t` is. -/
def at_ (t : Fin cfg0.N) (r : Fin 512) : Fin 16384 := ⟨t.val / 4 * 512 + r.val, by have := t.isLt; have h : cfg0.N = 128 := N_0; omega⟩

/-- The shard of point `t`. -/
def shard (t : Fin cfg0.N) : Fin 4 := ⟨t.val % 4, by omega⟩

/-- The call's operands are the arguments: rows, gate, up and down arrays by shards, scale and shift. -/
structure Reads (m : (ℓ : Loc nD τ sig) → Buf (Elt Ideal) ℓ) (c : Dev nD) (x : FVec Ideal S16384x1024 .f32) (wg wu : FVec Ideal S1024x2816 .f32)
    (wd : FVec Ideal S2816x1024 .f32) (g b : FVec Ideal S1024 .f32) : Prop where
  hx : ∀ r l, (V m c main_arg0 : FVec Ideal S16384x1024 .f32) (ix2 r l) = x (ix2 r l)
  hxb : ∀ r l, (V m c main_v0 : FVec Ideal S16384x1024 .bf16) (ix2 r l) = x (ix2 r l)
  hg : ∀ s l j, (V m c main_v3 : FVec Ideal S4x1024x704 .bf16) (ix3 s l j) = wg (ix2 l (col s j))
  hu : ∀ s l j, (V m c main_v6 : FVec Ideal S4x1024x704 .bf16) (ix3 s l j) = wu (ix2 l (col s j))
  hd : ∀ s j l, (V m c main_v8 : FVec Ideal S4x704x1024 .bf16) (ix3 s j l) = wd (ix2 (col s j) l)
  hlg : ∀ s l, (V m c main_v9 : FVec Ideal S1x1024 .f32) (ix2 s l) = g (ix1 l)
  hlb : ∀ s l, (V m c main_v10 : FVec Ideal S1x1024 .f32) (ix2 s l) = b (ix1 l)

variable {c : Dev nD} {x : FVec Ideal S16384x1024 .f32} {wg wu : FVec Ideal S1024x2816 .f32} {wd : FVec Ideal S2816x1024 .f32} {g b : FVec Ideal S1024 .f32}

/-- The rows' block at a point. -/
theorem blk0 (h : Reads m c x wg wu wd g b) (t : Fin cfg0.N) (r : Fin 512) (l : Fin 1024) :
    (iblk m c 0 t : FVec Ideal S512x1024 .f32) (ix2 r l) = x (ix2 (at_ t r) l) := by
  rw [← h.hx]
  blk_point [iblk, V, idx t]
  rfl

/-- The rows' block at half the width. -/
theorem blk1 (h : Reads m c x wg wu wd g b) (t : Fin cfg0.N) (r : Fin 512) (l : Fin 1024) :
    (iblk m c 1 t : FVec Ideal S512x1024 .bf16) (ix2 r l) = x (ix2 (at_ t r) l) := by
  rw [← h.hxb]
  blk_point [iblk, V, idx t]
  rfl

/-- The gate weights' shard. -/
theorem blk2 (h : Reads m c x wg wu wd g b) (t : Fin cfg0.N) (l : Fin 1024) (j : Fin 704) :
    (iblk m c 2 t : FVec Ideal S1x1024x704 .bf16) (ix3 0 l j) = wg (ix2 l (col (shard t) j)) := by
  rw [← h.hg]
  blk_point [iblk, V, idx t]
  rfl

/-- The up weights' shard. -/
theorem blk3 (h : Reads m c x wg wu wd g b) (t : Fin cfg0.N) (l : Fin 1024) (j : Fin 704) :
    (iblk m c 3 t : FVec Ideal S1x1024x704 .bf16) (ix3 0 l j) = wu (ix2 l (col (shard t) j)) := by
  rw [← h.hu]
  blk_point [iblk, V, idx t]
  rfl

/-- The down weights' shard. -/
theorem blk4 (h : Reads m c x wg wu wd g b) (t : Fin cfg0.N) (j : Fin 704) (l : Fin 1024) :
    (iblk m c 4 t : FVec Ideal S1x704x1024 .bf16) (ix3 0 j l) = wd (ix2 (col (shard t) j) l) := by
  rw [← h.hd]
  blk_point [iblk, V, idx t]
  rfl

/-- The layer norm's scale. -/
theorem blk5 (h : Reads m c x wg wu wd g b) (t : Fin cfg0.N) (l : Fin 1024) :
    (iblk m c 5 t : FVec Ideal S1x1024 .f32) (ix2 0 l) = g (ix1 l) := by
  rw [← h.hlg 0]
  blk_point [iblk, V, idx t]
  all_goals rfl

/-- The layer norm's shift. -/
theorem blk6 (h : Reads m c x wg wu wd g b) (t : Fin cfg0.N) (l : Fin 1024) :
    (iblk m c 6 t : FVec Ideal S1x1024 .f32) (ix2 0 l) = b (ix1 l) := by
  rw [← h.hlb 0]
  blk_point [iblk, V, idx t]
  all_goals rfl

theorem emb7 (t : Fin cfg0.N) (y : S512x1024.Idx) : (win0_7.blk t).view.emb y = ix2 (at_ t (y 0)) (y 1) := by
  blk_ext [odx t]
  all_goals rfl

theorem emb8 (t : Fin cfg0.N) (y : S512x1024.Idx) : (win0_8.blk t).view.emb y = ix2 (at_ t (y 0)) (y 1) := by
  blk_ext [odx t]
  all_goals rfl

theorem emb9 (t : Fin cfg0.N) (y : S512x1024.Idx) : (win0_9.blk t).view.emb y = ix2 (at_ t (y 0)) (y 1) := by
  blk_ext [odx t]
  all_goals rfl

theorem emb10 (t : Fin cfg0.N) (y : S1x512x704.Idx) : (win0_10.blk t).view.emb y = ix3 (shard t) (at_ t (y 1)) (y 2) := by
  blk_ext [odx t]
  all_goals rfl

theorem emb11 (t : Fin cfg0.N) (y : S1x512x704.Idx) : (win0_11.blk t).view.emb y = ix3 (shard t) (at_ t (y 1)) (y 2) := by
  blk_ext [odx t]
  all_goals rfl

/-- One shard's share of the feed-forward's rows. -/
def share (x : FVec Ideal S16384x1024 .f32) (wg wu : FVec Ideal S1024x2816 .f32) (wd : FVec Ideal S2816x1024 .f32) (s : Fin 4) (r : Fin 16384) (l : Fin 1024) : EReal :=
  ∑ j : Fin 704, act (∑ k : Fin 1024, x (ix2 r k) * wg (ix2 k (col s j))) (∑ k : Fin 1024, x (ix2 r k) * wu (ix2 k (col s j))) * wd (ix2 (col s j) l)

/-- One shard's share at a point. -/
theorem part (h : Reads m c x wg wu wd g b) (t : Fin cfg0.N) (y : S512x1024.Idx) :
    k0_pay11 (F := Ideal) (iblk m c 1 t) (iblk m c 2 t) (iblk m c 3 t) (iblk m c 4 t) y = share x wg wu wd (shard t) (at_ t (y 0)) (y 1) := by
  have e : ∀ (r : Fin 512) (l : Fin 1024), k0_pay11 (F := Ideal) (iblk m c 1 t) (iblk m c 2 t) (iblk m c 3 t) (iblk m c 4 t) (ix2 r l)
      = share x wg wu wd (shard t) (at_ t r) l := fun r l => by
    rw [Block.part]
    simp only [blk1 h, blk2 h, blk3 h, blk4 h]
    rfl
  have e := e (y 0) (y 1)
  rw [← eq_ix2 y] at e
  exact e

/-- A scratch carried from the point before holds what that point left. -/
theorem keep (h : (Memref.whole cc0_scratch0).IsWhole) (a : FVec Ideal S512x1024 .f32) : View.read (Elt Ideal) (View.whole cc0_scratch0) (h.unread a) = a :=
  Memref.IsWhole.read_unread (Val := Elt Ideal) h a

/-- After the last shard the scratch holds the feed-forward's rows. -/
theorem scratch (h : Reads m c x wg wu wd g b) (t : Fin cfg0.N) (hm : t.val % 4 = 3) (y : S512x1024.Idx) :
    (outsAt0 m c t.val t.isLt).2.2.2.2.2 y = ffn x wg wu wd (at_ t (y 0)) (y 1) := by
  rw [Pipeline.eq_sum_fin_of_reset_step_apply_of_flush (fun n h => (outsAt0 m c n h).2.2.2.2.2) 4 (fun _ => 0) _
    (fun t h0 i => by rw [outsAt0_A m c t h0 (by omega) (by omega)]; frame_out; rw [Block.first, part h t, zero_add])
    (fun t h0 i => by
      by_cases h1 : t.val % 4 = 3
      · rw [outsAt0_C m c t h0 (by omega) h1]; frame_out; rw [Block.next, part h t]; exact congrArg (· + _) (congrFun (keep _ _) i)
      · rw [outsAt0_B m c t h0 (by omega) h1]; frame_out; rw [Block.next, part h t]; exact congrArg (· + _) (congrFun (keep _ _) i))
    t hm, zero_add]
  unfold ffn share
  rw [Fin.sum_univ_tiles 4 704 rfl]
  refine Finset.sum_congr rfl fun s _ => Finset.sum_congr rfl fun j _ => ?_
  have h1 : col (shard ⟨4 * (t.val / 4) + s.val, Pipeline.run_point_lt_of_flush t hm s⟩) j = ⟨s.val * 704 + j.val, by omega⟩ :=
    Fin.ext (by show (4 * (t.val / 4) + s.val) % 4 * 704 + j.val = s.val * 704 + j.val; omega)
  have h2 : at_ ⟨4 * (t.val / 4) + s.val, Pipeline.run_point_lt_of_flush t hm s⟩ (y 0) = at_ t (y 0) :=
    Fin.ext (by show (4 * (t.val / 4) + s.val) / 4 * 512 + (y 0).val = t.val / 4 * 512 + (y 0).val; omega)
  rw [h1, h2]

/-- The row handed to the layer norm. -/
theorem final9 (h : Reads m c x wg wu wd g b) :
    (dats m 0 c).arrAt 9 cfg0.N = (fun i => row x wg wu wd (i 0) (i 1) : FVec Ideal S16384x1024 .f32) := by
  refine (dats m 0 c).arrAt_eq_of_covers 9 _ (by decide +kernel) fun t hf y => ?_
  have hm := (flush0_9 t).mp hf
  have he : (outsAt0 m c t.val t.isLt).2.2.1 = k0_pay3 (F := Ideal) (iblk m c 0 t) (outsAt0 m c t.val t.isLt).2.2.2.2.2 := by
    rw [outsAt0_C m c t (by omega) (by omega) hm]
    frame_out
  have e : ∀ (r : Fin 512) (l : Fin 1024), k0_pay3 (F := Ideal) (iblk m c 0 t) (outsAt0 m c t.val t.isLt).2.2.2.2.2 (ix2 r l)
      = row x wg wu wd (at_ t r) l := fun r l => by
    rw [Block.pre, scratch h t hm, blk0 h]
    rfl
  have e := e (y 0) (y 1)
  rw [← eq_ix2 y] at e
  blk_simp
  rw [after0_9, emb9, he]
  exact e

/-- The layer norm's rows as one block. -/
theorem out (h : Reads m c x wg wu wd g b) (t : Fin cfg0.N) (hm : t.val % 4 = 3) (r : Fin 512) (l : Fin 1024) :
    k0_pay4 (F := Ideal) (iblk m c 0 t) (outsAt0 m c t.val t.isLt).2.2.2.2.2 (iblk m c 5 t) (iblk m c 6 t) (ix2 r l)
      = lnorm width (row x wg wu wd (at_ t r)) (fun k => g (ix1 k)) (fun k => b (ix1 k)) l := by
  rw [Block.out]
  simp only [blk0 h, blk5 h, blk6 h, scratch h t hm]
  rfl

/-- The layer norm. -/
theorem final7 (h : Reads m c x wg wu wd g b) :
    (dats m 0 c).arrAt 7 cfg0.N = (fun i => lnorm width (row x wg wu wd (i 0)) (fun k => g (ix1 k)) (fun k => b (ix1 k)) (i 1) : FVec Ideal S16384x1024 .f32) := by
  refine (dats m 0 c).arrAt_eq_of_covers 7 _ (by decide +kernel) fun t hf y => ?_
  have hm := (flush0_7 t).mp hf
  have he : (outsAt0 m c t.val t.isLt).1 = k0_pay4 (F := Ideal) (iblk m c 0 t) (outsAt0 m c t.val t.isLt).2.2.2.2.2 (iblk m c 5 t) (iblk m c 6 t) := by
    rw [outsAt0_C m c t (by omega) (by omega) hm]
    frame_out
  have e := out h t hm (y 0) (y 1)
  blk_simp
  rw [after0_7, emb7, he]
  rw [← eq_ix2 y] at e
  exact e

/-- The layer norm, stored at half the width. -/
theorem final8 (h : Reads m c x wg wu wd g b) :
    (dats m 0 c).arrAt 8 cfg0.N = (fun i => lnorm width (row x wg wu wd (i 0)) (fun k => g (ix1 k)) (fun k => b (ix1 k)) (i 1) : FVec Ideal S16384x1024 .bf16) := by
  refine (dats m 0 c).arrAt_eq_of_covers 8 _ (by decide +kernel) fun t hf y => ?_
  have hm := (flush0_8 t).mp hf
  have he : (outsAt0 m c t.val t.isLt).2.1 = k0_pay5 (F := Ideal) (iblk m c 0 t) (outsAt0 m c t.val t.isLt).2.2.2.2.2 (iblk m c 5 t) (iblk m c 6 t) := by
    rw [outsAt0_C m c t (by omega) (by omega) hm]
    frame_out
  have e := (Block.out_b (y 0) (y 1)).trans (out h t hm (y 0) (y 1))
  blk_simp
  rw [after0_8, emb8, he]
  rw [← eq_ix2 y] at e
  exact e

/-- The gates, by shards. -/
theorem final10 (h : Reads m c x wg wu wd g b) :
    (dats m 0 c).arrAt 10 cfg0.N = (fun i => branch x wg (i 0) (i 1) (i 2) : FVec Ideal S4x16384x704 .bf16) := by
  refine (dats m 0 c).arrAt_eq_of_covers 10 _ (by decide +kernel) fun t _ y => ?_
  have e : ∀ (s : Fin 1) (r : Fin 512) (j : Fin 704), k0_pay9 (F := Ideal) (iblk m c 1 t) (iblk m c 2 t) (ix3 s r j)
      = branch x wg (shard t) (at_ t r) j := fun s r j => by
    rw [Block.gate_out]
    simp only [blk1 h, blk2 h]
    rfl
  have e := e (y 0) (y 1) (y 2)
  rw [← eq_ix3 y] at e
  blk_simp
  rw [after0_10, emb10]
  by_cases h0 : t.val % 4 = 0
  · rw [outsAt0_A m c t h0 (by omega) (by omega)]
    frame_out
    exact e
  · by_cases h1 : t.val % 4 = 3
    · rw [outsAt0_C m c t h0 (by omega) h1]
      frame_out
      exact e
    · rw [outsAt0_B m c t h0 (by omega) h1]
      frame_out
      exact e

/-- The other branch, by shards. -/
theorem final11 (h : Reads m c x wg wu wd g b) :
    (dats m 0 c).arrAt 11 cfg0.N = (fun i => branch x wu (i 0) (i 1) (i 2) : FVec Ideal S4x16384x704 .bf16) := by
  refine (dats m 0 c).arrAt_eq_of_covers 11 _ (by decide +kernel) fun t _ y => ?_
  have e : ∀ (s : Fin 1) (r : Fin 512) (j : Fin 704), k0_pay10 (F := Ideal) (iblk m c 1 t) (iblk m c 3 t) (ix3 s r j)
      = branch x wu (shard t) (at_ t r) j := fun s r j => by
    rw [Block.up_out]
    simp only [blk1 h, blk3 h]
    rfl
  have e := e (y 0) (y 1) (y 2)
  rw [← eq_ix3 y] at e
  blk_simp
  rw [after0_11, emb11]
  by_cases h0 : t.val % 4 = 0
  · rw [outsAt0_A m c t h0 (by omega) (by omega)]
    frame_out
    exact e
  · by_cases h1 : t.val % 4 = 3
    · rw [outsAt0_C m c t h0 (by omega) h1]
      frame_out
      exact e
    · rw [outsAt0_B m c t h0 (by omega) h1]
      frame_out
      exact e

end Cert.FfnFwdIdeal.Arr

end
-- ==== Proof.FfnFwdPair.lean ====
/- The feed-forward call equals the half-step feed-forward with its residual and layer norm: the claims of this pair. -/
module

public import proofs.«01_k».proof.Defs
public import proofs.«01_k».proof.Proof.FfnFwdArray
public import proofs.«01_k».proof.Proof.Gen.FfnFwd.Frame
public import proofs.«01_k».proof.Proof.Gen.FfnFwdRefIdeal.Run
public import Idealize.ShloMosaic.Lib.Claim

@[expose] public section

set_option maxRecDepth 16384

noncomputable section

namespace Cert.FfnFwdPair

open Idealize.ShloMosaic Idealize.ShloMosaic.TcCoe Idealize.SL.Sem Cert.Fwd
open Cert.FfnFwdRefIdeal.Ref (col)

/-- The call's operands are the arguments, cast and cut into shards. -/
theorem reads (m : (ℓ : Loc FfnFwdIdeal.nD FfnFwdIdeal.τ FfnFwdIdeal.sig) → Buf (Elt Ideal) ℓ) (c : Dev FfnFwdIdeal.nD) :
    FfnFwdIdeal.Arr.Reads m c (m ((c.tc : Thread FfnFwdIdeal.nD FfnFwdIdeal.τ).loc FfnFwdIdeal.main_arg0)) (m ((c.tc : Thread FfnFwdIdeal.nD FfnFwdIdeal.τ).loc FfnFwdIdeal.main_arg1))
      (m ((c.tc : Thread FfnFwdIdeal.nD FfnFwdIdeal.τ).loc FfnFwdIdeal.main_arg2)) (m ((c.tc : Thread FfnFwdIdeal.nD FfnFwdIdeal.τ).loc FfnFwdIdeal.main_arg3))
      (m ((c.tc : Thread FfnFwdIdeal.nD FfnFwdIdeal.τ).loc FfnFwdIdeal.main_arg4)) (m ((c.tc : Thread FfnFwdIdeal.nD FfnFwdIdeal.τ).loc FfnFwdIdeal.main_arg5)) := by
  refine ⟨fun r l => ?_, fun r l => ?_, fun s l j => ?_, fun s l j => ?_, fun s j l => ?_, fun s l => ?_, fun s l => ?_⟩
  · rw [FfnFwdIdeal.Gen.V_main_arg0]
  all_goals entry_read; pointwise
  all_goals rfl

theorem frame_p : Cert.quiescent_FfnFwd := fun m ρ _ => Cert.FfnFwd.Gen.frame m ρ
theorem frame_pi : Cert.quiescent_FfnFwdIdeal := fun m ρ _ => Cert.FfnFwdIdeal.Gen.frame m ρ
theorem frame_ri : Cert.quiescent_FfnFwdRefIdeal := fun m ρ _ =>
  (θ_run Cert.FfnFwdRefIdeal.defs _ _).mono (fun r h => ⟨fun c => (h c).2.2.2.2.2, sem_eq_zero_of_no_sems (by decide) r.2⟩)
    (Cert.FfnFwdRefIdeal.Value.run (F := Ideal) m ρ)

open FfnFwdIdeal in
/-- The program leaves the call's five arrays, and its arguments as they were. -/
theorem run (m : (ℓ : Loc nD τ sig) → Buf (Elt Ideal) ℓ) (ρ : Dev nD → PrngReg) :
    θ_run defs (onTc (τ := τ) (main (F := Ideal))) ⟨m, fun _ => 0, ρ⟩ (fun q => ∀ c : Dev nD,
      q.2.mem ((c.tc : Thread nD τ).loc main_v11_0) = (Gen.dats m 0 c).arrAt 7 cfg0.N
      ∧ q.2.mem ((c.tc : Thread nD τ).loc main_v11_1) = (Gen.dats m 0 c).arrAt 8 cfg0.N
      ∧ q.2.mem ((c.tc : Thread nD τ).loc main_v11_2) = (Gen.dats m 0 c).arrAt 9 cfg0.N
      ∧ q.2.mem ((c.tc : Thread nD τ).loc main_v11_3) = (Gen.dats m 0 c).arrAt 10 cfg0.N
      ∧ q.2.mem ((c.tc : Thread nD τ).loc main_v11_4) = (Gen.dats m 0 c).arrAt 11 cfg0.N
      ∧ q.2.mem ((c.tc : Thread nD τ).loc main_arg0) = m ((c.tc : Thread nD τ).loc main_arg0)
      ∧ q.2.mem ((c.tc : Thread nD τ).loc main_arg1) = m ((c.tc : Thread nD τ).loc main_arg1)
      ∧ q.2.mem ((c.tc : Thread nD τ).loc main_arg2) = m ((c.tc : Thread nD τ).loc main_arg2)
      ∧ q.2.mem ((c.tc : Thread nD τ).loc main_arg3) = m ((c.tc : Thread nD τ).loc main_arg3)
      ∧ q.2.mem ((c.tc : Thread nD τ).loc main_arg4) = m ((c.tc : Thread nD τ).loc main_arg4)
      ∧ q.2.mem ((c.tc : Thread nD τ).loc main_arg5) = m ((c.tc : Thread nD τ).loc main_arg5)) :=
  (θ_run defs _ _).mono (fun _ h c => ⟨(h.1 c).1 7, (h.1 c).1 8, (h.1 c).1 9, (h.1 c).1 10, (h.1 c).1 11, h.2 c⟩)
    (θ_run_and (Gen.run_main m ρ) (Gen.unchanged m ρ))

set_option maxHeartbeats 1600000 in
theorem algebraic : Cert.algebraic_FfnFwdIdeal_FfnFwdRefIdeal := by
  pair_intro
  · refine θ_run_mono (run m g) ?_
    intro r hr c
    exact hr c
  · refine θ_run_mono (Cert.FfnFwdRefIdeal.Value.run m' g') ?_
    intro r hr c
    obtain ⟨h0, h1, h2, h3, h4, h5⟩ := hr c
    refine ⟨h0.trans ?_, h1.trans ?_, h2.trans ?_, h3.trans ?_, h4.trans ?_, h5⟩
    all_goals clear h0 h1 h2 h3 h4 h5
    · rw [FfnFwdRefIdeal.Read.val_main_v33_eq, (hagree c).1, (hagree c).2.1, (hagree c).2.2.1, (hagree c).2.2.2.1, (hagree c).2.2.2.2.1, (hagree c).2.2.2.2.2]
      refine Eq.trans (funext fun i => ?_) (FfnFwdIdeal.Arr.final7 (reads m c)).symm
      rw [eq_ix2 i]
      exact FfnFwdRefIdeal.Ref.v33 _ _ _ _ _ _ (i 0) (i 1)
    · rw [FfnFwdRefIdeal.Read.val_main_v40_eq, (hagree c).1, (hagree c).2.1, (hagree c).2.2.1, (hagree c).2.2.2.1, (hagree c).2.2.2.2.1, (hagree c).2.2.2.2.2]
      refine Eq.trans (funext fun i => ?_) (FfnFwdIdeal.Arr.final8 (reads m c)).symm
      rw [eq_ix2 i]
      exact FfnFwdRefIdeal.Ref.v33 _ _ _ _ _ _ (i 0) (i 1)
    · rw [FfnFwdRefIdeal.Read.val_main_v9_eq, (hagree c).1, (hagree c).2.1, (hagree c).2.2.1, (hagree c).2.2.2.1]
      refine Eq.trans (funext fun i => ?_) (FfnFwdIdeal.Arr.final9 (reads m c)).symm
      rw [eq_ix2 i]
      exact FfnFwdRefIdeal.Ref.v9 _ _ _ _ (i 0) (i 1)
    · rw [FfnFwdRefIdeal.Read.val_main_v41_eq, (hagree c).1, (hagree c).2.1]
      refine Eq.trans (funext fun i => ?_) (FfnFwdIdeal.Arr.final10 (reads m c)).symm
      rw [eq_ix3 i]
      exact FfnFwdRefIdeal.Ref.v41 _ _ (i 0) (i 1) (i 2)
    · rw [FfnFwdRefIdeal.Read.val_main_v42_eq, (hagree c).1, (hagree c).2.2.1]
      refine Eq.trans (funext fun i => ?_) (FfnFwdIdeal.Arr.final11 (reads m c)).symm
      rw [eq_ix3 i]
      exact FfnFwdRefIdeal.Ref.v42 _ _ (i 0) (i 1) (i 2)

end Cert.FfnFwdPair

end
-- ==== Proof.Seq.lean ====
/- Sequences padded with zeros: their shifts, the convolution along them and the centred window's sum. -/
module

public import Idealize.ShloMosaic.PureOps.Ideal

@[expose] public section

noncomputable section

namespace Cert.Seq

open Idealize.ShloMosaic

variable {n : ℕ}

/-- A sequence read at any whole number, zero outside. -/
def ext (f : Fin n → EReal) (s : ℤ) : EReal := if h : 0 ≤ s ∧ s.toNat < n then f ⟨s.toNat, h.2⟩ else 0

/-- Inside, the padded sequence is the sequence. -/
theorem ext_of (f : Fin n → EReal) (s : Fin n) (a : ℤ) (h : (s.val : ℤ) = a) : ext f a = f s := by
  subst h
  have h : 0 ≤ (s.val : ℤ) ∧ (s.val : ℤ).toNat < n := ⟨by omega, by have := s.isLt; omega⟩
  rw [ext, dif_pos h]
  exact congrArg f (Fin.ext (by simp))

/-- Outside it is zero. -/
theorem ext_out (f : Fin n → EReal) (a : ℤ) (h : a < 0 ∨ (n : ℤ) ≤ a) : ext f a = 0 := by
  rw [ext, dif_neg]; omega

/-- The sum that picks the entry at one place. -/
theorem sum_at (f : Fin n → EReal) (a : ℤ) : ∑ s : Fin n, (if (s.val : ℤ) = a then f s else 0) = ext f a := by
  by_cases h : 0 ≤ a ∧ a.toNat < n
  · rw [Finset.sum_eq_single (⟨a.toNat, h.2⟩ : Fin n)]
    · rw [if_pos (by show ((a.toNat : ℕ) : ℤ) = a; omega), ext, dif_pos h]
    · intro s _ hs
      exact if_neg fun e => hs (Fin.ext (by show s.val = a.toNat; omega))
    · exact fun h' => absurd (Finset.mem_univ _) h'
  · rw [ext, dif_neg h]
    exact Finset.sum_eq_zero fun s _ => if_neg fun e => h ⟨by omega, by have := s.isLt; omega⟩

/-- A factor passes through the padding. -/
theorem ext_mul (x : EReal) (f : Fin n → EReal) (a : ℤ) : ext (fun s => x * f s) a = x * ext f a := by
  unfold ext; split
  · rfl
  · exact (mul_zero x).symm

/-- The convolution along a sequence: tap `k` reads `k - c` places on. -/
def conv {K : ℕ} (c : ℕ) (w : Fin K → EReal) (f : Fin n → EReal) (t : Fin n) : EReal :=
  ∑ k : Fin K, ext f ((t.val : ℤ) + k.val - c) * w k

/-- Whether the window of half width `h` holds offset `o - 8`. -/
def tap (h : ℕ) (o : Fin 16) : EReal := if 8 ≤ o.val + h ∧ o.val < 8 + h then 1 else 0

/-- The centred window's sum. -/
def pool (h : ℕ) (f : Fin n → EReal) (t : Fin n) : EReal := ∑ o : Fin 16, tap h o * ext f ((t.val : ℤ) + o.val - 8)

/-- The sum over the entries between `t - h` and `t + h` is the window's sum. -/
theorem sum_window (h : ℕ) (hh : h ≤ 8) (f : Fin n → EReal) (t : Fin n) :
    ∑ s : Fin n, (if (t.val : ℤ) - h ≤ s.val ∧ (s.val : ℤ) < t.val + h then f s else 0) = pool h f t := by
  have e : ∀ s : Fin n, (if (t.val : ℤ) - h ≤ s.val ∧ (s.val : ℤ) < t.val + h then f s else 0)
      = ∑ o : Fin 16, (if (s.val : ℤ) = (t.val : ℤ) + o.val - 8 then tap h o * f s else 0) := fun s => by
    by_cases hs : (t.val : ℤ) - h ≤ s.val ∧ (s.val : ℤ) < t.val + h
    · rw [if_pos hs, Finset.sum_eq_single (⟨((s.val : ℤ) - t.val + 8).toNat, by omega⟩ : Fin 16)]
      · rw [if_pos (by show (s.val : ℤ) = t.val + ((((s.val : ℤ) - t.val + 8).toNat : ℕ) : ℤ) - 8; omega), tap,
          if_pos (by constructor <;> simp only <;> omega), one_mul]
      · intro o _ ho
        exact if_neg fun e => ho (Fin.ext (by show o.val = ((s.val : ℤ) - t.val + 8).toNat; omega))
      · exact fun h' => absurd (Finset.mem_univ _) h'
    · rw [if_neg hs]
      refine (Finset.sum_eq_zero fun o _ => ?_).symm
      by_cases e : (s.val : ℤ) = (t.val : ℤ) + o.val - 8
      · rw [if_pos e, tap, if_neg (by omega), zero_mul]
      · exact if_neg e
  rw [Finset.sum_congr rfl fun s _ => e s, Finset.sum_comm]
  refine Finset.sum_congr rfl fun o _ => ?_
  rw [sum_at (fun s => tap h o * f s), ext_mul]

/-- How many places of a sequence of length `n` the window around `t` holds. -/
def count (n h t : ℕ) : ℕ := min n (t + h) - (t - h)

/-- The half width of the window of channel `j`. -/
def halfWidth (j : Fin 256) : ℕ := 2 ^ (j.val / 64)

theorem halfWidth_le (j : Fin 256) : halfWidth j ≤ 8 :=
  Nat.pow_le_pow_right (by decide) (by omega : j.val / 64 ≤ 3)

theorem halfWidth_pos (j : Fin 256) : 0 < halfWidth j := Nat.pow_pos (by decide)

theorem count_pos (t : Fin n) (h : ℕ) (hh : 0 < h) : 0 < count n h t.val := by
  unfold count; have := t.isLt; omega

end Cert.Seq

end
-- ==== Proof.Mixer.lean ====
/- The token mixer as functions of the projected rows: the pooled heads, the short gated convolution, the long convolution with its norm. -/
module

public import proofs.«01_k».proof.Proof.FwdNorm
public import proofs.«01_k».proof.Proof.Seq

@[expose] public section

noncomputable section

namespace Cert.Mix

open Idealize.ShloMosaic Cert.Fwd Cert.Seq

/-- The number of channels of the convolution heads. -/
abbrev heads : EReal := Ideal.ofBits .f32 0x43C00000#32

variable (P : Fin 16384 → Fin 2176 → EReal) (pw : Fin 4 → Fin 64 → Fin 64 → EReal) (ps : Fin 256 → EReal) (sw : Fin 3 → Fin 384 → EReal)
  (cw : Fin 31 → Fin 384 → EReal) (cb cg cc : Fin 384 → EReal)

/-- The pooled heads' input. -/
def up (t : Fin 16384) (j : Fin 256) : EReal := P t ⟨j.val, by omega⟩

/-- The window's average less the token itself. -/
def pooled (t : Fin 16384) (j : Fin 256) : EReal :=
  Ideal.div (pool (halfWidth j) (fun s => up P s j) t) (((count 16384 (halfWidth j) t.val : ℕ) : ℝ) : EReal) - up P t j

/-- The channel that lane `d` of the group of channel `j` is. -/
def lane (j : Fin 256) (d : Fin 64) : Fin 256 := ⟨j.val / 64 * 64 + d.val, by omega⟩

/-- The pooled heads, mixed group by group and scaled. -/
def headA (t : Fin 16384) (j : Fin 256) : EReal :=
  (∑ d : Fin 64, pooled P t (lane j d) * pw ⟨j.val / 64, by omega⟩ d ⟨j.val % 64, by omega⟩) * ps j

/-- What the short convolution reads. -/
def shortIn (t : Fin 16384) (j : Fin 384) : EReal := P t ⟨640 + j.val, by omega⟩ * P t ⟨1024 + j.val, by omega⟩

/-- The gated short convolution. -/
def headB (t : Fin 16384) (j : Fin 384) : EReal :=
  P t ⟨256 + j.val, by omega⟩ * conv 1 (fun k => sw k j) (fun s => shortIn P s j) t

/-- What the long convolution reads. -/
def longIn (t : Fin 16384) (j : Fin 384) : EReal := P t ⟨1408 + j.val, by omega⟩ * Ideal.logistic (P t ⟨1792 + j.val, by omega⟩)

/-- The long convolution. -/
def long (t : Fin 16384) (j : Fin 384) : EReal := conv 15 (fun k => cw k j) (fun s => longIn P s j) t + cb j

/-- The normed long convolution under its logistic gate. -/
def headC (a : Fin 384 → EReal) (j : Fin 384) : EReal := lnorm heads a cg cc j * Ideal.logistic (lnorm heads a cg cc j)

/-- The three heads side by side. -/
def cat (t : Fin 16384) (l : Fin 1024) : EReal :=
  if h : l.val < 256 then headA P pw ps t ⟨l.val, h⟩
  else if h : l.val - 256 < 384 then headB P sw t ⟨l.val - 256, h⟩
  else headC cg cc (long P cw cb t) ⟨l.val - 256 - 384, by omega⟩

end Cert.Mix

end
-- ==== Proof.MixFwdBlock.lean ====
/- What one block of the token mixer's call computes. -/
module

public import proofs.«01_k».proof.Proof.Mixer
public import proofs.«01_k».proof.Proof.Gen.MixFwdIdeal.Frame
public import Idealize.ShloMosaic.Lib.Pipeline.ValueKit
public import Idealize.ShloMosaic.Lib.Pipeline.ReadBack
public import Idealize.ShloMosaic.Lib.WordCmp

@[expose] public section

set_option maxRecDepth 16384

noncomputable section

namespace Cert.MixFwdIdeal.Blk

open Idealize.ShloMosaic Idealize.ShloMosaic.TcCoe Idealize.SL.Sem Cert.MixFwdIdeal Cert.MixFwdIdeal.Gen Cert.Fwd Cert.Seq Cert.Mix
open Cert.MixFwdIdeal.Gen.kernelRun0_A

variable (c : Dev nD) (i : grid0.Coords)
  (arg1 : Memref sig .tc .vmem S32x1024 .bf16) (harg1 : arg1.IsWhole) (arg2 : Memref sig .tc .vmem S256x1024 .bf16) (harg2 : arg2.IsWhole)
  (arg3 : Memref sig .tc .vmem S32x1024 .bf16) (harg3 : arg3.IsWhole) (arg5 : Memref sig .tc .vmem S1024x2176 .bf16) (harg5 : arg5.IsWhole)
  (arg22 : Memref sig .tc .vmem S320x1024 .bf16) (arg23 : Memref sig .tc .vmem S320x2176 .f32) (arg26 : Memref sig .tc .vmem S312x384 .f32)
  (x0 : Vec Ideal S32x1024 .bf16) (x1 : Vec Ideal S256x1024 .bf16) (x2 : Vec Ideal S32x1024 .bf16) (x4 : Vec Ideal S1024x2176 .bf16)

/-- The block's rows with their neighbours' edges, zero before the first block and after the last. -/
def rows (r : Fin 320) (l : Fin 1024) : EReal :=
  if h : r.val < 32 then (if 0 < (i 0).val then x0 (ix2 ⟨r.val, h⟩ l) else 0)
  else if h : r.val < 288 then x1 (ix2 ⟨r.val - 32, by omega⟩ l)
  else (if (i 0).val < 63 then x2 (ix2 ⟨r.val - 288, by omega⟩ l) else 0)

/-- The same as an array. -/
def rowsArr : FVec Ideal S320x1024 .bf16 := fun y => rows i x0 x1 x2 (y 0) (y 1)

theorem pay3 (r : Fin 32) (l : Fin 1024) : k0_pay3 (F := Ideal) i x0 (ix2 r l) = if 0 < (i 0).val then x0 (ix2 r l) else 0 := by
  have h : (i 0).val < 64 := (i 0).isLt
  pointwise [k0_pay3]
  rw [show Scalar.cmpi = IntOp.cmpi from rfl, WordCmp.cmpi_sgt_eq, WordCmp.select_ofBool]
  simp only [WordCmp.toInt_ofNat_of_lt (show (i 0).val < 2 ^ (32 - 1) by omega), decide_eq_true_eq]
  refine if_congr ?_ rfl rfl
  simp

theorem pay5 (r : Fin 32) (l : Fin 1024) : k0_pay5 (F := Ideal) i x2 (ix2 r l) = if (i 0).val < 63 then x2 (ix2 r l) else 0 := by
  have h : (i 0).val < 64 := (i 0).isLt
  pointwise [k0_pay5]
  rw [show Scalar.cmpi = IntOp.cmpi from rfl, WordCmp.cmpi_slt_eq, WordCmp.select_ofBool]
  simp only [WordCmp.toInt_ofNat_of_lt (show (i 0).val < 2 ^ (32 - 1) by omega), decide_eq_true_eq]
  refine if_congr ?_ rfl rfl
  simp

theorem pay4 (r : Fin 256) (l : Fin 1024) : k0_pay4 (F := Ideal) x1 (ix2 r l) = x1 (ix2 r l) := by
  pointwise [k0_pay4]

theorem rows_first (r : Fin 32) (R : Fin 320) (l L : Fin 1024) (h : R.val = 0 + 1 * r.val) (hl : L.val = 0 + 1 * l.val) :
    rows i x0 x1 x2 R L = if 0 < (i 0).val then x0 (ix2 r l) else 0 := by
  obtain rfl : l = L := Fin.ext (by omega)
  rw [rows, dif_pos (by omega)]
  exact congrArg (fun q => if 0 < (i 0).val then x0 (ix2 q l) else 0) (Fin.ext (by show R.val = r.val; omega))

theorem rows_mid (r : Fin 256) (R : Fin 320) (l L : Fin 1024) (h : R.val = 32 + 1 * r.val) (hl : L.val = 0 + 1 * l.val) : rows i x0 x1 x2 R L = x1 (ix2 r l) := by
  obtain rfl : l = L := Fin.ext (by omega)
  rw [rows, dif_neg (by omega), dif_pos (by omega)]
  exact congrArg (fun q => x1 (ix2 q l)) (Fin.ext (by show R.val - 32 = r.val; omega))

theorem rows_last (r : Fin 32) (R : Fin 320) (l L : Fin 1024) (h : R.val = 288 + 1 * r.val) (hl : L.val = 0 + 1 * l.val) :
    rows i x0 x1 x2 R L = if (i 0).val < 63 then x2 (ix2 r l) else 0 := by
  obtain rfl : l = L := Fin.ext (by omega)
  rw [rows, dif_neg (by omega), dif_neg (by omega)]
  exact congrArg (fun q => if (i 0).val < 63 then x2 (ix2 q l) else 0) (Fin.ext (by show R.val - 288 = r.val; omega))

/-- A load over stores that are all blocks of one array and cover it reads that array. -/
theorem load_of {s : Shape} {e : EltTy} {κ : Kind} {sp : Space} (v : View sig κ sp s e) (G : s.Idx → Elt Ideal e) (L : List (View.Piece (Elt Ideal) s e))
    (r : Rect s) (g : Fin s.rank → ℕ) (hc : View.Piece.tiledBy L g = true) (hp : View.PiecesOf G L) : v.readCov L r.toLoadRect = View.ld G r := by
  have hc := View.cover_of_tiledBy L g hc
  rw [View.readCov_eq_canon_ld v L r hc, show View.canon L = G from funext fun y => View.canon_apply_of_pieces G L hp.mem y (hc y)]

/-- The rows with their neighbours' edges, as the block reads them back. -/
theorem v23 : sl.v23 c i arg1 harg1 arg2 harg2 arg3 harg3 arg22 x0 x1 x2 = rowsArr i x0 x1 x2 := by
  unfold sl.v23 sl.HS0_3
  simp (disch := decide) only [View.readAt_eq_ld, View.ld_unit_lit', Memref.IsWhole.read_unread]
  refine (load_of _ (rowsArr i x0 x1 x2) _ _ ![32, 1024] (by sl_kernel_rfl) ?_).trans (View.ld_unit_lit' _ _ (by decide))
  refine ⟨fun x => ?_, fun x => ?_, fun x => ?_, trivial⟩
  · have e := (pay5 i x2 (x 0) (x 1)).trans (rows_last i x0 x1 x2 (x 0) ((Rect.unit (s := S320x1024) ![288, 0] ![32, 1024] inb_S320x1024_S32x1024_288_0).emb x 0) (x 1) ((Rect.unit (s := S320x1024) ![288, 0] ![32, 1024] inb_S320x1024_S32x1024_288_0).emb x 1) rfl rfl).symm
    rw [← eq_ix2 x] at e
    exact e
  · have e := (pay4 x1 (x 0) (x 1)).trans (rows_mid i x0 x1 x2 (x 0) ((Rect.unit (s := S320x1024) ![32, 0] ![256, 1024] inb_S320x1024_S256x1024_32_0).emb x 0) (x 1) ((Rect.unit (s := S320x1024) ![32, 0] ![256, 1024] inb_S320x1024_S256x1024_32_0).emb x 1) rfl rfl).symm
    rw [← eq_ix2 x] at e
    exact e
  · have e := (pay3 i x0 (x 0) (x 1)).trans (rows_first i x0 x1 x2 (x 0) ((Rect.unit (s := S320x1024) ![0, 0] ![32, 1024] inb_S320x1024_S32x1024_0_0).emb x 0) (x 1) ((Rect.unit (s := S320x1024) ![0, 0] ![32, 1024] inb_S320x1024_S32x1024_0_0).emb x 1) rfl rfl).symm
    rw [← eq_ix2 x] at e
    exact e

/-- The projected rows of the block and its edges. -/
def pe (r : Fin 320) (j : Fin 2176) : EReal := ∑ l : Fin 1024, rows i x0 x1 x2 r l * x4 (ix2 l j)
def peArr : FVec Ideal S320x2176 .f32 := fun y => pe i x0 x1 x2 x4 (y 0) (y 1)

theorem pay6 : k0_pay6 (F := Ideal) (rowsArr i x0 x1 x2) x4 = peArr i x0 x1 x2 x4 := by
  funext y
  have e : ∀ (r : Fin 320) (j : Fin 2176), k0_pay6 (F := Ideal) (rowsArr i x0 x1 x2) x4 (ix2 r j) = peArr i x0 x1 x2 x4 (ix2 r j) := fun r j => by
    pointwise [k0_pay6]
    rfl
  have e := e (y 0) (y 1)
  rw [← eq_ix2 y] at e
  exact e

/-- A load of the projected rows. -/
theorem hs1 (r : Rect S320x2176) : arg23.view.readCov (sl.HS1_1 c i arg1 harg1 arg2 harg2 arg3 harg3 arg5 harg5 arg22 x0 x1 x2 x4) r.toLoadRect
    = View.ld (peArr i x0 x1 x2 x4) r := by
  unfold sl.HS1_1
  simp (disch := decide) only [View.readAt_eq_ld, View.ld_unit_lit', Memref.IsWhole.read_unread, View.readCov_fill]
  rw [v23, pay6]

theorem pay7 (j : Fin 256) : k0_pay7 (ix2 0 j) = BitVec.ofNat 32 (halfWidth j) := by
  revert j; decide +kernel

end Cert.MixFwdIdeal.Blk

end
-- ==== Proof.MixFwdHeads.lean ====
/- What the heads of the token mixer's call compute in one block. -/
module

public import proofs.«01_k».proof.Proof.MixFwdBlock

@[expose] public section

set_option maxRecDepth 16384

noncomputable section

namespace Cert.MixFwdIdeal.Blk

open Idealize.ShloMosaic Idealize.ShloMosaic.TcCoe Idealize.SL.Sem Cert.MixFwdIdeal Cert.MixFwdIdeal.Gen Cert.Fwd Cert.Seq Cert.Mix
open Cert.MixFwdIdeal.Gen.kernelRun0_A

variable (c : Dev nD) (i : grid0.Coords)
  (arg1 : Memref sig .tc .vmem S32x1024 .bf16) (harg1 : arg1.IsWhole) (arg2 : Memref sig .tc .vmem S256x1024 .bf16) (harg2 : arg2.IsWhole)
  (arg3 : Memref sig .tc .vmem S32x1024 .bf16) (harg3 : arg3.IsWhole) (arg5 : Memref sig .tc .vmem S1024x2176 .bf16) (harg5 : arg5.IsWhole)
  (arg12 : Memref sig .tc .vmem S32x384 .f32) (harg12 : arg12.IsWhole) (arg13 : Memref sig .tc .vmem S1x384 .f32) (harg13 : arg13.IsWhole)
  (arg22 : Memref sig .tc .vmem S320x1024 .bf16) (arg23 : Memref sig .tc .vmem S320x2176 .f32) (arg24 : Memref sig .tc .vmem S320x384 .f32)
  (arg25 : Memref sig .tc .vmem S320x384 .f32) (arg26 : Memref sig .tc .vmem S312x384 .f32) (arg27 : Memref sig .tc .vmem S8x312x384 .f32)
  (arg28 : Memref sig .tc .vmem S256x384 .f32)
  (x0 : Vec Ideal S32x1024 .bf16) (x1 : Vec Ideal S256x1024 .bf16) (x2 : Vec Ideal S32x1024 .bf16) (x4 : Vec Ideal S1024x2176 .bf16)
  (x11 : Vec Ideal S32x384 .f32) (x12 : Vec Ideal S1x384 .f32)

/-- The word that says whether the window of half width `w` holds offset `o`, as a number. -/
def holds (w o : BitVec 32) : EReal :=
  FloatOps.sitofp (F := Ideal) .f32 (BitVec.setWidth 32 (IntOp.andi (IntOp.cmpi .sle (IntOp.subi 0#32 w) o) (IntOp.cmpi .sgt w o)))

theorem holds_eq (h : ℕ) (hh : h = 1 ∨ h = 2 ∨ h = 4 ∨ h = 8) (o : Fin 16) : holds (BitVec.ofNat 32 h) (BitVec.ofNat 32 (o.val + 4294967288)) = tap h o := by
  have e : ∀ o : Fin 16, IntOp.andi (IntOp.cmpi .sle (IntOp.subi 0#32 (BitVec.ofNat 32 h)) (BitVec.ofNat 32 (o.val + 4294967288)))
      (IntOp.cmpi .sgt (BitVec.ofNat 32 h) (BitVec.ofNat 32 (o.val + 4294967288))) = BitVec.ofBool (8 ≤ o.val + h ∧ o.val < 8 + h : Bool) := by
    rcases hh with rfl | rfl | rfl | rfl <;> decide +kernel
  rw [holds, e, tap]
  show (((BitVec.setWidth 32 (BitVec.ofBool (decide (8 ≤ o.val + h ∧ o.val < 8 + h)))).toInt : ℝ) : EReal) = _
  by_cases h : 8 ≤ o.val + h ∧ o.val < 8 + h
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

/-- The entry of the padded array that row `n` of the block holds. -/
def at_ (P : Fin 16384 → Fin 2176 → EReal) (n : ℕ) (j : Fin 2176) : EReal := ext (fun s => P s j) ((256 * (i 0).val + n : ℕ) - 32 : ℤ)

/-- A load of the last phase stored. -/
theorem tmp_load (p : FVec Ideal S312x256 .f32) (L : List (View.Piece (Elt Ideal) S312x384 .f32)) (o : ℕ) (ho : o ≤ 56)
    (inb : ∀ a, ![0, 0] a + ![312, 256] a ≤ S312x384.size a) (inb' : ∀ a, ![o, 0] a + ![256, 256] a ≤ S312x384.size a) (r j : Fin 256) :
    arg26.view.readCov (⟨Rect.unit ![0, 0] ![312, 256] inb, p⟩ :: L) (Rect.unit (s := S312x384) ![o, 0] ![256, 256] inb').toLoadRect (ix2 r j)
      = p (ix2 ⟨o + r.val, by omega⟩ j) := by
  rw [View.readCov_eq_canon']
  refine Eq.trans ?_ (View.canon_cons_emb (Val := Elt Ideal) (Rect.unit (s := S312x384) ![0, 0] ![312, 256] inb) p L (ix2 (⟨o + r.val, by omega⟩ : Fin 312) j))
  refine congrArg (View.canon _) (funext fun a => Fin.ext ?_)
  match a with
  | ⟨0, _⟩ => show o + 1 * r.val = 0 + 1 * (o + r.val); omega
  | ⟨1, _⟩ => show 0 + 1 * j.val = 0 + 1 * j.val; rfl

/-- Sixteen terms, each next to the one eight further. -/
theorem sum_sixteen (f : ℕ → EReal) : ∑ o : Fin 16, f o.val
    = f 0 + f 8 + f 1 + f 9 + f 2 + f 10 + f 3 + f 11 + f 4 + f 12 + f 5 + f 13 + f 6 + f 14 + f 7 + f 15 := by
  rw [Fin.sum_univ_eq_sum_range]
  simp only [Finset.sum_range_succ, Finset.sum_range_zero, zero_add]
  abel

/-- The window's sum, offset by offset, over the rows of the block. -/
theorem total (P : Fin 16384 → Fin 2176 → EReal) (hP : ∀ (n : ℕ) (h : n < 320) (j : Fin 2176), pe i x0 x1 x2 x4 ⟨n, h⟩ j = at_ i P n j) (r j : Fin 256) :
    sl.r_5 c i arg1 harg1 arg2 harg2 arg3 harg3 arg5 harg5 arg22 arg23 arg26 x0 x1 x2 x4 (ix2 r j)
      = ∑ o : Fin 16, holds (BitVec.ofNat 32 (halfWidth j)) (BitVec.ofNat 32 (o.val + 4294967288)) * at_ i P (24 + o.val + r.val) ⟨j.val, by omega⟩ := by
  unfold sl.r_5 sl.v284 sl.v271 sl.HS4_7 sl.v267 sl.r_4 sl.v254 sl.v241 sl.HS4_6 sl.v237 sl.v224 sl.r_3 sl.v211 sl.HS4_5 sl.v207 sl.v194 sl.v181 sl.HS4_4 sl.v177 sl.r_2
    sl.v164 sl.v151 sl.HS4_3 sl.v147 sl.r_1 sl.v134 sl.v121 sl.HS4_2 sl.v117 sl.v104 sl.r sl.v91 sl.HS4_1 sl.v87 sl.v74 sl.v61
  simp (disch := decide) only [hs1, View.readCov_cons_unit_lit', View.readCov_unit_lit']
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, peArr, pay7]
  simp (disch := decide) only [tmp_load]
  pointwise [peArr]
  refine Eq.trans ?_ (sum_sixteen (fun o => holds (BitVec.ofNat 32 (halfWidth j)) (BitVec.ofNat 32 (o + 4294967288)) * at_ i P (24 + o + r.val) ⟨j.val, by omega⟩)).symm
  have fold : ∀ w o : BitVec 32, FloatOps.sitofp (F := Ideal) .f32 (BitVec.setWidth 32 (IntOp.andi (IntOp.cmpi .sle (IntOp.subi 0#32 w) o) (IntOp.cmpi .sgt w o)))
      = holds w o := fun _ _ => rfl
  simp only [hP, fold, ← Nat.add_assoc, Nat.reduceAdd, BitVec.reduceOfNat]

/-- What the short convolution reads, row by row of the block. -/
def gated (P : Fin 16384 → Fin 2176 → EReal) (n : ℕ) (j : Fin 384) : EReal := at_ i P n ⟨640 + j.val, by omega⟩ * at_ i P n ⟨1024 + j.val, by omega⟩
def gatedArr (P : Fin 16384 → Fin 2176 → EReal) : FVec Ideal S320x384 .f32 := fun y => gated i P (y 0).val (y 1)

/-- What the long convolution reads, row by row of the block. -/
def lin (P : Fin 16384 → Fin 2176 → EReal) (n : ℕ) (j : Fin 384) : EReal :=
  at_ i P n ⟨1408 + j.val, by omega⟩ * Ideal.logistic (at_ i P n ⟨1792 + j.val, by omega⟩)
def linArr (P : Fin 16384 → Fin 2176 → EReal) : FVec Ideal S320x384 .f32 := fun y => lin i P (y 0).val (y 1)

/-- The same, cut into the eight phases. -/
def phases (P : Fin 16384 → Fin 2176 → EReal) : FVec Ideal S8x312x384 .f32 := fun y => lin i P ((y 0).val + (y 1).val) (y 2)

theorem hs2 (P : Fin 16384 → Fin 2176 → EReal) (hP : ∀ (n : ℕ) (h : n < 320) (j : Fin 2176), pe i x0 x1 x2 x4 ⟨n, h⟩ j = at_ i P n j) (r : Rect S320x384) :
    arg24.view.readCov (sl.HS2_1 c i arg1 harg1 arg2 harg2 arg3 harg3 arg5 harg5 arg22 arg23 x0 x1 x2 x4) r.toLoadRect = View.ld (gatedArr i P) r := by
  unfold sl.HS2_1 sl.v356 sl.v357
  simp (disch := decide) only [hs1, View.readCov_fill]
  refine congrArg (fun a => View.ld a r) (funext fun y => ?_)
  obtain ⟨n, j, rfl⟩ : ∃ n j, y = ix2 n j := ⟨y 0, y 1, eq_ix2 y⟩
  pointwise [k0_pay29, peArr, gatedArr, gated]
  simp only [hP]

theorem hs3 (P : Fin 16384 → Fin 2176 → EReal) (hP : ∀ (n : ℕ) (h : n < 320) (j : Fin 2176), pe i x0 x1 x2 x4 ⟨n, h⟩ j = at_ i P n j) (r : Rect S320x384) :
    arg25.view.readCov (sl.HS3_1 c i arg1 harg1 arg2 harg2 arg3 harg3 arg5 harg5 arg22 arg23 x0 x1 x2 x4) r.toLoadRect = View.ld (linArr i P) r := by
  unfold sl.HS3_1 sl.r_6 sl.v385 sl.v386
  simp (disch := decide) only [hs1, View.readCov_fill]
  refine congrArg (fun a => View.ld a r) (funext fun y => ?_)
  obtain ⟨n, j, rfl⟩ : ∃ n j, y = ix2 n j := ⟨y 0, y 1, eq_ix2 y⟩
  pointwise [k0_pay31, k0_pay32, peArr, linArr, lin]
  simp only [hP, zero_sub]
  rfl

theorem hs5 (P : Fin 16384 → Fin 2176 → EReal) (hP : ∀ (n : ℕ) (h : n < 320) (j : Fin 2176), pe i x0 x1 x2 x4 ⟨n, h⟩ j = at_ i P n j) (r : Rect S8x312x384) :
    arg27.view.readCov (sl.HS5_8 c i arg1 harg1 arg2 harg2 arg3 harg3 arg5 harg5 arg22 arg23 arg25 x0 x1 x2 x4) r.toLoadRect = View.ld (phases i P) r := by
  unfold sl.HS5_8 sl.v398 sl.v402 sl.v406 sl.v410 sl.v414 sl.v418 sl.v422 sl.v426
  simp only [hs3 c i arg1 harg1 arg2 harg2 arg3 harg3 arg5 harg5 arg22 arg23 arg25 x0 x1 x2 x4 P hP]
  refine load_of (s := S8x312x384) (e := .f32) _ (phases i P) _ _ ![1, 312, 384] (by sl_kernel_rfl) ?_
  refine ⟨fun x => ?_, fun x => ?_, fun x => ?_, fun x => ?_, fun x => ?_, fun x => ?_, fun x => ?_, fun x => ?_, trivial⟩
  all_goals
    obtain ⟨a, n, j, rfl⟩ : ∃ (a : Fin 1) (n : Fin 312) (j : Fin 384), x = ix3 a n j := ⟨x 0, x 1, x 2, eq_ix3 x⟩
    obtain rfl : a = 0 := Subsingleton.elim _ _
    pointwise [k0_pay33, k0_pay34, k0_pay35, k0_pay36, k0_pay37, k0_pay38, k0_pay39, k0_pay40, linArr, phases]
    refine congrArg₂ (lin i P) ?_ (Fin.ext (by show j.val = 0 + 1 * j.val; omega))
    change _ = _ + (0 + 1 * n.val)
    rw [Nat.zero_add, Nat.one_mul]
    first | rfl | exact (Nat.zero_add _).symm

end Cert.MixFwdIdeal.Blk

end
-- ==== Proof.MixFwdPool.lean ====
/- What the pooled heads of the token mixer's call compute in one block. -/
module

public import proofs.«01_k».proof.Proof.MixFwdHeads

@[expose] public section

set_option maxRecDepth 16384

noncomputable section

namespace Cert.MixFwdIdeal.Blk

open Idealize.ShloMosaic Idealize.ShloMosaic.TcCoe Idealize.SL.Sem Cert.MixFwdIdeal Cert.MixFwdIdeal.Gen Cert.Fwd Cert.Seq Cert.Mix
open Cert.MixFwdIdeal.Gen.kernelRun0_A

variable (c : Dev nD) (i : grid0.Coords)
  (arg1 : Memref sig .tc .vmem S32x1024 .bf16) (harg1 : arg1.IsWhole) (arg2 : Memref sig .tc .vmem S256x1024 .bf16) (harg2 : arg2.IsWhole)
  (arg3 : Memref sig .tc .vmem S32x1024 .bf16) (harg3 : arg3.IsWhole) (arg5 : Memref sig .tc .vmem S1024x2176 .bf16) (harg5 : arg5.IsWhole)
  (arg12 : Memref sig .tc .vmem S32x384 .f32) (harg12 : arg12.IsWhole) (arg13 : Memref sig .tc .vmem S1x384 .f32) (harg13 : arg13.IsWhole)
  (arg22 : Memref sig .tc .vmem S320x1024 .bf16) (arg23 : Memref sig .tc .vmem S320x2176 .f32) (arg24 : Memref sig .tc .vmem S320x384 .f32)
  (arg25 : Memref sig .tc .vmem S320x384 .f32) (arg26 : Memref sig .tc .vmem S312x384 .f32) (arg27 : Memref sig .tc .vmem S8x312x384 .f32)
  (arg28 : Memref sig .tc .vmem S256x384 .f32)
  (x0 : Vec Ideal S32x1024 .bf16) (x1 : Vec Ideal S256x1024 .bf16) (x2 : Vec Ideal S32x1024 .bf16) (x4 : Vec Ideal S1024x2176 .bf16)
  (x11 : Vec Ideal S32x384 .f32) (x12 : Vec Ideal S1x384 .f32)

theorem maxsi_int (x y : BitVec 32) : (IntOp.maxsi x y).toInt = max x.toInt y.toInt := by
  unfold IntOp.maxsi
  simp only [BitVec.slt_iff_toInt_lt]
  split <;> omega

theorem minsi_int (x y : BitVec 32) : (IntOp.minsi x y).toInt = min x.toInt y.toInt := by
  unfold IntOp.minsi
  simp only [BitVec.slt_iff_toInt_lt]
  split <;> omega

/-- The word that counts the window's positions inside the sequence. -/
theorem count_word (t h : ℕ) (ht : t < 16384) (h0 : 0 < h) (h8 : h ≤ 8) :
    (IntOp.maxsi (IntOp.subi (IntOp.minsi (BitVec.ofNat 32 (t + h)) 16384#32)
      (IntOp.maxsi (IntOp.subi (BitVec.ofNat 32 t) (BitVec.ofNat 32 h)) 0#32)) 1#32).toInt = (count 16384 h t : ℤ) := by
  have e : (16384#32 : BitVec 32).toInt = 16384 := by decide
  have e0 : (0#32 : BitVec 32).toInt = 0 := by decide
  have e1 : (1#32 : BitVec 32).toInt = 1 := by decide
  have a : (IntOp.minsi (BitVec.ofNat 32 (t + h)) 16384#32).toInt = ((min 16384 (t + h) : ℕ) : ℤ) := by
    rw [minsi_int, e, WordCmp.toInt_ofNat_of_lt (by omega)]
    omega
  have b : (IntOp.maxsi (IntOp.subi (BitVec.ofNat 32 t) (BitVec.ofNat 32 h)) 0#32).toInt = ((t - h : ℕ) : ℤ) := by
    rw [maxsi_int, e0, IntOp.subi, BitVec.toInt_sub, WordCmp.toInt_ofNat_of_lt (by omega), WordCmp.toInt_ofNat_of_lt (by omega), Int.bmod_def]
    omega
  rw [maxsi_int, e1, IntOp.subi, BitVec.toInt_sub, a, b, Seq.count, Int.bmod_def]
  omega

theorem width_word (k : Fin 256) : IntOp.shli ArithUnit.vector (1#32)
    (Scalar.select (IntOp.andi (IntOp.cmpi .ne (IntOp.subi (BitVec.setWidth 32 (IntOp.cmpi .sgt (BitVec.ofNat 32 k.val) 0#32))
        (BitVec.setWidth 32 (IntOp.cmpi .slt (BitVec.ofNat 32 k.val) 0#32)))
        (Scalar.subi (Scalar.extui (Scalar.cmpi .sgt 64#32 0#32)) (Scalar.extui (Scalar.cmpi .slt 64#32 0#32))))
      (IntOp.cmpi .ne (IntOp.remsi ArithUnit.vector (BitVec.ofNat 32 k.val) 64#32) 0#32))
      (IntOp.subi (IntOp.divsi ArithUnit.vector (BitVec.ofNat 32 k.val) 64#32) 1#32) (IntOp.divsi ArithUnit.vector (BitVec.ofNat 32 k.val) 64#32))
    = BitVec.ofNat 32 (halfWidth k) := by
  revert k; decide +kernel

theorem sitofp_int (w : BitVec 32) : FloatOps.sitofp (F := Ideal) .f32 w = ((w.toInt : ℝ) : EReal) := rfl

theorem pay28 (T U : FVec Ideal S256x256 .f32) (x8 : FVec Ideal S256x256 .bf16) (x9 : FVec Ideal S1x256 .f32) (r j : Fin 256) :
    k0_pay28 (F := Ideal) (sl.v32 i) T U sl.v298 64#32 k0_pay26 k0_pay27 x8 x9 (ix2 r j)
      = (∑ k : Fin 256, (T (ix2 r k) * Ideal.div 1 ((count 16384 (halfWidth k) (256 * (i 0).val + r.val) : ℝ) : EReal) - U (ix2 r k)) * x8 (ix2 k j)) * x9 (ix2 0 j) := by
  pointwise [k0_pay28, k0_pay26, k0_pay27, sl.v32, sl.v298]
  simp only [width_word, show Scalar.muli = IntOp.muli from rfl, WordCmp.muli_ofNat, WordCmp.addi_ofNat, sitofp_int]
  refine congrArg (· * _) (Finset.sum_congr rfl fun k _ => ?_)
  have h : (i 0).val < 64 := (i 0).isLt
  rw [Nat.mul_comm, count_word _ _ (by omega) (halfWidth_pos k) (halfWidth_le k)]
  norm_cast

/-- The block-diagonal matrix takes each group of lanes to itself. -/
theorem groups (f : Fin 256 → EReal) (w : Fin 256 → EReal) (pw : Fin 4 → Fin 64 → Fin 64 → EReal) (j : Fin 256)
    (hw : ∀ k : Fin 256, w k = if k.val / 64 = j.val / 64 then pw ⟨j.val / 64, by omega⟩ ⟨k.val % 64, by omega⟩ ⟨j.val % 64, by omega⟩ else 0) :
    ∑ k : Fin 256, f k * w k = ∑ d : Fin 64, f (lane j d) * pw ⟨j.val / 64, by omega⟩ d ⟨j.val % 64, by omega⟩ := by
  rw [Fin.sum_univ_tiles 4 64 rfl, Finset.sum_eq_single (⟨j.val / 64, by omega⟩ : Fin 4)]
  · refine Finset.sum_congr rfl fun d _ => ?_
    rw [hw, if_pos (by show (j.val / 64 * 64 + d.val) / 64 = j.val / 64; omega)]
    refine congrArg₂ (· * ·) rfl (congrArg (fun a => pw _ a _) (Fin.ext ?_))
    show (j.val / 64 * 64 + d.val) % 64 = d.val
    omega
  · intro a _ ha
    refine Finset.sum_eq_zero fun d _ => ?_
    rw [hw, if_neg (fun h => ha (Fin.ext (by
      have h : (a.val * 64 + d.val) / 64 = j.val / 64 := h
      show a.val = j.val / 64
      omega))), mul_zero]
  · exact fun h => absurd (Finset.mem_univ _) h

/-- Row `r` of the block in the whole sequence. -/
def row (r : Fin 256) : Fin 16384 := ⟨256 * (i 0).val + r.val, by have h : (i 0).val < 64 := (i 0).isLt; omega⟩

/-- The row the block's own entry `r` holds. -/
theorem at_row (P : Fin 16384 → Fin 2176 → EReal) (r : Fin 256) (n : ℕ) (hn : n = 32 + r.val) (j : Fin 2176) : at_ i P n j = P (row i r) j :=
  ext_of _ (row i r) _ (by show ((256 * (i 0).val + r.val : ℕ) : ℤ) = _; omega)

/-- The window's sum over the block is the window's sum over the sequence. -/
theorem total_eq (P : Fin 16384 → Fin 2176 → EReal) (hP : ∀ (n : ℕ) (h : n < 320) (j : Fin 2176), pe i x0 x1 x2 x4 ⟨n, h⟩ j = at_ i P n j) (r j : Fin 256) :
    sl.r_5 c i arg1 harg1 arg2 harg2 arg3 harg3 arg5 harg5 arg22 arg23 arg26 x0 x1 x2 x4 (ix2 r j) = pool (halfWidth j) (fun s => up P s j) (row i r) := by
  rw [total c i arg1 harg1 arg2 harg2 arg3 harg3 arg5 harg5 arg22 arg23 arg26 x0 x1 x2 x4 P hP, Seq.pool]
  refine Finset.sum_congr rfl fun o _ => congrArg₂ (· * ·) (holds_eq _ ?_ o) (congrArg (ext _) ?_)
  · revert j; decide +kernel
  · show ((256 * (i 0).val + (24 + o.val + r.val) : ℕ) : ℤ) - 32 = ((256 * (i 0).val + r.val : ℕ) : ℤ) + o.val - 8
    omega

/-- The pooled heads of the block. -/
theorem headA_block (P : Fin 16384 → Fin 2176 → EReal) (hP : ∀ (n : ℕ) (h : n < 320) (j : Fin 2176), pe i x0 x1 x2 x4 ⟨n, h⟩ j = at_ i P n j)
    (pw : Fin 4 → Fin 64 → Fin 64 → EReal) (ps : Fin 256 → EReal) (x8 : FVec Ideal S256x256 .bf16) (x9 : FVec Ideal S1x256 .f32)
    (h8 : ∀ k j : Fin 256, x8 (ix2 k j) = if k.val / 64 = j.val / 64 then pw ⟨j.val / 64, by omega⟩ ⟨k.val % 64, by omega⟩ ⟨j.val % 64, by omega⟩ else 0)
    (h9 : ∀ j : Fin 256, x9 (ix2 0 j) = ps j) (r j : Fin 256) :
    k0_pay28 (F := Ideal) (sl.v32 i) (sl.r_5 c i arg1 harg1 arg2 harg2 arg3 harg3 arg5 harg5 arg22 arg23 arg26 x0 x1 x2 x4)
      (sl.v74 c i arg1 harg1 arg2 harg2 arg3 harg3 arg5 harg5 arg22 arg23 x0 x1 x2 x4) sl.v298 64#32 k0_pay26 k0_pay27 x8 x9 (ix2 r j)
      = headA P pw ps (row i r) j := by
  have hu : ∀ k : Fin 256, sl.v74 c i arg1 harg1 arg2 harg2 arg3 harg3 arg5 harg5 arg22 arg23 x0 x1 x2 x4 (ix2 r k) = up P (row i r) k := fun k => by
    unfold sl.v74
    rw [hs1]
    pointwise [peArr]
    rw [hP, at_row i P r _ rfl]
    rfl
  rw [pay28, h9, headA]
  refine congrArg (· * _) ?_
  rw [← groups (pooled P (row i r)) (fun k => x8 (ix2 k j)) pw j (fun k => h8 k j)]
  refine Finset.sum_congr rfl fun k _ => congrArg (· * _) ?_
  have hc := count_pos (row i r) (halfWidth k) (halfWidth_pos k)
  rw [total_eq c i arg1 harg1 arg2 harg2 arg3 harg3 arg5 harg5 arg22 arg23 arg26 x0 x1 x2 x4 P hP, hu, pooled]
  show _ * Ideal.div 1 (((Seq.count 16384 (halfWidth k) (row i r).val : ℕ) : ℝ) : EReal) - _ = _
  rw [Ideal.div_coe (by exact_mod_cast hc.ne'), Ideal.div_coe (by exact_mod_cast hc.ne'), one_mul]

end Cert.MixFwdIdeal.Blk

end
-- ==== Proof.MixFwdLong.lean ====
/- What the long convolution of the token mixer's call computes in one block. -/
module

public import proofs.«01_k».proof.Proof.MixFwdHeads

@[expose] public section

set_option maxRecDepth 16384

noncomputable section

namespace Cert.MixFwdIdeal.Blk

open Idealize.ShloMosaic Idealize.ShloMosaic.TcCoe Idealize.SL.Sem Cert.MixFwdIdeal Cert.MixFwdIdeal.Gen Cert.Fwd Cert.Seq Cert.Mix
open Cert.MixFwdIdeal.Gen.kernelRun0_A

variable (c : Dev nD) (i : grid0.Coords)
  (arg1 : Memref sig .tc .vmem S32x1024 .bf16) (harg1 : arg1.IsWhole) (arg2 : Memref sig .tc .vmem S256x1024 .bf16) (harg2 : arg2.IsWhole)
  (arg3 : Memref sig .tc .vmem S32x1024 .bf16) (harg3 : arg3.IsWhole) (arg5 : Memref sig .tc .vmem S1024x2176 .bf16) (harg5 : arg5.IsWhole)
  (arg12 : Memref sig .tc .vmem S32x384 .f32) (harg12 : arg12.IsWhole) (arg13 : Memref sig .tc .vmem S1x384 .f32) (harg13 : arg13.IsWhole)
  (arg22 : Memref sig .tc .vmem S320x1024 .bf16) (arg23 : Memref sig .tc .vmem S320x2176 .f32) (arg24 : Memref sig .tc .vmem S320x384 .f32)
  (arg25 : Memref sig .tc .vmem S320x384 .f32) (arg26 : Memref sig .tc .vmem S312x384 .f32) (arg27 : Memref sig .tc .vmem S8x312x384 .f32)
  (arg28 : Memref sig .tc .vmem S256x384 .f32)
  (x0 : Vec Ideal S32x1024 .bf16) (x1 : Vec Ideal S256x1024 .bf16) (x2 : Vec Ideal S32x1024 .bf16) (x4 : Vec Ideal S1024x2176 .bf16)
  (x11 : Vec Ideal S32x384 .f32) (x12 : Vec Ideal S1x384 .f32)

/-- The long convolution over the rows of the block. -/
def longAt (P : Fin 16384 → Fin 2176 → EReal) (r : ℕ) (j : Fin 384) : EReal :=
  (∑ k : Fin 31, x11 (ix2 ⟨k.val, by omega⟩ j) * lin i P (17 + k.val + r) j) + x12 (ix2 0 j)
def longArr (P : Fin 16384 → Fin 2176 → EReal) : FVec Ideal S256x384 .f32 := fun y => longAt i x11 x12 P (y 0).val (y 1)

/-- The taps added up one after another. -/
theorem sum_taps (w : Fin 32 → EReal) (f : ℕ → EReal) (b : EReal) : (∑ k : Fin 31, w ⟨k.val, by omega⟩ * f k.val) + b
    = b + w 0 * f 0 + w 1 * f 1 + w 2 * f 2 + w 3 * f 3 + w 4 * f 4 + w 5 * f 5 + w 6 * f 6 + w 7 * f 7 + w 8 * f 8 + w 9 * f 9 + w 10 * f 10 + w 11 * f 11 + w 12 * f 12 + w 13 * f 13 + w 14 * f 14 + w 15 * f 15 + w 16 * f 16 + w 17 * f 17 + w 18 * f 18 + w 19 * f 19 + w 20 * f 20 + w 21 * f 21 + w 22 * f 22 + w 23 * f 23 + w 24 * f 24 + w 25 * f 25 + w 26 * f 26 + w 27 * f 27 + w 28 * f 28 + w 29 * f 29 + w 30 * f 30 := by
  simp only [Fin.sum_univ_castSucc]
  simp
  abel

theorem longAt_eq (P : Fin 16384 → Fin 2176 → EReal) (r : ℕ) (j : Fin 384) : longAt i x11 x12 P r j = x12 (ix2 0 j) + x11 (ix2 0 j) * lin i P (17 + r) j + x11 (ix2 1 j) * lin i P (18 + r) j + x11 (ix2 2 j) * lin i P (19 + r) j + x11 (ix2 3 j) * lin i P (20 + r) j +
      x11 (ix2 4 j) * lin i P (21 + r) j + x11 (ix2 5 j) * lin i P (22 + r) j + x11 (ix2 6 j) * lin i P (23 + r) j + x11 (ix2 7 j) * lin i P (24 + r) j +
      x11 (ix2 8 j) * lin i P (25 + r) j + x11 (ix2 9 j) * lin i P (26 + r) j + x11 (ix2 10 j) * lin i P (27 + r) j + x11 (ix2 11 j) * lin i P (28 + r) j +
      x11 (ix2 12 j) * lin i P (29 + r) j + x11 (ix2 13 j) * lin i P (30 + r) j + x11 (ix2 14 j) * lin i P (31 + r) j + x11 (ix2 15 j) * lin i P (32 + r) j
      + x11 (ix2 16 j) * lin i P (33 + r) j + x11 (ix2 17 j) * lin i P (34 + r) j + x11 (ix2 18 j) * lin i P (35 + r) j + x11 (ix2 19 j) * lin i P (36 + r)
      j + x11 (ix2 20 j) * lin i P (37 + r) j + x11 (ix2 21 j) * lin i P (38 + r) j + x11 (ix2 22 j) * lin i P (39 + r) j + x11 (ix2 23 j) * lin i P (40 +
      r) j + x11 (ix2 24 j) * lin i P (41 + r) j + x11 (ix2 25 j) * lin i P (42 + r) j + x11 (ix2 26 j) * lin i P (43 + r) j + x11 (ix2 27 j) * lin i P (44
      + r) j + x11 (ix2 28 j) * lin i P (45 + r) j + x11 (ix2 29 j) * lin i P (46 + r) j + x11 (ix2 30 j) * lin i P (47 + r) j :=
  sum_taps (fun k => x11 (ix2 k j)) (fun k => lin i P (17 + k + r) j) (x12 (ix2 0 j))

theorem longArr_emb (P : Fin 16384 → Fin 2176 → EReal) (o : ℕ) (inb : ∀ a, ![o, 0] a + ![64, 384] a ≤ S256x384.size a) (r : Fin 64) (j : Fin 384) :
    longArr i x11 x12 P ((Rect.unit (s := S256x384) ![o, 0] ![64, 384] inb).emb (ix2 r j)) = longAt i x11 x12 P (o + r.val) j :=
  congrArg₂ (longAt i x11 x12 P) (by show o + 1 * r.val = o + r.val; omega) (Fin.ext (by show 0 + 1 * j.val = j.val; omega))

set_option maxHeartbeats 1600000 in
/-- The four chunks hold the long convolution. -/
theorem chunks (P : Fin 16384 → Fin 2176 → EReal) (hP : ∀ (n : ℕ) (h : n < 320) (j : Fin 2176), pe i x0 x1 x2 x4 ⟨n, h⟩ j = at_ i P n j) :
    View.PiecesOf (longArr i x11 x12 P) (sl.HS6_4 c i arg1 harg1 arg2 harg2 arg3 harg3 arg5 harg5 arg12 harg12 arg13 harg13 arg22 arg23 arg25 arg27 x0 x1 x2 x4 x11 x12) := by
  unfold sl.HS6_4 sl.v647 sl.v640 sl.v633 sl.v626 sl.v619 sl.r_18 sl.r_17 sl.v612 sl.v605 sl.v598 sl.v591 sl.v584 sl.r_16 sl.r_15 sl.v577 sl.v570 sl.v563 sl.v556 sl.v549
    sl.r_14 sl.r_13 sl.v542 sl.v535 sl.v528 sl.v521 sl.v514 sl.r_12 sl.r_11 sl.v507 sl.v500 sl.v493 sl.v486 sl.v479 sl.r_10 sl.r_9 sl.v472 sl.v465 sl.v458 sl.v451
    sl.v444 sl.r_8 sl.r_7 sl.v437 sl.v872 sl.v865 sl.r_30 sl.r_29 sl.v858 sl.v851 sl.v844 sl.v837 sl.v830 sl.r_28 sl.r_27 sl.v823 sl.v816 sl.v809 sl.v802 sl.v795 sl.r_26
    sl.r_25 sl.v788 sl.v781 sl.v774 sl.v767 sl.v760 sl.r_24 sl.r_23 sl.v753 sl.v746 sl.v739 sl.v732 sl.v725 sl.r_22 sl.r_21 sl.v718 sl.v711 sl.v704 sl.v697 sl.v690
    sl.r_20 sl.r_19 sl.v683 sl.v676 sl.v669 sl.v662 sl.v1097 sl.v1090 sl.v1083 sl.v1076 sl.r_42 sl.r_41 sl.v1069 sl.v1062 sl.v1055 sl.v1048 sl.v1041 sl.r_40 sl.r_39
    sl.v1034 sl.v1027 sl.v1020 sl.v1013 sl.v1006 sl.r_38 sl.r_37 sl.v999 sl.v992 sl.v985 sl.v978 sl.v971 sl.r_36 sl.r_35 sl.v964 sl.v957 sl.v950 sl.v943 sl.v936 sl.r_34
    sl.r_33 sl.v929 sl.v922 sl.v915 sl.v908 sl.v901 sl.r_32 sl.r_31 sl.v894 sl.v887 sl.v1322 sl.r_49 sl.v1315 sl.v1308 sl.v1301 sl.v1294 sl.v1287 sl.r_48 sl.v1280
    sl.v1273 sl.v1266 sl.v1259 sl.v1252 sl.r_47 sl.v1245 sl.v1238 sl.v1231 sl.v1224 sl.v1217 sl.r_46 sl.v1210 sl.v1203 sl.v1196 sl.v1189 sl.v1182 sl.r_45 sl.v1175
    sl.v1168 sl.v1161 sl.v1154 sl.v1147 sl.r_44 sl.v1140 sl.v1133 sl.v1126 sl.v1119 sl.v1112 sl.r_43
  simp (disch := decide) only [hs5 c i arg1 harg1 arg2 harg2 arg3 harg3 arg5 harg5 arg22 arg23 arg25 arg27 x0 x1 x2 x4 P hP, View.readAt_eq_ld,
    View.ld_unit_lit', Memref.IsWhole.read_unread]
  refine ⟨fun x => ?_, fun x => ?_, fun x => ?_, fun x => ?_, trivial⟩
  all_goals
    obtain ⟨r, j, rfl⟩ : ∃ (r : Fin 64) (j : Fin 384), x = ix2 r j := ⟨x 0, x 1, eq_ix2 x⟩
    refine Eq.trans ?_ (longArr_emb i x11 x12 P _ (by decide +kernel) r j).symm
    pointwise [
      k0_pay41, k0_pay42, k0_pay43, k0_pay44, k0_pay45, k0_pay46, k0_pay47, k0_pay48, k0_pay49, k0_pay50, k0_pay51, k0_pay52, k0_pay53, k0_pay54, k0_pay55,
      k0_pay56, k0_pay57, k0_pay58, k0_pay59, k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      sl.cst_336, phases]
    rw [longAt_eq]
    simp only [← Nat.add_assoc, Nat.reduceAdd, Nat.zero_add]

end Cert.MixFwdIdeal.Blk

end
-- ==== Proof.MixFwdCat.lean ====
/- The heads of the token mixer's call side by side, in one block. -/
module

public import proofs.«01_k».proof.Proof.MixFwdPool
public import proofs.«01_k».proof.Proof.MixFwdLong

@[expose] public section

set_option maxRecDepth 16384

noncomputable section

namespace Cert.MixFwdIdeal.Blk

open Idealize.ShloMosaic Idealize.ShloMosaic.TcCoe Idealize.SL.Sem Cert.MixFwdIdeal Cert.MixFwdIdeal.Gen Cert.Fwd Cert.Seq Cert.Mix
open Cert.MixFwdIdeal.Gen.kernelRun0_A

/-- The group matrices along the diagonal. -/
def diag (pw : Fin 4 → Fin 64 → Fin 64 → EReal) (k j : Fin 256) : EReal :=
  if k.val / 64 = j.val / 64 then pw ⟨j.val / 64, by omega⟩ ⟨k.val % 64, by omega⟩ ⟨j.val % 64, by omega⟩ else 0

/-- The rows of the padded convolution weights. -/
def short (k : Fin 3) : Fin 8 := ⟨k.val, by omega⟩
def wide (k : Fin 31) : Fin 32 := ⟨k.val, by omega⟩

variable (c : Dev nD) (i : grid0.Coords)
  (arg1 : Memref sig .tc .vmem S32x1024 .bf16) (harg1 : arg1.IsWhole) (arg2 : Memref sig .tc .vmem S256x1024 .bf16) (harg2 : arg2.IsWhole)
  (arg3 : Memref sig .tc .vmem S32x1024 .bf16) (harg3 : arg3.IsWhole) (arg5 : Memref sig .tc .vmem S1024x2176 .bf16) (harg5 : arg5.IsWhole)
  (arg9 : Memref sig .tc .vmem S256x256 .bf16) (harg9 : arg9.IsWhole) (arg10 : Memref sig .tc .vmem S1x256 .f32) (harg10 : arg10.IsWhole)
  (arg11 : Memref sig .tc .vmem S8x384 .f32) (harg11 : arg11.IsWhole)
  (arg12 : Memref sig .tc .vmem S32x384 .f32) (harg12 : arg12.IsWhole) (arg13 : Memref sig .tc .vmem S1x384 .f32) (harg13 : arg13.IsWhole)
  (arg14 : Memref sig .tc .vmem S1x384 .f32) (harg14 : arg14.IsWhole) (arg15 : Memref sig .tc .vmem S1x384 .f32) (harg15 : arg15.IsWhole)
  (arg22 : Memref sig .tc .vmem S320x1024 .bf16) (arg23 : Memref sig .tc .vmem S320x2176 .f32) (arg24 : Memref sig .tc .vmem S320x384 .f32)
  (arg25 : Memref sig .tc .vmem S320x384 .f32) (arg26 : Memref sig .tc .vmem S312x384 .f32) (arg27 : Memref sig .tc .vmem S8x312x384 .f32)
  (arg28 : Memref sig .tc .vmem S256x384 .f32)
  (x0 : Vec Ideal S32x1024 .bf16) (x1 : Vec Ideal S256x1024 .bf16) (x2 : Vec Ideal S32x1024 .bf16) (x4 : Vec Ideal S1024x2176 .bf16)
  (x11 : Vec Ideal S32x384 .f32) (x12 : Vec Ideal S1x384 .f32)
  (x8 : Vec Ideal S256x256 .bf16) (x9 : Vec Ideal S1x256 .f32) (x10 : Vec Ideal S8x384 .f32) (x13 x14 : Vec Ideal S1x384 .f32)
  (P : Fin 16384 → Fin 2176 → EReal) (hP : ∀ (n : ℕ) (h : n < 320) (j : Fin 2176), pe i x0 x1 x2 x4 ⟨n, h⟩ j = at_ i P n j)
  (pw : Fin 4 → Fin 64 → Fin 64 → EReal) (ps : Fin 256 → EReal) (sw : Fin 3 → Fin 384 → EReal) (cw : Fin 31 → Fin 384 → EReal) (cb cg cc : Fin 384 → EReal)
  (h8 : ∀ k j : Fin 256, x8 (ix2 k j) = diag pw k j)
  (h9 : ∀ j : Fin 256, x9 (ix2 0 j) = ps j) (h10 : ∀ (k : Fin 3) (j : Fin 384), x10 (ix2 (short k) j) = sw k j)
  (h11 : ∀ (k : Fin 31) (j : Fin 384), x11 (ix2 (wide k) j) = cw k j) (h12 : ∀ j : Fin 384, x12 (ix2 0 j) = cb j)
  (h13 : ∀ j : Fin 384, x13 (ix2 0 j) = cg j) (h14 : ∀ j : Fin 384, x14 (ix2 0 j) = cc j)

theorem gated_ext (n : ℕ) (j : Fin 384) : gated i P n j = ext (fun s => shortIn P s j) ((256 * (i 0).val + n : ℕ) - 32 : ℤ) := by
  unfold gated at_ ext shortIn
  split
  · rfl
  · exact mul_zero _

theorem lin_ext (n : ℕ) (j : Fin 384) : lin i P n j = ext (fun s => longIn P s j) ((256 * (i 0).val + n : ℕ) - 32 : ℤ) := by
  unfold lin at_ ext longIn
  split
  · rfl
  · exact zero_mul _

include h11 h12 in
/-- The long convolution over the block is the long convolution over the sequence. -/
theorem long_row (r : Fin 256) (j : Fin 384) : longAt i x11 x12 P r.val j = long P cw cb (row i r) j := by
  rw [longAt, long, conv, h12]
  refine congrArg (· + _) (Finset.sum_congr rfl fun k _ => ?_)
  rw [show x11 (ix2 ⟨k.val, by omega⟩ j) = cw k j from h11 k j, lin_ext, mul_comm]
  refine congrArg (fun a => ext _ a * _) ?_
  show ((256 * (i 0).val + (17 + k.val + r.val) : ℕ) : ℤ) - 32 = ((256 * (i 0).val + r.val : ℕ) : ℤ) + k.val - (15 : ℕ)
  omega

/-- The long convolution, read back. -/
theorem v1330 (hP : ∀ (n : ℕ) (h : n < 320) (j : Fin 2176), pe i x0 x1 x2 x4 ⟨n, h⟩ j = at_ i P n j) :
    sl.v1330 c i arg1 harg1 arg2 harg2 arg3 harg3 arg5 harg5 arg12 harg12 arg13 harg13 arg22 arg23 arg25 arg27 arg28 x0 x1 x2 x4 x11 x12 = longArr i x11 x12 P := by
  unfold sl.v1330
  exact (load_of (s := S256x384) (e := .f32) _ (longArr i x11 x12 P) _ _ ![64, 384] (by sl_kernel_rfl)
    (chunks c i arg1 harg1 arg2 harg2 arg3 harg3 arg5 harg5 arg12 harg12 arg13 harg13 arg22 arg23 arg25 arg27 x0 x1 x2 x4 x11 x12 P hP)).trans (View.ld_unit_lit' _ _ (by decide))

include hP h10 in
/-- The gated short convolution of the block. -/
theorem headB_block (r : Fin 256) (j : Fin 384) :
    k0_pay30 (F := Ideal) (View.ld x10 (Rect.unit ![0, 0] S1x384.size inb_S8x384_S1x384_0_0)) (sl.v365 c i arg1 harg1 arg2 harg2 arg3 harg3 arg5 harg5 arg22 arg23 arg24 x0 x1 x2 x4)
      (View.ld x10 (Rect.unit ![1, 0] S1x384.size inb_S8x384_S1x384_1_0)) (sl.v371 c i arg1 harg1 arg2 harg2 arg3 harg3 arg5 harg5 arg22 arg23 arg24 x0 x1 x2 x4)
      (View.ld x10 (Rect.unit ![2, 0] S1x384.size inb_S8x384_S1x384_2_0)) (sl.v377 c i arg1 harg1 arg2 harg2 arg3 harg3 arg5 harg5 arg22 arg23 arg24 x0 x1 x2 x4)
      (sl.v381 c i arg1 harg1 arg2 harg2 arg3 harg3 arg5 harg5 arg22 arg23 x0 x1 x2 x4) (ix2 r j) = headB P sw (row i r) j := by
  unfold sl.v365 sl.v371 sl.v377 sl.v381
  simp only [hs1, hs2 c i arg1 harg1 arg2 harg2 arg3 harg3 arg5 harg5 arg22 arg23 arg24 x0 x1 x2 x4 P hP]
  pointwise [k0_pay30, peArr, gatedArr]
  rw [hP, at_row i P r _ rfl, headB, conv]
  refine congrArg (P (row i r) _ * ·) ?_
  rw [Fin.sum_univ_three, ← h10 0, ← h10 1, ← h10 2]
  simp only [gated_ext]
  refine congrArg₂ (· + ·) (congrArg₂ (· + ·) ?_ ?_) ?_
  all_goals
    refine (mul_comm _ _).trans (congrArg (fun a => ext _ a * _) ?_)
  · show ((256 * (i 0).val + (31 + r.val) : ℕ) : ℤ) - 32 = ((256 * (i 0).val + r.val : ℕ) : ℤ) + (0 : ℕ) - (1 : ℕ)
    omega
  · show ((256 * (i 0).val + (32 + r.val) : ℕ) : ℤ) - 32 = ((256 * (i 0).val + r.val : ℕ) : ℤ) + (1 : ℕ) - (1 : ℕ)
    omega
  · show ((256 * (i 0).val + (33 + r.val) : ℕ) : ℤ) - 32 = ((256 * (i 0).val + r.val : ℕ) : ℤ) + (2 : ℕ) - (1 : ℕ)
    omega

include h13 h14 in
/-- The normed long convolution under its gate, from the convolution's array. -/
theorem headC_block (A : FVec Ideal S256x384 .f32) (r : Fin 256) (j : Fin 384) :
    k0_pay84 (F := Ideal) (k0_pay82 A x13 x14) (k0_pay83 A x13 x14) (ix2 r j) = headC cg cc (fun l => A (ix2 r l)) j := by
  have e : ∀ l : Fin 384, k0_pay82 (F := Ideal) A x13 x14 (ix2 r l) = lnorm heads (fun l => A (ix2 r l)) cg cc l := fun l => by
    rw [lnorm, ← h13, ← h14]
    pointwise [k0_pay82]
    rfl
  pointwise [k0_pay84, k0_pay83]
  rw [e, zero_sub]
  rfl

/-- The heads of the block as an array. -/
def catArr : FVec Ideal S256x1024 .bf16 := fun y => cat P pw ps sw cw cb cg cc (row i (y 0)) (y 1)

theorem cat_A (r : Fin 256) (j : Fin 256) (l : Fin 1024) (h : l.val = 0 + 1 * j.val) (R : Fin 256) (hR : R.val = 0 + 1 * r.val) :
    cat P pw ps sw cw cb cg cc (row i R) l = headA P pw ps (row i r) j := by
  obtain rfl : R = r := Fin.ext (by omega)
  rw [cat, dif_pos (by omega)]
  exact congrArg _ (Fin.ext (by show l.val = j.val; omega))

theorem cat_B (r : Fin 256) (j : Fin 384) (l : Fin 1024) (h : l.val = 256 + 1 * j.val) (R : Fin 256) (hR : R.val = 0 + 1 * r.val) :
    cat P pw ps sw cw cb cg cc (row i R) l = headB P sw (row i r) j := by
  obtain rfl : R = r := Fin.ext (by omega)
  rw [cat, dif_neg (by omega), dif_pos (by omega)]
  exact congrArg _ (Fin.ext (by show l.val - 256 = j.val; omega))

theorem cat_C (r : Fin 256) (j : Fin 384) (l : Fin 1024) (h : l.val = 640 + 1 * j.val) (R : Fin 256) (hR : R.val = 0 + 1 * r.val) :
    cat P pw ps sw cw cb cg cc (row i R) l = headC cg cc (long P cw cb (row i r)) j := by
  obtain rfl : R = r := Fin.ext (by omega)
  rw [cat, dif_neg (by omega), dif_neg (by omega)]
  exact congrArg _ (Fin.ext (by show l.val - 256 - 384 = j.val; omega))

include hP h8 h9 h10 h11 h12 h13 h14 in
/-- The three stores hold the three heads. -/
theorem pieces : View.PiecesOf (catArr i P pw ps sw cw cb cg cc)
    (sl.H16_3 c i arg1 harg1 arg2 harg2 arg3 harg3 arg5 harg5 arg9 harg9 arg10 harg10 arg11 harg11 arg12 harg12 arg13 harg13 arg14 harg14 arg15 harg15 arg22 arg23 arg24 arg25 arg26 arg27 arg28 x0 x1 x2 x4 x8 x9 x10 x11 x12 x13 x14) := by
  unfold sl.H16_3 sl.r_50 sl.r_51
  simp (disch := decide) only [v1330 c i arg1 harg1 arg2 harg2 arg3 harg3 arg5 harg5 arg12 harg12 arg13 harg13 arg22 arg23 arg25 arg27 arg28 x0 x1 x2 x4 x11 x12 P hP, View.readAt_eq_ld, View.ld_unit_lit', Memref.IsWhole.read_unread]
  refine ⟨fun x => ?_, fun x => ?_, fun x => ?_, trivial⟩
  · have e := (headC_block x13 x14 cg cc h13 h14 (longArr i x11 x12 P) (x 0) (x 1)).trans
      ((congrArg (fun a => headC cg cc a (x 1)) (funext fun l => long_row i x11 x12 P cw cb h11 h12 (x 0) l)).trans
        (cat_C i P pw ps sw cw cb cg cc (x 0) (x 1) ((Rect.unit (s := S256x1024) ![0, 640] ![256, 384] inb_S256x1024_S256x384_0_640).emb x 1) rfl
          ((Rect.unit (s := S256x1024) ![0, 640] ![256, 384] inb_S256x1024_S256x384_0_640).emb x 0) rfl).symm)
    rw [← eq_ix2 x] at e
    exact e
  · have e := (headB_block c i arg1 harg1 arg2 harg2 arg3 harg3 arg5 harg5 arg22 arg23 arg24 x0 x1 x2 x4 x10 P hP sw h10 (x 0) (x 1)).trans
        (cat_B i P pw ps sw cw cb cg cc (x 0) (x 1) ((Rect.unit (s := S256x1024) ![0, 256] ![256, 384] inb_S256x1024_S256x384_0_256).emb x 1) rfl
          ((Rect.unit (s := S256x1024) ![0, 256] ![256, 384] inb_S256x1024_S256x384_0_256).emb x 0) rfl).symm
    rw [← eq_ix2 x] at e
    exact e
  · have e := (headA_block c i arg1 harg1 arg2 harg2 arg3 harg3 arg5 harg5 arg22 arg23 arg26 x0 x1 x2 x4 P hP pw ps x8 x9 h8 h9 (x 0) (x 1)).trans
        (cat_A i P pw ps sw cw cb cg cc (x 0) (x 1) ((Rect.unit (s := S256x1024) ![0, 0] ![256, 256] inb_S256x1024_S256x256_0_0).emb x 1) rfl
          ((Rect.unit (s := S256x1024) ![0, 0] ![256, 256] inb_S256x1024_S256x256_0_0).emb x 0) rfl).symm
    rw [← eq_ix2 x] at e
    exact e

end Cert.MixFwdIdeal.Blk

end
-- ==== Proof.MixFwdOut.lean ====
/- What one block of the token mixer's call leaves in its results. -/
module

public import proofs.«01_k».proof.Proof.MixFwdCat
public import proofs.«01_k».proof.Proof.Gen.MixFwdIdeal.Frame
public import Idealize.ShloMosaic.Lib.Pipeline.ValueKit

@[expose] public section

set_option maxRecDepth 16384

noncomputable section

namespace Cert.MixFwdIdeal.Blk

open Idealize.ShloMosaic Idealize.ShloMosaic.TcCoe Idealize.SL.Sem Cert.MixFwdIdeal Cert.MixFwdIdeal.Gen Cert.Fwd Cert.Seq Cert.Mix
open Cert.MixFwdIdeal.Gen.kernelRun0_A

/-- What tiling stores leave, where each holds its part of one array. -/
theorem canon_of {s : Shape} {e : EltTy} (G : s.Idx → Elt Ideal e) (L : List (View.Piece (Elt Ideal) s e)) (g : Fin s.rank → ℕ)
    (hc : View.Piece.tiledBy L g = true) (hp : View.PiecesOf G L) (y : s.Idx) : View.canon L y = G y :=
  View.canon_apply_of_pieces G L hp.mem y (View.cover_of_tiledBy L g hc y)

variable (c : Dev nD) (i : grid0.Coords)
  (arg1 : Memref sig .tc .vmem S32x1024 .bf16) (harg1 : arg1.IsWhole)
  (arg2 : Memref sig .tc .vmem S256x1024 .bf16) (harg2 : arg2.IsWhole)
  (arg3 : Memref sig .tc .vmem S32x1024 .bf16) (harg3 : arg3.IsWhole)
  (arg4 : Memref sig .tc .vmem S256x1024 .f32) (harg4 : arg4.IsWhole)
  (arg5 : Memref sig .tc .vmem S1024x2176 .bf16) (harg5 : arg5.IsWhole)
  (arg6 : Memref sig .tc .vmem S1024x1024 .bf16) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S256x256 .bf16) (harg9 : arg9.IsWhole)
  (arg10 : Memref sig .tc .vmem S1x256 .f32) (harg10 : arg10.IsWhole)
  (arg11 : Memref sig .tc .vmem S8x384 .f32) (harg11 : arg11.IsWhole)
  (arg12 : Memref sig .tc .vmem S32x384 .f32) (harg12 : arg12.IsWhole)
  (arg13 : Memref sig .tc .vmem S1x384 .f32) (harg13 : arg13.IsWhole)
  (arg14 : Memref sig .tc .vmem S1x384 .f32) (harg14 : arg14.IsWhole)
  (arg15 : Memref sig .tc .vmem S1x384 .f32) (harg15 : arg15.IsWhole)
  (arg16 : Memref sig .tc .vmem S256x2176 .f32) (harg16 : arg16.IsWhole)
  (arg17 : Memref sig .tc .vmem S256x1024 .bf16) (harg17 : arg17.IsWhole)
  (arg18 : Memref sig .tc .vmem S256x384 .f32) (harg18 : arg18.IsWhole)
  (arg19 : Memref sig .tc .vmem S256x1024 .f32) (harg19 : arg19.IsWhole)
  (arg20 : Memref sig .tc .vmem S256x1024 .bf16) (harg20 : arg20.IsWhole)
  (arg21 : Memref sig .tc .vmem S256x1024 .f32) (harg21 : arg21.IsWhole)
  (arg22 : Memref sig .tc .vmem S320x1024 .bf16) (harg22 : arg22.IsWhole)
  (arg23 : Memref sig .tc .vmem S320x2176 .f32) (harg23 : arg23.IsWhole)
  (arg24 : Memref sig .tc .vmem S320x384 .f32) (harg24 : arg24.IsWhole)
  (arg25 : Memref sig .tc .vmem S320x384 .f32) (harg25 : arg25.IsWhole)
  (arg26 : Memref sig .tc .vmem S312x384 .f32) (harg26 : arg26.IsWhole)
  (arg27 : Memref sig .tc .vmem S8x312x384 .f32) (harg27 : arg27.IsWhole)
  (arg28 : Memref sig .tc .vmem S256x384 .f32) (harg28 : arg28.IsWhole)
  (x0 : Vec Ideal S32x1024 .bf16) (x1 : Vec Ideal S256x1024 .bf16)
  (x2 : Vec Ideal S32x1024 .bf16) (x3 : Vec Ideal S256x1024 .f32)
  (x4 : Vec Ideal S1024x2176 .bf16) (x5 : Vec Ideal S1024x1024 .bf16)
  (x6 : Vec Ideal S1x1024 .f32) (x7 : Vec Ideal S1x1024 .f32)
  (x8 : Vec Ideal S256x256 .bf16) (x9 : Vec Ideal S1x256 .f32)
  (x10 : Vec Ideal S8x384 .f32) (x11 : Vec Ideal S32x384 .f32)
  (x12 : Vec Ideal S1x384 .f32) (x13 : Vec Ideal S1x384 .f32)
  (x14 : Vec Ideal S1x384 .f32)
  (P : Fin 16384 → Fin 2176 → EReal) (hP : ∀ (n : ℕ) (h : n < 320) (j : Fin 2176), pe i x0 x1 x2 x4 ⟨n, h⟩ j = at_ i P n j)
  (pw : Fin 4 → Fin 64 → Fin 64 → EReal) (ps : Fin 256 → EReal) (sw : Fin 3 → Fin 384 → EReal) (cw : Fin 31 → Fin 384 → EReal) (cb cg cc : Fin 384 → EReal)
  (h8 : ∀ k j : Fin 256, x8 (ix2 k j) = diag pw k j)
  (h9 : ∀ j : Fin 256, x9 (ix2 0 j) = ps j) (h10 : ∀ (k : Fin 3) (j : Fin 384), x10 (ix2 (short k) j) = sw k j)
  (h11 : ∀ (k : Fin 31) (j : Fin 384), x11 (ix2 (wide k) j) = cw k j) (h12 : ∀ j : Fin 384, x12 (ix2 0 j) = cb j)
  (h13 : ∀ j : Fin 384, x13 (ix2 0 j) = cg j) (h14 : ∀ j : Fin 384, x14 (ix2 0 j) = cc j)

/-- The row before the layer norm. -/
def mixed (r : Fin 256) (l : Fin 1024) : EReal :=
  Ideal.ofBits .f32 0x3FD744FD#32 * x3 (ix2 r l) + ∑ k : Fin 1024, cat P pw ps sw cw cb cg cc (row i r) k * x5 (ix2 k l)

theorem pay85 (r : Fin 256) (l : Fin 1024) : k0_pay85 (F := Ideal) x3 (catArr i P pw ps sw cw cb cg cc) x5 (ix2 r l) = mixed i x3 x5 P pw ps sw cw cb cg cc r l := by
  pointwise [k0_pay85]
  rfl

theorem normed (r : Fin 256) (l : Fin 1024) :
    k0_pay1 (F := Ideal) (k0_pay86 x6) (k0_pay87 x7) (k0_pay88 x3 (catArr i P pw ps sw cw cb cg cc) x5) (k0_pay89 x3 (catArr i P pw ps sw cw cb cg cc) x5) (ix2 r l)
      = lnorm width (mixed i x3 x5 P pw ps sw cw cb cg cc r) (fun k => x6 (ix2 0 k)) (fun k => x7 (ix2 0 k)) l := by
  have e := pay85 i x3 x5 P pw ps sw cw cb cg cc
  pointwise [k0_pay1, k0_pay86, k0_pay87, k0_pay88, k0_pay89]
  simp only [e]
  rfl

theorem normed_b (a b : FVec Ideal S1x1024 .f32) (d : FVec Ideal S256x1024 .f32) (v : FVec Ideal S256x1 .f32) (r : Fin 256) (l : Fin 1024) :
    k0_pay2 (F := Ideal) a b d v (ix2 r l) = k0_pay1 (F := Ideal) a b d v (ix2 r l) := by
  pointwise [k0_pay2, k0_pay1]

include hP in
/-- The block's own projected rows. -/
theorem v30 (r : Fin 256) (j : Fin 2176) : sl.v30 c i arg1 harg1 arg2 harg2 arg3 harg3 arg5 harg5 arg22 arg23 x0 x1 x2 x4 (ix2 r j) = P (row i r) j := by
  unfold sl.v30
  rw [hs1]
  pointwise [peArr]
  rw [hP]
  exact at_row i P r _ rfl j

include hP h8 h9 h10 h11 h12 h13 h14 in
/-- The heads, as the block reads them back. -/
theorem v1369 : sl.v1369 c i arg1 harg1 arg2 harg2 arg3 harg3 arg5 harg5 arg9 harg9 arg10 harg10 arg11 harg11 arg12 harg12 arg13 harg13 arg14 harg14 arg15 harg15 arg17 arg22 arg23 arg24 arg25 arg26 arg27 arg28 x0 x1 x2 x4 x8 x9 x10 x11 x12 x13 x14 = (catArr i P pw ps sw cw cb cg cc) := by
  unfold sl.v1369
  exact (load_of _ (catArr i P pw ps sw cw cb cg cc) _ _ ![256, 128] (by sl_kernel_rfl) (pieces c i arg1 harg1 arg2 harg2 arg3 harg3 arg5 harg5 arg9 harg9 arg10 harg10 arg11 harg11 arg12 harg12 arg13 harg13 arg14 harg14 arg15 harg15 arg22 arg23 arg24 arg25 arg26 arg27 arg28 x0 x1 x2 x4 x11 x12 x8 x9 x10 x13 x14 P hP pw ps sw cw cb cg cc h8 h9 h10 h11 h12 h13 h14)).trans (View.ld_unit_lit' _ _ (by decide))

include hP in
/-- The projected rows. -/
theorem out15 (y : S256x2176.Idx) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 y = P (row i (y 0)) (y 1) := by
  unfold out0_A_15 kernelRun0_A
  rw [View.read_writes_junk_eq_canon]
  dsimp only
  rw [View.canon_cons_unit_lit' _ _ _ (by decide)]
  have e := v30 c i arg1 harg1 arg2 harg2 arg3 harg3 arg5 harg5 arg22 arg23 x0 x1 x2 x4 P hP (y 0) (y 1)
  rw [← eq_ix2 y] at e
  exact e

include hP h8 h9 h10 h11 h12 h13 h14 in
/-- The heads side by side. -/
theorem out16 (y : S256x1024.Idx) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 y = cat P pw ps sw cw cb cg cc (row i (y 0)) (y 1) := by
  unfold out0_A_16 kernelRun0_A
  rw [View.read_writes_junk_eq_canon]
  dsimp only
  exact canon_of (s := S256x1024) (e := .bf16) (catArr i P pw ps sw cw cb cg cc) _ ![256, 128] (by sl_kernel_rfl) (pieces c i arg1 harg1 arg2 harg2 arg3 harg3 arg5 harg5 arg9 harg9 arg10 harg10 arg11 harg11 arg12 harg12 arg13 harg13 arg14 harg14 arg15 harg15 arg22 arg23 arg24 arg25 arg26 arg27 arg28 x0 x1 x2 x4 x11 x12 x8 x9 x10 x13 x14 P hP pw ps sw cw cb cg cc h8 h9 h10 h11 h12 h13 h14) y

include hP h11 h12 in
/-- The long convolution. -/
theorem out17 (y : S256x384.Idx) : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 y = long P cw cb (row i (y 0)) (y 1) := by
  unfold out0_A_17 kernelRun0_A
  rw [View.read_writes_junk_eq_canon]
  dsimp only
  rw [View.canon_cons_unit_lit' _ _ _ (by decide), Blk.v1330 c i arg1 harg1 arg2 harg2 arg3 harg3 arg5 harg5 arg12 harg12 arg13 harg13 arg22 arg23 arg25 arg27 arg28 x0 x1 x2 x4 x11 x12 P hP]
  exact long_row i x11 x12 P cw cb h11 h12 (y 0) (y 1)

include hP h8 h9 h10 h11 h12 h13 h14 in
/-- The layer norm. -/
theorem out18 (y : S256x1024.Idx) : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 y
    = lnorm width (mixed i x3 x5 P pw ps sw cw cb cg cc (y 0)) (fun k => x6 (ix2 0 k)) (fun k => x7 (ix2 0 k)) (y 1) := by
  unfold out0_A_18 kernelRun0_A
  rw [View.read_writes_junk_eq_canon]
  dsimp only
  rw [View.canon_cons_unit_lit' _ _ _ (by decide)]
  unfold sl.r_52 sl.r_53 sl.r_54 sl.r_55
  rw [v1369 c i arg1 harg1 arg2 harg2 arg3 harg3 arg5 harg5 arg9 harg9 arg10 harg10 arg11 harg11 arg12 harg12 arg13 harg13 arg14 harg14 arg15 harg15 arg17 arg22 arg23 arg24 arg25 arg26 arg27 arg28 x0 x1 x2 x4 x8 x9 x10 x11 x12 x13 x14 P hP pw ps sw cw cb cg cc h8 h9 h10 h11 h12 h13 h14]
  simp (disch := decide) only [View.readAt_eq_ld, View.ld_unit_lit', Memref.IsWhole.read_unread]
  have e := normed i x3 x5 x6 x7 P pw ps sw cw cb cg cc (y 0) (y 1)
  rw [← eq_ix2 y] at e
  exact e

include hP h8 h9 h10 h11 h12 h13 h14 in
/-- The layer norm, stored at half the width. -/
theorem out19 (y : S256x1024.Idx) : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 y
    = lnorm width (mixed i x3 x5 P pw ps sw cw cb cg cc (y 0)) (fun k => x6 (ix2 0 k)) (fun k => x7 (ix2 0 k)) (y 1) := by
  unfold out0_A_19 kernelRun0_A
  rw [View.read_writes_junk_eq_canon]
  dsimp only
  rw [View.canon_cons_unit_lit' _ _ _ (by decide)]
  unfold sl.r_52 sl.r_53 sl.r_54 sl.r_55
  rw [v1369 c i arg1 harg1 arg2 harg2 arg3 harg3 arg5 harg5 arg9 harg9 arg10 harg10 arg11 harg11 arg12 harg12 arg13 harg13 arg14 harg14 arg15 harg15 arg17 arg22 arg23 arg24 arg25 arg26 arg27 arg28 x0 x1 x2 x4 x8 x9 x10 x11 x12 x13 x14 P hP pw ps sw cw cb cg cc h8 h9 h10 h11 h12 h13 h14]
  simp (disch := decide) only [View.readAt_eq_ld, View.ld_unit_lit', Memref.IsWhole.read_unread]
  have e := (normed_b _ _ _ _ _ _).trans (normed i x3 x5 x6 x7 P pw ps sw cw cb cg cc (y 0) (y 1))
  rw [← eq_ix2 y] at e
  exact e

include hP h8 h9 h10 h11 h12 h13 h14 in
/-- The row handed to the layer norm. -/
theorem out20 (y : S256x1024.Idx) : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 y = mixed i x3 x5 P pw ps sw cw cb cg cc (y 0) (y 1) := by
  unfold out0_A_20 kernelRun0_A
  rw [View.read_writes_junk_eq_canon]
  dsimp only
  rw [View.canon_cons_unit_lit' _ _ _ (by decide), v1369 c i arg1 harg1 arg2 harg2 arg3 harg3 arg5 harg5 arg9 harg9 arg10 harg10 arg11 harg11 arg12 harg12 arg13 harg13 arg14 harg14 arg15 harg15 arg17 arg22 arg23 arg24 arg25 arg26 arg27 arg28 x0 x1 x2 x4 x8 x9 x10 x11 x12 x13 x14 P hP pw ps sw cw cb cg cc h8 h9 h10 h11 h12 h13 h14]
  simp (disch := decide) only [View.readAt_eq_ld, View.ld_unit_lit', Memref.IsWhole.read_unread]
  have e := pay85 i x3 x5 P pw ps sw cw cb cg cc (y 0) (y 1)
  rw [← eq_ix2 y] at e
  exact e

end Cert.MixFwdIdeal.Blk
-- ==== Proof.MixFwdRef.lean ====
/- What the reference of the token mixer's call computes. -/
module

public import proofs.«01_k».proof.Proof.FwdNorm
public import proofs.«01_k».proof.Proof.Mixer
public import proofs.«01_k».proof.Proof.Gen.MixFwdRefIdeal.Read
public import Idealize.ShloMosaic.Lib.Pointwise
public import Idealize.ShloMosaic.Lib.WordCmp

@[expose] public section

set_option maxRecDepth 16384

noncomputable section

namespace Cert.MixFwdRefIdeal.Ref

open Idealize.ShloMosaic Cert.MixFwdRefIdeal Cert.MixFwdRefIdeal.Gen Cert.MixFwdRefIdeal.Read Cert.Fwd Cert.Seq Cert.Mix

variable (y : FVec Ideal S16384x1024 .f32) (wi : FVec Ideal S1024x2176 .f32) (pw : FVec Ideal S4x64x64 .f32) (ps : FVec Ideal S256 .f32)
  (sw : FVec Ideal S3x384 .f32) (cw : FVec Ideal S31x384 .f32) (cb cg cc : FVec Ideal S384 .f32) (wo : FVec Ideal S1024x1024 .f32) (g b : FVec Ideal S1024 .f32)

/-- The projected rows. -/
def proj (t : Fin 16384) (j : Fin 2176) : EReal := ∑ k : Fin 1024, y (ix2 t k) * wi (ix2 k j)

theorem v0 (t : Fin 16384) (j : Fin 2176) : val_main_v0 (F := Ideal) y wi (ix2 t j) = proj y wi t j := by
  pointwise [val_main_v0]
  rfl

theorem v48 (t : Fin 16384) (j : Fin 384) : val_main_v48 (F := Ideal) y wi (ix2 t j)
    = proj y wi t ⟨640 + j.val, by omega⟩ * proj y wi t ⟨1024 + j.val, by omega⟩ := by
  rw [← v0, ← v0]
  pointwise [val_main_v48, val_main_v3, val_main_v4]

theorem v78 (t : Fin 16384) (j : Fin 384) : val_main_v78 (F := Ideal) y wi (ix2 t j)
    = proj y wi t ⟨1408 + j.val, by omega⟩ * Ideal.logistic (proj y wi t ⟨1792 + j.val, by omega⟩) := by
  rw [← v0, ← v0]
  pointwise [val_main_v78, val_main_v77, val_main_v76, val_main_v75, val_main_v74, val_main_v73, val_main_v72, val_main_v5, val_main_v6, val_main_cst_12, val_main_cst_13]
  rfl

/-- Taking an entry where one index is the other one shifted. -/
theorem mask_shift (s t : Fin 16384) (c k : ℕ) (hc : c < 32) (hk : k < 32) (p q : EReal) :
    Scalar.select (IntOp.cmpi .eq (IntOp.addi (BitVec.ofNat 32 s.val) (BitVec.ofNat 32 c)) (IntOp.addi (BitVec.ofNat 32 t.val) (BitVec.ofNat 32 k))) p q
      = if (s.val : ℤ) = (t.val : ℤ) + k - c then p else q := by
  have e : (BitVec.ofNat 32 s.val + BitVec.ofNat 32 c = BitVec.ofNat 32 t.val + BitVec.ofNat 32 k) ↔ (s.val : ℤ) = (t.val : ℤ) + k - c := by
    rw [← BitVec.toNat_inj]
    simp only [BitVec.toNat_add, BitVec.toNat_ofNat]
    omega
  rw [WordCmp.cmpi_eq_eq, WordCmp.select_ofBool]
  simp only [IntOp.addi, e, decide_eq_true_eq]

theorem zero_lit : (constant S_ FTy.f32 0#32 : FVec Ideal S_ .f32) ix0 = (0 : EReal) := by pointwise []

theorem v66 (k : Fin 3) (t : Fin 16384) (j : Fin 384) : val_main_v66 (F := Ideal) y wi (ix3 k t j)
    = ext (fun s => val_main_v48 (F := Ideal) y wi (ix2 s j)) ((t.val : ℤ) + k.val - 1) := by
  rw [← sum_at]
  pointwise [val_main_v66, val_main_v65, val_main_call3_v1, val_main_call3_v2, val_main_call3_v3, val_main_call3_v0, val_main_v64, val_main_v63, val_main_v62,
    val_main_v61, val_main_v60, val_main_v59, val_main_v58, val_main_v57, val_main_v56, val_main_v55, val_main_v54, val_main_v53, val_main_v52, val_main_v51,
    val_main_v50, val_main_v49, val_main_c_8, val_main_cst_9, val_main_cst_10]
  refine Finset.sum_congr rfl fun s _ => (mask_shift s t 1 k.val (by omega) (by omega) _ _).trans ?_
  rw [id, zero_lit]
  rfl

theorem v96 (k : Fin 31) (t : Fin 16384) (j : Fin 384) : val_main_v96 (F := Ideal) y wi (ix3 k t j)
    = ext (fun s => val_main_v78 (F := Ideal) y wi (ix2 s j)) ((t.val : ℤ) + k.val - 15) := by
  rw [← sum_at]
  pointwise [val_main_v96, val_main_v95, val_main_call4_v1, val_main_call4_v2, val_main_call4_v3, val_main_call4_v0, val_main_v94, val_main_v93, val_main_v92,
    val_main_v91, val_main_v90, val_main_v89, val_main_v88, val_main_v87, val_main_v86, val_main_v85, val_main_v84, val_main_v83, val_main_v82, val_main_v81,
    val_main_v80, val_main_v79, val_main_c_14, val_main_cst_15, val_main_cst_16]
  refine Finset.sum_congr rfl fun s _ => (mask_shift s t 15 k.val (by omega) (by omega) _ _).trans ?_
  rw [id, zero_lit]
  rfl

/-- The half widths of the four groups of channels. -/
theorem width_word (j : Fin 256) : (if h : j.val < 64 then 1#32 else if h : j.val - 64 < 64 then 2#32 else if h : j.val - 64 - 64 < 64 then 4#32 else 8#32)
    = BitVec.ofNat 32 (halfWidth j) := by
  revert j; decide +kernel

/-- A word clipped to the sequence. -/
theorem clip (x : BitVec 32) : (IntOp.minsi 16384#32 (IntOp.maxsi 0#32 x)).toInt = min 16384 (max 0 x.toInt) := by
  have h1 : (0#32 : BitVec 32).toInt = 0 := by decide
  have h2 : (16384#32 : BitVec 32).toInt = 16384 := by decide
  unfold IntOp.minsi IntOp.maxsi
  simp only [BitVec.slt_iff_toInt_lt]
  split <;> split <;> simp only [h1, h2] at * <;> omega

theorem clip_lo (t : Fin 16384) (h : ℕ) (hh : h ≤ 8) :
    (IntOp.minsi 16384#32 (IntOp.maxsi 0#32 (IntOp.subi (BitVec.ofNat 32 t.val) (BitVec.ofNat 32 h)))).toInt = ((t.val - h : ℕ) : ℤ) := by
  rw [clip, IntOp.subi, BitVec.toInt_sub, WordCmp.toInt_ofNat_of_lt (by omega), WordCmp.toInt_ofNat_of_lt (by omega), Int.bmod_def]
  omega

theorem clip_hi (t : Fin 16384) (h : ℕ) (hh : h ≤ 8) :
    (IntOp.minsi 16384#32 (IntOp.maxsi 0#32 (IntOp.addi (BitVec.ofNat 32 t.val) (BitVec.ofNat 32 h)))).toInt = ((min 16384 (t.val + h) : ℕ) : ℤ) := by
  rw [clip, IntOp.addi, BitVec.toInt_add, WordCmp.toInt_ofNat_of_lt (by omega), WordCmp.toInt_ofNat_of_lt (by omega), Int.bmod_def]
  omega

theorem v18 (t : Fin 16384) (j : Fin 256) : (val_main_v18 (F := Ideal) (ix2 t j)).toInt = ((t.val - halfWidth j : ℕ) : ℤ) := by
  rw [← clip_lo t _ (halfWidth_le j), ← width_word]
  pointwise [val_main_v18, val_main_v17, val_main_v16, val_main_v15, val_main_v14, val_main_v13, val_main_v12, val_main_v11, val_main_v10, val_main_v9, val_main_v8, val_main_v7,
    val_main_c, val_main_c_0, val_main_c_1, val_main_c_2, val_main_c_3, val_main_c_4, val_main_call0_v0, val_main_call0_v1, val_main_call0_v2, val_main_call0_v3, val_main_call0_v4]
  rfl

theorem v23 (t : Fin 16384) (j : Fin 256) : (val_main_v23 (F := Ideal) (ix2 t j)).toInt = ((min 16384 (t.val + halfWidth j) : ℕ) : ℤ) := by
  rw [← clip_hi t _ (halfWidth_le j), ← width_word]
  pointwise [val_main_v23, val_main_v22, val_main_v21, val_main_v20, val_main_v19, val_main_v13, val_main_v12, val_main_v11, val_main_v10, val_main_v9, val_main_v8, val_main_v7,
    val_main_c, val_main_c_0, val_main_c_1, val_main_c_2, val_main_c_5, val_main_c_6, val_main_call1_v0, val_main_call1_v1, val_main_call1_v2, val_main_call1_v3, val_main_call1_v4]
  rfl

theorem v36 (t : Fin 16384) (j : Fin 256) : val_main_v36 (F := Ideal) y wi (ix2 t j)
    = pool (halfWidth j) (fun s => val_main_v1 (F := Ideal) y wi (ix2 s j)) t := by
  have e : ∀ s : Fin 16384, (val_main_v13 (F := Ideal) (ix2 s 0)).toInt = (s.val : ℤ) := fun s => by
    pointwise [val_main_v13, val_main_v12]
    exact WordCmp.toInt_ofNat_of_lt (by omega)
  rw [← sum_window _ (halfWidth_le j)]
  pointwise [val_main_v36, val_main_v35, val_main_v34, val_main_v33, val_main_v32, val_main_v31, val_main_v30, val_main_v29, val_main_v28, val_main_v27,
    val_main_v26, val_main_v25, val_main_v24, val_main_call2_v0, val_main_call2_v1, val_main_call2_v2, val_main_cst_7, val_main_cst]
  refine Finset.sum_congr rfl fun s _ => ?_
  rw [WordCmp.cmpi_sle_eq, WordCmp.cmpi_slt_eq, WordCmp.andi_ofBool, WordCmp.select_ofBool, v18, v23, e, id, zero_lit]
  have := s.isLt
  simp only [Bool.and_eq_true, decide_eq_true_eq]
  refine if_congr ?_ rfl rfl
  omega

theorem v38 (t : Fin 16384) (j : Fin 256) : val_main_v38 (F := Ideal) (ix2 t j) = ((count 16384 (halfWidth j) t.val : ℝ) : EReal) := by
  have e : (val_main_v37 (F := Ideal) (ix2 t j)).toInt = (count 16384 (halfWidth j) t.val : ℤ) := by
    have h1 := v18 t j
    have h2 := v23 t j
    have := halfWidth_le j
    pointwise [val_main_v37]
    unfold IntOp.subi
    rw [BitVec.toInt_sub, h1, h2, Seq.count, Int.bmod_def]
    omega
  pointwise [val_main_v38]
  show (((val_main_v37 (F := Ideal) (ix2 t j)).toInt : ℝ) : EReal) = _
  rw [e]
  norm_cast

/-- The arrays as functions of their indices. -/
abbrev gw (pw : FVec Ideal S4x64x64 .f32) : Fin 4 → Fin 64 → Fin 64 → EReal := fun a d e => pw (ix3 a d e)
abbrev ch {n k : ℕ} (w : FVec Ideal ⟨2, ![n, k]⟩ .f32) : Fin n → Fin k → EReal := fun i j => w (ix2 i j)
abbrev vec {n : ℕ} (w : FVec Ideal ⟨1, ![n]⟩ .f32) : Fin n → EReal := fun i => w (ix1 i)

theorem v40 (t : Fin 16384) (j : Fin 256) : val_main_v40 (F := Ideal) y wi (ix2 t j) = pooled (proj y wi) t j := by
  have e : ∀ s : Fin 16384, val_main_v1 (F := Ideal) y wi (ix2 s j) = up (proj y wi) s j := fun s => by
    rw [up, ← v0]
    pointwise [val_main_v1]
  pointwise [val_main_v40, val_main_v39]
  rw [v36, v38, e]
  simp only [e]
  rfl

theorem v47 (t : Fin 16384) (j : Fin 256) : val_main_v47 (F := Ideal) y wi pw ps (ix2 t j) = headA (proj y wi) (gw pw) (vec ps) t j := by
  pointwise [val_main_v47, val_main_v46, val_main_v45, val_main_v44, val_main_v43, val_main_v42, val_main_v41]
  refine congrArg (· * _) (Finset.sum_congr rfl fun d _ => ?_)
  rw [v40]
  exact mul_comm _ _

theorem v71 (t : Fin 16384) (j : Fin 384) : val_main_v71 (F := Ideal) y wi sw (ix2 t j) = headB (proj y wi) (ch sw) t j := by
  pointwise [val_main_v71, val_main_v70, val_main_v69, val_main_v68, val_main_v67, val_main_v2, val_main_cst_11]
  simp only [v66, v48, v0]
  rfl

/-- The reference's long convolution. -/
theorem v103 (t : Fin 16384) (j : Fin 384) : val_main_v103 (F := Ideal) y wi cw cb (ix2 t j) = long (proj y wi) (ch cw) (vec cb) t j := by
  pointwise [val_main_v103, val_main_v102, val_main_v101, val_main_v100, val_main_v99, val_main_v98, val_main_v97, val_main_cst_17]
  simp only [v96, v78]
  rfl

theorem v127 (t : Fin 16384) (j : Fin 384) : val_main_v127 (F := Ideal) y wi cw cb cg cc (ix2 t j)
    = lnorm heads (long (proj y wi) (ch cw) (vec cb) t) (vec cg) (vec cc) j := by
  pointwise [val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104,
    val_main_cst_18, val_main_cst_19, val_main_cst_20, val_main_cst_21, val_main_cst_22]
  simp only [v103, lnorm, hat, mean, zero_add]

theorem v128 (t : Fin 16384) (j : Fin 384) : val_main_v128 (F := Ideal) y wi cw cb cg cc (ix2 t j)
    = headC (vec cg) (vec cc) (long (proj y wi) (ch cw) (vec cb) t) j := by
  pointwise [val_main_v128, val_main_call5_v5, val_main_call5_v4, val_main_call5_v3, val_main_call5_v2, val_main_call5_v1, val_main_call5_v0, val_main_call5_cst, val_main_call5_cst_0]
  rw [v127]
  rfl

/-- The heads of the arguments, side by side. -/
def catOf (t : Fin 16384) (l : Fin 1024) : EReal := cat (proj y wi) (gw pw) (vec ps) (ch sw) (ch cw) (vec cb) (vec cg) (vec cc) t l

/-- The reference's heads, side by side. -/
theorem v129 (t : Fin 16384) (l : Fin 1024) : val_main_v129 (F := Ideal) y wi pw ps sw cw cb cg cc (ix2 t l) = catOf y wi pw ps sw cw cb cg cc t l := by
  pointwise [val_main_v129]
  simp only [v47, v71, v128]
  rfl

/-- The row before the layer norm: the scaled input and the mixed heads. -/
def row (t : Fin 16384) (l : Fin 1024) : EReal :=
  Ideal.ofBits .f32 0x3FD744FD#32 * y (ix2 t l) + ∑ k : Fin 1024, catOf y wi pw ps sw cw cb cg cc t k * wo (ix2 k l)

theorem v133 (t : Fin 16384) (l : Fin 1024) : val_main_v133 (F := Ideal) y wi pw ps sw cw cb cg cc wo (ix2 t l) = row y wi pw ps sw cw cb cg cc wo t l := by
  pointwise [val_main_v133, val_main_v132, val_main_v131, val_main_v130, val_main_cst_23]
  simp only [v129]
  rfl

/-- The reference's layer norm. -/
theorem v157 (t : Fin 16384) (l : Fin 1024) : val_main_v157 (F := Ideal) y wi pw ps sw cw cb cg cc wo g b (ix2 t l)
    = lnorm width (row y wi pw ps sw cw cb cg cc wo t) (vec g) (vec b) l := by
  pointwise [val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134,
    val_main_cst_24, val_main_cst_25, val_main_cst_26, val_main_cst_27, val_main_cst_28]
  simp only [v133, lnorm, hat, mean, zero_add]

theorem v158 (t : Fin 16384) (l : Fin 1024) : val_main_v158 (F := Ideal) y wi pw ps sw cw cb cg cc (ix2 t l) = catOf y wi pw ps sw cw cb cg cc t l := by
  rw [← v129]
  pointwise [val_main_v158]

theorem v159 (t : Fin 16384) (l : Fin 1024) : val_main_v159 (F := Ideal) y wi pw ps sw cw cb cg cc wo g b (ix2 t l)
    = lnorm width (row y wi pw ps sw cw cb cg cc wo t) (vec g) (vec b) l := by
  rw [← v157]
  pointwise [val_main_v159]

end Cert.MixFwdRefIdeal.Ref

end
-- ==== Proof.MixFwdReads.lean ====
/- What the blocks of the token mixer's call read. -/
module

public import proofs.«01_k».proof.Proof.MixFwdOut
public import proofs.«01_k».proof.Proof.MixFwdRef

@[expose] public section

set_option maxRecDepth 16384

noncomputable section

namespace Cert.MixFwdIdeal.Arr

open Idealize.ShloMosaic Idealize.ShloMosaic.TcCoe Idealize.SL.Sem Cert.MixFwdIdeal Cert.MixFwdIdeal.Gen Cert.Fwd Cert.Seq Cert.Mix
open Cert.MixFwdRefIdeal.Ref (proj gw ch vec catOf row)

variable {m : (ℓ : Loc nD τ sig) → Buf (Elt Ideal) ℓ}

/-- The index maps of the operands that step with the rows: the edge before, the block, the edge after, the block again. -/
theorem idx : ∀ t : Fin cfg0.N, win0_0.index t = ![t.val * 8 - 1, 0] ∧ win0_1.index t = ![t.val, 0] ∧ win0_2.index t = ![min ((t.val + 1) * 8) 511, 0]
    ∧ win0_3.index t = ![t.val, 0] ∧ win0_4.index t = ![0, 0] ∧ win0_5.index t = ![0, 0] ∧ win0_6.index t = ![0, 0] ∧ win0_7.index t = ![0, 0] :=
  (by decide +kernel : ∀ t : Fin grid0.N, _)

/-- The index maps of the operands every block reads whole. -/
theorem idx' : ∀ t : Fin cfg0.N, win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

/-- The index maps of the results. -/
theorem odx : ∀ t : Fin cfg0.N, win0_15.index t = ![t.val, 0] ∧ win0_16.index t = ![t.val, 0] ∧ win0_17.index t = ![t.val, 0]
    ∧ win0_18.index t = ![t.val, 0] ∧ win0_19.index t = ![t.val, 0] ∧ win0_20.index t = ![t.val, 0] :=
  (by decide +kernel : ∀ t : Fin grid0.N, _)

/-- A point's coordinate is its number. -/
theorem coord : ∀ t : Fin cfg0.N, (grid0.coords t 0).val = t.val := (by decide +kernel : ∀ t : Fin grid0.N, _)

theorem lt (t : Fin cfg0.N) : t.val < 64 := by have := t.isLt; have h : cfg0.N = 64 := N_0; omega

/-- The row of the whole array that row `r` of the block at point `t` is. -/
def at_ (t : Fin cfg0.N) (r : Fin 256) : Fin 16384 := ⟨t.val * 256 + r.val, by have := lt t; omega⟩

theorem at_row (t : Fin cfg0.N) (r : Fin 256) : Blk.row (grid0.coords t) r = at_ t r :=
  Fin.ext (by show 256 * (grid0.coords t 0).val + r.val = t.val * 256 + r.val; rw [coord]; omega)

/-- The call's operands are the arguments: rows, both projections, scale and shift, and the heads' weights. -/
structure Reads (m : (ℓ : Loc nD τ sig) → Buf (Elt Ideal) ℓ) (c : Dev nD) (y : FVec Ideal S16384x1024 .f32) (wi : FVec Ideal S1024x2176 .f32)
    (pw : FVec Ideal S4x64x64 .f32) (ps : FVec Ideal S256 .f32) (sw : FVec Ideal S3x384 .f32) (cw : FVec Ideal S31x384 .f32)
    (cb cg cc : FVec Ideal S384 .f32) (wo : FVec Ideal S1024x1024 .f32) (g b : FVec Ideal S1024 .f32) : Prop where
  hyb : ∀ r l, (V m c main_v0 : FVec Ideal S16384x1024 .bf16) (ix2 r l) = y (ix2 r l)
  hy : ∀ r l, (V m c main_arg0 : FVec Ideal S16384x1024 .f32) (ix2 r l) = y (ix2 r l)
  hwi : ∀ l j, (V m c main_v1 : FVec Ideal S1024x2176 .bf16) (ix2 l j) = wi (ix2 l j)
  hwo : ∀ k l, (V m c main_v2 : FVec Ideal S1024x1024 .bf16) (ix2 k l) = wo (ix2 k l)
  hg : ∀ l, (V m c main_v3 : FVec Ideal S1x1024 .f32) (ix2 0 l) = g (ix1 l)
  hb : ∀ l, (V m c main_v4 : FVec Ideal S1x1024 .f32) (ix2 0 l) = b (ix1 l)
  hpw : ∀ k j, (V m c main_v18 : FVec Ideal S256x256 .bf16) (ix2 k j) = Blk.diag (gw pw) k j
  hps : ∀ j, (V m c main_v19 : FVec Ideal S1x256 .f32) (ix2 0 j) = ps (ix1 j)
  hsw : ∀ (k : Fin 3) j, (V m c main_v20 : FVec Ideal S8x384 .f32) (ix2 (Blk.short k) j) = sw (ix2 k j)
  hcw : ∀ (k : Fin 31) j, (V m c main_v21 : FVec Ideal S32x384 .f32) (ix2 (Blk.wide k) j) = cw (ix2 k j)
  hcb : ∀ j, (V m c main_v22 : FVec Ideal S1x384 .f32) (ix2 0 j) = cb (ix1 j)
  hcg : ∀ j, (V m c main_v23 : FVec Ideal S1x384 .f32) (ix2 0 j) = cg (ix1 j)
  hcc : ∀ j, (V m c main_v24 : FVec Ideal S1x384 .f32) (ix2 0 j) = cc (ix1 j)

variable {c : Dev nD} {y : FVec Ideal S16384x1024 .f32} {wi : FVec Ideal S1024x2176 .f32} {pw : FVec Ideal S4x64x64 .f32} {ps : FVec Ideal S256 .f32}
  {sw : FVec Ideal S3x384 .f32} {cw : FVec Ideal S31x384 .f32} {cb cg cc : FVec Ideal S384 .f32} {wo : FVec Ideal S1024x1024 .f32} {g b : FVec Ideal S1024 .f32}
  (h : Reads m c y wi pw ps sw cw cb cg cc wo g b)
include h

/-- The edge before the block. -/
theorem blk0 (t : Fin cfg0.N) (r : Fin 32) (l : Fin 1024) : (iblk m c 0 t : FVec Ideal S32x1024 .bf16) (ix2 r l) = y (ix2 ⟨(t.val * 8 - 1) * 32 + r.val, by have := lt t; omega⟩ l) := by
  rw [← h.hyb]
  blk_point [iblk, V, idx t]
  all_goals rfl

/-- The block's rows. -/
theorem blk1 (t : Fin cfg0.N) (r : Fin 256) (l : Fin 1024) : (iblk m c 1 t : FVec Ideal S256x1024 .bf16) (ix2 r l) = y (ix2 (at_ t r) l) := by
  rw [← h.hyb]
  blk_point [iblk, V, idx t]
  all_goals rfl

/-- The edge after the block. -/
theorem blk2 (t : Fin cfg0.N) (r : Fin 32) (l : Fin 1024) : (iblk m c 2 t : FVec Ideal S32x1024 .bf16) (ix2 r l) = y (ix2 ⟨min ((t.val + 1) * 8) 511 * 32 + r.val, by omega⟩ l) := by
  rw [← h.hyb]
  blk_point [iblk, V, idx t]
  all_goals rfl

/-- The block's rows at full width. -/
theorem blk3 (t : Fin cfg0.N) (r : Fin 256) (l : Fin 1024) : (iblk m c 3 t : FVec Ideal S256x1024 .f32) (ix2 r l) = y (ix2 (at_ t r) l) := by
  rw [← h.hy]
  blk_point [iblk, V, idx t]
  all_goals rfl

/-- The inner projection. -/
theorem blk4 (t : Fin cfg0.N) (l : Fin 1024) (j : Fin 2176) : (iblk m c 4 t : FVec Ideal S1024x2176 .bf16) (ix2 l j) = wi (ix2 l j) := by
  rw [← h.hwi]
  blk_point [iblk, V, idx t]
  all_goals rfl

/-- The outer projection. -/
theorem blk5 (t : Fin cfg0.N) (k l : Fin 1024) : (iblk m c 5 t : FVec Ideal S1024x1024 .bf16) (ix2 k l) = wo (ix2 k l) := by
  rw [← h.hwo]
  blk_point [iblk, V, idx t]
  all_goals rfl

/-- The layer norm's scale. -/
theorem blk6 (t : Fin cfg0.N) (l : Fin 1024) : (iblk m c 6 t : FVec Ideal S1x1024 .f32) (ix2 0 l) = g (ix1 l) := by
  rw [← h.hg]
  blk_point [iblk, V, idx t]
  all_goals rfl

/-- The layer norm's shift. -/
theorem blk7 (t : Fin cfg0.N) (l : Fin 1024) : (iblk m c 7 t : FVec Ideal S1x1024 .f32) (ix2 0 l) = b (ix1 l) := by
  rw [← h.hb]
  blk_point [iblk, V, idx t]
  all_goals rfl

/-- The group matrices. -/
theorem blk8 (t : Fin cfg0.N) (k j : Fin 256) : (iblk m c 8 t : FVec Ideal S256x256 .bf16) (ix2 k j) = Blk.diag (gw pw) k j := by
  rw [← h.hpw]
  blk_point [iblk, V, idx' t]
  all_goals rfl

/-- The pooled heads' scale. -/
theorem blk9 (t : Fin cfg0.N) (j : Fin 256) : (iblk m c 9 t : FVec Ideal S1x256 .f32) (ix2 0 j) = ps (ix1 j) := by
  rw [← h.hps]
  blk_point [iblk, V, idx' t]
  all_goals rfl

/-- The short convolution. -/
theorem blk10 (t : Fin cfg0.N) (k : Fin 3) (j : Fin 384) : (iblk m c 10 t : FVec Ideal S8x384 .f32) (ix2 (Blk.short k) j) = sw (ix2 k j) := by
  rw [← h.hsw]
  blk_point [iblk, V, idx' t]
  all_goals rfl

/-- The long convolution. -/
theorem blk11 (t : Fin cfg0.N) (k : Fin 31) (j : Fin 384) : (iblk m c 11 t : FVec Ideal S32x384 .f32) (ix2 (Blk.wide k) j) = cw (ix2 k j) := by
  rw [← h.hcw]
  blk_point [iblk, V, idx' t]
  all_goals rfl

/-- The long convolution's shift. -/
theorem blk12 (t : Fin cfg0.N) (j : Fin 384) : (iblk m c 12 t : FVec Ideal S1x384 .f32) (ix2 0 j) = cb (ix1 j) := by
  rw [← h.hcb]
  blk_point [iblk, V, idx' t]
  all_goals rfl

/-- The heads' norm's scale. -/
theorem blk13 (t : Fin cfg0.N) (j : Fin 384) : (iblk m c 13 t : FVec Ideal S1x384 .f32) (ix2 0 j) = cg (ix1 j) := by
  rw [← h.hcg]
  blk_point [iblk, V, idx' t]
  all_goals rfl

/-- The heads' norm's shift. -/
theorem blk14 (t : Fin cfg0.N) (j : Fin 384) : (iblk m c 14 t : FVec Ideal S1x384 .f32) (ix2 0 j) = cc (ix1 j) := by
  rw [← h.hcc]
  blk_point [iblk, V, idx' t]
  all_goals rfl

/-- The block's rows and edges are rows of the sequence, zero outside it. -/
theorem rows (t : Fin cfg0.N) (n : ℕ) (hn : n < 320) (l : Fin 1024) :
    Blk.rows (grid0.coords t) (iblk m c 0 t) (iblk m c 1 t) (iblk m c 2 t) ⟨n, hn⟩ l = ext (fun s => y (ix2 s l)) ((256 * (grid0.coords t 0).val + n : ℕ) - 32 : ℤ) := by
  have ht := lt t
  unfold Blk.rows
  rw [coord]
  by_cases h1 : n < 32
  · rw [dif_pos h1]
    by_cases h0 : 0 < t.val
    · rw [if_pos h0, blk0 h]
      exact (ext_of (fun s => y (ix2 s l)) _ _ (by show (((t.val * 8 - 1) * 32 + n : ℕ) : ℤ) = _; omega)).symm
    · rw [if_neg h0]
      exact (ext_out _ _ (by omega)).symm
  · rw [dif_neg h1]
    by_cases h2 : n < 288
    · rw [dif_pos h2, blk1 h]
      exact (ext_of (fun s => y (ix2 s l)) _ _ (by show ((t.val * 256 + (n - 32) : ℕ) : ℤ) = _; omega)).symm
    · rw [dif_neg h2]
      by_cases h0 : t.val < 63
      · rw [if_pos h0, blk2 h]
        exact (ext_of (fun s => y (ix2 s l)) _ _ (by show ((min ((t.val + 1) * 8) 511 * 32 + (n - 288) : ℕ) : ℤ) = _; omega)).symm
      · rw [if_neg h0]
        exact (ext_out _ _ (by omega)).symm

/-- The block's projected rows and edges are projected rows of the sequence, zero outside it. -/
theorem hP (t : Fin cfg0.N) (n : ℕ) (hn : n < 320) (j : Fin 2176) :
    Blk.pe (grid0.coords t) (iblk m c 0 t) (iblk m c 1 t) (iblk m c 2 t) (iblk m c 4 t) ⟨n, hn⟩ j = Blk.at_ (grid0.coords t) (proj y wi) n j := by
  unfold Blk.pe Blk.at_
  simp only [rows h, blk4 h, ext]
  split
  · rfl
  · simp only [zero_mul, Finset.sum_const_zero]

theorem mixed (t : Fin cfg0.N) (r : Fin 256) (l : Fin 1024) :
    Blk.mixed (grid0.coords t) (iblk m c 3 t) (iblk m c 5 t) (proj y wi) (gw pw) (vec ps) (ch sw) (ch cw) (vec cb) (vec cg) (vec cc) r l = row y wi pw ps sw cw cb cg cc wo (at_ t r) l := by
  unfold Blk.mixed
  simp only [blk3 h, blk5 h, at_row]
  rfl

end Cert.MixFwdIdeal.Arr

end
-- ==== Proof.MixFwdArray.lean ====
/- What the result arrays of the token mixer's call hold after the run. -/
module

public import proofs.«01_k».proof.Proof.MixFwdReads

@[expose] public section

set_option maxRecDepth 16384

noncomputable section

namespace Cert.MixFwdIdeal.Arr

open Idealize.ShloMosaic Idealize.ShloMosaic.TcCoe Idealize.SL.Sem Cert.MixFwdIdeal Cert.MixFwdIdeal.Gen Cert.Fwd Cert.Seq Cert.Mix
open Cert.MixFwdRefIdeal.Ref (proj gw ch vec catOf row)

variable {m : (ℓ : Loc nD τ sig) → Buf (Elt Ideal) ℓ}

theorem outs15 (c : Dev nD) (t : Fin cfg0.N) : (outsAt0 m c t).1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  dsimp only [outsAt0]

theorem outs16 (c : Dev nD) (t : Fin cfg0.N) : (outsAt0 m c t).2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  dsimp only [outsAt0]

theorem outs17 (c : Dev nD) (t : Fin cfg0.N) : (outsAt0 m c t).2.2.1 = out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  dsimp only [outsAt0]

theorem outs18 (c : Dev nD) (t : Fin cfg0.N) : (outsAt0 m c t).2.2.2.1 = out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  dsimp only [outsAt0]

theorem outs19 (c : Dev nD) (t : Fin cfg0.N) : (outsAt0 m c t).2.2.2.2.1 = out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  dsimp only [outsAt0]

theorem outs20 (c : Dev nD) (t : Fin cfg0.N) : (outsAt0 m c t).2.2.2.2.2 = out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  dsimp only [outsAt0]

theorem emb15 (t : Fin cfg0.N) (z : S256x2176.Idx) : (win0_15.blk t).view.emb z = ix2 (at_ t (z 0)) (z 1) := by
  blk_ext [odx t]
  all_goals rfl

theorem emb16 (t : Fin cfg0.N) (z : S256x1024.Idx) : (win0_16.blk t).view.emb z = ix2 (at_ t (z 0)) (z 1) := by
  blk_ext [odx t]
  all_goals rfl

theorem emb17 (t : Fin cfg0.N) (z : S256x384.Idx) : (win0_17.blk t).view.emb z = ix2 (at_ t (z 0)) (z 1) := by
  blk_ext [odx t]
  all_goals rfl

theorem emb18 (t : Fin cfg0.N) (z : S256x1024.Idx) : (win0_18.blk t).view.emb z = ix2 (at_ t (z 0)) (z 1) := by
  blk_ext [odx t]
  all_goals rfl

theorem emb19 (t : Fin cfg0.N) (z : S256x1024.Idx) : (win0_19.blk t).view.emb z = ix2 (at_ t (z 0)) (z 1) := by
  blk_ext [odx t]
  all_goals rfl

theorem emb20 (t : Fin cfg0.N) (z : S256x1024.Idx) : (win0_20.blk t).view.emb z = ix2 (at_ t (z 0)) (z 1) := by
  blk_ext [odx t]
  all_goals rfl

variable {c : Dev nD} {y : FVec Ideal S16384x1024 .f32} {wi : FVec Ideal S1024x2176 .f32} {pw : FVec Ideal S4x64x64 .f32} {ps : FVec Ideal S256 .f32}
  {sw : FVec Ideal S3x384 .f32} {cw : FVec Ideal S31x384 .f32} {cb cg cc : FVec Ideal S384 .f32} {wo : FVec Ideal S1024x1024 .f32} {g b : FVec Ideal S1024 .f32}
  (h : Reads m c y wi pw ps sw cw cb cg cc wo g b)
include h

theorem left15 (t : Fin cfg0.N) (z : S256x2176.Idx) : out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) z = proj y wi (at_ t (z 0)) (z 1) := by
  refine (Blk.out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (proj y wi) (hP h t) z).trans ?_
  exact congrArg (fun a => proj y wi a (z 1)) (at_row t (z 0))

/-- The projected rows. -/
theorem final15 : (dats m 0 c).arrAt 15 cfg0.N = (fun i => proj y wi (i 0) (i 1) : FVec Ideal S16384x2176 .f32) := by
  refine (dats m 0 c).arrAt_eq_of_covers 15 _ (by decide +kernel) fun t _ z => ?_
  blk_simp
  rw [after0_15, emb15, outs15]
  exact left15 h t z

theorem left16 (t : Fin cfg0.N) (z : S256x1024.Idx) : out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) z = catOf y wi pw ps sw cw cb cg cc (at_ t (z 0)) (z 1) := by
  refine (Blk.out16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (proj y wi) (hP h t) (gw pw) (vec ps) (ch sw) (ch cw) (vec cb) (vec cg) (vec cc) (blk8 h t) (blk9 h t) (blk10 h t) (blk11 h t) (blk12 h t) (blk13 h t) (blk14 h t) z).trans ?_
  exact congrArg (fun a => catOf y wi pw ps sw cw cb cg cc a (z 1)) (at_row t (z 0))

/-- The heads side by side. -/
theorem final16 : (dats m 0 c).arrAt 16 cfg0.N = (fun i => catOf y wi pw ps sw cw cb cg cc (i 0) (i 1) : FVec Ideal S16384x1024 .bf16) := by
  refine (dats m 0 c).arrAt_eq_of_covers 16 _ (by decide +kernel) fun t _ z => ?_
  blk_simp
  rw [after0_16, emb16, outs16]
  exact left16 h t z

theorem left17 (t : Fin cfg0.N) (z : S256x384.Idx) : out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) z = long (proj y wi) (ch cw) (vec cb) (at_ t (z 0)) (z 1) := by
  refine (Blk.out17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (proj y wi) (hP h t) (ch cw) (vec cb) (blk11 h t) (blk12 h t) z).trans ?_
  exact congrArg (fun a => long (proj y wi) (ch cw) (vec cb) a (z 1)) (at_row t (z 0))

/-- The long convolution. -/
theorem final17 : (dats m 0 c).arrAt 17 cfg0.N = (fun i => long (proj y wi) (ch cw) (vec cb) (i 0) (i 1) : FVec Ideal S16384x384 .f32) := by
  refine (dats m 0 c).arrAt_eq_of_covers 17 _ (by decide +kernel) fun t _ z => ?_
  blk_simp
  rw [after0_17, emb17, outs17]
  exact left17 h t z

theorem left18 (t : Fin cfg0.N) (z : S256x1024.Idx) : out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) z = lnorm width (row y wi pw ps sw cw cb cg cc wo (at_ t (z 0))) (vec g) (vec b) (z 1) := by
  refine (Blk.out18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (proj y wi) (hP h t) (gw pw) (vec ps) (ch sw) (ch cw) (vec cb) (vec cg) (vec cc) (blk8 h t) (blk9 h t) (blk10 h t) (blk11 h t) (blk12 h t) (blk13 h t) (blk14 h t) z).trans ?_
  rw [show Blk.mixed (grid0.coords t) (iblk m c 3 t) (iblk m c 5 t) (proj y wi) (gw pw) (vec ps) (ch sw) (ch cw) (vec cb) (vec cg) (vec cc) (z 0)
    = row y wi pw ps sw cw cb cg cc wo (at_ t (z 0)) from funext (mixed h t (z 0))]
  simp only [blk6 h, blk7 h]

/-- The layer norm. -/
theorem final18 : (dats m 0 c).arrAt 18 cfg0.N = (fun i => lnorm width (row y wi pw ps sw cw cb cg cc wo (i 0)) (vec g) (vec b) (i 1) : FVec Ideal S16384x1024 .f32) := by
  refine (dats m 0 c).arrAt_eq_of_covers 18 _ (by decide +kernel) fun t _ z => ?_
  blk_simp
  rw [after0_18, emb18, outs18]
  exact left18 h t z

theorem left19 (t : Fin cfg0.N) (z : S256x1024.Idx) : out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) z = lnorm width (row y wi pw ps sw cw cb cg cc wo (at_ t (z 0))) (vec g) (vec b) (z 1) := by
  refine (Blk.out19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (proj y wi) (hP h t) (gw pw) (vec ps) (ch sw) (ch cw) (vec cb) (vec cg) (vec cc) (blk8 h t) (blk9 h t) (blk10 h t) (blk11 h t) (blk12 h t) (blk13 h t) (blk14 h t) z).trans ?_
  rw [show Blk.mixed (grid0.coords t) (iblk m c 3 t) (iblk m c 5 t) (proj y wi) (gw pw) (vec ps) (ch sw) (ch cw) (vec cb) (vec cg) (vec cc) (z 0)
    = row y wi pw ps sw cw cb cg cc wo (at_ t (z 0)) from funext (mixed h t (z 0))]
  simp only [blk6 h, blk7 h]

/-- The layer norm, stored at half the width. -/
theorem final19 : (dats m 0 c).arrAt 19 cfg0.N = (fun i => lnorm width (row y wi pw ps sw cw cb cg cc wo (i 0)) (vec g) (vec b) (i 1) : FVec Ideal S16384x1024 .bf16) := by
  refine (dats m 0 c).arrAt_eq_of_covers 19 _ (by decide +kernel) fun t _ z => ?_
  blk_simp
  rw [after0_19, emb19, outs19]
  exact left19 h t z

theorem left20 (t : Fin cfg0.N) (z : S256x1024.Idx) : out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) z = row y wi pw ps sw cw cb cg cc wo (at_ t (z 0)) (z 1) := by
  refine (Blk.out20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (proj y wi) (hP h t) (gw pw) (vec ps) (ch sw) (ch cw) (vec cb) (vec cg) (vec cc) (blk8 h t) (blk9 h t) (blk10 h t) (blk11 h t) (blk12 h t) (blk13 h t) (blk14 h t) z).trans ?_
  exact mixed h t (z 0) (z 1)

/-- The row handed to the layer norm. -/
theorem final20 : (dats m 0 c).arrAt 20 cfg0.N = (fun i => row y wi pw ps sw cw cb cg cc wo (i 0) (i 1) : FVec Ideal S16384x1024 .f32) := by
  refine (dats m 0 c).arrAt_eq_of_covers 20 _ (by decide +kernel) fun t _ z => ?_
  blk_simp
  rw [after0_20, emb20, outs20]
  exact left20 h t z

end Cert.MixFwdIdeal.Arr

end
-- ==== Proof.MixFwdPair.lean ====
/- The token mixer's call equals the token mixer with its residual and layer norm: the claims of this pair. -/
module

public import proofs.«01_k».proof.Defs
public import proofs.«01_k».proof.Proof.MixFwdArray
public import proofs.«01_k».proof.Proof.Gen.MixFwd.Frame
public import proofs.«01_k».proof.Proof.Gen.MixFwdRefIdeal.Run
public import Idealize.ShloMosaic.Lib.Claim
public import Idealize.ShloMosaic.Lib.KernelVsHost

@[expose] public section

set_option maxRecDepth 16384

noncomputable section

namespace Cert.MixFwdPair

open Idealize.ShloMosaic Idealize.ShloMosaic.TcCoe Idealize.SL.Sem Cert.Fwd

/-- A matrix whose rows are padded at the end reads as it did on its own rows. -/
theorem pad_short (a : FVec Ideal MixFwdIdeal.S3x384 .f32) (v : FVec Ideal MixFwdIdeal.S_ .f32) (k : Fin 3) (j : Fin 384) :
    pad MixFwdIdeal.S8x384 ![0, 0] ![5, 0] ![0, 0] a v MixFwdIdeal.Gen.pads_S3x384_S8x384_050_000 MixFwdIdeal.Gen.h_S_ (ix2 (MixFwdIdeal.Blk.short k) j) = a (ix2 k j) :=
  pad_apply_of_inside _ _ _ a v _ _ _ _ (fun b => by fin_cases b <;> simp [MixFwdIdeal.Blk.short])

theorem pad_wide (a : FVec Ideal MixFwdIdeal.S31x384 .f32) (v : FVec Ideal MixFwdIdeal.S_ .f32) (k : Fin 31) (j : Fin 384) :
    pad MixFwdIdeal.S32x384 ![0, 0] ![1, 0] ![0, 0] a v MixFwdIdeal.Gen.pads_S31x384_S32x384_010_000 MixFwdIdeal.Gen.h_S_ (ix2 (MixFwdIdeal.Blk.wide k) j) = a (ix2 k j) :=
  pad_apply_of_inside _ _ _ a v _ _ _ _ (fun b => by fin_cases b <;> simp [MixFwdIdeal.Blk.wide])

/-- Rounding changes nothing over the extended reals. -/
theorem truncf_ideal (x : FVec Ideal MixFwdIdeal.S256x256 .f32) (h) (i : MixFwdIdeal.S256x256.Idx) : truncf .bf16 x h i = x i := rfl

/-- The four blocks along the diagonal, one place after the other. -/
theorem places (w : Fin 4 → Fin 64 → Fin 64 → EReal) (k j : Fin 256) :
    (if k.val / 64 = 3 ∧ j.val / 64 = 3 then w 3 ⟨k.val % 64, Nat.mod_lt _ (by decide)⟩ ⟨j.val % 64, Nat.mod_lt _ (by decide)⟩
      else if k.val / 64 = 2 ∧ j.val / 64 = 2 then w 2 ⟨k.val % 64, Nat.mod_lt _ (by decide)⟩ ⟨j.val % 64, Nat.mod_lt _ (by decide)⟩
      else if k.val / 64 = 1 ∧ j.val / 64 = 1 then w 1 ⟨k.val % 64, Nat.mod_lt _ (by decide)⟩ ⟨j.val % 64, Nat.mod_lt _ (by decide)⟩
      else if k.val / 64 = 0 ∧ j.val / 64 = 0 then w 0 ⟨k.val % 64, Nat.mod_lt _ (by decide)⟩ ⟨j.val % 64, Nat.mod_lt _ (by decide)⟩
      else 0) = MixFwdIdeal.Blk.diag w k j := by
  unfold MixFwdIdeal.Blk.diag
  have hk := k.isLt
  have hj := j.isLt
  by_cases e : k.val / 64 = j.val / 64
  · rw [if_pos e]
    have w4 : ∀ g : Fin 4, j.val / 64 = g.val → w g = w ⟨j.val / 64, by omega⟩ := fun g hg => congrArg w (Fin.ext hg.symm)
    split_ifs with a b c d
    · rw [w4 3 a.2]
    · rw [w4 2 b.2]
    · rw [w4 1 c.2]
    · rw [w4 0 d.2]
    · omega
  · rw [if_neg e, if_neg (by omega), if_neg (by omega), if_neg (by omega), if_neg (by omega)]

/-- Writing a block of 64 by 64 at a place of the diagonal. -/
theorem put (x : FVec Ideal MixFwdIdeal.S256x256 .f32) (u : FVec Ideal MixFwdIdeal.S64x64 .f32) (st : Fin 2 → Int) (o : ℕ) (ho : o < 4)
    (h0 : st 0 = ((64 * o : ℕ) : Int)) (h1 : st 1 = ((64 * o : ℕ) : Int)) (k j : Fin 256) :
    Host.dynamicUpdateSlice x u st MixFwdIdeal.Gen.updateFits_S256x256_S64x64 (ix2 k j)
      = if k.val / 64 = o ∧ j.val / 64 = o then u (ix2 ⟨k.val % 64, Nat.mod_lt _ (by decide)⟩ ⟨j.val % 64, Nat.mod_lt _ (by decide)⟩) else x (ix2 k j) := by
  have hs : ∀ a : Fin 2, Host.clampedStart MixFwdIdeal.S256x256 MixFwdIdeal.S64x64 MixFwdIdeal.Gen.updateFits_S256x256_S64x64.1 st a = 64 * o := fun a => by
    refine Host.clampedStart_of_le _ _ _ _ ?_ ?_
    · fin_cases a
      · exact h0
      · exact h1
    · fin_cases a <;> (show 64 * o + 64 ≤ 256; omega)
  rw [Host.dynamicUpdateSlice_apply]
  by_cases c : k.val / 64 = o ∧ j.val / 64 = o
  · rw [if_pos c, dif_pos (fun a => by
      rw [hs a]; fin_cases a
      · show 64 * o ≤ k.val ∧ k.val < 64 * o + 64; omega
      · show 64 * o ≤ j.val ∧ j.val < 64 * o + 64; omega)]
    refine congrArg u (funext fun a => Fin.ext ?_)
    fin_cases a
    · show k.val - Host.clampedStart MixFwdIdeal.S256x256 MixFwdIdeal.S64x64 MixFwdIdeal.Gen.updateFits_S256x256_S64x64.1 st 0 = k.val % 64
      rw [hs 0]; omega
    · show j.val - Host.clampedStart MixFwdIdeal.S256x256 MixFwdIdeal.S64x64 MixFwdIdeal.Gen.updateFits_S256x256_S64x64.1 st 1 = j.val % 64
      rw [hs 1]; omega
  · rw [if_neg c, dif_neg (fun hin => c ?_)]
    have a0 := hin 0
    have a1 := hin 1
    rw [hs 0] at a0
    rw [hs 1] at a1
    have b0 : 64 * o ≤ k.val ∧ k.val < 64 * o + 64 := a0
    have b1 : 64 * o ≤ j.val ∧ j.val < 64 * o + 64 := a1
    omega

/-- The call's operands are the arguments: cast, padded to whole rows, the group matrices along a diagonal. -/
theorem reads (m : (ℓ : Loc MixFwdIdeal.nD MixFwdIdeal.τ MixFwdIdeal.sig) → Buf (Elt Ideal) ℓ) (c : Dev MixFwdIdeal.nD) :
    MixFwdIdeal.Arr.Reads m c (m ((c.tc : Thread MixFwdIdeal.nD MixFwdIdeal.τ).loc MixFwdIdeal.main_arg0)) (m ((c.tc : Thread MixFwdIdeal.nD MixFwdIdeal.τ).loc MixFwdIdeal.main_arg1)) (m ((c.tc : Thread MixFwdIdeal.nD MixFwdIdeal.τ).loc MixFwdIdeal.main_arg2)) (m ((c.tc : Thread MixFwdIdeal.nD MixFwdIdeal.τ).loc MixFwdIdeal.main_arg3)) (m ((c.tc : Thread MixFwdIdeal.nD MixFwdIdeal.τ).loc MixFwdIdeal.main_arg4)) (m ((c.tc : Thread MixFwdIdeal.nD MixFwdIdeal.τ).loc MixFwdIdeal.main_arg5)) (m ((c.tc : Thread MixFwdIdeal.nD MixFwdIdeal.τ).loc MixFwdIdeal.main_arg6)) (m ((c.tc : Thread MixFwdIdeal.nD MixFwdIdeal.τ).loc MixFwdIdeal.main_arg7)) (m ((c.tc : Thread MixFwdIdeal.nD MixFwdIdeal.τ).loc MixFwdIdeal.main_arg8)) (m ((c.tc : Thread MixFwdIdeal.nD MixFwdIdeal.τ).loc MixFwdIdeal.main_arg9)) (m ((c.tc : Thread MixFwdIdeal.nD MixFwdIdeal.τ).loc MixFwdIdeal.main_arg10)) (m ((c.tc : Thread MixFwdIdeal.nD MixFwdIdeal.τ).loc MixFwdIdeal.main_arg11)) := by
  refine ⟨fun r l => ?_, fun r l => ?_, fun l j => ?_, fun k l => ?_, fun l => ?_, fun l => ?_, fun k j => ?_, fun j => ?_, fun k j => ?_, fun k j => ?_, fun j => ?_, fun j => ?_, fun j => ?_⟩
  · simp only [MixFwdIdeal.Gen.V, List.flatten_cons, List.flatten_nil, List.append_nil, MixFwdIdeal.Gen.hostOps0, MixFwdIdeal.Gen.hostOps0_1, MixFwdIdeal.Gen.hostOps0_2, MixFwdIdeal.Gen.hostOps0_3, MixFwdIdeal.Gen.hostOps0_4, List.cons_append, List.nil_append]; entry_read; pointwise; all_goals rfl
  · rw [MixFwdIdeal.Gen.V_main_arg0]
  · simp only [MixFwdIdeal.Gen.V, List.flatten_cons, List.flatten_nil, List.append_nil, MixFwdIdeal.Gen.hostOps0, MixFwdIdeal.Gen.hostOps0_1, MixFwdIdeal.Gen.hostOps0_2, MixFwdIdeal.Gen.hostOps0_3, MixFwdIdeal.Gen.hostOps0_4, List.cons_append, List.nil_append]; entry_read; pointwise; all_goals rfl
  · simp only [MixFwdIdeal.Gen.V, List.flatten_cons, List.flatten_nil, List.append_nil, MixFwdIdeal.Gen.hostOps0, MixFwdIdeal.Gen.hostOps0_1, MixFwdIdeal.Gen.hostOps0_2, MixFwdIdeal.Gen.hostOps0_3, MixFwdIdeal.Gen.hostOps0_4, List.cons_append, List.nil_append]; entry_read; pointwise; all_goals rfl
  · simp only [MixFwdIdeal.Gen.V, List.flatten_cons, List.flatten_nil, List.append_nil, MixFwdIdeal.Gen.hostOps0, MixFwdIdeal.Gen.hostOps0_1, MixFwdIdeal.Gen.hostOps0_2, MixFwdIdeal.Gen.hostOps0_3, MixFwdIdeal.Gen.hostOps0_4, List.cons_append, List.nil_append]; entry_read; pointwise; all_goals rfl
  · simp only [MixFwdIdeal.Gen.V, List.flatten_cons, List.flatten_nil, List.append_nil, MixFwdIdeal.Gen.hostOps0, MixFwdIdeal.Gen.hostOps0_1, MixFwdIdeal.Gen.hostOps0_2, MixFwdIdeal.Gen.hostOps0_3, MixFwdIdeal.Gen.hostOps0_4, List.cons_append, List.nil_append]; entry_read; pointwise; all_goals rfl
  · simp only [MixFwdIdeal.Gen.V, List.flatten_cons, List.flatten_nil, List.append_nil, MixFwdIdeal.Gen.hostOps0, MixFwdIdeal.Gen.hostOps0_1, MixFwdIdeal.Gen.hostOps0_2, MixFwdIdeal.Gen.hostOps0_3, MixFwdIdeal.Gen.hostOps0_4, List.cons_append, List.nil_append]; entry_read
    refine Eq.trans (truncf_ideal _ _ (ix2 k j)) ?_
    rw [put _ _ _ 3 (by decide) (by dsimp only [Matrix.cons_val_zero]; after_results_simp; rfl) (by dsimp only [Matrix.cons_val_one, Matrix.cons_val_zero]; after_results_simp; rfl),
      put _ _ _ 2 (by decide) (by dsimp only [Matrix.cons_val_zero]; after_results_simp; rfl) (by dsimp only [Matrix.cons_val_one, Matrix.cons_val_zero]; after_results_simp; rfl),
      put _ _ _ 1 (by decide) (by dsimp only [Matrix.cons_val_zero]; after_results_simp; rfl) (by dsimp only [Matrix.cons_val_one, Matrix.cons_val_zero]; after_results_simp; rfl),
      put _ _ _ 0 (by decide) (by dsimp only [Matrix.cons_val_zero]; after_results_simp; rfl) (by dsimp only [Matrix.cons_val_one, Matrix.cons_val_zero]; after_results_simp; rfl)]
    pointwise
    exact places (MixFwdRefIdeal.Ref.gw (m ((c.tc : Thread MixFwdIdeal.nD MixFwdIdeal.τ).loc MixFwdIdeal.main_arg2))) k j
  · simp only [MixFwdIdeal.Gen.V, List.flatten_cons, List.flatten_nil, List.append_nil, MixFwdIdeal.Gen.hostOps0, MixFwdIdeal.Gen.hostOps0_1, MixFwdIdeal.Gen.hostOps0_2, MixFwdIdeal.Gen.hostOps0_3, MixFwdIdeal.Gen.hostOps0_4, List.cons_append, List.nil_append]; entry_read; pointwise; all_goals rfl
  · simp only [MixFwdIdeal.Gen.V, List.flatten_cons, List.flatten_nil, List.append_nil, MixFwdIdeal.Gen.hostOps0, MixFwdIdeal.Gen.hostOps0_1, MixFwdIdeal.Gen.hostOps0_2, MixFwdIdeal.Gen.hostOps0_3, MixFwdIdeal.Gen.hostOps0_4, List.cons_append, List.nil_append]; entry_read; exact pad_short _ _ k j
  · simp only [MixFwdIdeal.Gen.V, List.flatten_cons, List.flatten_nil, List.append_nil, MixFwdIdeal.Gen.hostOps0, MixFwdIdeal.Gen.hostOps0_1, MixFwdIdeal.Gen.hostOps0_2, MixFwdIdeal.Gen.hostOps0_3, MixFwdIdeal.Gen.hostOps0_4, List.cons_append, List.nil_append]; entry_read; exact pad_wide _ _ k j
  all_goals simp only [MixFwdIdeal.Gen.V, List.flatten_cons, List.flatten_nil, List.append_nil, MixFwdIdeal.Gen.hostOps0, MixFwdIdeal.Gen.hostOps0_1, MixFwdIdeal.Gen.hostOps0_2, MixFwdIdeal.Gen.hostOps0_3, MixFwdIdeal.Gen.hostOps0_4, List.cons_append, List.nil_append]; entry_read; pointwise
  all_goals rfl

theorem frame_p : Cert.quiescent_MixFwd := fun m ρ _ => Cert.MixFwd.Gen.frame m ρ
theorem frame_pi : Cert.quiescent_MixFwdIdeal := fun m ρ _ => Cert.MixFwdIdeal.Gen.frame m ρ
theorem frame_ri : Cert.quiescent_MixFwdRefIdeal := fun m ρ _ =>
  (θ_run Cert.MixFwdRefIdeal.defs _ _).mono (fun r h => ⟨fun c => (h c).2.2.2.2.2.2, sem_eq_zero_of_no_sems (by decide) r.2⟩)
    (Cert.MixFwdRefIdeal.Value.run (F := Ideal) m ρ)

open MixFwdIdeal in
/-- The program leaves the call's six arrays, and its arguments as they were. -/
theorem run (m : (ℓ : Loc nD τ sig) → Buf (Elt Ideal) ℓ) (ρ : Dev nD → PrngReg) :
    θ_run defs (onTc (τ := τ) (main (F := Ideal))) ⟨m, fun _ => 0, ρ⟩ (fun q => ∀ c : Dev nD,
      q.2.mem ((c.tc : Thread nD τ).loc main_v25_0) = (Gen.dats m 0 c).arrAt 15 cfg0.N
      ∧ q.2.mem ((c.tc : Thread nD τ).loc main_v25_1) = (Gen.dats m 0 c).arrAt 16 cfg0.N
      ∧ q.2.mem ((c.tc : Thread nD τ).loc main_v25_2) = (Gen.dats m 0 c).arrAt 17 cfg0.N
      ∧ q.2.mem ((c.tc : Thread nD τ).loc main_v25_3) = (Gen.dats m 0 c).arrAt 18 cfg0.N
      ∧ q.2.mem ((c.tc : Thread nD τ).loc main_v25_4) = (Gen.dats m 0 c).arrAt 19 cfg0.N
      ∧ q.2.mem ((c.tc : Thread nD τ).loc main_v25_5) = (Gen.dats m 0 c).arrAt 20 cfg0.N
      ∧ q.2.mem ((c.tc : Thread nD τ).loc main_arg0) = m ((c.tc : Thread nD τ).loc main_arg0)
      ∧ q.2.mem ((c.tc : Thread nD τ).loc main_arg1) = m ((c.tc : Thread nD τ).loc main_arg1)
      ∧ q.2.mem ((c.tc : Thread nD τ).loc main_arg2) = m ((c.tc : Thread nD τ).loc main_arg2)
      ∧ q.2.mem ((c.tc : Thread nD τ).loc main_arg3) = m ((c.tc : Thread nD τ).loc main_arg3)
      ∧ q.2.mem ((c.tc : Thread nD τ).loc main_arg4) = m ((c.tc : Thread nD τ).loc main_arg4)
      ∧ q.2.mem ((c.tc : Thread nD τ).loc main_arg5) = m ((c.tc : Thread nD τ).loc main_arg5)
      ∧ q.2.mem ((c.tc : Thread nD τ).loc main_arg6) = m ((c.tc : Thread nD τ).loc main_arg6)
      ∧ q.2.mem ((c.tc : Thread nD τ).loc main_arg7) = m ((c.tc : Thread nD τ).loc main_arg7)
      ∧ q.2.mem ((c.tc : Thread nD τ).loc main_arg8) = m ((c.tc : Thread nD τ).loc main_arg8)
      ∧ q.2.mem ((c.tc : Thread nD τ).loc main_arg9) = m ((c.tc : Thread nD τ).loc main_arg9)
      ∧ q.2.mem ((c.tc : Thread nD τ).loc main_arg10) = m ((c.tc : Thread nD τ).loc main_arg10)
      ∧ q.2.mem ((c.tc : Thread nD τ).loc main_arg11) = m ((c.tc : Thread nD τ).loc main_arg11)) :=
  (θ_run defs _ _).mono (fun _ h c => ⟨(h.1 c).1 15, (h.1 c).1 16, (h.1 c).1 17, (h.1 c).1 18, (h.1 c).1 19, (h.1 c).1 20, h.2 c⟩)
    (θ_run_and (Gen.run_main m ρ) (Gen.unchanged m ρ))

set_option maxHeartbeats 3200000 in
theorem algebraic : Cert.algebraic_MixFwdIdeal_MixFwdRefIdeal := by
  pair_intro
  · refine θ_run_mono (run m g) ?_
    intro r hr c
    exact hr c
  · refine θ_run_mono (Cert.MixFwdRefIdeal.Value.run m' g') ?_
    intro r hr c
    have hR : MixFwdIdeal.Arr.Reads m c (m' ((c.tc : Thread MixFwdRefIdeal.nD MixFwdRefIdeal.τ).loc MixFwdRefIdeal.main_arg0)) (m' ((c.tc : Thread MixFwdRefIdeal.nD MixFwdRefIdeal.τ).loc MixFwdRefIdeal.main_arg1)) (m' ((c.tc : Thread MixFwdRefIdeal.nD MixFwdRefIdeal.τ).loc MixFwdRefIdeal.main_arg2)) (m' ((c.tc : Thread MixFwdRefIdeal.nD MixFwdRefIdeal.τ).loc MixFwdRefIdeal.main_arg3)) (m' ((c.tc : Thread MixFwdRefIdeal.nD MixFwdRefIdeal.τ).loc MixFwdRefIdeal.main_arg4)) (m' ((c.tc : Thread MixFwdRefIdeal.nD MixFwdRefIdeal.τ).loc MixFwdRefIdeal.main_arg5)) (m' ((c.tc : Thread MixFwdRefIdeal.nD MixFwdRefIdeal.τ).loc MixFwdRefIdeal.main_arg6)) (m' ((c.tc : Thread MixFwdRefIdeal.nD MixFwdRefIdeal.τ).loc MixFwdRefIdeal.main_arg7)) (m' ((c.tc : Thread MixFwdRefIdeal.nD MixFwdRefIdeal.τ).loc MixFwdRefIdeal.main_arg8)) (m' ((c.tc : Thread MixFwdRefIdeal.nD MixFwdRefIdeal.τ).loc MixFwdRefIdeal.main_arg9)) (m' ((c.tc : Thread MixFwdRefIdeal.nD MixFwdRefIdeal.τ).loc MixFwdRefIdeal.main_arg10)) (m' ((c.tc : Thread MixFwdRefIdeal.nD MixFwdRefIdeal.τ).loc MixFwdRefIdeal.main_arg11)) := by
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
      exact reads m c
    obtain ⟨h0, h1, h2, h3, h4, h5, h6⟩ := hr c
    refine ⟨h0.trans ?_, h1.trans ?_, h2.trans ?_, h3.trans ?_, h4.trans ?_, h5.trans ?_, h6⟩
    all_goals clear h0 h1 h2 h3 h4 h5 h6 hr
    · rw [MixFwdRefIdeal.Read.val_main_v0_eq]
      refine Eq.trans (funext fun i => ?_) (MixFwdIdeal.Arr.final15 hR).symm
      rw [eq_ix2 i]
      exact MixFwdRefIdeal.Ref.v0 _ _ (i 0) (i 1)
    · rw [MixFwdRefIdeal.Read.val_main_v158_eq]
      refine Eq.trans (funext fun i => ?_) (MixFwdIdeal.Arr.final16 hR).symm
      rw [eq_ix2 i]
      exact MixFwdRefIdeal.Ref.v158 _ _ _ _ _ _ _ _ _ (i 0) (i 1)
    · rw [MixFwdRefIdeal.Read.val_main_v103_eq]
      refine Eq.trans (funext fun i => ?_) (MixFwdIdeal.Arr.final17 hR).symm
      rw [eq_ix2 i]
      exact MixFwdRefIdeal.Ref.v103 _ _ _ _ (i 0) (i 1)
    · rw [MixFwdRefIdeal.Read.val_main_v157_eq]
      refine Eq.trans (funext fun i => ?_) (MixFwdIdeal.Arr.final18 hR).symm
      rw [eq_ix2 i]
      exact MixFwdRefIdeal.Ref.v157 _ _ _ _ _ _ _ _ _ _ _ _ (i 0) (i 1)
    · rw [MixFwdRefIdeal.Read.val_main_v159_eq]
      refine Eq.trans (funext fun i => ?_) (MixFwdIdeal.Arr.final19 hR).symm
      rw [eq_ix2 i]
      exact MixFwdRefIdeal.Ref.v159 _ _ _ _ _ _ _ _ _ _ _ _ (i 0) (i 1)
    · rw [MixFwdRefIdeal.Read.val_main_v133_eq]
      refine Eq.trans (funext fun i => ?_) (MixFwdIdeal.Arr.final20 hR).symm
      rw [eq_ix2 i]
      exact MixFwdRefIdeal.Ref.v133 _ _ _ _ _ _ _ _ _ _ (i 0) (i 1)

end Cert.MixFwdPair

end
-- ==== Proof.MixOuts.lean ====
/- What the outputs of the convolution mixer's backward call hold point by point.  One name stands for the body's run at a point (`runA`, `runB`), so that no statement repeats its operands. -/
module

public import proofs.«01_k».proof.Proof.Gen.MixBwdIdeal.Frame.RunB
public import Idealize.ShloMosaic.Lib.Claim

@[expose] public section

set_option maxRecDepth 16384

noncomputable section

namespace Cert.MixBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the ten outputs hold, in window order. -/
abbrev Outs (F : FTy → Type) [FloatOps F] := Vec F S256x2176 .bf16 × Vec F S1024x2176 .f32 × Vec F S1024x1024 .f32 × Vec F S256x256 .f32 × Vec F S1x256 .f32 × Vec F S8x384 .f32 × Vec F S32x384 .f32 × Vec F S1x384 .f32 × Vec F S1x384 .f32 × Vec F S1x384 .f32

/-- The body's run at a first point. -/
def runA (c : Dev nD) (t : Fin cfg0.N) (h0 : t.val % 64 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t)
    (ms0_27 t) (hs0_27 t) (ms0_28 t) (hs0_28 t) scM0_0 (Memref.isWhole_whole _) scM0_1 (Memref.isWhole_whole _) scM0_2 (Memref.isWhole_whole _) scM0_3 (Memref.isWhole_whole _) scM0_4
    (Memref.isWhole_whole _) scM0_5 (Memref.isWhole_whole _) scM0_6 (Memref.isWhole_whole _) scM0_7 (Memref.isWhole_whole _) scM0_8 (Memref.isWhole_whole _) scM0_9 (Memref.isWhole_whole _) scM0_10
    (Memref.isWhole_whole _) scM0_11 (Memref.isWhole_whole _) ((hcond0_0 t).mpr h0) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- The body's run at a later point, over what the outputs held. -/
def runB (c : Dev nD) (t : Fin cfg0.N) (h0 : ¬t.val % 64 = 0) (o : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t)
    (ms0_27 t) (hs0_27 t) (ms0_28 t) (hs0_28 t) scM0_0 (Memref.isWhole_whole _) scM0_1 (Memref.isWhole_whole _) scM0_2 (Memref.isWhole_whole _) scM0_3 (Memref.isWhole_whole _) scM0_4
    (Memref.isWhole_whole _) scM0_5 (Memref.isWhole_whole _) scM0_6 (Memref.isWhole_whole _) scM0_7 (Memref.isWhole_whole _) scM0_8 (Memref.isWhole_whole _) scM0_9 (Memref.isWhole_whole _) scM0_10
    (Memref.isWhole_whole _) scM0_11 (Memref.isWhole_whole _) (fun h => h0 ((hcond0_0 t).mp h)) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) o.2.1
    o.2.2.1 o.2.2.2.1 o.2.2.2.2.1 o.2.2.2.2.2.1 o.2.2.2.2.2.2.1 o.2.2.2.2.2.2.2.1 o.2.2.2.2.2.2.2.2.1 o.2.2.2.2.2.2.2.2.2

theorem cover_A_19 (c : Dev nD) (t : Fin cfg0.N) (h0 : t.val % 64 = 0) (y : S256x2176.Idx) : ∃ pc ∈ (runA m c t h0).1, y ∈ pc.1.set :=
  View.cover_of_tiledBy (runA m c t h0).1 ![256, 128] (by sl_kernel_rfl) y
def out_A_19 (c : Dev nD) (t : Fin cfg0.N) (h0 : t.val % 64 = 0) : Vec F S256x2176 .bf16 :=
  VO0_19.read (Elt F) (VO0_19.writes (Elt F) VO0_19.junk (runA m c t h0).1)

theorem cover_A_20 (c : Dev nD) (t : Fin cfg0.N) (h0 : t.val % 64 = 0) (y : S1024x2176.Idx) : ∃ pc ∈ (runA m c t h0).2.1, y ∈ pc.1.set :=
  View.cover_of_tiledL (runA m c t h0).2.1 S1024x2176.size (by sl_kernel_rfl) y
def out_A_20 (c : Dev nD) (t : Fin cfg0.N) (h0 : t.val % 64 = 0) : Vec F S1024x2176 .f32 :=
  VO0_20.read (Elt F) (VO0_20.writes (Elt F) VO0_20.junk (runA m c t h0).2.1)

theorem cover_A_21 (c : Dev nD) (t : Fin cfg0.N) (h0 : t.val % 64 = 0) (y : S1024x1024.Idx) : ∃ pc ∈ (runA m c t h0).2.2.1, y ∈ pc.1.set :=
  View.cover_of_tiledL (runA m c t h0).2.2.1 S1024x1024.size (by sl_kernel_rfl) y
def out_A_21 (c : Dev nD) (t : Fin cfg0.N) (h0 : t.val % 64 = 0) : Vec F S1024x1024 .f32 :=
  VO0_21.read (Elt F) (VO0_21.writes (Elt F) VO0_21.junk (runA m c t h0).2.2.1)

theorem cover_A_22 (c : Dev nD) (t : Fin cfg0.N) (h0 : t.val % 64 = 0) (y : S256x256.Idx) : ∃ pc ∈ (runA m c t h0).2.2.2.1, y ∈ pc.1.set :=
  View.cover_of_tiledL (runA m c t h0).2.2.2.1 S256x256.size (by sl_kernel_rfl) y
def out_A_22 (c : Dev nD) (t : Fin cfg0.N) (h0 : t.val % 64 = 0) : Vec F S256x256 .f32 :=
  VO0_22.read (Elt F) (VO0_22.writes (Elt F) VO0_22.junk (runA m c t h0).2.2.2.1)

theorem cover_A_23 (c : Dev nD) (t : Fin cfg0.N) (h0 : t.val % 64 = 0) (y : S1x256.Idx) : ∃ pc ∈ (runA m c t h0).2.2.2.2.1, y ∈ pc.1.set :=
  View.cover_of_tiledL (runA m c t h0).2.2.2.2.1 S1x256.size (by sl_kernel_rfl) y
def out_A_23 (c : Dev nD) (t : Fin cfg0.N) (h0 : t.val % 64 = 0) : Vec F S1x256 .f32 :=
  VO0_23.read (Elt F) (VO0_23.writes (Elt F) VO0_23.junk (runA m c t h0).2.2.2.2.1)

theorem cover_A_24 (c : Dev nD) (t : Fin cfg0.N) (h0 : t.val % 64 = 0) (y : S8x384.Idx) : ∃ pc ∈ (runA m c t h0).2.2.2.2.2.1, y ∈ pc.1.set :=
  View.cover_of_tiledBy (runA m c t h0).2.2.2.2.2.1 ![1, 384] (by sl_kernel_rfl) y
def out_A_24 (c : Dev nD) (t : Fin cfg0.N) (h0 : t.val % 64 = 0) : Vec F S8x384 .f32 :=
  VO0_24.read (Elt F) (VO0_24.writes (Elt F) VO0_24.junk (runA m c t h0).2.2.2.2.2.1)

theorem cover_A_25 (c : Dev nD) (t : Fin cfg0.N) (h0 : t.val % 64 = 0) (y : S32x384.Idx) : ∃ pc ∈ (runA m c t h0).2.2.2.2.2.2.1, y ∈ pc.1.set :=
  View.cover_of_tiledBy (runA m c t h0).2.2.2.2.2.2.1 ![1, 384] (by sl_kernel_rfl) y
def out_A_25 (c : Dev nD) (t : Fin cfg0.N) (h0 : t.val % 64 = 0) : Vec F S32x384 .f32 :=
  VO0_25.read (Elt F) (VO0_25.writes (Elt F) VO0_25.junk (runA m c t h0).2.2.2.2.2.2.1)

theorem cover_A_26 (c : Dev nD) (t : Fin cfg0.N) (h0 : t.val % 64 = 0) (y : S1x384.Idx) : ∃ pc ∈ (runA m c t h0).2.2.2.2.2.2.2.1, y ∈ pc.1.set :=
  View.cover_of_tiledL (runA m c t h0).2.2.2.2.2.2.2.1 S1x384.size (by sl_kernel_rfl) y
def out_A_26 (c : Dev nD) (t : Fin cfg0.N) (h0 : t.val % 64 = 0) : Vec F S1x384 .f32 :=
  VO0_26.read (Elt F) (VO0_26.writes (Elt F) VO0_26.junk (runA m c t h0).2.2.2.2.2.2.2.1)

theorem cover_A_27 (c : Dev nD) (t : Fin cfg0.N) (h0 : t.val % 64 = 0) (y : S1x384.Idx) : ∃ pc ∈ (runA m c t h0).2.2.2.2.2.2.2.2.1, y ∈ pc.1.set :=
  View.cover_of_tiledL (runA m c t h0).2.2.2.2.2.2.2.2.1 S1x384.size (by sl_kernel_rfl) y
def out_A_27 (c : Dev nD) (t : Fin cfg0.N) (h0 : t.val % 64 = 0) : Vec F S1x384 .f32 :=
  VO0_27.read (Elt F) (VO0_27.writes (Elt F) VO0_27.junk (runA m c t h0).2.2.2.2.2.2.2.2.1)

theorem cover_A_28 (c : Dev nD) (t : Fin cfg0.N) (h0 : t.val % 64 = 0) (y : S1x384.Idx) : ∃ pc ∈ (runA m c t h0).2.2.2.2.2.2.2.2.2.1, y ∈ pc.1.set :=
  View.cover_of_tiledL (runA m c t h0).2.2.2.2.2.2.2.2.2.1 S1x384.size (by sl_kernel_rfl) y
def out_A_28 (c : Dev nD) (t : Fin cfg0.N) (h0 : t.val % 64 = 0) : Vec F S1x384 .f32 :=
  VO0_28.read (Elt F) (VO0_28.writes (Elt F) VO0_28.junk (runA m c t h0).2.2.2.2.2.2.2.2.2.1)

/-- What the outputs hold after a point of case A. -/
def outsA (c : Dev nD) (t : Fin cfg0.N) (h0 : t.val % 64 = 0) : Outs F :=
  (out_A_19 m c t h0, out_A_20 m c t h0, out_A_21 m c t h0, out_A_22 m c t h0, out_A_23 m c t h0, out_A_24 m c t h0, out_A_25 m c t h0, out_A_26 m c t h0, out_A_27 m c t h0, out_A_28 m c t h0)

theorem cover_B_19 (c : Dev nD) (t : Fin cfg0.N) (h0 : ¬t.val % 64 = 0) (o : Outs F) (y : S256x2176.Idx) : ∃ pc ∈ (runB m c t h0 o).1, y ∈ pc.1.set :=
  View.cover_of_tiledBy (runB m c t h0 o).1 ![256, 128] (by sl_kernel_rfl) y
def out_B_19 (c : Dev nD) (t : Fin cfg0.N) (h0 : ¬t.val % 64 = 0) (o : Outs F) : Vec F S256x2176 .bf16 :=
  VO0_19.read (Elt F) (VO0_19.writes (Elt F) VO0_19.junk (runB m c t h0 o).1)

theorem cover_B_20 (c : Dev nD) (t : Fin cfg0.N) (h0 : ¬t.val % 64 = 0) (o : Outs F) (y : S1024x2176.Idx) : ∃ pc ∈ (runB m c t h0 o).2.1, y ∈ pc.1.set :=
  View.cover_of_tiledL (runB m c t h0 o).2.1 S1024x2176.size (by sl_kernel_rfl) y
def out_B_20 (c : Dev nD) (t : Fin cfg0.N) (h0 : ¬t.val % 64 = 0) (o : Outs F) : Vec F S1024x2176 .f32 :=
  VO0_20.read (Elt F) (VO0_20.writes (Elt F) VO0_20.junk (runB m c t h0 o).2.1)

theorem cover_B_21 (c : Dev nD) (t : Fin cfg0.N) (h0 : ¬t.val % 64 = 0) (o : Outs F) (y : S1024x1024.Idx) : ∃ pc ∈ (runB m c t h0 o).2.2.1, y ∈ pc.1.set :=
  View.cover_of_tiledL (runB m c t h0 o).2.2.1 S1024x1024.size (by sl_kernel_rfl) y
def out_B_21 (c : Dev nD) (t : Fin cfg0.N) (h0 : ¬t.val % 64 = 0) (o : Outs F) : Vec F S1024x1024 .f32 :=
  VO0_21.read (Elt F) (VO0_21.writes (Elt F) VO0_21.junk (runB m c t h0 o).2.2.1)

theorem cover_B_22 (c : Dev nD) (t : Fin cfg0.N) (h0 : ¬t.val % 64 = 0) (o : Outs F) (y : S256x256.Idx) : ∃ pc ∈ (runB m c t h0 o).2.2.2.1, y ∈ pc.1.set :=
  View.cover_of_tiledL (runB m c t h0 o).2.2.2.1 S256x256.size (by sl_kernel_rfl) y
def out_B_22 (c : Dev nD) (t : Fin cfg0.N) (h0 : ¬t.val % 64 = 0) (o : Outs F) : Vec F S256x256 .f32 :=
  VO0_22.read (Elt F) (VO0_22.writes (Elt F) VO0_22.junk (runB m c t h0 o).2.2.2.1)

theorem cover_B_23 (c : Dev nD) (t : Fin cfg0.N) (h0 : ¬t.val % 64 = 0) (o : Outs F) (y : S1x256.Idx) : ∃ pc ∈ (runB m c t h0 o).2.2.2.2.1, y ∈ pc.1.set :=
  View.cover_of_tiledL (runB m c t h0 o).2.2.2.2.1 S1x256.size (by sl_kernel_rfl) y
def out_B_23 (c : Dev nD) (t : Fin cfg0.N) (h0 : ¬t.val % 64 = 0) (o : Outs F) : Vec F S1x256 .f32 :=
  VO0_23.read (Elt F) (VO0_23.writes (Elt F) VO0_23.junk (runB m c t h0 o).2.2.2.2.1)

def out_B_24 (c : Dev nD) (t : Fin cfg0.N) (h0 : ¬t.val % 64 = 0) (o : Outs F) : Vec F S8x384 .f32 :=
  (ms0_24 t).view.read (Elt F) ((ms0_24 t).view.writes (Elt F) ((hs0_24 t).unread o.2.2.2.2.2.1) (runB m c t h0 o).2.2.2.2.2.1)

def out_B_25 (c : Dev nD) (t : Fin cfg0.N) (h0 : ¬t.val % 64 = 0) (o : Outs F) : Vec F S32x384 .f32 :=
  (ms0_25 t).view.read (Elt F) ((ms0_25 t).view.writes (Elt F) ((hs0_25 t).unread o.2.2.2.2.2.2.1) (runB m c t h0 o).2.2.2.2.2.2.1)

theorem cover_B_26 (c : Dev nD) (t : Fin cfg0.N) (h0 : ¬t.val % 64 = 0) (o : Outs F) (y : S1x384.Idx) : ∃ pc ∈ (runB m c t h0 o).2.2.2.2.2.2.2.1, y ∈ pc.1.set :=
  View.cover_of_tiledL (runB m c t h0 o).2.2.2.2.2.2.2.1 S1x384.size (by sl_kernel_rfl) y
def out_B_26 (c : Dev nD) (t : Fin cfg0.N) (h0 : ¬t.val % 64 = 0) (o : Outs F) : Vec F S1x384 .f32 :=
  VO0_26.read (Elt F) (VO0_26.writes (Elt F) VO0_26.junk (runB m c t h0 o).2.2.2.2.2.2.2.1)

theorem cover_B_27 (c : Dev nD) (t : Fin cfg0.N) (h0 : ¬t.val % 64 = 0) (o : Outs F) (y : S1x384.Idx) : ∃ pc ∈ (runB m c t h0 o).2.2.2.2.2.2.2.2.1, y ∈ pc.1.set :=
  View.cover_of_tiledL (runB m c t h0 o).2.2.2.2.2.2.2.2.1 S1x384.size (by sl_kernel_rfl) y
def out_B_27 (c : Dev nD) (t : Fin cfg0.N) (h0 : ¬t.val % 64 = 0) (o : Outs F) : Vec F S1x384 .f32 :=
  VO0_27.read (Elt F) (VO0_27.writes (Elt F) VO0_27.junk (runB m c t h0 o).2.2.2.2.2.2.2.2.1)

theorem cover_B_28 (c : Dev nD) (t : Fin cfg0.N) (h0 : ¬t.val % 64 = 0) (o : Outs F) (y : S1x384.Idx) : ∃ pc ∈ (runB m c t h0 o).2.2.2.2.2.2.2.2.2.1, y ∈ pc.1.set :=
  View.cover_of_tiledL (runB m c t h0 o).2.2.2.2.2.2.2.2.2.1 S1x384.size (by sl_kernel_rfl) y
def out_B_28 (c : Dev nD) (t : Fin cfg0.N) (h0 : ¬t.val % 64 = 0) (o : Outs F) : Vec F S1x384 .f32 :=
  VO0_28.read (Elt F) (VO0_28.writes (Elt F) VO0_28.junk (runB m c t h0 o).2.2.2.2.2.2.2.2.2.1)

/-- What the outputs hold after a point of case B. -/
def outsB (c : Dev nD) (t : Fin cfg0.N) (h0 : ¬t.val % 64 = 0) (o : Outs F) : Outs F :=
  (out_B_19 m c t h0 o, out_B_20 m c t h0 o, out_B_21 m c t h0 o, out_B_22 m c t h0 o, out_B_23 m c t h0 o, out_B_24 m c t h0 o, out_B_25 m c t h0 o, out_B_26 m c t h0 o, out_B_27 m c t h0 o, out_B_28 m c t h0 o)

/-- What the outputs hold after the body at position `n`: the first point starts anew, a later one continues. -/
def outsAt0 (c : Dev nD) : (n : ℕ) → n < cfg0.N → Outs F
  | 0, hn => outsA m c ⟨0, hn⟩ (Nat.zero_mod _)
  | n + 1, hn => if h0 : (n + 1) % 64 = 0 then outsA m c ⟨n + 1, hn⟩ h0 else outsB m c ⟨n + 1, hn⟩ h0 (outsAt0 c n (Nat.lt_of_succ_lt hn))

theorem outsAt0_A (c : Dev nD) (t : Fin cfg0.N) (h0 : t.val % 64 = 0) : outsAt0 m c t.val t.isLt = outsA m c t h0 := by
  obtain ⟨n, hn⟩ := t
  cases n with
  | zero => exact rfl
  | succ n => exact (dif_pos h0).trans rfl

theorem outsAt0_B (c : Dev nD) (t : Fin cfg0.N) (h0 : ¬t.val % 64 = 0) :
    outsAt0 m c t.val t.isLt = outsB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨20, _⟩ => (outsAt0 m c t.val t.isLt).2.1
    | ⟨21, _⟩ => (outsAt0 m c t.val t.isLt).2.2.1
    | ⟨22, _⟩ => (outsAt0 m c t.val t.isLt).2.2.2.1
    | ⟨23, _⟩ => (outsAt0 m c t.val t.isLt).2.2.2.2.1
    | ⟨24, _⟩ => (outsAt0 m c t.val t.isLt).2.2.2.2.2.1
    | ⟨25, _⟩ => (outsAt0 m c t.val t.isLt).2.2.2.2.2.2.1
    | ⟨26, _⟩ => (outsAt0 m c t.val t.isLt).2.2.2.2.2.2.2.1
    | ⟨27, _⟩ => (outsAt0 m c t.val t.isLt).2.2.2.2.2.2.2.2.1
    | ⟨28, _⟩ => (outsAt0 m c t.val t.isLt).2.2.2.2.2.2.2.2.2
    | ⟨_ + 29, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t.val t.isLt).1 := by dsimp only [dats]
theorem after0_20 (c : Dev nD) (t : Fin cfg0.N) : (dats m 0 c).after 20 t = (outsAt0 m c t.val t.isLt).2.1 := by dsimp only [dats]
theorem after0_21 (c : Dev nD) (t : Fin cfg0.N) : (dats m 0 c).after 21 t = (outsAt0 m c t.val t.isLt).2.2.1 := by dsimp only [dats]
theorem after0_22 (c : Dev nD) (t : Fin cfg0.N) : (dats m 0 c).after 22 t = (outsAt0 m c t.val t.isLt).2.2.2.1 := by dsimp only [dats]
theorem after0_23 (c : Dev nD) (t : Fin cfg0.N) : (dats m 0 c).after 23 t = (outsAt0 m c t.val t.isLt).2.2.2.2.1 := by dsimp only [dats]
theorem after0_24 (c : Dev nD) (t : Fin cfg0.N) : (dats m 0 c).after 24 t = (outsAt0 m c t.val t.isLt).2.2.2.2.2.1 := by dsimp only [dats]
theorem after0_25 (c : Dev nD) (t : Fin cfg0.N) : (dats m 0 c).after 25 t = (outsAt0 m c t.val t.isLt).2.2.2.2.2.2.1 := by dsimp only [dats]
theorem after0_26 (c : Dev nD) (t : Fin cfg0.N) : (dats m 0 c).after 26 t = (outsAt0 m c t.val t.isLt).2.2.2.2.2.2.2.1 := by dsimp only [dats]
theorem after0_27 (c : Dev nD) (t : Fin cfg0.N) : (dats m 0 c).after 27 t = (outsAt0 m c t.val t.isLt).2.2.2.2.2.2.2.2.1 := by dsimp only [dats]
theorem after0_28 (c : Dev nD) (t : Fin cfg0.N) : (dats m 0 c).after 28 t = (outsAt0 m c t.val t.isLt).2.2.2.2.2.2.2.2.2 := by dsimp only [dats]

end Cert.MixBwdIdeal.Gen

end
-- ==== Proof.MixFrame.lean ====
/- The frame of the convolution mixer's backward call: the body's triple at a point, and the
   whole run. -/
module

public import proofs.«01_k».proof.Proof.MixOuts
public import Idealize.ShloMosaic.Lib.Claim

@[expose] public section

set_option maxRecDepth 16384

noncomputable section

namespace Cert.MixBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_20_B (c : Dev nD) (t : Fin cfg0.N) (h0 : ¬t.val % 64 = 0) (d) :
    (dats m 0 c).before 20 t d = (outsAt0 m c (t.val - 1) (Nat.lt_of_le_of_lt (Nat.sub_le _ _) t.isLt)).2.1 := by
  rw [Dat.before_out_kept _ 20 rfl t (by omega) (Bool.eq_false_iff.mpr fun h => by have := (flush0_20 _).mp h; have : t.val < 64 := lt_of_lt_of_eq t.isLt N_0; dsimp only at *; omega)
    (fun _ => rfl) (fun _ _ => rfl)]
  dsimp only [dats]
theorem before0_21_B (c : Dev nD) (t : Fin cfg0.N) (h0 : ¬t.val % 64 = 0) (d) :
    (dats m 0 c).before 21 t d = (outsAt0 m c (t.val - 1) (Nat.lt_of_le_of_lt (Nat.sub_le _ _) t.isLt)).2.2.1 := by
  rw [Dat.before_out_kept _ 21 rfl t (by omega) (Bool.eq_false_iff.mpr fun h => by have := (flush0_21 _).mp h; have : t.val < 64 := lt_of_lt_of_eq t.isLt N_0; dsimp only at *; omega)
    (fun _ => rfl) (fun _ _ => rfl)]
  dsimp only [dats]
theorem before0_22_B (c : Dev nD) (t : Fin cfg0.N) (h0 : ¬t.val % 64 = 0) (d) :
    (dats m 0 c).before 22 t d = (outsAt0 m c (t.val - 1) (Nat.lt_of_le_of_lt (Nat.sub_le _ _) t.isLt)).2.2.2.1 := by
  rw [Dat.before_out_kept _ 22 rfl t (by omega) (Bool.eq_false_iff.mpr fun h => by have := (flush0_22 _).mp h; have : t.val < 64 := lt_of_lt_of_eq t.isLt N_0; dsimp only at *; omega)
    (fun _ => rfl) (fun _ _ => rfl)]
  dsimp only [dats]
theorem before0_23_B (c : Dev nD) (t : Fin cfg0.N) (h0 : ¬t.val % 64 = 0) (d) :
    (dats m 0 c).before 23 t d = (outsAt0 m c (t.val - 1) (Nat.lt_of_le_of_lt (Nat.sub_le _ _) t.isLt)).2.2.2.2.1 := by
  rw [Dat.before_out_kept _ 23 rfl t (by omega) (Bool.eq_false_iff.mpr fun h => by have := (flush0_23 _).mp h; have : t.val < 64 := lt_of_lt_of_eq t.isLt N_0; dsimp only at *; omega)
    (fun _ => rfl) (fun _ _ => rfl)]
  dsimp only [dats]
theorem before0_24_B (c : Dev nD) (t : Fin cfg0.N) (h0 : ¬t.val % 64 = 0) (d) :
    (dats m 0 c).before 24 t d = (outsAt0 m c (t.val - 1) (Nat.lt_of_le_of_lt (Nat.sub_le _ _) t.isLt)).2.2.2.2.2.1 := by
  rw [Dat.before_out_kept _ 24 rfl t (by omega) (Bool.eq_false_iff.mpr fun h => by have := (flush0_24 _).mp h; have : t.val < 64 := lt_of_lt_of_eq t.isLt N_0; dsimp only at *; omega)
    (fun _ => rfl) (fun _ _ => rfl)]
  dsimp only [dats]
theorem before0_25_B (c : Dev nD) (t : Fin cfg0.N) (h0 : ¬t.val % 64 = 0) (d) :
    (dats m 0 c).before 25 t d = (outsAt0 m c (t.val - 1) (Nat.lt_of_le_of_lt (Nat.sub_le _ _) t.isLt)).2.2.2.2.2.2.1 := by
  rw [Dat.before_out_kept _ 25 rfl t (by omega) (Bool.eq_false_iff.mpr fun h => by have := (flush0_25 _).mp h; have : t.val < 64 := lt_of_lt_of_eq t.isLt N_0; dsimp only at *; omega)
    (fun _ => rfl) (fun _ _ => rfl)]
  dsimp only [dats]
theorem before0_26_B (c : Dev nD) (t : Fin cfg0.N) (h0 : ¬t.val % 64 = 0) (d) :
    (dats m 0 c).before 26 t d = (outsAt0 m c (t.val - 1) (Nat.lt_of_le_of_lt (Nat.sub_le _ _) t.isLt)).2.2.2.2.2.2.2.1 := by
  rw [Dat.before_out_kept _ 26 rfl t (by omega) (Bool.eq_false_iff.mpr fun h => by have := (flush0_26 _).mp h; have : t.val < 64 := lt_of_lt_of_eq t.isLt N_0; dsimp only at *; omega)
    (fun _ => rfl) (fun _ _ => rfl)]
  dsimp only [dats]
theorem before0_27_B (c : Dev nD) (t : Fin cfg0.N) (h0 : ¬t.val % 64 = 0) (d) :
    (dats m 0 c).before 27 t d = (outsAt0 m c (t.val - 1) (Nat.lt_of_le_of_lt (Nat.sub_le _ _) t.isLt)).2.2.2.2.2.2.2.2.1 := by
  rw [Dat.before_out_kept _ 27 rfl t (by omega) (Bool.eq_false_iff.mpr fun h => by have := (flush0_27 _).mp h; have : t.val < 64 := lt_of_lt_of_eq t.isLt N_0; dsimp only at *; omega)
    (fun _ => rfl) (fun _ _ => rfl)]
  dsimp only [dats]
theorem before0_28_B (c : Dev nD) (t : Fin cfg0.N) (h0 : ¬t.val % 64 = 0) (d) :
    (dats m 0 c).before 28 t d = (outsAt0 m c (t.val - 1) (Nat.lt_of_le_of_lt (Nat.sub_le _ _) t.isLt)).2.2.2.2.2.2.2.2.2 := by
  rw [Dat.before_out_kept _ 28 rfl t (by omega) (Bool.eq_false_iff.mpr fun h => by have := (flush0_28 _).mp h; have : t.val < 64 := lt_of_lt_of_eq t.isLt N_0; dsimp only at *; omega)
    (fun _ => rfl) (fun _ _ => rfl)]
  dsimp only [dats]
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 80000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  rw [show (dats m 0 c).Φ t.castSucc = Pipeline.ΦA spec0 c from rfl, PhiA0_eq]
  have hN : t.val < 64 := lt_of_lt_of_eq t.isLt (show cfg0.N = 64 from N_0)
  by_cases h0 : t.val % 64 = 0
  · rw [outsAt0_A m c t h0]
    unfold outsA out_A_19 out_A_20 out_A_21 out_A_22 out_A_23 out_A_24 out_A_25 out_A_26 out_A_27 out_A_28; (try dsimp only)
    iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((runA m c t h0).2.2.2.2.2.2.2.2.2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩⟩
    isplitl [HS0 HS1 HS2 HS3 HS4 HS5 HS6 HS7 HS8 HS9 HS10 HS11 Hg]
    · isplitl [HS0 HS1 HS2 HS3 HS4 HS5 HS6 HS7 HS8 HS9 HS10 HS11]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        isplitl [HS5]
        · iexists _; unfold owns; iexists _; isplitr
          swap; · iexact HS5
          ipureintro; rfl
        isplitl [HS6]
        · iexists _; unfold owns; iexists _; isplitr
          swap; · iexact HS6
          ipureintro; rfl
        isplitl [HS7]
        · iexists _; unfold owns; iexists _; isplitr
          swap; · iexact HS7
          ipureintro; rfl
        isplitl [HS8]
        · iexists _; unfold owns; iexists _; isplitr
          swap; · iexact HS8
          ipureintro; rfl
        isplitl [HS9]
        · iexists _; unfold owns; iexists _; isplitr
          swap; · iexact HS9
          ipureintro; rfl
        isplitl [HS10]
        · iexists _; unfold owns; iexists _; isplitr
          swap; · iexact HS10
          ipureintro; rfl
        iexists _; unfold owns; iexists _; isplitr
        swap; · iexact HS11
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]
    · unfold owns; iexists _; isplitr
      swap; · iexact H19
      ipureintro; exact View.read_writes_of_cover _ _ _ _ _ (cover_A_19 m c t h0)
    isplitl [H20]
    · unfold owns; iexists _; isplitr
      swap; · iexact H20
      ipureintro; exact View.read_writes_of_cover _ _ _ _ _ (cover_A_20 m c t h0)
    isplitl [H21]
    · unfold owns; iexists _; isplitr
      swap; · iexact H21
      ipureintro; exact View.read_writes_of_cover _ _ _ _ _ (cover_A_21 m c t h0)
    isplitl [H22]
    · unfold owns; iexists _; isplitr
      swap; · iexact H22
      ipureintro; exact View.read_writes_of_cover _ _ _ _ _ (cover_A_22 m c t h0)
    isplitl [H23]
    · unfold owns; iexists _; isplitr
      swap; · iexact H23
      ipureintro; exact View.read_writes_of_cover _ _ _ _ _ (cover_A_23 m c t h0)
    isplitl [H24]
    · unfold owns; iexists _; isplitr
      swap; · iexact H24
      ipureintro; exact View.read_writes_of_cover _ _ _ _ _ (cover_A_24 m c t h0)
    isplitl [H25]
    · unfold owns; iexists _; isplitr
      swap; · iexact H25
      ipureintro; exact View.read_writes_of_cover _ _ _ _ _ (cover_A_25 m c t h0)
    isplitl [H26]
    · unfold owns; iexists _; isplitr
      swap; · iexact H26
      ipureintro; exact View.read_writes_of_cover _ _ _ _ _ (cover_A_26 m c t h0)
    isplitl [H27]
    · unfold owns; iexists _; isplitr
      swap; · iexact H27
      ipureintro; exact View.read_writes_of_cover _ _ _ _ _ (cover_A_27 m c t h0)
    unfold owns; iexists _; isplitr
    swap; · iexact H28
    ipureintro; exact View.read_writes_of_cover _ _ _ _ _ (cover_A_28 m c t h0)
  · rw [outsAt0_B m c t h0]
    simp only [before0_20_B m c t h0, before0_21_B m c t h0, before0_22_B m c t h0, before0_23_B m c t h0, before0_24_B m c t h0, before0_25_B m c t h0, before0_26_B m c t h0, before0_27_B m c t h0, before0_28_B m c t h0]
    unfold outsB out_B_19 out_B_20 out_B_21 out_B_22 out_B_23 out_B_24 out_B_25 out_B_26 out_B_27 out_B_28; (try dsimp only)
    iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((runB m c t h0 (outsAt0 m c (t.val - 1) (Nat.lt_of_le_of_lt (Nat.sub_le _ _) t.isLt))).2.2.2.2.2.2.2.2.2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, H24, H25, ⟨%e26, H26⟩, ⟨%e27, H27⟩, ⟨%e28, H28⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩⟩
    isplitl [HS0 HS1 HS2 HS3 HS4 HS5 HS6 HS7 HS8 HS9 HS10 HS11 Hg]
    · isplitl [HS0 HS1 HS2 HS3 HS4 HS5 HS6 HS7 HS8 HS9 HS10 HS11]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        isplitl [HS5]
        · iexists _; unfold owns; iexists _; isplitr
          swap; · iexact HS5
          ipureintro; rfl
        isplitl [HS6]
        · iexists _; unfold owns; iexists _; isplitr
          swap; · iexact HS6
          ipureintro; rfl
        isplitl [HS7]
        · iexists _; unfold owns; iexists _; isplitr
          swap; · iexact HS7
          ipureintro; rfl
        isplitl [HS8]
        · iexists _; unfold owns; iexists _; isplitr
          swap; · iexact HS8
          ipureintro; rfl
        isplitl [HS9]
        · iexists _; unfold owns; iexists _; isplitr
          swap; · iexact HS9
          ipureintro; rfl
        isplitl [HS10]
        · iexists _; unfold owns; iexists _; isplitr
          swap; · iexact HS10
          ipureintro; rfl
        iexists _; unfold owns; iexists _; isplitr
        swap; · iexact HS11
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]
    · unfold owns; iexists _; isplitr
      swap; · iexact H19
      ipureintro; exact View.read_writes_of_cover _ _ _ _ _ (cover_B_19 m c t h0 _)
    isplitl [H20]
    · unfold owns; iexists _; isplitr
      swap; · iexact H20
      ipureintro; exact View.read_writes_of_cover _ _ _ _ _ (cover_B_20 m c t h0 _)
    isplitl [H21]
    · unfold owns; iexists _; isplitr
      swap; · iexact H21
      ipureintro; exact View.read_writes_of_cover _ _ _ _ _ (cover_B_21 m c t h0 _)
    isplitl [H22]
    · unfold owns; iexists _; isplitr
      swap; · iexact H22
      ipureintro; exact View.read_writes_of_cover _ _ _ _ _ (cover_B_22 m c t h0 _)
    isplitl [H23]
    · unfold owns; iexists _; isplitr
      swap; · iexact H23
      ipureintro; exact View.read_writes_of_cover _ _ _ _ _ (cover_B_23 m c t h0 _)
    isplitl [H24]
    · unfold owns; iexists _; isplitr
      swap; · iexact H24
      ipureintro; rfl
    isplitl [H25]
    · unfold owns; iexists _; isplitr
      swap; · iexact H25
      ipureintro; rfl
    isplitl [H26]
    · unfold owns; iexists _; isplitr
      swap; · iexact H26
      ipureintro; exact View.read_writes_of_cover _ _ _ _ _ (cover_B_26 m c t h0 _)
    isplitl [H27]
    · unfold owns; iexists _; isplitr
      swap; · iexact H27
      ipureintro; exact View.read_writes_of_cover _ _ _ _ _ (cover_B_27 m c t h0 _)
    unfold owns; iexists _; isplitr
    swap; · iexact H28
    ipureintro; exact View.read_writes_of_cover _ _ _ _ _ (cover_B_28 m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 8000000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_MixBwdIdeal`'s statement (Defs.lean) at any `F` — Proof.lean cites it at `Bits`:
    `theorem Cert.Proof.claim : Cert.Claim := ⟨Cert.MixBwdIdeal.Gen.facts, fun m ρ _ => Cert.MixBwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.MixBwdIdeal.Gen

end
-- ==== Proof.MixBwdFrames.lean ====
/- The token mixer's backward call: its three frames. -/
module

public import proofs.«01_k».proof.Defs
public import proofs.«01_k».proof.Proof.MixFrame
public import proofs.«01_k».proof.Proof.Gen.MixBwd
public import proofs.«01_k».proof.Proof.Gen.MixBwdRefIdeal.Run
public import Idealize.ShloMosaic.Lib.Claim

@[expose] public section

set_option maxRecDepth 16384

noncomputable section

namespace Cert.MixBwdPair

open Idealize.ShloMosaic Idealize.ShloMosaic.TcCoe Idealize.SL.Sem

set_option maxHeartbeats 0 in
/-- The program as printed and the idealized one call the same bodies, before the pipelines are laid out … -/
theorem same_bodies : @Cert.MixBwd.defs₀ Bits _ _ = @Cert.MixBwdIdeal.defs₀ Bits _ _ := by
  refine congrArg Defs.onTc (funext fun ℓ => funext fun a => ?_)
  match ℓ, a with
  | ⟨0, _⟩, _ => rfl

set_option maxHeartbeats 0 in
/-- … and after. -/
theorem same_defs : @Cert.MixBwd.defs Bits _ _ = @Cert.MixBwdIdeal.defs Bits _ _ := congrArg (Pipeline.defs (Cert.MixBwd.pcfgs)) same_bodies

set_option maxHeartbeats 0 in
/-- The program as printed comes to rest. -/
theorem frame_p : Cert.quiescent_MixBwd := fun m ρ _ => by
  rw [same_defs]
  exact Cert.MixBwdIdeal.Gen.frame (F := Bits) m ρ

theorem frame_pi : Cert.quiescent_MixBwdIdeal := fun m ρ _ => Cert.MixBwdIdeal.Gen.frame m ρ

theorem frame_ri : Cert.quiescent_MixBwdRefIdeal := fun m ρ _ =>
  (θ_run Cert.MixBwdRefIdeal.defs _ _).mono (fun r h => ⟨fun c => (h c).2.2.2.2, sem_eq_zero_of_no_sems (by decide) r.2⟩)
    (Cert.MixBwdRefIdeal.Value.run (F := Ideal) m ρ)

end Cert.MixBwdPair

end
-- ==== Proof.MixBwdRows.lean ====
/- What one row of the long convolution's norm and gate gives backward, and the words of the backward call's block that hold it. -/
module

public import proofs.«01_k».proof.Proof.Gen.MixBwdIdeal.Skeleton
public import Idealize.ShloMosaic.PureOps.Ideal
public import Idealize.ShloMosaic.Lib.Pointwise
public import Idealize.ShloMosaic.Lib.Pipeline.ValueKit

@[expose] public section

set_option maxRecDepth 16384

noncomputable section

namespace Cert.MixBwdIdeal.Rows

open Idealize.ShloMosaic Idealize.ShloMosaic.TcCoe Idealize.SL.Sem Cert.MixBwdIdeal Cert.MixBwdIdeal.Gen

/-- The number of channels, and what the norm adds to the variance, as the programs have them. -/
abbrev chans : EReal := Ideal.ofBits .f32 0x43C00000#32
abbrev eps : EReal := Ideal.ofBits .f32 0x3727C5AC#32

variable (a d g b : Fin 384 → EReal)

/-- The row less its mean. -/
def cen (j : Fin 384) : EReal := a j - Ideal.div (∑ l, a l) chans
/-- One over the row's deviation. -/
def rstd : EReal := Ideal.rsqrt (Ideal.div (∑ l, cen a l * cen a l) chans + eps)
/-- The normed row. -/
def xhat (j : Fin 384) : EReal := cen a j * rstd a
/-- The normed row, scaled and moved. -/
def lin (j : Fin 384) : EReal := xhat a j * g j + b j
/-- The logistic gate, written out. -/
def gate (x : EReal) : EReal := Ideal.div 1 (1 + Ideal.exp (0 - x))
/-- The gradient under the gate. -/
def dlin (j : Fin 384) : EReal := d j * (gate (lin a g b j) * (1 + lin a g b j * (1 - gate (lin a g b j))))
/-- The gradient of the row before the norm. -/
def drow (j : Fin 384) : EReal :=
  rstd a * (dlin a d g b j * g j - Ideal.div (∑ l, dlin a d g b l * g l) chans
    - xhat a j * Ideal.div (∑ l, dlin a d g b l * g l * xhat a l) chans)

variable (v w : Vec Ideal S320x384 .f32) (x y q : Vec Ideal S1x384 .f32)

/-- A row of an array. -/
abbrev rw_ (R : Fin 320) : Fin 384 → EReal := fun l => v (ix2 R l)
abbrev ch_ : Fin 384 → EReal := fun l => x (ix2 0 l)

theorem pay24 (R : Fin 320) (j : Fin 384) : k0_pay24 (F := Ideal) v (ix2 R j) = cen (rw_ v R) j := by
  pointwise [k0_pay24]
  rfl

theorem pay25 (R : Fin 320) (j : Fin 384) : k0_pay25 (F := Ideal) v (ix2 R j) = cen (rw_ v R) j * cen (rw_ v R) j := by
  pointwise [k0_pay25]
  rw [pay24]

theorem pay26 (R : Fin 320) : k0_pay26 (F := Ideal) (k0_pay25 v) (ix2 R 0) = rstd (rw_ v R) := by
  pointwise [k0_pay26]
  simp only [pay25]
  rfl

theorem pay27 (R : Fin 320) (j : Fin 384) : k0_pay27 (F := Ideal) (k0_pay24 v) (k0_pay25 v) (ix2 R j) = xhat (rw_ v R) j := by
  pointwise [k0_pay27]
  rw [pay24, pay26]
  rfl

theorem pay28 (R : Fin 320) (j : Fin 384) : k0_pay28 (F := Ideal) (k0_pay24 v) (k0_pay25 v) x y w (ix2 R j) = dlin (rw_ v R) (rw_ w R) (ch_ x) (ch_ y) j := by
  pointwise [k0_pay28]
  rw [pay27]
  rfl

theorem pay31 (R : Fin 320) (j : Fin 384) :
    k0_pay31 (F := Ideal) (k0_pay26 (k0_pay25 v)) (k0_pay27 (k0_pay24 v) (k0_pay25 v)) (k0_pay28 (k0_pay24 v) (k0_pay25 v) x y w) x (ix2 R j)
      = drow (rw_ v R) (rw_ w R) (ch_ x) (ch_ y) j := by
  pointwise [k0_pay31]
  simp only [pay26, pay27, pay28]
  rfl

/-- A row of the block among the rows with their neighbours' edges. -/
def mid (r : Fin 256) : Fin 320 := ⟨32 + r.val, by omega⟩

theorem pay29 (j : Fin 384) : k0_pay29 (F := Ideal) (k0_pay24 v) (k0_pay25 v) x y w q (ix2 0 j)
    = q (ix2 0 j) + ∑ r : Fin 256, dlin (rw_ v (mid r)) (rw_ w (mid r)) (ch_ x) (ch_ y) j * xhat (rw_ v (mid r)) j := by
  pointwise [k0_pay29]
  simp only [pay28, pay27]
  rfl

theorem pay30 (j : Fin 384) : k0_pay30 (F := Ideal) (k0_pay28 (k0_pay24 v) (k0_pay25 v) x y w) q (ix2 0 j)
    = q (ix2 0 j) + ∑ r : Fin 256, dlin (rw_ v (mid r)) (rw_ w (mid r)) (ch_ x) (ch_ y) j := by
  pointwise [k0_pay30]
  simp only [pay28]
  rfl

theorem pay33 (j : Fin 384) :
    k0_pay33 (F := Ideal) (k0_pay26 (k0_pay25 v)) (k0_pay27 (k0_pay24 v) (k0_pay25 v)) (k0_pay28 (k0_pay24 v) (k0_pay25 v) x y w) x q (ix2 0 j)
      = q (ix2 0 j) + ∑ r : Fin 256, drow (rw_ v (mid r)) (rw_ w (mid r)) (ch_ x) (ch_ y) j := by
  pointwise [k0_pay33]
  simp only [pay31]
  rfl

end Cert.MixBwdIdeal.Rows

end
-- ==== Proof.MixBwdBlock.lean ====
/- What one block of the token mixer's backward call adds to the gradients of the long convolution's bias and norm. -/
module

public import proofs.«01_k».proof.Proof.MixOuts
public import proofs.«01_k».proof.Proof.MixBwdRows
public import Idealize.ShloMosaic.Lib.Pipeline.ReadBack

@[expose] public section

set_option maxRecDepth 16384

noncomputable section

namespace Cert.MixBwdIdeal.Blk

open Idealize.ShloMosaic Idealize.ShloMosaic.TcCoe Idealize.SL.Sem Cert.MixBwdIdeal Cert.MixBwdIdeal.Gen Cert.MixBwdIdeal.Rows

/-- A load over stores that are all blocks of one array and cover it reads that array. -/
theorem load_of {s : Shape} {e : EltTy} {κ : Kind} {sp : Space} (v : View sig κ sp s e) (G : s.Idx → Elt Ideal e) (L : List (View.Piece (Elt Ideal) s e))
    (r : Rect s) (g : Fin s.rank → ℕ) (hc : View.Piece.tiledBy L g = true) (hp : View.PiecesOf G L) : v.readCov L r.toLoadRect = View.ld G r := by
  have hc := View.cover_of_tiledBy L g hc
  rw [View.readCov_eq_canon_ld v L r hc, show View.canon L = G from funext fun y => View.canon_apply_of_pieces G L hp.mem y (hc y)]

/-- Three stores one under another, as one array. -/
def stack {n : ℕ} {e : EltTy} (A : Vec Ideal ⟨2, ![32, n]⟩ e) (B : Vec Ideal ⟨2, ![256, n]⟩ e) (C : Vec Ideal ⟨2, ![32, n]⟩ e) (r : Fin 320) (l : Fin n) : Elt Ideal e :=
  if h : r.val < 32 then A (ix2 ⟨r.val, h⟩ l) else if h : r.val < 288 then B (ix2 ⟨r.val - 32, by omega⟩ l) else C (ix2 ⟨r.val - 288, by omega⟩ l)

theorem stack_top {n : ℕ} {e : EltTy} (A : Vec Ideal ⟨2, ![32, n]⟩ e) (B : Vec Ideal ⟨2, ![256, n]⟩ e) (C : Vec Ideal ⟨2, ![32, n]⟩ e)
    (r : Fin 32) (l : Fin n) (R : Fin 320) (l' : Fin n) (hR : R.val = 0 + 1 * r.val) (hl : l'.val = 0 + 1 * l.val) : A (ix2 r l) = stack A B C R l' := by
  obtain rfl : l' = l := Fin.ext (by omega)
  unfold stack
  rw [dif_pos (by omega)]
  exact congrArg (fun q => A (ix2 q l')) (Fin.ext (by simp [hR]))

theorem stack_mid {n : ℕ} {e : EltTy} (A : Vec Ideal ⟨2, ![32, n]⟩ e) (B : Vec Ideal ⟨2, ![256, n]⟩ e) (C : Vec Ideal ⟨2, ![32, n]⟩ e)
    (r : Fin 256) (l : Fin n) (R : Fin 320) (l' : Fin n) (hR : R.val = 32 + 1 * r.val) (hl : l'.val = 0 + 1 * l.val) : B (ix2 r l) = stack A B C R l' := by
  obtain rfl : l' = l := Fin.ext (by omega)
  unfold stack
  rw [dif_neg (by omega), dif_pos (by omega)]
  exact congrArg (fun q => B (ix2 q l')) (Fin.ext (by simp [hR]))

theorem stack_last {n : ℕ} {e : EltTy} (A : Vec Ideal ⟨2, ![32, n]⟩ e) (B : Vec Ideal ⟨2, ![256, n]⟩ e) (C : Vec Ideal ⟨2, ![32, n]⟩ e)
    (r : Fin 32) (l : Fin n) (R : Fin 320) (l' : Fin n) (hR : R.val = 288 + 1 * r.val) (hl : l'.val = 0 + 1 * l.val) : C (ix2 r l) = stack A B C R l' := by
  obtain rfl : l' = l := Fin.ext (by omega)
  unfold stack
  rw [dif_neg (by omega), dif_neg (by omega)]
  exact congrArg (fun q => C (ix2 q l')) (Fin.ext (by simp [hR]))

def convArr (A : Vec Ideal S32x384 .f32) (B : Vec Ideal S256x384 .f32) (C : Vec Ideal S32x384 .f32) : Vec Ideal S320x384 .f32 := fun y => stack A B C (y 0) (y 1)
def dzArr (A : Vec Ideal S32x1024 .bf16) (B : Vec Ideal S256x1024 .bf16) (C : Vec Ideal S32x1024 .bf16) : Vec Ideal S320x1024 .bf16 := fun y => stack A B C (y 0) (y 1)

/-- The convolution's rows with their neighbours' edges, read back whole. -/
theorem conv_read {κ : Kind} {sp : Space} (v : View sig κ sp S320x384 .f32) (A : Vec Ideal S32x384 .f32) (B : Vec Ideal S256x384 .f32) (C : Vec Ideal S32x384 .f32) :
    v.readCov [⟨Rect.unit ![288, 0] ![32, 384] inb_S320x384_S32x384_288_0, C⟩, ⟨Rect.unit ![32, 0] ![256, 384] inb_S320x384_S256x384_32_0, B⟩,
      ⟨Rect.unit ![0, 0] ![32, 384] inb_S320x384_S32x384_0_0, A⟩] (Rect.unit ![0, 0] ![320, 384] inb_S320x384_S320x384_0_0).toLoadRect = convArr A B C := by
  refine (load_of v (convArr A B C) _ _ ![32, 384] (by sl_kernel_rfl) ?_).trans (View.ld_unit_lit' _ _ (by decide))
  refine ⟨fun x => ?_, fun x => ?_, fun x => ?_, trivial⟩
  · exact (congrArg C (eq_ix2 x)).trans (stack_last A B C (x 0) (x 1) _ _ rfl rfl)
  · exact (congrArg B (eq_ix2 x)).trans (stack_mid A B C (x 0) (x 1) _ _ rfl rfl)
  · exact (congrArg A (eq_ix2 x)).trans (stack_top A B C (x 0) (x 1) _ _ rfl rfl)

/-- The cotangent's rows with their neighbours' edges, read back whole. -/
theorem dz_read {κ : Kind} {sp : Space} (v : View sig κ sp S320x1024 .bf16) (A : Vec Ideal S32x1024 .bf16) (B : Vec Ideal S256x1024 .bf16) (C : Vec Ideal S32x1024 .bf16) :
    v.readCov [⟨Rect.unit ![288, 0] ![32, 1024] inb_S320x1024_S32x1024_288_0, C⟩, ⟨Rect.unit ![32, 0] ![256, 1024] inb_S320x1024_S256x1024_32_0, B⟩,
      ⟨Rect.unit ![0, 0] ![32, 1024] inb_S320x1024_S32x1024_0_0, A⟩] (Rect.unit ![0, 0] ![320, 1024] inb_S320x1024_S320x1024_0_0).toLoadRect = dzArr A B C := by
  refine (load_of v (dzArr A B C) _ _ ![32, 1024] (by sl_kernel_rfl) ?_).trans (View.ld_unit_lit' _ _ (by decide))
  refine ⟨fun x => ?_, fun x => ?_, fun x => ?_, trivial⟩
  · exact (congrArg C (eq_ix2 x)).trans (stack_last A B C (x 0) (x 1) _ _ rfl rfl)
  · exact (congrArg B (eq_ix2 x)).trans (stack_mid A B C (x 0) (x 1) _ _ rfl rfl)
  · exact (congrArg A (eq_ix2 x)).trans (stack_top A B C (x 0) (x 1) _ _ rfl rfl)

/-- The column of the heads where the long convolution's channels stand. -/
def third (j : Fin 384) : Fin 1024 := ⟨640 + j.val, by omega⟩

def headsArr (G : Vec Ideal S320x1024 .f32) : Vec Ideal S320x384 .f32 := fun y => G (ix2 (y 0) (third (y 1)))

/-- The heads' cotangent, read back from the columns of the long convolution. -/
theorem heads_read {κ : Kind} {sp : Space} (v : View sig κ sp S320x1024 .f32) (G : Vec Ideal S320x1024 .f32) :
    v.readCov [⟨Rect.unit ![0, 0] ![320, 1024] inb_S320x1024_S320x1024_0_0, G⟩] (Rect.unit ![0, 640] ![320, 384] inb_S320x1024_S320x384_0_640).toLoadRect = headsArr G := by
  refine (load_of v G _ _ ![320, 1024] (by sl_kernel_rfl) (show View.PiecesOf G [_] from ⟨fun x => ?_, trivial⟩)).trans ?_
  · refine congrArg G ((eq_ix2 x).trans ?_)
    blk_ext []
  · funext y
    exact congrArg G (funext fun d => Fin.ext (by
      fin_cases d
      · show 0 + 1 * (y 0).val = (y 0).val
        omega
      · show 640 + 1 * (y 1).val = 640 + (y 1).val
        omega))

variable (r : Fin 256) (j : Fin 384)

theorem conv_mid (A : Vec Ideal S32x384 .f32) (x : Vec Ideal S256x384 .f32) (C : Vec Ideal S32x384 .f32) : convArr A (k0_pay20 x) C (ix2 (mid r) j) = x (ix2 r j) := by
  refine (stack_mid A (k0_pay20 (F := Ideal) x) C r j (mid r) j (by simp [mid]) (by omega)).symm.trans ?_
  pointwise [k0_pay20]

theorem dz_mid (A : Vec Ideal S32x1024 .bf16) (x : Vec Ideal S256x1024 .bf16) (C : Vec Ideal S32x1024 .bf16) (k : Fin 1024) : dzArr A (k0_pay16 x) C (ix2 (mid r) k) = x (ix2 r k) := by
  refine (stack_mid A (k0_pay16 (F := Ideal) x) C r k (mid r) k (by simp [mid]) (by omega)).symm.trans ?_
  pointwise [k0_pay16]

theorem pay18 (D : Vec Ideal S320x1024 .bf16) (w : Vec Ideal S1024x1024 .bf16) (R : Fin 320) (k : Fin 1024) :
    k0_pay18 (F := Ideal) D w (ix2 R k) = ∑ l : Fin 1024, D (ix2 R l) * w (ix2 l k) := by
  pointwise [k0_pay18]

end Cert.MixBwdIdeal.Blk

end
-- ==== Proof.MixBwdOut.lean ====
/- The blocks that the token mixer's backward call leaves for the gradients of the long convolution's bias and norm. -/
module

public import proofs.«01_k».proof.Proof.MixBwdBlock

@[expose] public section

set_option maxRecDepth 16384

noncomputable section

namespace Cert.MixBwdIdeal.Blk

open Idealize.ShloMosaic Idealize.ShloMosaic.TcCoe Idealize.SL.Sem Cert.MixBwdIdeal Cert.MixBwdIdeal.Gen Cert.MixBwdIdeal.Rows

/-- A row of the heads' cotangent at the long convolution's channels: the cotangent's row times the output weights. -/
def dhead (X : Vec Ideal S256x1024 .bf16) (W : Vec Ideal S1024x1024 .bf16) (r : Fin 256) (j : Fin 384) : EReal := ∑ l : Fin 1024, X (ix2 r l) * W (ix2 l (third j))

variable (m : (ℓ : Loc nD τ sig) → Buf (Elt Ideal) ℓ) (c : Dev nD) (t : Fin cfg0.N)

/-- What a block adds to the gradient of the norm's bias, of its scale, and of the convolution's bias. -/
def plus28 (j : Fin 384) : EReal := ∑ r : Fin 256, dlin (fun l => iblk m c 7 t (ix2 r l)) (dhead (iblk m c 4 t) (iblk m c 11 t) r) (ch_ (iblk m c 17 t)) (ch_ (iblk m c 18 t)) j
def plus27 (j : Fin 384) : EReal := ∑ r : Fin 256, dlin (fun l => iblk m c 7 t (ix2 r l)) (dhead (iblk m c 4 t) (iblk m c 11 t) r) (ch_ (iblk m c 17 t)) (ch_ (iblk m c 18 t)) j * xhat (fun l => iblk m c 7 t (ix2 r l)) j
def plus26 (j : Fin 384) : EReal := ∑ r : Fin 256, drow (fun l => iblk m c 7 t (ix2 r l)) (dhead (iblk m c 4 t) (iblk m c 11 t) r) (ch_ (iblk m c 17 t)) (ch_ (iblk m c 18 t)) j

theorem head_mid (A C : Vec Ideal S32x1024 .bf16) (X : Vec Ideal S256x1024 .bf16) (W : Vec Ideal S1024x1024 .bf16) (r : Fin 256) :
    rw_ (headsArr (k0_pay18 (dzArr A (k0_pay16 X) C) W)) (mid r) = dhead X W r := by
  funext j
  refine (pay18 _ _ (mid r) (third j)).trans ?_
  simp only [dz_mid]
  rfl

theorem conv_row (A C : Vec Ideal S32x384 .f32) (X : Vec Ideal S256x384 .f32) (r : Fin 256) :
    rw_ (convArr A (k0_pay20 X) C) (mid r) = fun l => X (ix2 r l) := funext fun l => conv_mid r l A X C

theorem out_A28 (h0 : t.val % 64 = 0) (j : Fin 384) : out_A_28 m c t h0 (ix2 0 j) = plus28 m c t j := by
  unfold out_A_28 runA
  frame_out
  rw [conv_read, dz_read, heads_read, pay30]
  simp only [head_mid, conv_row]
  pointwise [k0_pay10]
  rfl

theorem out_A27 (h0 : t.val % 64 = 0) (j : Fin 384) : out_A_27 m c t h0 (ix2 0 j) = plus27 m c t j := by
  unfold out_A_27 runA
  frame_out
  rw [conv_read, dz_read, heads_read, pay29]
  simp only [head_mid, conv_row]
  pointwise [k0_pay9]
  rfl

theorem out_A26 (h0 : t.val % 64 = 0) (j : Fin 384) : out_A_26 m c t h0 (ix2 0 j) = plus26 m c t j := by
  unfold out_A_26 runA
  frame_out
  rw [conv_read, dz_read, heads_read, pay33]
  simp only [head_mid, conv_row]
  pointwise [k0_pay8]
  rfl

/-- What a block adds to the gradient of the output weights: the heads' rows against the cotangent's. -/
def rowsum (X D : Vec Ideal S256x1024 .bf16) (k l : Fin 1024) : EReal := ∑ r : Fin 256, X (ix2 r k) * D (ix2 r l)
def plus21 (k l : Fin 1024) : EReal := rowsum (iblk m c 10 t) (iblk m c 4 t) k l

theorem pay1 (X D : Vec Ideal S256x1024 .bf16) (q : Vec Ideal S1024x1024 .f32) (k l : Fin 1024) :
    k0_pay1 (F := Ideal) (k0_pay325 q) (k0_pay326 X) D (ix2 k l) = q (ix2 k l) + rowsum X D k l := by
  pointwise [k0_pay1, k0_pay325, k0_pay326]
  rfl

theorem out_A21 (h0 : t.val % 64 = 0) (k l : Fin 1024) : out_A_21 m c t h0 (ix2 k l) = plus21 m c t k l := by
  unfold out_A_21 runA
  frame_out
  rw [pay1]
  pointwise [k0_pay3]
  rfl

variable (h0 : ¬t.val % 64 = 0) (q : Outs Ideal)

theorem out_B28 (j : Fin 384) : out_B_28 m c t h0 q (ix2 0 j) = q.2.2.2.2.2.2.2.2.2 (ix2 0 j) + plus28 m c t j := by
  unfold out_B_28 runB
  frame_out
  rw [conv_read, dz_read, heads_read, pay30]
  simp only [head_mid, conv_row]
  rfl

theorem out_B27 (j : Fin 384) : out_B_27 m c t h0 q (ix2 0 j) = q.2.2.2.2.2.2.2.2.1 (ix2 0 j) + plus27 m c t j := by
  unfold out_B_27 runB
  frame_out
  rw [conv_read, dz_read, heads_read, pay29]
  simp only [head_mid, conv_row]
  rfl

theorem out_B26 (j : Fin 384) : out_B_26 m c t h0 q (ix2 0 j) = q.2.2.2.2.2.2.2.1 (ix2 0 j) + plus26 m c t j := by
  unfold out_B_26 runB
  frame_out
  rw [conv_read, dz_read, heads_read, pay33]
  simp only [head_mid, conv_row]
  rfl

theorem out_B21 (k l : Fin 1024) : out_B_21 m c t h0 q (ix2 k l) = q.2.2.1 (ix2 k l) + plus21 m c t k l := by
  unfold out_B_21 runB
  frame_out
  rw [pay1]
  rfl

end Cert.MixBwdIdeal.Blk

end
-- ==== Proof.MixBwdArray.lean ====
/- What the gradients of the output weights and of the long convolution's bias and norm hold after the token mixer's backward call. -/
module

public import proofs.«01_k».proof.Proof.MixBwdOut

@[expose] public section

set_option maxRecDepth 16384

noncomputable section

namespace Cert.MixBwdIdeal.Arr

open Idealize.ShloMosaic Idealize.ShloMosaic.TcCoe Idealize.SL.Sem Cert.MixBwdIdeal Cert.MixBwdIdeal.Gen Cert.MixBwdIdeal.Rows Cert.MixBwdIdeal.Blk
open Idealize.ShloMosaic.Pipeline (Dat)

variable (m : (ℓ : Loc nD τ sig) → Buf (Elt Ideal) ℓ) (c : Dev nD)

/-- The index maps of the windows that are read here. -/
theorem idx : ∀ t : Fin cfg0.N, win0_4.index t = ![t.val, 0] ∧ win0_7.index t = ![t.val, 0] ∧ win0_10.index t = ![t.val, 0]
    ∧ win0_11.index t = ![0, 0] ∧ win0_17.index t = ![0, 0] ∧ win0_18.index t = ![0, 0]
    ∧ win0_21.index t = ![0, 0] ∧ win0_26.index t = ![0, 0] ∧ win0_27.index t = ![0, 0] ∧ win0_28.index t = ![0, 0] :=
  (by decide +kernel : ∀ t : Fin grid0.N, _)

/-- The row of the whole array that row `r` of block `t` is. -/
def row (t : Fin cfg0.N) (r : Fin 256) : Fin 16384 := ⟨t.val * 256 + r.val, by have := t.isLt; have h : cfg0.N = 64 := N_0; omega⟩

/-- The arrays at the call: the cotangent, the convolution's rows, the heads, the output weights on their side, the norm's scale and bias. -/
def dz : Vec Ideal S16384x1024 .bf16 := V m c main_v144
def cv : Vec Ideal S16384x384 .f32 := V m c main_v103
def hd : Vec Ideal S16384x1024 .bf16 := V m c main_v148
def wo : Vec Ideal S1024x1024 .bf16 := V m c main_v146
def sc : Vec Ideal S1x384 .f32 := V m c main_v153
def sb : Vec Ideal S1x384 .f32 := V m c main_v154

/-- The heads' cotangent at the long convolution's channels, and the convolution's rows. -/
def dh (T : Fin 16384) (j : Fin 384) : EReal := ∑ l : Fin 1024, dz m c (ix2 T l) * wo m c (ix2 l (third j))
def cr (T : Fin 16384) (j : Fin 384) : EReal := cv m c (ix2 T j)

/-- Where the elements of a block read here lie in the whole array. -/
theorem emb4 (t : Fin cfg0.N) (y : S256x1024.Idx) : ((View.whole main_v144).slice (win0_4.rect t)).emb y = ix2 (row t (y 0)) (y 1) := by
  blk_ext [idx t]
  all_goals rfl
theorem emb7 (t : Fin cfg0.N) (y : S256x384.Idx) : ((View.whole main_v103).slice (win0_7.rect t)).emb y = ix2 (row t (y 0)) (y 1) := by
  blk_ext [idx t]
  all_goals rfl
theorem emb10 (t : Fin cfg0.N) (y : S256x1024.Idx) : ((View.whole main_v148).slice (win0_10.rect t)).emb y = ix2 (row t (y 0)) (y 1) := by
  blk_ext [idx t]
  all_goals rfl
theorem emb11 (t : Fin cfg0.N) (y : S1024x1024.Idx) : ((View.whole main_v146).slice (win0_11.rect t)).emb y = y := by
  blk_ext [idx t]
theorem emb17 (t : Fin cfg0.N) (y : S1x384.Idx) : ((View.whole main_v153).slice (win0_17.rect t)).emb y = y := by
  blk_ext [idx t]
theorem emb18 (t : Fin cfg0.N) (y : S1x384.Idx) : ((View.whole main_v154).slice (win0_18.rect t)).emb y = y := by
  blk_ext [idx t]
theorem blk4 (t : Fin cfg0.N) (r : Fin 256) (l : Fin 1024) : (iblk m c 4 t : Vec Ideal S256x1024 .bf16) (ix2 r l) = dz m c (ix2 (row t r) l) := by
  have e := emb4 t (ix2 r l)
  unfold iblk dz
  generalize V m c = f
  exact congrArg (f main_v144) e

theorem blk7 (t : Fin cfg0.N) (r : Fin 256) (l : Fin 384) : (iblk m c 7 t : Vec Ideal S256x384 .f32) (ix2 r l) = cv m c (ix2 (row t r) l) := by
  have e := emb7 t (ix2 r l)
  unfold iblk cv
  generalize V m c = f
  exact congrArg (f main_v103) e

theorem blk10 (t : Fin cfg0.N) (r : Fin 256) (l : Fin 1024) : (iblk m c 10 t : Vec Ideal S256x1024 .bf16) (ix2 r l) = hd m c (ix2 (row t r) l) := by
  have e := emb10 t (ix2 r l)
  unfold iblk hd
  generalize V m c = f
  exact congrArg (f main_v148) e

theorem blk11 (t : Fin cfg0.N) (r : Fin 1024) (l : Fin 1024) : (iblk m c 11 t : Vec Ideal S1024x1024 .bf16) (ix2 r l) = wo m c (ix2 r l) := by
  have e := emb11 t (ix2 r l)
  unfold iblk wo
  generalize V m c = f
  exact congrArg (f main_v146) e

theorem blk17 (t : Fin cfg0.N) (l : Fin 384) : (iblk m c 17 t : Vec Ideal S1x384 .f32) (ix2 0 l) = sc m c (ix2 0 l) := by
  have e := emb17 t (ix2 0 l)
  unfold iblk sc
  generalize V m c = f
  exact congrArg (f main_v153) e

theorem blk18 (t : Fin cfg0.N) (l : Fin 384) : (iblk m c 18 t : Vec Ideal S1x384 .f32) (ix2 0 l) = sb m c (ix2 0 l) := by
  have e := emb18 t (ix2 0 l)
  unfold iblk sb
  generalize V m c = f
  exact congrArg (f main_v154) e

theorem emb21 (t : Fin cfg0.N) (y : S1024x1024.Idx) : (win0_21.blk t).view.emb y = y := by
  blk_ext [idx t]
theorem emb26 (t : Fin cfg0.N) (y : S1x384.Idx) : (win0_26.blk t).view.emb y = y := by
  blk_ext [idx t]
theorem emb27 (t : Fin cfg0.N) (y : S1x384.Idx) : (win0_27.blk t).view.emb y = y := by
  blk_ext [idx t]
theorem emb28 (t : Fin cfg0.N) (y : S1x384.Idx) : (win0_28.blk t).view.emb y = y := by
  blk_ext [idx t]

/-- The rows of the blocks of all points, in order, are the rows of the array. -/
theorem sum_rows (f : Fin 16384 → EReal) (q : ℕ) (hq : q = 0) (e : ∀ s : Fin 64, q + s.val < cfg0.N) :
    (∑ s : Fin 64, ∑ r : Fin 256, f (row ⟨q + s.val, e s⟩ r)) = ∑ k, f k := by
  subst hq
  rw [Fin.sum_univ_tiles 64 256 rfl f]
  refine Finset.sum_congr rfl fun s _ => Finset.sum_congr rfl fun r _ => congrArg f (Fin.ext ?_)
  show (0 + s.val) * 256 + r.val = s.val * 256 + r.val
  rw [zero_add]

theorem conv_blk (t : Fin cfg0.N) (r : Fin 256) : (fun l => (iblk m c 7 t : Vec Ideal S256x384 .f32) (ix2 r l)) = cr m c (row t r) := funext fun l => blk7 m c t r l

theorem head_blk (t : Fin cfg0.N) (r : Fin 256) : dhead (iblk m c 4 t) (iblk m c 11 t) r = dh m c (row t r) := by
  funext j
  unfold dhead dh
  exact Finset.sum_congr rfl fun l _ => congrArg₂ (fun a b : EReal => a * b) (blk4 m c t r l) (blk11 m c t l (third j))

theorem scale_blk (t : Fin cfg0.N) : ch_ (iblk m c 17 t) = ch_ (sc m c) := funext fun l => blk17 m c t l
theorem bias_blk (t : Fin cfg0.N) : ch_ (iblk m c 18 t) = ch_ (sb m c) := funext fun l => blk18 m c t l

theorem one_row (j : S1x384.Idx) : ix2 0 (j 1) = j := (congrArg (fun a : Fin 1 => (ix2 a (j 1) : S1x384.Idx)) (Subsingleton.elim (α := Fin 1) 0 (j 0))).trans (eq_ix2 j).symm

theorem total28 (q : ℕ) (hq : q = 0) (e : ∀ s : Fin 64, q + s.val < cfg0.N) (j : Fin 384) :
    (∑ s : Fin 64, plus28 m c ⟨q + s.val, e s⟩ j) = ∑ T, dlin (cr m c T) (dh m c T) (ch_ (sc m c)) (ch_ (sb m c)) j := by
  refine Eq.trans ?_ (sum_rows _ q hq e)
  refine Finset.sum_congr rfl fun s _ => ?_
  unfold plus28
  simp only [conv_blk, head_blk, scale_blk, bias_blk]

theorem total27 (q : ℕ) (hq : q = 0) (e : ∀ s : Fin 64, q + s.val < cfg0.N) (j : Fin 384) :
    (∑ s : Fin 64, plus27 m c ⟨q + s.val, e s⟩ j) = ∑ T, dlin (cr m c T) (dh m c T) (ch_ (sc m c)) (ch_ (sb m c)) j * xhat (cr m c T) j := by
  refine Eq.trans ?_ (sum_rows _ q hq e)
  refine Finset.sum_congr rfl fun s _ => ?_
  unfold plus27
  simp only [conv_blk, head_blk, scale_blk, bias_blk]

theorem total26 (q : ℕ) (hq : q = 0) (e : ∀ s : Fin 64, q + s.val < cfg0.N) (j : Fin 384) :
    (∑ s : Fin 64, plus26 m c ⟨q + s.val, e s⟩ j) = ∑ T, drow (cr m c T) (dh m c T) (ch_ (sc m c)) (ch_ (sb m c)) j := by
  refine Eq.trans ?_ (sum_rows _ q hq e)
  refine Finset.sum_congr rfl fun s _ => ?_
  unfold plus26
  simp only [conv_blk, head_blk, scale_blk, bias_blk]

theorem total21 (q : ℕ) (hq : q = 0) (e : ∀ s : Fin 64, q + s.val < cfg0.N) (k l : Fin 1024) :
    (∑ s : Fin 64, plus21 m c ⟨q + s.val, e s⟩ k l) = ∑ T : Fin 16384, hd m c (ix2 T k) * dz m c (ix2 T l) := by
  refine Eq.trans ?_ (sum_rows _ q hq e)
  refine Finset.sum_congr rfl fun s _ => ?_
  unfold plus21 rowsum
  exact Finset.sum_congr rfl fun r _ => congrArg₂ (fun a b : EReal => a * b) (blk10 m c _ r k) (blk4 m c _ r l)

theorem first28 (t : Fin cfg0.N) (h : t.val % 64 = 0) (j : S1x384.Idx) : (outsAt0 m c t.val t.isLt).2.2.2.2.2.2.2.2.2 j = 0 + plus28 m c t (j 1) := by
  obtain ⟨k, rfl⟩ : ∃ k, j = ix2 0 k := ⟨j 1, (one_row j).symm⟩
  rw [outsAt0_A m c t h, zero_add]
  unfold outsA
  dsimp only
  exact out_A28 m c t h k

theorem next28 (t : Fin cfg0.N) (h : ¬t.val % 64 = 0) (j : S1x384.Idx) : (outsAt0 m c t.val t.isLt).2.2.2.2.2.2.2.2.2 j
    = (outsAt0 m c (t.val - 1) (Nat.lt_of_le_of_lt (Nat.sub_le _ _) t.isLt)).2.2.2.2.2.2.2.2.2 j + plus28 m c t (j 1) := by
  obtain ⟨k, rfl⟩ : ∃ k, j = ix2 0 k := ⟨j 1, (one_row j).symm⟩
  rw [outsAt0_B m c t h]
  generalize outsAt0 m c (t.val - 1) (Nat.lt_of_le_of_lt (Nat.sub_le _ _) t.isLt) = q
  unfold outsB
  dsimp only
  exact out_B28 m c t h q k

/-- The gradient of the norm's bias. -/
theorem final28 : (dats m 0 c).arrAt 28 cfg0.N = (fun i => ∑ T, dlin (cr m c T) (dh m c T) (ch_ (sc m c)) (ch_ (sb m c)) (i 1) : Vec Ideal S1x384 .f32) := by
  refine (dats m 0 c).arrAt_eq_of_covers 28 _ (by decide +kernel) fun t hf y => ?_
  blk_simp
  have ht : t.val < 64 := lt_of_lt_of_eq t.isLt N_0
  rw [after0_28, Pipeline.eq_sum_fin_of_reset_step_apply_of_flush (fun n h => (outsAt0 m c n h).2.2.2.2.2.2.2.2.2) 64 (fun _ => 0) (fun t j => plus28 m c t (j 1))
    (first28 m c) (next28 m c) t ((flush0_28 t).mp hf) _, zero_add, emb28]
  exact total28 m c (64 * (t.val / 64)) (by omega) (fun s => Pipeline.run_point_lt_of_flush t ((flush0_28 t).mp hf) s) (y 1)

theorem first27 (t : Fin cfg0.N) (h : t.val % 64 = 0) (j : S1x384.Idx) : (outsAt0 m c t.val t.isLt).2.2.2.2.2.2.2.2.1 j = 0 + plus27 m c t (j 1) := by
  obtain ⟨k, rfl⟩ : ∃ k, j = ix2 0 k := ⟨j 1, (one_row j).symm⟩
  rw [outsAt0_A m c t h, zero_add]
  unfold outsA
  dsimp only
  exact out_A27 m c t h k

theorem next27 (t : Fin cfg0.N) (h : ¬t.val % 64 = 0) (j : S1x384.Idx) : (outsAt0 m c t.val t.isLt).2.2.2.2.2.2.2.2.1 j
    = (outsAt0 m c (t.val - 1) (Nat.lt_of_le_of_lt (Nat.sub_le _ _) t.isLt)).2.2.2.2.2.2.2.2.1 j + plus27 m c t (j 1) := by
  obtain ⟨k, rfl⟩ : ∃ k, j = ix2 0 k := ⟨j 1, (one_row j).symm⟩
  rw [outsAt0_B m c t h]
  generalize outsAt0 m c (t.val - 1) (Nat.lt_of_le_of_lt (Nat.sub_le _ _) t.isLt) = q
  unfold outsB
  dsimp only
  exact out_B27 m c t h q k

/-- The gradient of the norm's scale. -/
theorem final27 : (dats m 0 c).arrAt 27 cfg0.N = (fun i => ∑ T, dlin (cr m c T) (dh m c T) (ch_ (sc m c)) (ch_ (sb m c)) (i 1) * xhat (cr m c T) (i 1) : Vec Ideal S1x384 .f32) := by
  refine (dats m 0 c).arrAt_eq_of_covers 27 _ (by decide +kernel) fun t hf y => ?_
  blk_simp
  have ht : t.val < 64 := lt_of_lt_of_eq t.isLt N_0
  rw [after0_27, Pipeline.eq_sum_fin_of_reset_step_apply_of_flush (fun n h => (outsAt0 m c n h).2.2.2.2.2.2.2.2.1) 64 (fun _ => 0) (fun t j => plus27 m c t (j 1))
    (first27 m c) (next27 m c) t ((flush0_27 t).mp hf) _, zero_add, emb27]
  exact total27 m c (64 * (t.val / 64)) (by omega) (fun s => Pipeline.run_point_lt_of_flush t ((flush0_27 t).mp hf) s) (y 1)

theorem first26 (t : Fin cfg0.N) (h : t.val % 64 = 0) (j : S1x384.Idx) : (outsAt0 m c t.val t.isLt).2.2.2.2.2.2.2.1 j = 0 + plus26 m c t (j 1) := by
  obtain ⟨k, rfl⟩ : ∃ k, j = ix2 0 k := ⟨j 1, (one_row j).symm⟩
  rw [outsAt0_A m c t h, zero_add]
  unfold outsA
  dsimp only
  exact out_A26 m c t h k

theorem next26 (t : Fin cfg0.N) (h : ¬t.val % 64 = 0) (j : S1x384.Idx) : (outsAt0 m c t.val t.isLt).2.2.2.2.2.2.2.1 j
    = (outsAt0 m c (t.val - 1) (Nat.lt_of_le_of_lt (Nat.sub_le _ _) t.isLt)).2.2.2.2.2.2.2.1 j + plus26 m c t (j 1) := by
  obtain ⟨k, rfl⟩ : ∃ k, j = ix2 0 k := ⟨j 1, (one_row j).symm⟩
  rw [outsAt0_B m c t h]
  generalize outsAt0 m c (t.val - 1) (Nat.lt_of_le_of_lt (Nat.sub_le _ _) t.isLt) = q
  unfold outsB
  dsimp only
  exact out_B26 m c t h q k

/-- The gradient of the convolution's bias. -/
theorem final26 : (dats m 0 c).arrAt 26 cfg0.N = (fun i => ∑ T, drow (cr m c T) (dh m c T) (ch_ (sc m c)) (ch_ (sb m c)) (i 1) : Vec Ideal S1x384 .f32) := by
  refine (dats m 0 c).arrAt_eq_of_covers 26 _ (by decide +kernel) fun t hf y => ?_
  blk_simp
  have ht : t.val < 64 := lt_of_lt_of_eq t.isLt N_0
  rw [after0_26, Pipeline.eq_sum_fin_of_reset_step_apply_of_flush (fun n h => (outsAt0 m c n h).2.2.2.2.2.2.2.1) 64 (fun _ => 0) (fun t j => plus26 m c t (j 1))
    (first26 m c) (next26 m c) t ((flush0_26 t).mp hf) _, zero_add, emb26]
  exact total26 m c (64 * (t.val / 64)) (by omega) (fun s => Pipeline.run_point_lt_of_flush t ((flush0_26 t).mp hf) s) (y 1)

theorem first21 (t : Fin cfg0.N) (h : t.val % 64 = 0) (j : S1024x1024.Idx) : (outsAt0 m c t.val t.isLt).2.2.1 j = 0 + plus21 m c t (j 0) (j 1) := by
  obtain ⟨k, l, rfl⟩ : ∃ k l, j = ix2 k l := ⟨j 0, j 1, eq_ix2 j⟩
  rw [outsAt0_A m c t h, zero_add]
  unfold outsA
  dsimp only
  exact out_A21 m c t h k l

theorem next21 (t : Fin cfg0.N) (h : ¬t.val % 64 = 0) (j : S1024x1024.Idx) : (outsAt0 m c t.val t.isLt).2.2.1 j
    = (outsAt0 m c (t.val - 1) (Nat.lt_of_le_of_lt (Nat.sub_le _ _) t.isLt)).2.2.1 j + plus21 m c t (j 0) (j 1) := by
  obtain ⟨k, l, rfl⟩ : ∃ k l, j = ix2 k l := ⟨j 0, j 1, eq_ix2 j⟩
  rw [outsAt0_B m c t h]
  generalize outsAt0 m c (t.val - 1) (Nat.lt_of_le_of_lt (Nat.sub_le _ _) t.isLt) = q
  unfold outsB
  dsimp only
  exact out_B21 m c t h q k l

/-- The gradient of the output weights. -/
theorem final21 : (dats m 0 c).arrAt 21 cfg0.N = (fun i => ∑ T : Fin 16384, hd m c (ix2 T (i 0)) * dz m c (ix2 T (i 1)) : Vec Ideal S1024x1024 .f32) := by
  refine (dats m 0 c).arrAt_eq_of_covers 21 _ (by decide +kernel) fun t hf y => ?_
  blk_simp
  have ht : t.val < 64 := lt_of_lt_of_eq t.isLt N_0
  rw [after0_21, Pipeline.eq_sum_fin_of_reset_step_apply_of_flush (fun n h => (outsAt0 m c n h).2.2.1) 64 (fun _ => 0) (fun t j => plus21 m c t (j 0) (j 1))
    (first21 m c) (next21 m c) t ((flush0_21 t).mp hf) _, zero_add, emb21]
  exact total21 m c (64 * (t.val / 64)) (by omega) (fun s => Pipeline.run_point_lt_of_flush t ((flush0_21 t).mp hf) s) (y 0) (y 1)

end Cert.MixBwdIdeal.Arr

end
-- ==== Proof.MixBwdReads.lean ====
/- The operands of the token mixer's backward call, out of the arguments. -/
module

public import proofs.«01_k».proof.Proof.MixBwdArray
public import proofs.«01_k».proof.Proof.Gen.MixBwdRefIdeal.Read

@[expose] public section

set_option maxRecDepth 200000

noncomputable section

namespace Cert.MixBwdIdeal.Host

open Idealize.ShloMosaic Idealize.ShloMosaic.TcCoe Idealize.SL.Sem Cert.MixBwdIdeal Cert.MixBwdIdeal.Gen

variable (m : (ℓ : Loc nD τ sig) → Buf (Elt Ideal) ℓ) (c : Dev nD)

theorem dz_read (T : Fin 16384) (l : Fin 1024) : Arr.dz m c (ix2 T l) = (m ((c.tc : Thread nD τ).loc main_arg10) : FVec Ideal S16384x1024 .f32) (ix2 T l) := by
  unfold Arr.dz
  entry_read
  rfl

theorem sc_read (j : Fin 384) : Arr.sc m c (ix2 0 j) = (m ((c.tc : Thread nD τ).loc main_arg7) : FVec Ideal S384 .f32) (ix1 j) := by
  unfold Arr.sc
  simp only [V, List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  entry_read
  pointwise

theorem wo_read (l k : Fin 1024) : Arr.wo m c (ix2 l k) = (m ((c.tc : Thread nD τ).loc main_arg9) : FVec Ideal S1024x1024 .f32) (ix2 k l) := by
  unfold Arr.wo
  simp only [V, List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  entry_read
  pointwise

set_option maxHeartbeats 0 in
theorem cv_read : (V m c main_v103 : FVec Ideal S16384x384 .f32) = Cert.MixBwdRefIdeal.Read.val_main_v103 (F := Ideal) (m ((c.tc : Thread nD τ).loc main_arg0)) (m ((c.tc : Thread nD τ).loc main_arg1)) (m ((c.tc : Thread nD τ).loc main_arg5)) (m ((c.tc : Thread nD τ).loc main_arg6)) := by
  simp only [V, List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  entry_read
  rfl

theorem sb_read (j : Fin 384) : Arr.sb m c (ix2 0 j) = (m ((c.tc : Thread nD τ).loc main_arg8) : FVec Ideal S384 .f32) (ix1 j) := by
  unfold Arr.sb
  simp only [V, List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  entry_read
  pointwise

theorem cat3 {a a' : FVec Ideal S16384x256 .f32} {b b' c c' : FVec Ideal S16384x384 .f32} (ha : a = a') (hb : b = b') (hc : c = c') :
    concatenate S16384x1024 1 [⟨S16384x256, a⟩, ⟨S16384x384, b⟩, ⟨S16384x384, c⟩] concatenates_S16384x256_S16384x384_S16384x384_S16384x1024_d1
      = concatenate S16384x1024 1 [⟨S16384x256, a'⟩, ⟨S16384x384, b'⟩, ⟨S16384x384, c'⟩] concatenates_S16384x256_S16384x384_S16384x384_S16384x1024_d1 := by
  rw [ha, hb, hc]

set_option maxHeartbeats 8000000 in
/-- The heads the call takes are the ones the reference has before the output projection. -/
theorem heads_read : (V m c main_v129 : FVec Ideal S16384x1024 .f32) = Cert.MixBwdRefIdeal.Read.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  simp only [V, List.flatten_cons, List.flatten_nil, List.append_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_results_simp
  refine cat3 ?_ ?_ ?_
  · dsimp only [Matrix.cons_val_zero]; after_results_simp; rfl
  · dsimp only [Matrix.cons_val_one, Matrix.cons_val_zero]; after_results_simp; rfl
  · simp only [Matrix.cons_val]; after_results_simp; rfl

set_option maxHeartbeats 8000000 in
theorem hd_read : (Arr.hd m c : S16384x1024.Idx → EReal) = (V m c main_v129 : FVec Ideal S16384x1024 .f32) := by
  rfl

end Cert.MixBwdIdeal.Host

end
-- ==== Proof.MixBwdRef.lean ====
/- What the reference of the token mixer's backward call computes, where its arguments hold reals. -/
module

public import proofs.«01_k».proof.Proof.Ffn
public import proofs.«01_k».proof.Proof.Norm
public import proofs.«01_k».proof.Proof.Reals
public import proofs.«01_k».proof.Proof.Gen.MixBwdRefIdeal.Read
public import Idealize.ShloMosaic.Lib.Pointwise

@[expose] public section

set_option maxRecDepth 16384

noncomputable section

namespace Cert.MixBwdRefIdeal.Ref

open Idealize.ShloMosaic Cert.MixBwdRefIdeal Cert.MixBwdRefIdeal.Gen Cert.MixBwdRefIdeal.Read Cert.Reals Cert.Consts Cert.Norm Cert.Ffn

theorem c_ne : (384 : ℝ) ≠ 0 := by norm_num
theorem c_real : ((384 : ℕ) : ℝ) = 384 := by norm_num

variable {y : FVec Ideal S16384x1024 .f32} {wi : FVec Ideal S1024x2176 .f32} {pw : FVec Ideal S4x64x64 .f32} {ps : FVec Ideal S256 .f32}
  {sw : FVec Ideal S3x384 .f32} {cw : FVec Ideal S31x384 .f32} {cb g b : FVec Ideal S384 .f32} {wo : FVec Ideal S1024x1024 .f32} {ct : FVec Ideal S16384x1024 .f32}
variable {A D : Fin 16384 → Fin 384 → ℝ} {G B : Fin 384 → ℝ}

/-- The reals the norm's gradients are made of: the long convolution's rows, the rows' cotangents under the gate, the scale and the shift. -/
structure Args (y : FVec Ideal S16384x1024 .f32) (wi : FVec Ideal S1024x2176 .f32) (cw : FVec Ideal S31x384 .f32) (cb g b : FVec Ideal S384 .f32)
    (wo : FVec Ideal S1024x1024 .f32) (ct : FVec Ideal S16384x1024 .f32) (A D : Fin 16384 → Fin 384 → ℝ) (G B : Fin 384 → ℝ) : Prop where
  ha : ∀ t j, val_main_v103 (F := Ideal) y wi cw cb (ix2 t j) = (A t j : EReal)
  hd : ∀ t j, val_main_v143 (F := Ideal) wo ct (ix2 t j) = (D t j : EReal)
  hg : ∀ j, g (ix1 j) = (G j : EReal)
  hb : ∀ j, b (ix1 j) = (B j : EReal)

/-- The normed row, scaled and shifted. -/
def lin (A : Fin 16384 → Fin 384 → ℝ) (G B : Fin 384 → ℝ) (t : Fin 16384) (j : Fin 384) : ℝ := hat eps (A t) j * G j + B j

/-- The cotangent under the gate. -/
def under (A D : Fin 16384 → Fin 384 → ℝ) (G B : Fin 384 → ℝ) (t : Fin 16384) (j : Fin 384) : ℝ :=
  D t j * (sgm (lin A G B t j) * (1 + lin A G B t j * (1 - sgm (lin A G B t j))))

/-- The mean. -/
theorem v107_real (h : Args y wi cw cb g b wo ct A D G B) (t : Fin 16384) (l : Fin 1) :
    val_main_v107 (F := Ideal) y wi cw cb (ix2 t l) = ((mean (A t) : ℝ) : EReal) := by
  pointwise [val_main_v107, val_main_v106, val_main_v105, val_main_v104, val_main_cst_18, val_main_cst_19]
  simp only [h.ha, sum_coe, ofBits_384, div_real _ c_ne, zero_add, mean, c_real]

/-- The row less its mean. -/
theorem v109_real (h : Args y wi cw cb g b wo ct A D G B) (t : Fin 16384) (j : Fin 384) :
    val_main_v109 (F := Ideal) y wi cw cb (ix2 t j) = ((cen (A t) j : ℝ) : EReal) := by
  pointwise [val_main_v109, val_main_v108]
  simp only [h.ha, v107_real h, ← EReal.coe_sub, cen]

/-- The row less its mean, computed again. -/
theorem v118_real (h : Args y wi cw cb g b wo ct A D G B) (t : Fin 16384) (j : Fin 384) :
    val_main_v118 (F := Ideal) y wi cw cb (ix2 t j) = ((cen (A t) j : ℝ) : EReal) := by
  pointwise [val_main_v118, val_main_v117]
  simp only [h.ha, v107_real h, ← EReal.coe_sub, cen]

/-- The shifted variance. -/
theorem v120_real (h : Args y wi cw cb g b wo ct A D G B) (t : Fin 16384) (l : Fin 1) :
    val_main_v120 (F := Ideal) y wi cw cb (ix2 t l) = ((var (A t) + eps : ℝ) : EReal) := by
  pointwise [val_main_v120, val_main_v119, val_main_v116, val_main_v115, val_main_v114, val_main_v113, val_main_v110, val_main_cst_21, val_main_cst_22, val_main_cst_23]
  simp only [v109_real h, sum_coe, ofBits_384, ofBits_eps, div_real _ c_ne, ← EReal.coe_mul, ← EReal.coe_add, zero_add, var, mean, c_real]

/-- One over the deviation. -/
theorem v121_real (h : Args y wi cw cb g b wo ct A D G B) (t : Fin 16384) (l : Fin 1) :
    val_main_v121 (F := Ideal) y wi cw cb (ix2 t l) = ((rstd eps (A t) : ℝ) : EReal) := by
  pointwise [val_main_v121]
  rw [v120_real h, rsqrt_real (var_pos eps_pos _), rstd]

/-- The root's derivative. -/
theorem v124_real (h : Args y wi cw cb g b wo ct A D G B) (t : Fin 16384) (l : Fin 1) :
    val_main_v124 (F := Ideal) y wi cw cb (ix2 t l) = ((-(1 / 2) * (rstd eps (A t) / (var (A t) + eps)) : ℝ) : EReal) := by
  pointwise [val_main_v124, val_main_v123, val_main_v122, val_main_cst_24]
  rw [v121_real h, v120_real h, ofBits_neg_half, div_real _ (var_pos eps_pos _).ne', ← EReal.coe_mul]

/-- The normed row. -/
theorem v126_real (h : Args y wi cw cb g b wo ct A D G B) (t : Fin 16384) (j : Fin 384) :
    val_main_v126 (F := Ideal) y wi cw cb (ix2 t j) = ((hat eps (A t) j : ℝ) : EReal) := by
  pointwise [val_main_v126, val_main_v125]
  simp only [v118_real h, v121_real h, ← EReal.coe_mul, hat]

/-- … scaled and shifted. -/
theorem v132_real (h : Args y wi cw cb g b wo ct A D G B) (t : Fin 16384) (j : Fin 384) :
    val_main_v132 (F := Ideal) y wi cw cb g b (ix2 t j) = ((lin A G B t j : ℝ) : EReal) := by
  pointwise [val_main_v132, val_main_v131, val_main_v130, val_main_v129, val_main_v128, val_main_v127]
  simp only [v126_real h, h.hg, h.hb, ← EReal.coe_mul, ← EReal.coe_add, lin]

/-- Its logistic. -/
theorem sig_real (h : Args y wi cw cb g b wo ct A D G B) (t : Fin 16384) (j : Fin 384) :
    val_main_v133_2 (F := Ideal) y wi cw cb g b (ix2 t j) = ((sgm (lin A G B t j) : ℝ) : EReal) := by
  pointwise [val_main_v133_2, val_main_call5_v4, val_main_call5_v3, val_main_call5_v2, val_main_call5_v1, val_main_call5_v0, val_main_call5_cst, val_main_call5_cst_0]
  simp only [v132_real h, ← EReal.coe_neg, Ideal.exp_coe, one_real, ← EReal.coe_add, div_real _ (one_add_exp_ne _), sgm]

/-- The logistic's derivative. -/
theorem dsig_real (h : Args y wi cw cb g b wo ct A D G B) (t : Fin 16384) (j : Fin 384) :
    val_main_v133_1 (F := Ideal) y wi cw cb g b (ix2 t j) = ((sgm (lin A G B t j) * (1 - sgm (lin A G B t j)) : ℝ) : EReal) := by
  pointwise [val_main_v133_1, val_main_call5_v7, val_main_call5_v6, val_main_call5_cst_1]
  simp only [sig_real h, one_real, ← EReal.coe_sub, ← EReal.coe_mul]

/-- The cotangent under the gate. -/
theorem v144_real (h : Args y wi cw cb g b wo ct A D G B) (t : Fin 16384) (j : Fin 384) :
    val_main_v144 (F := Ideal) y wi cw cb g b wo ct (ix2 t j) = ((under A D G B t j : ℝ) : EReal) := by
  pointwise [val_main_v144, val_main_call6_v2, val_main_call6_v1, val_main_call6_v0]
  simp only [v132_real h, h.hd, sig_real h, dsig_real h, ← EReal.coe_mul, ← EReal.coe_add, under]
  congr 1
  ring

/-- The same times the scale. -/
theorem v152_real (h : Args y wi cw cb g b wo ct A D G B) (t : Fin 16384) (j : Fin 384) :
    val_main_v152 (F := Ideal) y wi cw cb g b wo ct (ix2 t j) = ((under A D G B t j * G j : ℝ) : EReal) := by
  pointwise [val_main_v152, val_main_v151, val_main_v127]
  simp only [v144_real h, h.hg, ← EReal.coe_mul]

/-- The part past the root. -/
theorem v158_real (h : Args y wi cw cb g b wo ct A D G B) (t : Fin 16384) (j : Fin 384) :
    val_main_v158 (F := Ideal) y wi cw cb g b wo ct (ix2 t j) = ((under A D G B t j * G j * rstd eps (A t) : ℝ) : EReal) := by
  pointwise [val_main_v158, val_main_v157]
  simp only [v152_real h, v121_real h, ← EReal.coe_mul]

/-- The part through the variance. -/
def through (A D : Fin 16384 → Fin 384 → ℝ) (G B : Fin 384 → ℝ) (t : Fin 16384) (j : Fin 384) : ℝ :=
  (∑ k, cen (A t) k * (under A D G B t k * G k)) * (-(1 / 2) * (rstd eps (A t) / (var (A t) + eps))) / 384 * (2 * cen (A t) j)

theorem v167_real (h : Args y wi cw cb g b wo ct A D G B) (t : Fin 16384) (j : Fin 384) :
    val_main_v167 (F := Ideal) y wi cw cb g b wo ct (ix2 t j) = ((through A D G B t j : ℝ) : EReal) := by
  pointwise [val_main_v167, val_main_v166, val_main_v165, val_main_v164, val_main_v163, val_main_v159, val_main_v156, val_main_v155, val_main_v154,
    val_main_v112, val_main_v111, val_main_cst_20, val_main_cst_31, val_main_cst_33, val_main_cst_34]
  simp only [v118_real h, v109_real h, v152_real h, v124_real h, sum_coe, ofBits_384, ofBits_two, div_real _ c_ne, zero_add,
    Fin.sum_univ_one, ← EReal.coe_mul, through]

/-- The gradient of the long convolution's rows. -/
theorem v177_real (h : Args y wi cw cb g b wo ct A D G B) (t : Fin 16384) (j : Fin 384) :
    val_main_v177 (F := Ideal) y wi cw cb g b wo ct (ix2 t j) = ((grad eps (fun k => under A D G B t k * G k) (A t) j : ℝ) : EReal) := by
  rw [← chain_eq_grad (by norm_num) eps_pos]
  pointwise [val_main_v177, val_main_v176, val_main_v175, val_main_v174, val_main_v173, val_main_v172, val_main_v171, val_main_v170, val_main_v169,
    val_main_v168, val_main_v162, val_main_v161, val_main_v160, val_main_cst_32, val_main_cst_35, val_main_cst_36, val_main_cst_37]
  simp only [v158_real h, v167_real h, sum_coe, ofBits_384, div_real _ c_ne, zero_add, Fin.sum_univ_one, ← EReal.coe_mul, ← EReal.coe_add,
    ← EReal.coe_neg, chain, through, c_real]

/-- The gradient to the convolution's bias. -/
theorem out_bias (h : Args y wi cw cb g b wo ct A D G B) (r : Fin 1) (j : Fin 384) :
    val_main_v181 (F := Ideal) y wi cw cb g b wo ct (ix2 r j) = ((∑ t, grad eps (fun k => under A D G B t k * G k) (A t) j : ℝ) : EReal) := by
  pointwise [val_main_v181, val_main_v180, val_main_v179, val_main_v178, val_main_cst_38, val_main_cst_39]
  simp only [v177_real h, sum_coe, zero_add, Fin.sum_univ_one]

/-- The gradient to the norm's scale. -/
theorem out_scale (h : Args y wi cw cb g b wo ct A D G B) (r : Fin 1) (j : Fin 384) :
    val_main_v182 (F := Ideal) y wi cw cb g b wo ct (ix2 r j) = ((∑ t, under A D G B t j * hat eps (A t) j : ℝ) : EReal) := by
  pointwise [val_main_v182, val_main_v153, val_main_v150, val_main_v149, val_main_v148, val_main_cst_29, val_main_cst_30]
  simp only [v126_real h, v144_real h, ← EReal.coe_mul, sum_coe, zero_add, Fin.sum_univ_one, mul_comm]

/-- The gradient to the norm's shift. -/
theorem out_shift (h : Args y wi cw cb g b wo ct A D G B) (r : Fin 1) (j : Fin 384) :
    val_main_v183 (F := Ideal) y wi cw cb g b wo ct (ix2 r j) = ((∑ t, under A D G B t j : ℝ) : EReal) := by
  pointwise [val_main_v183, val_main_v147, val_main_v146, val_main_v145, val_main_cst_27, val_main_cst_28]
  simp only [v144_real h, sum_coe, zero_add, Fin.sum_univ_one]

/-- The gradient to the output projection: a sum over the tokens. -/
theorem out_weight (k l : Fin 1024) : val_main_v139 (F := Ideal) y wi pw ps sw cw cb g b ct (ix2 k l)
    = ∑ t : Fin 16384, val_main_v134 (F := Ideal) y wi pw ps sw cw cb g b (ix2 t k) * ct (ix2 t l) := by
  pointwise [val_main_v139, val_main_v138]
  exact Finset.sum_congr rfl fun t _ => mul_comm _ _

/-- The cotangent of the long convolution's heads. -/
theorem v143_sum (t : Fin 16384) (j : Fin 384) : val_main_v143 (F := Ideal) wo ct (ix2 t j)
    = ∑ l : Fin 1024, ct (ix2 t l) * wo (ix2 ⟨640 + j.val, by omega⟩ l) := by
  pointwise [val_main_v143, val_main_v140]

end Cert.MixBwdRefIdeal.Ref

end
-- ==== Proof.MixBwdReal.lean ====
/- The token mixer's backward call where its operands hold reals, and the reals behind the reference's stages. -/
module

public import proofs.«01_k».proof.Proof.MixBwdRows
public import proofs.«01_k».proof.Proof.MixBwdRef

@[expose] public section

set_option maxRecDepth 200000

noncomputable section

namespace Cert.MixBwdIdeal.Real

open Idealize.ShloMosaic Cert.Reals Cert.Consts Cert.Norm Cert.Ffn Cert.MixBwdIdeal.Rows
open Cert.MixBwdRefIdeal.Ref (c_ne c_real under)

variable {a d g b : Fin 384 → EReal} {A D : Fin 16384 → Fin 384 → ℝ} {G B : Fin 384 → ℝ} {t : Fin 16384}

/-- A row less its mean. -/
theorem cen_real (ha : ∀ j, a j = (A t j : EReal)) (j : Fin 384) : Rows.cen a j = ((Norm.cen (A t) j : ℝ) : EReal) := by
  unfold Rows.cen
  simp only [ha, sum_coe, ofBits_384, div_real _ c_ne, ← EReal.coe_sub, Norm.cen, mean, c_real]

/-- One over the deviation. -/
theorem rstd_real (ha : ∀ j, a j = (A t j : EReal)) : Rows.rstd a = ((Norm.rstd Consts.eps (A t) : ℝ) : EReal) := by
  unfold Rows.rstd
  simp only [cen_real ha, sum_coe, ofBits_384, ofBits_eps, div_real _ c_ne, ← EReal.coe_mul, ← EReal.coe_add]
  rw [← c_real]
  exact rsqrt_real (var_pos eps_pos _)

/-- The normed row. -/
theorem xhat_real (ha : ∀ j, a j = (A t j : EReal)) (j : Fin 384) : xhat a j = ((hat Consts.eps (A t) j : ℝ) : EReal) := by
  unfold xhat
  rw [cen_real ha, rstd_real ha, ← EReal.coe_mul, hat]

/-- The gradient under the gate. -/
theorem dlin_real (ha : ∀ j, a j = (A t j : EReal)) (hd : ∀ j, d j = (D t j : EReal)) (hg : ∀ j, g j = (G j : EReal)) (hb : ∀ j, b j = (B j : EReal))
    (j : Fin 384) : dlin a d g b j = ((under A D G B t j : ℝ) : EReal) := by
  have hl : Rows.lin a g b j = ((Cert.MixBwdRefIdeal.Ref.lin A G B t j : ℝ) : EReal) := by
    unfold Rows.lin
    rw [xhat_real ha, hg, hb, ← EReal.coe_mul, ← EReal.coe_add, Cert.MixBwdRefIdeal.Ref.lin]
  have hs : gate (Rows.lin a g b j) = ((sgm (Cert.MixBwdRefIdeal.Ref.lin A G B t j) : ℝ) : EReal) := by
    unfold gate
    simp only [hl, zero_sub, ← EReal.coe_neg, Ideal.exp_coe, one_real, ← EReal.coe_add, div_real _ (one_add_exp_ne _), sgm]
  unfold dlin
  rw [hs, hl, hd]
  simp only [one_real, ← EReal.coe_sub, ← EReal.coe_mul, ← EReal.coe_add, under]

/-- The gradient of the row before the norm. -/
theorem drow_real (ha : ∀ j, a j = (A t j : EReal)) (hd : ∀ j, d j = (D t j : EReal)) (hg : ∀ j, g j = (G j : EReal)) (hb : ∀ j, b j = (B j : EReal))
    (j : Fin 384) : drow a d g b j = ((grad Consts.eps (fun k => under A D G B t k * G k) (A t) j : ℝ) : EReal) := by
  unfold drow
  simp only [dlin_real ha hd hg hb, rstd_real ha, xhat_real ha, hg, sum_coe, ofBits_384, div_real _ c_ne, ← EReal.coe_sub, ← EReal.coe_mul, grad, mean, c_real]

/-! The stages of the reference that the gradients are made of hold reals. -/

/-- A number that is real. -/
def IsReal (x : EReal) : Prop := ∃ r : ℝ, x = (r : EReal)

theorem IsReal.add {x y : EReal} : IsReal x → IsReal y → IsReal (x + y)
  | ⟨r, hr⟩, ⟨s, hs⟩ => ⟨r + s, by rw [hr, hs, EReal.coe_add]⟩

theorem IsReal.mul {x y : EReal} : IsReal x → IsReal y → IsReal (x * y)
  | ⟨r, hr⟩, ⟨s, hs⟩ => ⟨r * s, by rw [hr, hs, EReal.coe_mul]⟩

theorem IsReal.sum {n : ℕ} {f : Fin n → EReal} (h : ∀ i, IsReal (f i)) : IsReal (∑ i, f i) :=
  ⟨∑ i, (h i).choose, by rw [← sum_coe]; exact Finset.sum_congr rfl fun i _ => (h i).choose_spec⟩

theorem IsReal.pick {x y : EReal} (c : BitVec 1) (hx : IsReal x) (hy : IsReal y) : IsReal (Scalar.select c x y) := by
  unfold Scalar.select
  split
  · exact hx
  · exact hy

theorem IsReal.logistic {x : EReal} : IsReal x → IsReal (Ideal.div 1 (1 + Ideal.exp (-x)))
  | ⟨r, hr⟩ => ⟨sgm r, by simp only [hr, ← EReal.coe_neg, Ideal.exp_coe, one_real, ← EReal.coe_add, div_real _ (one_add_exp_ne _), sgm]⟩

theorem IsReal.zero : IsReal 0 := ⟨0, zero_real⟩

open Cert.MixBwdRefIdeal Cert.MixBwdRefIdeal.Read

variable {y : FVec Ideal S16384x1024 .f32} {wi : FVec Ideal S1024x2176 .f32} {cw : FVec Ideal S31x384 .f32} {cb : FVec Ideal S384 .f32}
  {wo : FVec Ideal S1024x1024 .f32} {ct : FVec Ideal S16384x1024 .f32}

theorem v0_is (hy : ∀ t l, IsReal (y (ix2 t l))) (hw : ∀ l j, IsReal (wi (ix2 l j))) (t : Fin 16384) (j : Fin 2176) : IsReal (val_main_v0 (F := Ideal) y wi (ix2 t j)) := by
  pointwise [val_main_v0]
  exact IsReal.sum fun l => (hy _ _).mul (hw _ _)

theorem v78_is (hy : ∀ t l, IsReal (y (ix2 t l))) (hw : ∀ l j, IsReal (wi (ix2 l j))) (t : Fin 16384) (j : Fin 384) : IsReal (val_main_v78 (F := Ideal) y wi (ix2 t j)) := by
  pointwise [val_main_v78, val_main_v77, val_main_v76, val_main_v75, val_main_v74, val_main_v73, val_main_v72, val_main_v5, val_main_v6, val_main_cst_12, val_main_cst_13]
  exact (v0_is hy hw _ _).mul (v0_is hy hw _ _).logistic

theorem zero_lit : (constant S_ FTy.f32 0#32 : FVec Ideal S_ .f32) ix0 = (0 : EReal) := by pointwise []

theorem v96_is (hy : ∀ t l, IsReal (y (ix2 t l))) (hw : ∀ l j, IsReal (wi (ix2 l j))) (k : Fin 31) (t : Fin 16384) (j : Fin 384) : IsReal (val_main_v96 (F := Ideal) y wi (ix3 k t j)) := by
  pointwise [val_main_v96, val_main_v95, val_main_call4_v2, val_main_call4_v3, val_main_call4_v0, val_main_cst_15, val_main_cst_16]
  refine IsReal.sum fun s => IsReal.pick _ (v78_is hy hw s j) ?_
  rw [id, zero_lit]
  exact IsReal.zero

/-- The long convolution's rows. -/
theorem v103_is (hy : ∀ t l, IsReal (y (ix2 t l))) (hw : ∀ l j, IsReal (wi (ix2 l j))) (hc : ∀ k j, IsReal (cw (ix2 k j))) (hb : ∀ j, IsReal (cb (ix1 j)))
    (t : Fin 16384) (j : Fin 384) : IsReal (val_main_v103 (F := Ideal) y wi cw cb (ix2 t j)) := by
  pointwise [val_main_v103, val_main_v102, val_main_v101, val_main_v100, val_main_v99, val_main_v98, val_main_v97, val_main_cst_17]
  exact (IsReal.sum fun k => (v96_is hy hw k t j).mul (hc _ _)).add (hb _)

/-- The cotangent of the long convolution's heads. -/
theorem v143_is (ho : ∀ k l, IsReal (wo (ix2 k l))) (hc : ∀ t l, IsReal (ct (ix2 t l))) (t : Fin 16384) (j : Fin 384) :
    IsReal (val_main_v143 (F := Ideal) wo ct (ix2 t j)) := by
  rw [Cert.MixBwdRefIdeal.Ref.v143_sum]
  exact IsReal.sum fun l => (hc _ _).mul (ho _ _)

end Cert.MixBwdIdeal.Real

end
-- ==== Proof.MixBwdPair.lean ====
/- The token mixer's backward call leaves the gradients of the output projection, of the long convolution's bias and of its norm: the claims of this pair. -/
module

public import proofs.«01_k».proof.Defs
public import proofs.«01_k».proof.Proof.MixBwdFrames
public import proofs.«01_k».proof.Proof.MixBwdReads
public import proofs.«01_k».proof.Proof.MixBwdReal
public import proofs.«01_k».proof.Proof.Gen.Pre_mix_finite
public import Idealize.ShloMosaic.Lib.Claim

@[expose] public section

set_option maxRecDepth 16384

noncomputable section

namespace Cert.MixBwdPair

open Idealize.ShloMosaic Idealize.ShloMosaic.TcCoe Idealize.SL.Sem Cert.Reals Cert.Consts Cert.Norm
open Cert.MixBwdIdeal Cert.MixBwdIdeal.Rows Cert.MixBwdIdeal.Real

variable (m : (ℓ : Loc nD τ sig) → Buf (Elt Ideal) ℓ) (c : Dev nD)

/-- The arguments the gradients of the norm are made of. -/
abbrev y_ : FVec Ideal S16384x1024 .f32 := m ((c.tc : Thread nD τ).loc main_arg0)
abbrev wi_ : FVec Ideal S1024x2176 .f32 := m ((c.tc : Thread nD τ).loc main_arg1)
abbrev cw_ : FVec Ideal S31x384 .f32 := m ((c.tc : Thread nD τ).loc main_arg5)
abbrev cb_ : FVec Ideal S384 .f32 := m ((c.tc : Thread nD τ).loc main_arg6)
abbrev g_ : FVec Ideal S384 .f32 := m ((c.tc : Thread nD τ).loc main_arg7)
abbrev b_ : FVec Ideal S384 .f32 := m ((c.tc : Thread nD τ).loc main_arg8)
abbrev wo_ : FVec Ideal S1024x1024 .f32 := m ((c.tc : Thread nD τ).loc main_arg9)
abbrev ct_ : FVec Ideal S16384x1024 .f32 := m ((c.tc : Thread nD τ).loc main_arg10)

/-- Under the precondition the stages behind the gradients hold reals. -/
theorem args {m : (ℓ : Loc nD τ sig) → Buf (Elt Ideal) ℓ} (h : Cert.Pre_MixBwdIdeal_mix_finite m) (c : Dev nD) :
    ∃ (A D : Fin 16384 → Fin 384 → ℝ) (G B : Fin 384 → ℝ),
      MixBwdRefIdeal.Ref.Args (y_ m c) (wi_ m c) (cw_ m c) (cb_ m c) (g_ m c) (b_ m c) (wo_ m c) (ct_ m c) A D G B := by
  obtain ⟨h0, h1, h2, h3, h4, h5, h6, h7⟩ := h c
  obtain ⟨Y, hY⟩ := matrix_of_test h0 fun _ => rfl
  obtain ⟨W, hW⟩ := matrix_of_test h1 fun _ => rfl
  obtain ⟨K, hK⟩ := matrix_of_test h2 fun _ => rfl
  obtain ⟨E, hE⟩ := vector_of_test h3 fun _ => rfl
  obtain ⟨G, hG⟩ := vector_of_test h4 fun _ => rfl
  obtain ⟨B, hB⟩ := vector_of_test h5 fun _ => rfl
  obtain ⟨O, hO⟩ := matrix_of_test h6 fun _ => rfl
  obtain ⟨C, hC⟩ := matrix_of_test h7 fun _ => rfl
  have ha := v103_is (fun t l => ⟨Y t l, hY t l⟩) (fun l j => ⟨W l j, hW l j⟩) (fun k j => ⟨K k j, hK k j⟩) (fun j => ⟨E j, hE j⟩)
  have hd := v143_is (fun k l => ⟨O k l, hO k l⟩) (fun t l => ⟨C t l, hC t l⟩)
  exact ⟨fun t j => (ha t j).choose, fun t j => (hd t j).choose, G, B, fun t j => (ha t j).choose_spec, fun t j => (hd t j).choose_spec, hG, hB⟩

variable {A D : Fin 16384 → Fin 384 → ℝ} {G B : Fin 384 → ℝ}
variable {m c}

/-- The rows the call reads, and their cotangents, are the reference's. -/
theorem row (h : MixBwdRefIdeal.Ref.Args (y_ m c) (wi_ m c) (cw_ m c) (cb_ m c) (g_ m c) (b_ m c) (wo_ m c) (ct_ m c) A D G B) (t : Fin 16384) (j : Fin 384) :
    Arr.cr m c t j = (A t j : EReal) := by
  rw [← h.ha]
  exact congrFun (Host.cv_read m c) (ix2 t j)

theorem back (h : MixBwdRefIdeal.Ref.Args (y_ m c) (wi_ m c) (cw_ m c) (cb_ m c) (g_ m c) (b_ m c) (wo_ m c) (ct_ m c) A D G B) (t : Fin 16384) (j : Fin 384) :
    Arr.dh m c t j = (D t j : EReal) := by
  rw [← h.hd, MixBwdRefIdeal.Ref.v143_sum]
  unfold Arr.dh
  refine Finset.sum_congr rfl fun l _ => ?_
  rw [Host.dz_read, Host.wo_read]
  rfl

theorem scale (h : MixBwdRefIdeal.Ref.Args (y_ m c) (wi_ m c) (cw_ m c) (cb_ m c) (g_ m c) (b_ m c) (wo_ m c) (ct_ m c) A D G B) (j : Fin 384) :
    ch_ (Arr.sc m c) j = (G j : EReal) := (Host.sc_read m c j).trans (h.hg j)

theorem shift (h : MixBwdRefIdeal.Ref.Args (y_ m c) (wi_ m c) (cw_ m c) (cb_ m c) (g_ m c) (b_ m c) (wo_ m c) (ct_ m c) A D G B) (j : Fin 384) :
    ch_ (Arr.sb m c) j = (B j : EReal) := (Host.sb_read m c j).trans (h.hb j)

/-- The products the gradient of the output projection sums, the reference's and the call's. -/
theorem weight (t : Fin 16384) (l n : Fin 1024) :
    MixBwdRefIdeal.Read.val_main_v134 (y_ m c) (wi_ m c) (m ((c.tc : Thread nD τ).loc main_arg2)) (m ((c.tc : Thread nD τ).loc main_arg3))
        (m ((c.tc : Thread nD τ).loc main_arg4)) (cw_ m c) (cb_ m c) (g_ m c) (b_ m c) (ix2 t l) * ct_ m c (ix2 t n)
      = Arr.hd m c (ix2 t l) * Arr.dz m c (ix2 t n) := by
  rw [Host.dz_read, congrFun (Host.hd_read m c) (ix2 t l), Host.heads_read]

/-- The whole program leaves the call's four arrays, and its arguments as they were. -/
theorem run (m : (ℓ : Loc nD τ sig) → Buf (Elt Ideal) ℓ) (ρ : Dev nD → PrngReg) :
    θ_run defs (onTc (τ := τ) (main (F := Ideal))) ⟨m, fun _ => 0, ρ⟩ (fun q => ∀ c : Dev nD,
      q.2.mem ((c.tc : Thread nD τ).loc main_v155_2) = (Gen.dats m 0 c).arrAt 21 cfg0.N
      ∧ q.2.mem ((c.tc : Thread nD τ).loc main_v155_7) = (Gen.dats m 0 c).arrAt 26 cfg0.N
      ∧ q.2.mem ((c.tc : Thread nD τ).loc main_v155_8) = (Gen.dats m 0 c).arrAt 27 cfg0.N
      ∧ q.2.mem ((c.tc : Thread nD τ).loc main_v155_9) = (Gen.dats m 0 c).arrAt 28 cfg0.N
      ∧ q.2.mem ((c.tc : Thread nD τ).loc main_arg0) = m ((c.tc : Thread nD τ).loc main_arg0)
      ∧ q.2.mem ((c.tc : Thread nD τ).loc main_arg1) = m ((c.tc : Thread nD τ).loc main_arg1)
      ∧ q.2.mem ((c.tc : Thread nD τ).loc main_arg2) = m ((c.tc : Thread nD τ).loc main_arg2)
      ∧ q.2.mem ((c.tc : Thread nD τ).loc main_arg3) = m ((c.tc : Thread nD τ).loc main_arg3)
      ∧ q.2.mem ((c.tc : Thread nD τ).loc main_arg4) = m ((c.tc : Thread nD τ).loc main_arg4)
      ∧ q.2.mem ((c.tc : Thread nD τ).loc main_arg5) = m ((c.tc : Thread nD τ).loc main_arg5)
      ∧ q.2.mem ((c.tc : Thread nD τ).loc main_arg6) = m ((c.tc : Thread nD τ).loc main_arg6)
      ∧ q.2.mem ((c.tc : Thread nD τ).loc main_arg7) = m ((c.tc : Thread nD τ).loc main_arg7)
      ∧ q.2.mem ((c.tc : Thread nD τ).loc main_arg8) = m ((c.tc : Thread nD τ).loc main_arg8)
      ∧ q.2.mem ((c.tc : Thread nD τ).loc main_arg9) = m ((c.tc : Thread nD τ).loc main_arg9)
      ∧ q.2.mem ((c.tc : Thread nD τ).loc main_arg10) = m ((c.tc : Thread nD τ).loc main_arg10)) :=
  (θ_run defs _ _).mono (fun _ h c => ⟨(h.1 c).1 21, (h.1 c).1 26, (h.1 c).1 27, (h.1 c).1 28, h.2 c⟩) (θ_run_and (Gen.run_main m ρ) (Gen.unchanged m ρ))

theorem frame_pi_pre : Cert.quiescent_MixBwdIdeal_pre_mix_finite := fun m ρ _ => frame_pi m ρ trivial
theorem frame_ri_pre : Cert.quiescent_MixBwdRefIdeal_pre_mix_finite := fun m ρ _ => frame_ri m ρ trivial

set_option maxHeartbeats 8000000 in
/-- The four results are those of the derivative. -/
theorem algebraic : Cert.algebraic_MixBwdIdeal_MixBwdRefIdeal_pre_mix_finite := by
  pair_intro
  · refine θ_run_mono (run m g) ?_
    intro r hr c
    exact hr c
  · refine θ_run_mono (Cert.MixBwdRefIdeal.Value.run m' g') ?_
    intro r hr c
    obtain ⟨h0, h1, h2, h3, h4⟩ := hr c
    refine ⟨h0.trans ?_, h1.trans ?_, h2.trans ?_, h3.trans ?_, h4⟩
    all_goals
      clear h0 h1 h2 h3 h4 hr
      obtain ⟨e0, e1, e2, e3, e4, e5, e6, e7, e8, e9, e10⟩ := hagree c
      replace e0 : StableHlo.launchContents m' c (Proc.tc.devRef MixBwdRefIdeal.main_arg0) = m ((c.tc : Thread nD τ).loc main_arg0) := e0
      replace e1 : StableHlo.launchContents m' c (Proc.tc.devRef MixBwdRefIdeal.main_arg1) = m ((c.tc : Thread nD τ).loc main_arg1) := e1
      replace e2 : StableHlo.launchContents m' c (Proc.tc.devRef MixBwdRefIdeal.main_arg2) = m ((c.tc : Thread nD τ).loc main_arg2) := e2
      replace e3 : StableHlo.launchContents m' c (Proc.tc.devRef MixBwdRefIdeal.main_arg3) = m ((c.tc : Thread nD τ).loc main_arg3) := e3
      replace e4 : StableHlo.launchContents m' c (Proc.tc.devRef MixBwdRefIdeal.main_arg4) = m ((c.tc : Thread nD τ).loc main_arg4) := e4
      replace e5 : StableHlo.launchContents m' c (Proc.tc.devRef MixBwdRefIdeal.main_arg5) = m ((c.tc : Thread nD τ).loc main_arg5) := e5
      replace e6 : StableHlo.launchContents m' c (Proc.tc.devRef MixBwdRefIdeal.main_arg6) = m ((c.tc : Thread nD τ).loc main_arg6) := e6
      replace e7 : StableHlo.launchContents m' c (Proc.tc.devRef MixBwdRefIdeal.main_arg7) = m ((c.tc : Thread nD τ).loc main_arg7) := e7
      replace e8 : StableHlo.launchContents m' c (Proc.tc.devRef MixBwdRefIdeal.main_arg8) = m ((c.tc : Thread nD τ).loc main_arg8) := e8
      replace e9 : StableHlo.launchContents m' c (Proc.tc.devRef MixBwdRefIdeal.main_arg9) = m ((c.tc : Thread nD τ).loc main_arg9) := e9
      replace e10 : StableHlo.launchContents m' c (Proc.tc.devRef MixBwdRefIdeal.main_arg10) = m ((c.tc : Thread nD τ).loc main_arg10) := e10
    · rw [MixBwdRefIdeal.Read.val_main_v139_eq, e0, e1, e2, e3, e4, e5, e6, e7, e8, e10]
      refine Eq.trans (funext fun i => ?_) (Arr.final21 m c).symm
      rw [eq_ix2 i]
      exact (MixBwdRefIdeal.Ref.out_weight (i 0) (i 1)).trans (Finset.sum_congr rfl fun t _ => weight t (i 0) (i 1))
    · rw [MixBwdRefIdeal.Read.val_main_v181_eq, e0, e1, e5, e6, e7, e8, e9, e10]
      obtain ⟨A, D, G, B, h⟩ := args hpre c
      refine Eq.trans (funext fun i => ?_) (Arr.final26 m c).symm
      rw [eq_ix2 i]
      refine (MixBwdRefIdeal.Ref.out_bias h (i 0) (i 1)).trans ((sum_coe _ _).symm.trans (Finset.sum_congr rfl fun t _ => ?_))
      exact (drow_real (row h t) (back h t) (scale h) (shift h) (i 1)).symm
    · rw [MixBwdRefIdeal.Read.val_main_v182_eq, e0, e1, e5, e6, e7, e8, e9, e10]
      obtain ⟨A, D, G, B, h⟩ := args hpre c
      refine Eq.trans (funext fun i => ?_) (Arr.final27 m c).symm
      rw [eq_ix2 i]
      refine (MixBwdRefIdeal.Ref.out_scale h (i 0) (i 1)).trans ((sum_coe _ _).symm.trans (Finset.sum_congr rfl fun t _ => ?_))
      rw [EReal.coe_mul]
      exact congrArg₂ (· * ·) (dlin_real (row h t) (back h t) (scale h) (shift h) (i 1)).symm (xhat_real (row h t) (i 1)).symm
    · rw [MixBwdRefIdeal.Read.val_main_v183_eq, e0, e1, e5, e6, e7, e8, e9, e10]
      obtain ⟨A, D, G, B, h⟩ := args hpre c
      refine Eq.trans (funext fun i => ?_) (Arr.final28 m c).symm
      rw [eq_ix2 i]
      refine (MixBwdRefIdeal.Ref.out_shift h (i 0) (i 1)).trans ((sum_coe _ _).symm.trans (Finset.sum_congr rfl fun t _ => ?_))
      exact (dlin_real (row h t) (back h t) (scale h) (shift h) (i 1)).symm

end Cert.MixBwdPair

end
-- ==== Proof.AdamWStep.lean ====
/- One AdamW step on a weight whose gradient comes in eight parts: the call's block, its arrays and the reference. -/
module

public import proofs.«01_k».proof.Proof.Gen.AdamWIdeal.Frame
public import proofs.«01_k».proof.Proof.Gen.AdamWRefIdeal.Read
public import Idealize.ShloMosaic.PureOps.Ideal
public import Idealize.ShloMosaic.Lib.Pointwise
public import Idealize.ShloMosaic.Lib.Pipeline.ValueKit

@[expose] public section

set_option maxRecDepth 16384

noncomputable section

namespace Cert.AdamStep

open Idealize.ShloMosaic Idealize.ShloMosaic.TcCoe Idealize.SL.Sem Cert.AdamWIdeal Cert.AdamWIdeal.Gen
open Idealize.ShloMosaic.Pipeline (Dat)

/-- The first moment after a step, at one entry. -/
def first (g μ : EReal) : EReal := Ideal.ofBits .f32 0x3F666666 * μ + Ideal.ofBits .f32 0x3DCCCCCD * g

/-- The second moment after a step, at one entry. -/
def second (g ν : EReal) : EReal := Ideal.ofBits .f32 0x3F7FBE77 * ν + Ideal.ofBits .f32 0x3A83126F * (g * g)

variable (m : (ℓ : Loc nD τ sig) → Buf (Elt Ideal) ℓ) (c : Dev nD)

/-- The index maps: every window steps by one layer, then by one block of rows. -/
theorem idx : ∀ t : Fin cfg0.N, win0_0.index t = ![0, t.val / 11, t.val % 11, 0] ∧ win0_1.index t = ![t.val / 11, t.val % 11, 0] ∧ win0_2.index t = ![t.val / 11, t.val % 11, 0]
    ∧ win0_3.index t = ![t.val / 11, t.val % 11, 0] ∧ win0_4.index t = ![t.val / 11, t.val % 11, 0] ∧ win0_5.index t = ![t.val / 11, t.val % 11, 0]
    ∧ win0_6.index t = ![t.val / 11, t.val % 11, 0] ∧ win0_7.index t = ![t.val / 11, t.val % 11, 0] :=
  (by decide +kernel : ∀ t : Fin grid0.N, _)

/-- The layer of grid point `t`, and the row of the whole array that row `r` of its block is. -/
def layer (t : Fin cfg0.N) : Fin 4 := ⟨t.val / 11, by have h : t.val < 44 := t.isLt; omega⟩
def row (t : Fin cfg0.N) (r : Fin 64) : Fin 704 := ⟨t.val % 11 * 64 + r.val, by have := r.isLt; omega⟩

theorem blk0 (t : Fin cfg0.N) (k : Fin 8) (r : Fin 64) (l : Fin 1024) :
    (iblk m c 0 t : FVec Ideal S8x1x64x1024 .bf16) (ix4 k 0 r l) = (V m c main_arg0 : FVec Ideal S8x4x704x1024 .bf16) (ix4 k (layer t) (row t r) l) := by
  blk_point [iblk, V, idx t]
  all_goals rfl
theorem blk1 (t : Fin cfg0.N) (r : Fin 64) (l : Fin 1024) :
    (iblk m c 1 t : FVec Ideal S1x64x1024 .f32) (ix3 0 r l) = (V m c main_arg1 : FVec Ideal S4x704x1024 .f32) (ix3 (layer t) (row t r) l) := by
  blk_point [iblk, V, idx t]
  all_goals rfl
theorem blk2 (t : Fin cfg0.N) (r : Fin 64) (l : Fin 1024) :
    (iblk m c 2 t : FVec Ideal S1x64x1024 .f32) (ix3 0 r l) = (V m c main_arg2 : FVec Ideal S4x704x1024 .f32) (ix3 (layer t) (row t r) l) := by
  blk_point [iblk, V, idx t]
  all_goals rfl
theorem blk3 (t : Fin cfg0.N) (r : Fin 64) (l : Fin 1024) :
    (iblk m c 3 t : FVec Ideal S1x64x1024 .f32) (ix3 0 r l) = (V m c main_arg3 : FVec Ideal S4x704x1024 .f32) (ix3 (layer t) (row t r) l) := by
  blk_point [iblk, V, idx t]
  all_goals rfl

/-- The gradient: the eight parts added. -/
def grad (q : FVec Ideal S8x4x704x1024 .bf16) (n : Fin 4) (r : Fin 704) (l : Fin 1024) : EReal := ∑ k : Fin 8, (show EReal from q (ix4 k n r l))

/-- The eight parts' blocks, added one after the other. -/
theorem added (t : Fin cfg0.N) (r : Fin 64) (l : Fin 1024) :
    (show EReal from (iblk m c 0 t : FVec Ideal S8x1x64x1024 .bf16) (ix4 0 0 r l)) + (show EReal from (iblk m c 0 t : FVec Ideal S8x1x64x1024 .bf16) (ix4 1 0 r l))
      + (show EReal from (iblk m c 0 t : FVec Ideal S8x1x64x1024 .bf16) (ix4 2 0 r l)) + (show EReal from (iblk m c 0 t : FVec Ideal S8x1x64x1024 .bf16) (ix4 3 0 r l))
      + (show EReal from (iblk m c 0 t : FVec Ideal S8x1x64x1024 .bf16) (ix4 4 0 r l)) + (show EReal from (iblk m c 0 t : FVec Ideal S8x1x64x1024 .bf16) (ix4 5 0 r l))
      + (show EReal from (iblk m c 0 t : FVec Ideal S8x1x64x1024 .bf16) (ix4 6 0 r l)) + (show EReal from (iblk m c 0 t : FVec Ideal S8x1x64x1024 .bf16) (ix4 7 0 r l))
      = grad (V m c main_arg0) (layer t) (row t r) l := by
  simp only [blk0]
  rw [grad, Fin.sum_univ_eight]

/-- The weight's change in a step, at one entry. -/
def change (g w μ ν : EReal) : EReal :=
  Ideal.ofBits .f32 0xBA83126F * (Ideal.div (Ideal.div (first g μ) (Ideal.ofBits .f32 0x3F26BD02))
    (Ideal.sqrt (Ideal.div (second g ν) (Ideal.ofBits .f32 0x3C231ACC)) + Ideal.ofBits .f32 0x322BCC77) + Ideal.ofBits .f32 0x3C23D70A * w)

/-- The block of the gradient. -/
theorem block4 (t : Fin cfg0.N) (r : Fin 64) (l : Fin 1024) :
    out0_4 (iblk m c 0 t) (iblk m c 1 t) (iblk m c 2 t) (iblk m c 3 t) (ix3 0 r l) = grad (V m c main_arg0) (layer t) (row t r) l := by
  frame_out
  pointwise [k0_pay4, k0_pay5, k0_pay8, k0_pay10]
  exact added m c t r l
/-- The block of the first moment. -/
theorem block6 (t : Fin cfg0.N) (r : Fin 64) (l : Fin 1024) :
    out0_6 (iblk m c 0 t) (iblk m c 1 t) (iblk m c 2 t) (iblk m c 3 t) (ix3 0 r l)
      = first (grad (V m c main_arg0) (layer t) (row t r) l) ((V m c main_arg2 : FVec Ideal S4x704x1024 .f32) (ix3 (layer t) (row t r) l)) := by
  frame_out
  pointwise [k0_pay4, k0_pay5, k0_pay2, k0_pay6, k0_pay10]
  rw [added, blk2]
  rfl
/-- The block of the second moment. -/
theorem block7 (t : Fin cfg0.N) (r : Fin 64) (l : Fin 1024) :
    out0_7 (iblk m c 0 t) (iblk m c 1 t) (iblk m c 2 t) (iblk m c 3 t) (ix3 0 r l)
      = second (grad (V m c main_arg0) (layer t) (row t r) l) ((V m c main_arg3 : FVec Ideal S4x704x1024 .f32) (ix3 (layer t) (row t r) l)) := by
  frame_out
  pointwise [k0_pay4, k0_pay5, k0_pay3, k0_pay7, k0_pay10]
  rw [added, blk3]
  rfl
/-- The block of the weight's change. -/
theorem block5 (t : Fin cfg0.N) (r : Fin 64) (l : Fin 1024) :
    out0_5 (iblk m c 0 t) (iblk m c 1 t) (iblk m c 2 t) (iblk m c 3 t) (ix3 0 r l)
      = change (grad (V m c main_arg0) (layer t) (row t r) l) ((V m c main_arg1 : FVec Ideal S4x704x1024 .f32) (ix3 (layer t) (row t r) l))
        ((V m c main_arg2 : FVec Ideal S4x704x1024 .f32) (ix3 (layer t) (row t r) l)) ((V m c main_arg3 : FVec Ideal S4x704x1024 .f32) (ix3 (layer t) (row t r) l)) := by
  frame_out
  pointwise [k0_pay4, k0_pay5, k0_pay6, k0_pay7, k0_pay1, k0_pay9, k0_pay10]
  rw [added, blk1, blk2, blk3]
  rfl

/-- Where element `y` of a block at point `t` lies. -/
theorem emb4 (t : Fin cfg0.N) (y : S1x64x1024.Idx) : (win0_4.blk t).view.emb y = ix3 (layer t) (row t (y 1)) (y 2) := by
  blk_ext [idx t]
  all_goals rfl
theorem emb5 (t : Fin cfg0.N) (y : S1x64x1024.Idx) : (win0_5.blk t).view.emb y = ix3 (layer t) (row t (y 1)) (y 2) := by
  blk_ext [idx t]
  all_goals rfl
theorem emb6 (t : Fin cfg0.N) (y : S1x64x1024.Idx) : (win0_6.blk t).view.emb y = ix3 (layer t) (row t (y 1)) (y 2) := by
  blk_ext [idx t]
  all_goals rfl
theorem emb7 (t : Fin cfg0.N) (y : S1x64x1024.Idx) : (win0_7.blk t).view.emb y = ix3 (layer t) (row t (y 1)) (y 2) := by
  blk_ext [idx t]
  all_goals rfl

/-- An index of a block of one layer. -/
theorem at_block (y : S1x64x1024.Idx) : (ix3 0 (y 1) (y 2) : S1x64x1024.Idx) = y := by
  have h : y 0 = (0 : Fin 1) := Fin.fin_one_eq_zero _
  rw [← h]
  exact (eq_ix3 y).symm

/-- The four result arrays after the run. -/
theorem final4 : (dats m 0 c).arrAt 4 cfg0.N = (fun i => grad (V m c main_arg0) (i 0) (i 1) (i 2) : FVec Ideal S4x704x1024 .f32) := by
  refine (dats m 0 c).arrAt_eq_of_covers 4 _ (by decide +kernel) fun t _ y => ?_
  blk_simp
  rw [after0_4, emb4]
  exact (congrArg _ (at_block y).symm).trans (block4 m c t (y 1) (y 2))
theorem final5 : (dats m 0 c).arrAt 5 cfg0.N = (fun i => change (grad (V m c main_arg0) (i 0) (i 1) (i 2)) ((V m c main_arg1 : FVec Ideal S4x704x1024 .f32) (ix3 (i 0) (i 1) (i 2))) ((V m c main_arg2 : FVec Ideal S4x704x1024 .f32) (ix3 (i 0) (i 1) (i 2))) ((V m c main_arg3 : FVec Ideal S4x704x1024 .f32) (ix3 (i 0) (i 1) (i 2))) : FVec Ideal S4x704x1024 .f32) := by
  refine (dats m 0 c).arrAt_eq_of_covers 5 _ (by decide +kernel) fun t _ y => ?_
  blk_simp
  rw [after0_5, emb5]
  exact (congrArg _ (at_block y).symm).trans (block5 m c t (y 1) (y 2))
theorem final6 : (dats m 0 c).arrAt 6 cfg0.N = (fun i => first (grad (V m c main_arg0) (i 0) (i 1) (i 2)) ((V m c main_arg2 : FVec Ideal S4x704x1024 .f32) (ix3 (i 0) (i 1) (i 2))) : FVec Ideal S4x704x1024 .f32) := by
  refine (dats m 0 c).arrAt_eq_of_covers 6 _ (by decide +kernel) fun t _ y => ?_
  blk_simp
  rw [after0_6, emb6]
  exact (congrArg _ (at_block y).symm).trans (block6 m c t (y 1) (y 2))
theorem final7 : (dats m 0 c).arrAt 7 cfg0.N = (fun i => second (grad (V m c main_arg0) (i 0) (i 1) (i 2)) ((V m c main_arg3 : FVec Ideal S4x704x1024 .f32) (ix3 (i 0) (i 1) (i 2))) : FVec Ideal S4x704x1024 .f32) := by
  refine (dats m 0 c).arrAt_eq_of_covers 7 _ (by decide +kernel) fun t _ y => ?_
  blk_simp
  rw [after0_7, emb7]
  exact (congrArg _ (at_block y).symm).trans (block7 m c t (y 1) (y 2))

/-- The reference's gradient, moments and change at an index. -/
theorem ref1 (q : FVec Ideal S8x4x704x1024 .bf16) (n : Fin 4) (r : Fin 704) (l : Fin 1024) :
    AdamWRefIdeal.Read.val_main_v1 (F := Ideal) q (ix3 n r l) = grad q n r l := by
  pointwise [AdamWRefIdeal.Read.val_main_v1, AdamWRefIdeal.Read.val_main_v0, AdamWRefIdeal.Read.val_main_cst]
  rfl
theorem ref6 (q : FVec Ideal S8x4x704x1024 .bf16) (μ : FVec Ideal S4x704x1024 .f32) (n : Fin 4) (r : Fin 704) (l : Fin 1024) :
    AdamWRefIdeal.Read.val_main_v6 (F := Ideal) q μ (ix3 n r l) = first (grad q n r l) (μ (ix3 n r l)) := by
  pointwise [AdamWRefIdeal.Read.val_main_v6, AdamWRefIdeal.Read.val_main_v5, AdamWRefIdeal.Read.val_main_v4, AdamWRefIdeal.Read.val_main_v3, AdamWRefIdeal.Read.val_main_v2, AdamWRefIdeal.Read.val_main_cst_0, AdamWRefIdeal.Read.val_main_cst_1]
  rw [ref1]
  rfl
theorem ref12 (q : FVec Ideal S8x4x704x1024 .bf16) (ν : FVec Ideal S4x704x1024 .f32) (n : Fin 4) (r : Fin 704) (l : Fin 1024) :
    AdamWRefIdeal.Read.val_main_v12 (F := Ideal) q ν (ix3 n r l) = second (grad q n r l) (ν (ix3 n r l)) := by
  pointwise [AdamWRefIdeal.Read.val_main_v12, AdamWRefIdeal.Read.val_main_v11, AdamWRefIdeal.Read.val_main_v10, AdamWRefIdeal.Read.val_main_v9, AdamWRefIdeal.Read.val_main_v8, AdamWRefIdeal.Read.val_main_v7, AdamWRefIdeal.Read.val_main_cst_2, AdamWRefIdeal.Read.val_main_cst_3]
  rw [ref1]
  rfl
theorem ref25 (q : FVec Ideal S8x4x704x1024 .bf16) (w μ ν : FVec Ideal S4x704x1024 .f32) (n : Fin 4) (r : Fin 704) (l : Fin 1024) :
    AdamWRefIdeal.Read.val_main_v25 (F := Ideal) q w μ ν (ix3 n r l) = change (grad q n r l) (w (ix3 n r l)) (μ (ix3 n r l)) (ν (ix3 n r l)) := by
  pointwise [AdamWRefIdeal.Read.val_main_v25, AdamWRefIdeal.Read.val_main_v24, AdamWRefIdeal.Read.val_main_v23, AdamWRefIdeal.Read.val_main_v22, AdamWRefIdeal.Read.val_main_v21, AdamWRefIdeal.Read.val_main_v20, AdamWRefIdeal.Read.val_main_v19, AdamWRefIdeal.Read.val_main_v18, AdamWRefIdeal.Read.val_main_v17, AdamWRefIdeal.Read.val_main_v16, AdamWRefIdeal.Read.val_main_v15, AdamWRefIdeal.Read.val_main_v14, AdamWRefIdeal.Read.val_main_v13, AdamWRefIdeal.Read.val_main_cst_4, AdamWRefIdeal.Read.val_main_cst_5, AdamWRefIdeal.Read.val_main_cst_6, AdamWRefIdeal.Read.val_main_cst_7, AdamWRefIdeal.Read.val_main_cst_8]
  rw [ref6, ref12]
  rfl

end Cert.AdamStep

end
-- ==== Proof.AdamWPair.lean ====
/- One AdamW step on a weight whose gradient comes in eight parts: the claims of this pair. -/
module

public import proofs.«01_k».proof.Defs
public import proofs.«01_k».proof.Proof.AdamWStep
public import proofs.«01_k».proof.Proof.Gen.AdamW.Frame
public import proofs.«01_k».proof.Proof.Gen.AdamWRefIdeal.Run
public import Idealize.ShloMosaic.Lib.Claim

@[expose] public section

set_option maxRecDepth 16384

noncomputable section

namespace Cert.AdamWPair

open Idealize.ShloMosaic Idealize.ShloMosaic.TcCoe Idealize.SL.Sem Cert.AdamWIdeal

theorem frame_p : Cert.quiescent_AdamW := fun m ρ _ => Cert.AdamW.Gen.frame m ρ
theorem frame_pi : Cert.quiescent_AdamWIdeal := fun m ρ _ => Cert.AdamWIdeal.Gen.frame m ρ
theorem frame_ri : Cert.quiescent_AdamWRefIdeal := fun m ρ _ =>
  (θ_run Cert.AdamWRefIdeal.defs _ _).mono (fun r h => ⟨fun c => (h c).2.2.2.2, sem_eq_zero_of_no_sems (by decide) r.2⟩)
    (Cert.AdamWRefIdeal.Value.run (F := Ideal) m ρ)

/-- The program leaves the call's four arrays, and its arguments as they were. -/
theorem run (m : (ℓ : Loc nD τ sig) → Buf (Elt Ideal) ℓ) (ρ : Dev nD → PrngReg) :
    θ_run defs (onTc (τ := τ) (main (F := Ideal))) ⟨m, fun _ => 0, ρ⟩ (fun q => ∀ c : Dev nD,
      q.2.mem ((c.tc : Thread nD τ).loc main_v0_0) = (Gen.dats m 0 c).arrAt 4 cfg0.N
      ∧ q.2.mem ((c.tc : Thread nD τ).loc main_v0_1) = (Gen.dats m 0 c).arrAt 5 cfg0.N
      ∧ q.2.mem ((c.tc : Thread nD τ).loc main_v0_2) = (Gen.dats m 0 c).arrAt 6 cfg0.N
      ∧ q.2.mem ((c.tc : Thread nD τ).loc main_v0_3) = (Gen.dats m 0 c).arrAt 7 cfg0.N
      ∧ q.2.mem ((c.tc : Thread nD τ).loc main_arg0) = m ((c.tc : Thread nD τ).loc main_arg0)
      ∧ q.2.mem ((c.tc : Thread nD τ).loc main_arg1) = m ((c.tc : Thread nD τ).loc main_arg1)
      ∧ q.2.mem ((c.tc : Thread nD τ).loc main_arg2) = m ((c.tc : Thread nD τ).loc main_arg2)
      ∧ q.2.mem ((c.tc : Thread nD τ).loc main_arg3) = m ((c.tc : Thread nD τ).loc main_arg3)) :=
  (θ_run defs _ _).mono (fun _ h c => ⟨(h.1 c).1 4, (h.1 c).1 5, (h.1 c).1 6, (h.1 c).1 7, h.2 c⟩) (θ_run_and (Gen.run_main m ρ) (Gen.unchanged m ρ))

theorem algebraic : Cert.algebraic_AdamWIdeal_AdamWRefIdeal := by
  pair_intro
  · refine θ_run_mono (run m g) ?_
    intro r hr c
    exact hr c
  · refine θ_run_mono (Cert.AdamWRefIdeal.Value.run m' g') ?_
    intro r hr c
    obtain ⟨h0, h1, h2, h3, h4⟩ := hr c
    refine ⟨h0.trans ?_, h1.trans ?_, h2.trans ?_, h3.trans ?_, h4⟩
    all_goals clear h0 h1 h2 h3 h4 hr
    · rw [AdamWRefIdeal.Read.val_main_v1_eq, (hagree c).1]
      refine Eq.trans (funext fun i => ?_) (AdamStep.final4 m c).symm
      rw [eq_ix3 i]
      exact AdamStep.ref1 _ (i 0) (i 1) (i 2)
    · rw [AdamWRefIdeal.Read.val_main_v25_eq, (hagree c).1, (hagree c).2.1, (hagree c).2.2.1, (hagree c).2.2.2]
      refine Eq.trans (funext fun i => ?_) (AdamStep.final5 m c).symm
      rw [eq_ix3 i]
      exact AdamStep.ref25 _ _ _ _ (i 0) (i 1) (i 2)
    · rw [AdamWRefIdeal.Read.val_main_v6_eq, (hagree c).1, (hagree c).2.2.1]
      refine Eq.trans (funext fun i => ?_) (AdamStep.final6 m c).symm
      rw [eq_ix3 i]
      exact AdamStep.ref6 _ _ (i 0) (i 1) (i 2)
    · rw [AdamWRefIdeal.Read.val_main_v12_eq, (hagree c).1, (hagree c).2.2.2]
      refine Eq.trans (funext fun i => ?_) (AdamStep.final7 m c).symm
      rw [eq_ix3 i]
      exact AdamStep.ref12 _ _ (i 0) (i 1) (i 2)

end Cert.AdamWPair

end
-- ==== Proof.AddPartsPair.lean ====
/- Adding the four partial gradients to the residual's gradient: the claims of this pair. -/
module

public import proofs.«01_k».proof.Defs
public import proofs.«01_k».proof.Proof.Gen.AddParts.Frame
public import proofs.«01_k».proof.Proof.Gen.AddPartsIdeal.Frame
public import proofs.«01_k».proof.Proof.Gen.AddPartsRefIdeal.Run
public import proofs.«01_k».proof.Proof.Gen.AddPartsRefIdeal.Read
public import Idealize.ShloMosaic.PureOps.Ideal
public import Idealize.ShloMosaic.Lib.Pointwise
public import Idealize.ShloMosaic.Lib.Pipeline.ValueKit
public import Idealize.ShloMosaic.Lib.Claim

@[expose] public section

set_option maxRecDepth 16384

noncomputable section

namespace Cert.AddPartsPair

open Idealize.ShloMosaic Idealize.ShloMosaic.TcCoe Idealize.SL.Sem Cert.AddPartsIdeal Cert.AddPartsIdeal.Gen
open Idealize.ShloMosaic.Pipeline (Dat)

/-- The index maps: every window steps by one block of rows. -/
theorem idx : ∀ t : Fin cfg0.N, win0_0.index t = ![t.val, 0] ∧ win0_1.index t = ![0, t.val, 0] ∧ win0_2.index t = ![t.val, 0] :=
  (by decide +kernel : ∀ t : Fin grid0.N, _)

/-- The row of the whole array that row `r` of block `t` is. -/
def row (t : Fin cfg0.N) (r : Fin 512) : Fin 16384 :=
  ⟨t.val * 512 + r.val, by have h : t.val < 32 := t.isLt; have := r.isLt; omega⟩

variable (m : (ℓ : Loc nD τ sig) → Buf (Elt Ideal) ℓ) (c : Dev nD)

/-- An array with its four parts added. -/
def total (b : FVec Ideal S16384x1024 .f32) (q : FVec Ideal S4x16384x1024 .bf16) (r : Fin 16384) (l : Fin 1024) : EReal :=
  b (ix2 r l) + ∑ k : Fin 4, (show EReal from q (ix3 k r l))

theorem blk0 (t : Fin cfg0.N) (r : Fin 512) (l : Fin 1024) :
    (iblk m c 0 t : FVec Ideal S512x1024 .f32) (ix2 r l) = (V m c main_arg0 : FVec Ideal S16384x1024 .f32) (ix2 (row t r) l) := by
  blk_point [iblk, V, idx t]
  rfl

theorem blk1 (t : Fin cfg0.N) (k : Fin 4) (r : Fin 512) (l : Fin 1024) :
    (iblk m c 1 t : FVec Ideal S4x512x1024 .bf16) (ix3 k r l) = (V m c main_arg1 : FVec Ideal S4x16384x1024 .bf16) (ix3 k (row t r) l) := by
  blk_point [iblk, V, idx t]
  rfl

/-- The block the body leaves. -/
theorem block (t : Fin cfg0.N) (r : Fin 512) (l : Fin 1024) :
    out0_2 (iblk m c 0 t) (iblk m c 1 t) (ix2 r l) = total (V m c main_arg0) (V m c main_arg1) (row t r) l := by
  frame_out
  pointwise [k0_pay1]
  rw [blk0, blk1, blk1, blk1, blk1, total, Fin.sum_univ_four]
  simp only [add_assoc]

theorem emb2 (t : Fin cfg0.N) (y : S512x1024.Idx) : (win0_2.blk t).view.emb y = ix2 (row t (y 0)) (y 1) := by
  blk_ext [idx t]
  all_goals rfl

/-- The result array after the run. -/
theorem final2 : (dats m 0 c).arrAt 2 cfg0.N = (fun i => total (V m c main_arg0) (V m c main_arg1) (i 0) (i 1) : FVec Ideal S16384x1024 .f32) := by
  refine (dats m 0 c).arrAt_eq_of_covers 2 _ (by decide +kernel) fun t _ y => ?_
  blk_simp
  rw [after0_2, emb2]
  have e := block m c t (y 0) (y 1)
  rw [← eq_ix2 y] at e
  exact e

/-- The reference's value at an index. -/
theorem ref (b : FVec Ideal S16384x1024 .f32) (q : FVec Ideal S4x16384x1024 .bf16) (r : Fin 16384) (l : Fin 1024) :
    AddPartsRefIdeal.Read.val_main_v2 (F := Ideal) b q (ix2 r l) = total b q r l := by
  pointwise [AddPartsRefIdeal.Read.val_main_v2, AddPartsRefIdeal.Read.val_main_v1, AddPartsRefIdeal.Read.val_main_v0, AddPartsRefIdeal.Read.val_main_cst]
  rfl

theorem frame_p : Cert.quiescent_AddParts := fun m ρ _ => Cert.AddParts.Gen.frame m ρ
theorem frame_pi : Cert.quiescent_AddPartsIdeal := fun m ρ _ => Cert.AddPartsIdeal.Gen.frame m ρ
theorem frame_ri : Cert.quiescent_AddPartsRefIdeal := fun m ρ _ =>
  (θ_run Cert.AddPartsRefIdeal.defs _ _).mono (fun r h => ⟨fun c => (h c).2, sem_eq_zero_of_no_sems (by decide) r.2⟩)
    (Cert.AddPartsRefIdeal.Value.run (F := Ideal) m ρ)

/-- The program leaves the call's array, and its arguments as they were. -/
theorem run (ρ : Dev nD → PrngReg) :
    θ_run defs (onTc (τ := τ) (main (F := Ideal))) ⟨m, fun _ => 0, ρ⟩ (fun q => ∀ c : Dev nD,
      q.2.mem ((c.tc : Thread nD τ).loc main_v0) = (Gen.dats m 0 c).arrAt 2 cfg0.N
      ∧ q.2.mem ((c.tc : Thread nD τ).loc main_arg0) = m ((c.tc : Thread nD τ).loc main_arg0)
      ∧ q.2.mem ((c.tc : Thread nD τ).loc main_arg1) = m ((c.tc : Thread nD τ).loc main_arg1)) :=
  (θ_run defs _ _).mono (fun _ h c => ⟨(h.1 c).1 2, h.2 c⟩) (θ_run_and (Gen.run_main m ρ) (Gen.unchanged m ρ))

theorem algebraic : Cert.algebraic_AddPartsIdeal_AddPartsRefIdeal := by
  pair_intro
  · refine θ_run_mono (run m g) ?_
    intro r hr c
    exact hr c
  · refine θ_run_mono (Cert.AddPartsRefIdeal.Value.run m' g') ?_
    intro r hr c
    obtain ⟨h0, h1⟩ := hr c
    refine ⟨h0.trans ?_, h1⟩
    rw [AddPartsRefIdeal.Read.val_main_v2_eq, (hagree c).1, (hagree c).2]
    refine Eq.trans (funext fun i => ?_) (final2 m c).symm
    rw [eq_ix2 i]
    exact ref _ _ (i 0) (i 1)

end Cert.AddPartsPair

end
-- ==== Proof.lean ====
module

public import proofs.«01_k».proof.Defs
public import proofs.«01_k».proof.Proof.Gen.LnBwdIdeal.Value
public import proofs.«01_k».proof.Proof.Gen.LnBwdRefIdeal.Run
public import proofs.«01_k».proof.Proof.Gen.LnBwdRefIdeal.Read
public import proofs.«01_k».proof.Proof.Gen.LnBwdPartsIdeal.Value
public import proofs.«01_k».proof.Proof.Gen.LnBwdPartsRefIdeal.Run
public import proofs.«01_k».proof.Proof.Gen.LnBwdPartsRefIdeal.Read
public import proofs.«01_k».proof.Proof.Gen.LnBwdMmIdeal.Value
public import proofs.«01_k».proof.Proof.Gen.LnBwdMmRefIdeal.Run
public import proofs.«01_k».proof.Proof.Gen.LnBwdMmRefIdeal.Read
public import proofs.«01_k».proof.Proof.Gen.FfnBwdRefIdeal.Run
public import proofs.«01_k».proof.Proof.Gen.FfnBwdRefIdeal.Read
public import proofs.«01_k».proof.Proof.Gen.LossRefIdeal.Run
public import proofs.«01_k».proof.Proof.Gen.LossRefIdeal.Read
public import proofs.«01_k».proof.Proof.Gen.FfnFwdRefIdeal.Run
public import proofs.«01_k».proof.Proof.Gen.FfnFwdRefIdeal.Read
public import proofs.«01_k».proof.Proof.Gen.MixFwdRefIdeal.Run
public import proofs.«01_k».proof.Proof.Gen.MixFwdRefIdeal.Read
public import proofs.«01_k».proof.Proof.Gen.MixBwdRefIdeal.Run
public import proofs.«01_k».proof.Proof.Gen.MixBwdRefIdeal.Read
public import proofs.«01_k».proof.Proof.Gen.AdamWRefIdeal.Run
public import proofs.«01_k».proof.Proof.Gen.AdamWRefIdeal.Read
public import proofs.«01_k».proof.Proof.Gen.AddPartsRefIdeal.Run
public import proofs.«01_k».proof.Proof.Gen.AddPartsRefIdeal.Read
public import proofs.«01_k».proof.Proof.LnPair
public import proofs.«01_k».proof.Proof.LnPartsPair
public import proofs.«01_k».proof.Proof.LnMmPair
public import proofs.«01_k».proof.Proof.FfnPair
public import proofs.«01_k».proof.Proof.LossPair
public import proofs.«01_k».proof.Proof.FfnFwdPair
public import proofs.«01_k».proof.Proof.MixFwdPair
public import proofs.«01_k».proof.Proof.MixBwdPair
public import proofs.«01_k».proof.Proof.AdamWPair
public import proofs.«01_k».proof.Proof.AddPartsPair

@[expose] public section

noncomputable section

namespace Cert.Proof

/-- Every claim of this certificate. -/
theorem claim : Cert.Claim :=
  ⟨Cert.LnBwd.Gen.facts, Cert.LnBwdIdeal.Gen.facts, Cert.LnBwdRefIdeal.Gen.facts, Cert.LnBwdParts.Gen.facts, Cert.LnBwdPartsIdeal.Gen.facts,
   Cert.LnBwdPartsRefIdeal.Gen.facts, Cert.LnBwdMm.Gen.facts, Cert.LnBwdMmIdeal.Gen.facts, Cert.LnBwdMmRefIdeal.Gen.facts, Cert.FfnBwd.Gen.facts,
   Cert.FfnBwdIdeal.Gen.facts, Cert.FfnBwdRefIdeal.Gen.facts, Cert.Loss.Gen.facts, Cert.LossIdeal.Gen.facts, Cert.LossRefIdeal.Gen.facts,
   Cert.FfnFwd.Gen.facts, Cert.FfnFwdIdeal.Gen.facts, Cert.FfnFwdRefIdeal.Gen.facts, Cert.MixFwd.Gen.facts, Cert.MixFwdIdeal.Gen.facts,
   Cert.MixFwdRefIdeal.Gen.facts, Cert.MixBwd.Gen.facts, Cert.MixBwdIdeal.Gen.facts, Cert.MixBwdRefIdeal.Gen.facts, Cert.AdamW.Gen.facts,
   Cert.AdamWIdeal.Gen.facts, Cert.AdamWRefIdeal.Gen.facts, Cert.AddParts.Gen.facts, Cert.AddPartsIdeal.Gen.facts, Cert.AddPartsRefIdeal.Gen.facts,
   Cert.Pre_ln_finite.Gen.facts, Cert.Pre_ln_parts_finite.Gen.facts, Cert.Pre_ln_mm_finite.Gen.facts, Cert.Pre_ffn_finite.Gen.facts,
   Cert.Pre_loss_finite.Gen.facts, Cert.Pre_mix_finite.Gen.facts, LnPair.frame_p, LnPair.frame_pi, LnPair.frame_pi_pre, LnPair.frame_ri,
   LnPair.frame_ri_pre, LnPartsPair.frame_p, LnPartsPair.frame_pi, LnPartsPair.frame_pi_pre, LnPartsPair.frame_ri, LnPartsPair.frame_ri_pre,
   LnMmPair.frame_p, LnMmPair.frame_pi, LnMmPair.frame_pi_pre, LnMmPair.frame_ri, LnMmPair.frame_ri_pre, FfnPair.frame_p, FfnPair.frame_pi,
   FfnPair.frame_pi_pre, FfnPair.frame_ri, FfnPair.frame_ri_pre, LossPair.frame_p, LossPair.frame_pi, LossPair.frame_pi_pre, LossPair.frame_ri,
   LossPair.frame_ri_pre, FfnFwdPair.frame_p, FfnFwdPair.frame_pi, FfnFwdPair.frame_ri, MixFwdPair.frame_p, MixFwdPair.frame_pi, MixFwdPair.frame_ri,
   MixBwdPair.frame_p, MixBwdPair.frame_pi, MixBwdPair.frame_pi_pre, MixBwdPair.frame_ri, MixBwdPair.frame_ri_pre, AdamWPair.frame_p,
   AdamWPair.frame_pi, AdamWPair.frame_ri, AddPartsPair.frame_p, AddPartsPair.frame_pi, AddPartsPair.frame_ri, trivial, LnPair.algebraic, trivial,
   LnPartsPair.algebraic, trivial, LnMmPair.algebraic, trivial, FfnPair.algebraic, trivial, LossPair.algebraic, trivial, FfnFwdPair.algebraic,
   trivial, MixFwdPair.algebraic, trivial, MixBwdPair.algebraic, trivial, AdamWPair.algebraic, trivial, AddPartsPair.algebraic⟩

end Cert.Proof

end
